-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v40_0)) (v1 : (c : Dev Cert.Kernel2Ideal.nD) → Buf (Elt Ideal) ((c.tc : Thread Cert.Kernel2Ideal.nD Cert.Kernel2Ideal.τ).loc Cert.Kernel2Ideal.main_v40_1)) (v2 : (c : Dev Cert.Kernel2Ideal.nD) → Buf (Elt Ideal) ((c.tc : Thread Cert.Kernel2Ideal.nD Cert.Kernel2Ideal.τ).loc Cert.Kernel2Ideal.main_v40_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v40_0) = v0 c
          ∧ r.2.mem ((c.tc : Thread Cert.Kernel2Ideal.nD Cert.Kernel2Ideal.τ).loc Cert.Kernel2Ideal.main_v40_1) = v1 c
          ∧ r.2.mem ((c.tc : Thread Cert.Kernel2Ideal.nD Cert.Kernel2Ideal.τ).loc Cert.Kernel2Ideal.main_v40_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v86) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v10_0)) (v1 : (c : Dev Cert.Kernel15Ideal.nD) → Buf (Elt Ideal) ((c.tc : Thread Cert.Kernel15Ideal.nD Cert.Kernel15Ideal.τ).loc Cert.Kernel15Ideal.main_v10_1)) (v2 : (c : Dev Cert.Kernel15Ideal.nD) → Buf (Elt Ideal) ((c.tc : Thread Cert.Kernel15Ideal.nD Cert.Kernel15Ideal.τ).loc Cert.Kernel15Ideal.main_v10_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v10_0) = v0 c
          ∧ r.2.mem ((c.tc : Thread Cert.Kernel15Ideal.nD Cert.Kernel15Ideal.τ).loc Cert.Kernel15Ideal.main_v10_1) = v1 c
          ∧ r.2.mem ((c.tc : Thread Cert.Kernel15Ideal.nD Cert.Kernel15Ideal.τ).loc Cert.Kernel15Ideal.main_v10_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_v11) = v1 c
          ∧ r.2.mem ((c.tc : Thread Cert.Reference15Ideal.nD Cert.Reference15Ideal.τ).loc Cert.Reference15Ideal.main_v13) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v25) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v28) = v0 c
          ∧ r.2.mem ((c.tc : Thread Cert.Reference17Ideal.nD Cert.Reference17Ideal.τ).loc Cert.Reference17Ideal.main_v29) = v1 c
          ∧ r.2.mem ((c.tc : Thread Cert.Reference17Ideal.nD Cert.Reference17Ideal.τ).loc Cert.Reference17Ideal.main_v18) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v27_0)) (v1 : (c : Dev Cert.Kernel18Ideal.nD) → Buf (Elt Ideal) ((c.tc : Thread Cert.Kernel18Ideal.nD Cert.Kernel18Ideal.τ).loc Cert.Kernel18Ideal.main_v27_1)) (v2 : (c : Dev Cert.Kernel18Ideal.nD) → Buf (Elt Ideal) ((c.tc : Thread Cert.Kernel18Ideal.nD Cert.Kernel18Ideal.τ).loc Cert.Kernel18Ideal.main_v27_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v27_0) = v0 c
          ∧ r.2.mem ((c.tc : Thread Cert.Kernel18Ideal.nD Cert.Kernel18Ideal.τ).loc Cert.Kernel18Ideal.main_v27_1) = v1 c
          ∧ r.2.mem ((c.tc : Thread Cert.Kernel18Ideal.nD Cert.Kernel18Ideal.τ).loc Cert.Kernel18Ideal.main_v27_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v73) = v0 c
          ∧ r.2.mem ((c.tc : Thread Cert.Reference18Ideal.nD Cert.Reference18Ideal.τ).loc Cert.Reference18Ideal.main_v74) = v1 c
          ∧ r.2.mem ((c.tc : Thread Cert.Reference18Ideal.nD Cert.Reference18Ideal.τ).loc Cert.Reference18Ideal.main_v75) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite2 : Cert.Pre_finite2.Facts) (hPre_finite18 : Cert.Pre_finite18.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
-- ==== Pre_finite18.lean ====
abbrev S8192x1024 : Shape := ⟨2, ![8192, 1024]⟩
abbrev S1024 : Shape := ⟨1, ![1024]⟩
abbrev S1024x4864 : Shape := ⟨2, ![1024, 4864]⟩
abbrev S8192x3072 : Shape := ⟨2, ![8192, 3072]⟩
abbrev S8192x768 : Shape := ⟨2, ![8192, 768]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4864 : S_.BroadcastsInDim S1024x4864 (![] : Fin 0 → Fin S1024x4864.rank)
  reducesTo_S1024x4864_S_d0_1 : S1024x4864.ReducesTo [0, 1] S_
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S8192x768 : S_.BroadcastsInDim S8192x768 (![] : Fin 0 → Fin S8192x768.rank)
  reducesTo_S8192x768_S_d0_1 : S8192x768.ReducesTo [0, 1] S_

variable [Facts]

def fn_part1 {F : FTy → Type} [FloatOps F] (main_arg5 : FVec F S8192x768 .bf16) (main_arg6 : FVec F S8192x1024 .f32) (main_v14 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v14 main_v19
  let main_v21 : FVec F S8192x768 .f32 := (extf .f32 · bitsLt_bf16_f32) main_arg5
  let main_v22 : FVec F S8192x768 .f32 := Host.absf main_v21
  let main_cst_6 : FVec F S_ .f32 := constant S_ .f32 0x7F800000#32
  let main_v23 : FVec F S8192x768 .f32 := broadcastInDim S8192x768 ![] bcast_S_S8192x768 main_cst_6
  let main_v24 : IVec S8192x768 1 := cmpf .olt main_v22 main_v23
  let main_c_7 : IVec S_ 1 := constantI S_ 1 1#1
  let main_v25 : IVec S_ 1 := (fun x v => Host.reduce IntOp.andi x v reducesTo_S8192x768_S_d0_1 h_S_) main_v24 main_c_7
  let main_v26 : IVec S_ 1 := andi main_v20 main_v25
  let main_v27 : FVec F S8192x1024 .f32 := Host.absf main_arg6
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  let main_c_9 : IVec S_ 1 := constantI S_ 1 1#1
  let main_v30 : IVec S_ 1 := (fun x v => Host.reduce IntOp.andi x v reducesTo_S8192x1024_S_d0_1 h_S_) main_v29 main_c_9
  let main_v31 : IVec S_ 1 := andi main_v26 main_v30
  main_v31

def fn {F : FTy → Type} [FloatOps F] (main_arg0 : FVec F S8192x1024 .f32) (main_arg1 : FVec F S1024 .f32) (main_arg2 : FVec F S1024x4864 .f32) (main_arg3 : FVec F S8192x3072 .bf16) (main_arg4 : FVec F S8192x1024 .bf16) (main_arg5 : FVec F S8192x768 .bf16) (main_arg6 : FVec F S8192x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4864 .f32 := Host.absf main_arg2
  let main_cst_0 : FVec F S_ .f32 := constant S_ .f32 0x7F800000#32
  let main_v5 : FVec F S1024x4864 .f32 := broadcastInDim S1024x4864 ![] bcast_S_S1024x4864 main_cst_0
  let main_v6 : IVec S1024x4864 1 := cmpf .olt main_v4 main_v5
  let main_c_1 : IVec S_ 1 := constantI S_ 1 1#1
  let main_v7 : IVec S_ 1 := (fun x v => Host.reduce IntOp.andi x v reducesTo_S1024x4864_S_d0_1 h_S_) main_v6 main_c_1
  let main_v8 : IVec S_ 1 := andi main_v3 main_v7
  let main_v9 : FVec F S8192x3072 .f32 := (extf .f32 · bitsLt_bf16_f32) main_arg3
  let main_v10 : FVec F S8192x3072 .f32 := Host.absf main_v9
  let main_cst_2 : FVec F S_ .f32 := constant S_ .f32 0x7F800000#32
  let main_v11 : FVec F S8192x3072 .f32 := broadcastInDim S8192x3072 ![] bcast_S_S8192x3072 main_cst_2
  let main_v12 : IVec S8192x3072 1 := cmpf .olt main_v10 main_v11
  let main_c_3 : IVec S_ 1 := constantI S_ 1 1#1
  let main_v13 : IVec S_ 1 := (fun x v => Host.reduce IntOp.andi x v reducesTo_S8192x3072_S_d0_1 h_S_) main_v12 main_c_3
  let main_v14 : IVec S_ 1 := andi main_v8 main_v13
  let main_v15 : FVec F S8192x1024 .f32 := (extf .f32 · bitsLt_bf16_f32) main_arg4
  let main_v16 : FVec F S8192x1024 .f32 := Host.absf main_v15
  let main_cst_4 : FVec F S_ .f32 := constant S_ .f32 0x7F800000#32
  fn_part1 (F := F) main_arg5 main_arg6 main_v14 main_v16 main_cst_4
-- ==== Pre_finite2.lean ====
abbrev S8192x1024 : Shape := ⟨2, ![8192, 1024]⟩
abbrev S1024x5632 : Shape := ⟨2, ![1024, 5632]⟩
abbrev S3x5632 : Shape := ⟨2, ![3, 5632]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v13 : IVec S_ 1) (main_v15 : FVec F S8192x2816 .f32) (main_v16 : FVec F S8192x2816 .f32) : IVec S_ 1 :=
  let main_v17 : IVec S8192x2816 1 := cmpf .olt main_v15 main_v16
  let main_c_5 : IVec S_ 1 := constantI S_ 1 1#1
  let main_v18 : IVec S_ 1 := (fun x v => Host.reduce IntOp.andi x v reducesTo_S8192x2816_S_d0_1 h_S_) main_v17 main_c_5
  let main_v19 : IVec S_ 1 := andi main_v13 main_v18
  main_v19

def fn {F : FTy → Type} [FloatOps F] (main_arg0 : FVec F S8192x1024 .f32) (main_arg1 : FVec F S1024x5632 .f32) (main_arg2 : FVec F S3x5632 .f32) (main_arg3 : FVec F S8192x2816 .bf16) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S3x5632 .f32 := Host.absf main_arg2
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_c_3 : IVec S_ 1 := constantI S_ 1 1#1
  let main_v12 : IVec S_ 1 := (fun x v => Host.reduce IntOp.andi x v reducesTo_S3x5632_S_d0_1 h_S_) main_v11 main_c_3
  let main_v13 : IVec S_ 1 := andi main_v8 main_v12
  let main_v14 : FVec F S8192x2816 .f32 := (extf .f32 · bitsLt_bf16_f32) main_arg3
  let main_v15 : FVec F S8192x2816 .f32 := Host.absf main_v14
  let main_cst_4 : FVec F S_ .f32 := constant S_ .f32 0x7F800000#32
  let main_v16 : FVec F S8192x2816 .f32 := broadcastInDim S8192x2816 ![] bcast_S_S8192x2816 main_cst_4
  fn_part1 (F := F) main_v13 main_v15 main_v16
-- ==== Kernel.lean ====
abbrev S8192x1024 : Shape := ⟨2, ![8192, 1024]⟩
abbrev S8192x256 : Shape := ⟨2, ![8192, 256]⟩
abbrev S8192x512 : Shape := ⟨2, ![8192, 512]⟩
abbrev S8192x3072 : Shape := ⟨2, ![8192, 3072]⟩
abbrev S256x1024 : Shape := ⟨2, ![256, 1024]⟩
abbrev S512x1024 : Shape := ⟨2, ![512, 1024]⟩
abbrev S1024x1024 : Shape := ⟨2, ![1024, 1024]⟩
abbrev S256x256 : Shape := ⟨2, ![256, 256]⟩
abbrev S256x512 : Shape := ⟨2, ![256, 512]⟩
abbrev S256x3072 : Shape := ⟨2, ![256, 3072]⟩
abbrev S1024x256 : Shape := ⟨2, ![1024, 256]⟩
abbrev S1024x512 : Shape := ⟨2, ![1024, 512]⟩

abbrev nBuf : Space → Nat
  | .hbm => 18
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x512, .bf16⟩
  | .hbm, ⟨3, _⟩ => ⟨S8192x256, .bf16⟩
  | .hbm, ⟨4, _⟩ => ⟨S8192x3072, .bf16⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S256x1024, .bf16⟩
  | .hbm, ⟨9, _⟩ => ⟨S512x1024, .bf16⟩
  | .hbm, ⟨10, _⟩ => ⟨S256x1024, .bf16⟩
  | .hbm, ⟨11, _⟩ => ⟨S1024x1024, .bf16⟩
  | .hbm, ⟨12, _⟩ => ⟨S1024x1024, .bf16⟩
  | .hbm, ⟨13, _⟩ => ⟨S8192x3072, .bf16⟩
  | .hbm, ⟨14, _⟩ => ⟨S8192x3072, .bf16⟩
  | .hbm, ⟨15, _⟩ => ⟨S8192x256, .bf16⟩
  | .hbm, ⟨16, _⟩ => ⟨S8192x512, .bf16⟩
  | .hbm, ⟨17, _⟩ => ⟨S8192x256, .bf16⟩
  | .local _ .vmem, ⟨0, _⟩ => ⟨S256x1024, .bf16⟩
  | .local _ .vmem, ⟨1, _⟩ => ⟨S256x1024, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | .local _ .vmem, ⟨8, _⟩ => ⟨S256x3072, .bf16⟩
  | .local _ .vmem, ⟨9, _⟩ => ⟨S256x3072, .bf16⟩
  | .local _ .vmem, ⟨10, _⟩ => ⟨S1024x1024, .bf16⟩
  | .local _ .vmem, ⟨11, _⟩ => ⟨S1024x1024, .bf16⟩
  | .local _ .vmem, ⟨12, _⟩ => ⟨S256x3072, .bf16⟩
  | .local _ .vmem, ⟨13, _⟩ => ⟨S256x3072, .bf16⟩
  | .local _ .vmem, ⟨14, _⟩ => ⟨S256x3072, .bf16⟩
  | .local _ .vmem, ⟨15, _⟩ => ⟨S256x3072, .bf16⟩
  | .local _ .vmem, ⟨16, _⟩ => ⟨S256x256, .bf16⟩
  | .local _ .vmem, ⟨17, _⟩ => ⟨S256x256, .bf16⟩
  | .local _ .vmem, ⟨18, _⟩ => ⟨S256x512, .bf16⟩
  | .local _ .vmem, ⟨19, _⟩ => ⟨S256x512, .bf16⟩
  | .local _ .vmem, ⟨20, _⟩ => ⟨S256x256, .bf16⟩
  | .local _ .vmem, ⟨21, _⟩ => ⟨S256x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8192x1024 : Shape := ⟨2, ![8192, 1024]⟩
abbrev S8192x256 : Shape := ⟨2, ![8192, 256]⟩
abbrev S8192x512 : Shape := ⟨2, ![8192, 512]⟩
abbrev S8192x3072 : Shape := ⟨2, ![8192, 3072]⟩
abbrev S256x1024 : Shape := ⟨2, ![256, 1024]⟩
abbrev S512x1024 : Shape := ⟨2, ![512, 1024]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x512, .bf16⟩
  | .hbm, ⟨3, _⟩ => ⟨S8192x256, .bf16⟩
  | .hbm, ⟨4, _⟩ => ⟨S8192x3072, .bf16⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S8192x1024, .f32⟩
  | .hbm, ⟨9, _⟩ => ⟨S8192x256, .f32⟩
  | .hbm, ⟨10, _⟩ => ⟨S8192x512, .f32⟩
  | .hbm, ⟨11, _⟩ => ⟨S8192x256, .f32⟩
  | .hbm, ⟨12, _⟩ => ⟨S8192x3072, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S_, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1x1024, .f32⟩
  | .hbm, ⟨43, _⟩ => ⟨S_, .f32⟩
  | .hbm, ⟨44, _⟩ => ⟨S8192x3x1024, .f32⟩
  | .hbm, ⟨45, _⟩ => ⟨S8192x1024, .f32⟩
  | .hbm, ⟨46, _⟩ => ⟨S8192x1024, .f32⟩
  | .hbm, ⟨47, _⟩ => ⟨S8192x1x1024, .f32⟩
  | .hbm, ⟨48, _⟩ => ⟨S_, .f32⟩
  | .hbm, ⟨49, _⟩ => ⟨S8192x3x1024, .f32⟩
  | .hbm, ⟨50, _⟩ => ⟨S8192x3x1024, .f32⟩
  | .hbm, ⟨51, _⟩ => ⟨S8192x1024, .f32⟩
  | .hbm, ⟨52, _⟩ => ⟨S8192x1024, .f32⟩
  | .hbm, ⟨53, _⟩ => ⟨S8192x1x1024, .f32⟩
  | .hbm, ⟨54, _⟩ => ⟨S_, .f32⟩
  | .hbm, ⟨55, _⟩ => ⟨S8192x3x1024, .f32⟩
  | .hbm, ⟨56, _⟩ => ⟨S8192x3x1024, .f32⟩
  | .hbm, ⟨57, _⟩ => ⟨S8192x3072, .f32⟩
  | .hbm, ⟨58, _⟩ => ⟨S8192x3072, .f32⟩
  | .hbm, ⟨59, _⟩ => ⟨S8192x256, .f32⟩
  | .hbm, ⟨60, _⟩ => ⟨S8192x512, .f32⟩
  | .hbm, ⟨61, _⟩ => ⟨S8192x256, .f32⟩
  | .hbm, ⟨62, _⟩ => ⟨S8192x3072, .f32⟩
  | .hbm, ⟨63, _⟩ => ⟨S8192x3072, .bf16⟩
  | .hbm, ⟨64, _⟩ => ⟨S8192x3072, .bf16⟩
  | .hbm, ⟨65, _⟩ => ⟨S8192x256, .bf16⟩
  | .hbm, ⟨66, _⟩ => ⟨S8192x512, .bf16⟩
  | .hbm, ⟨67, _⟩ => ⟨S8192x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Kernel2.lean ====
abbrev S8192x1024 : Shape := ⟨2, ![8192, 1024]⟩
abbrev S1024x5632 : Shape := ⟨2, ![1024, 5632]⟩
abbrev S3x5632 : Shape := ⟨2, ![3, 5632]⟩
abbrev S8192x2816 : Shape := ⟨2, ![8192, 2816]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S1024x2x2x1408 : Shape := ⟨4, ![1024, 2, 2, 1408]⟩
abbrev S5632x1024 : Shape := ⟨2, ![5632, 1024]⟩
abbrev S8192x2x2x1408 : Shape := ⟨4, ![8192, 2, 2, 1408]⟩
abbrev S3x2x2x1408 : Shape := ⟨4, ![3, 2, 2, 1408]⟩
abbrev S2x2816x1024 : Shape := ⟨3, ![2, 2816, 1024]⟩
abbrev S2x3x2816 : Shape := ⟨3, ![2, 3, 2816]⟩
abbrev S256x2816 : Shape := ⟨2, ![256, 2816]⟩
abbrev S16x2816 : Shape := ⟨2, ![16, 2816]⟩
abbrev S256x1408 : Shape := ⟨2, ![256, 1408]⟩
abbrev S16x1408 : Shape := ⟨2, ![16, 1408]⟩
abbrev S3x2816 : Shape := ⟨2, ![3, 2816]⟩
abbrev S256x1024 : Shape := ⟨2, ![256, 1024]⟩
abbrev S16x128 : Shape := ⟨2, ![16, 128]⟩
abbrev S256x128 : Shape := ⟨2, ![256, 128]⟩
abbrev S272x128 : Shape := ⟨2, ![272, 128]⟩
abbrev S1x128 : Shape := ⟨2, ![1, 128]⟩
abbrev S128 : Shape := ⟨1, ![128]⟩
abbrev S3x128 : Shape := ⟨2, ![3, 128]⟩
abbrev S256x512 : Shape := ⟨2, ![256, 512]⟩
abbrev S1x512x1024 : Shape := ⟨3, ![1, 512, 1024]⟩
abbrev S512x1024 : Shape := ⟨2, ![512, 1024]⟩
abbrev S256x384 : Shape := ⟨2, ![256, 384]⟩
abbrev S1x384x1024 : Shape := ⟨3, ![1, 384, 1024]⟩
abbrev S384x1024 : Shape := ⟨2, ![384, 1024]⟩
abbrev S1x3x2816 : Shape := ⟨3, ![1, 3, 2816]⟩

abbrev nBuf : Space → Nat
  | .hbm => 49
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S8192x2816, .bf16⟩
  | .hbm, ⟨4, _⟩ => ⟨S8192x1024, .f32⟩
  | .hbm, ⟨5, _⟩ => ⟨S8192x5632, .f32⟩
  | .hbm, ⟨6, _⟩ => ⟨S_, .f32⟩
  | .hbm, ⟨7, _⟩ => ⟨S2x5632, .f32⟩
  | .hbm, ⟨8, _⟩ => ⟨S8194x5632, .f32⟩
  | .hbm, ⟨9, _⟩ => ⟨S8192x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1024x5632, .bf16⟩
  | .hbm, ⟨30, _⟩ => ⟨S1024x2x2x1408, .bf16⟩
  | .hbm, ⟨31, _⟩ => ⟨S1024x2x2x1408, .bf16⟩
  | .hbm, ⟨32, _⟩ => ⟨S1024x5632, .bf16⟩
  | .hbm, ⟨33, _⟩ => ⟨S5632x1024, .bf16⟩
  | .hbm, ⟨34, _⟩ => ⟨S8192x5632, .bf16⟩
  | .hbm, ⟨35, _⟩ => ⟨S8192x2x2x1408, .bf16⟩
  | .hbm, ⟨36, _⟩ => ⟨S8192x2x2x1408, .bf16⟩
  | .hbm, ⟨37, _⟩ => ⟨S8192x5632, .bf16⟩
  | .hbm, ⟨38, _⟩ => ⟨S8192x5632, .bf16⟩
  | .hbm, ⟨39, _⟩ => ⟨S8192x2x2x1408, .bf16⟩
  | .hbm, ⟨40, _⟩ => ⟨S8192x2x2x1408, .bf16⟩
  | .hbm, ⟨41, _⟩ => ⟨S8192x5632, .bf16⟩
  | .hbm, ⟨42, _⟩ => ⟨S3x2x2x1408, .f32⟩
  | .hbm, ⟨43, _⟩ => ⟨S3x2x2x1408, .f32⟩
  | .hbm, ⟨44, _⟩ => ⟨S3x5632, .f32⟩
  | .hbm, ⟨45, _⟩ => ⟨S2x2816x1024, .bf16⟩
  | .hbm, ⟨46, _⟩ => ⟨S8192x5632, .bf16⟩
  | .hbm, ⟨47, _⟩ => ⟨S8192x1024, .f32⟩
  | .hbm, ⟨48, _⟩ => ⟨S2x3x2816, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S16x2816, .bf16⟩
  | .local _ .vmem, ⟨5, _⟩ => ⟨S16x2816, .bf16⟩
  | .local _ .vmem, ⟨6, _⟩ => ⟨S256x1408, .bf16⟩
  | .local _ .vmem, ⟨7, _⟩ => ⟨S256x1408, .bf16⟩
  | .local _ .vmem, ⟨8, _⟩ => ⟨S16x1408, .bf16⟩
  | .local _ .vmem, ⟨9, _⟩ => ⟨S16x1408, .bf16⟩
  | .local _ .vmem, ⟨10, _⟩ => ⟨S3x2816, .f32⟩
  | .local _ .vmem, ⟨11, _⟩ => ⟨S3x2816, .f32⟩
  | .local _ .vmem, ⟨12, _⟩ => ⟨S2x2816x1024, .bf16⟩
  | .local _ .vmem, ⟨13, _⟩ => ⟨S256x1024, .f32⟩
  | .local _ .vmem, ⟨14, _⟩ => ⟨S256x1024, .f32⟩
  | .local _ .vmem, ⟨15, _⟩ => ⟨S256x2816, .bf16⟩
  | .local _ .vmem, ⟨16, _⟩ => ⟨S256x2816, .bf16⟩
  | .local _ .vmem, ⟨17, _⟩ => ⟨S256x1024, .f32⟩
  | .local _ .vmem, ⟨18, _⟩ => ⟨S256x1024, .f32⟩
  | .local _ .vmem, ⟨19, _⟩ => ⟨S2x3x2816, .f32⟩
  | .local _ .vmem, ⟨20, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40_0 : Ref sig .tc := ⟨.hbm, 46, rfl⟩
abbrev main_v40_1 : Ref sig .tc := ⟨.hbm, 47, rfl⟩
abbrev main_v40_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![32, 2], ![false, false]⟩

def k0_off1 (i : grid0.Coords) : Fin 3 → Nat :=
  let arg1 : BitVec 32 := BitVec.ofNat 32 (i 1).val
  let v443 : Index := Scalar.indexCast arg1
  let c0_186 : Index := 0#32
  let c0_187 : Index := 0#32
  ![v443.toNat, 0, 0]
def k0_off2 (i : grid0.Coords) : Fin 3 → Nat :=
  let arg1 : BitVec 32 := BitVec.ofNat 32 (i 1).val
  let v449 : Index := Scalar.indexCast arg1
  let c1408_191 : Index := 1408#32
  let c0_192 : Index := 0#32
  ![v449.toNat, 1408, 0]
def k0_off3 (i : grid0.Coords) : Fin 3 → Nat :=
  let arg1 : BitVec 32 := BitVec.ofNat 32 (i 1).val
  let v892 : Index := Scalar.indexCast arg1
  let c512_384 : Index := 512#32
  let c0_385 : Index := 0#32
  ![v892.toNat, 512, 0]
def k0_off4 (i : grid0.Coords) : Fin 3 → Nat :=
  let arg1 : BitVec 32 := BitVec.ofNat 32 (i 1).val
  let v899 : Index := Scalar.indexCast arg1
  let c1920_389 : Index := 1920#32
  let c0_390 : Index := 0#32
  ![v899.toNat, 1920, 0]
def k0_off5 (i : grid0.Coords) : Fin 3 → Nat :=
  let arg1 : BitVec 32 := BitVec.ofNat 32 (i 1).val
  let v1233 : Index := Scalar.indexCast arg1
  let c1024_535 : Index := 1024#32
  let c0_536 : Index := 0#32
  ![v1233.toNat, 1024, 0]
def k0_off6 (i : grid0.Coords) : Fin 3 → Nat :=
  let arg1 : BitVec 32 := BitVec.ofNat 32 (i 1).val
  let v1240 : Index := Scalar.indexCast arg1
  let c2432_540 : Index := 2432#32
  let c0_541 : Index := 0#32
  ![v1240.toNat, 2432, 0]
def k0_off7 (i : grid0.Coords) : Fin 3 → Nat :=
  let arg1 : BitVec 32 := BitVec.ofNat 32 (i 1).val
  let v1245 : Index := Scalar.indexCast arg1
  let c0_543 : Index := 0#32
  let c0_544 : Index := 0#32
  ![v1245.toNat, 0, 0]
def k0_cond4 (i : grid0.Coords) : BitVec 1 :=
  let arg1 : BitVec 32 := BitVec.ofNat 32 (i 1).val
  let c1_i32 : BitVec 32 := 1#32
  let v1260 : BitVec 1 := Scalar.cmpi .eq arg1 c1_i32
  let v1261 : BitVec 32 := Scalar.extui v1260
  let c0_i32_551 : BitVec 32 := 0#32
  let v1262 : BitVec 1 := Scalar.cmpi .ne v1261 c0_i32_551
  v1262

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  ![v2.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2x3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference2Ideal.lean ====
abbrev S8192x1024 : Shape := ⟨2, ![8192, 1024]⟩
abbrev S1024x5632 : Shape := ⟨2, ![1024, 5632]⟩
abbrev S3x5632 : Shape := ⟨2, ![3, 5632]⟩
abbrev S8192x2816 : Shape := ⟨2, ![8192, 2816]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S8192x1408 : Shape := ⟨2, ![8192, 1408]⟩
abbrev S3x1408 : Shape := ⟨2, ![3, 1408]⟩
abbrev S3x2816 : Shape := ⟨2, ![3, 2816]⟩
abbrev S1x3x2816 : Shape := ⟨3, ![1, 3, 2816]⟩
abbrev S2x3x2816 : Shape := ⟨3, ![2, 3, 2816]⟩

abbrev nBuf : Space → Nat
  | .hbm => 123
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S8192x2816, .bf16⟩
  | .hbm, ⟨4, _⟩ => ⟨S8192x1024, .f32⟩
  | .hbm, ⟨5, _⟩ => ⟨S8192x5632, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S2x5632, .f32⟩
  | .hbm, ⟨11, _⟩ => ⟨S8194x5632, .f32⟩
  | .hbm, ⟨12, _⟩ => ⟨S_, .f32⟩
  | .hbm, ⟨13, _⟩ => ⟨S2x5632, .f32⟩
  | .hbm, ⟨14, _⟩ => ⟨S8192x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x5632, .f32⟩
  | .hbm, ⟨58, _⟩ => ⟨S8192x5632, .f32⟩
  | .hbm, ⟨59, _⟩ => ⟨S_, .f32⟩
  | .hbm, ⟨60, _⟩ => ⟨S5632, .f32⟩
  | .hbm, ⟨61, _⟩ => ⟨S1x5632, .f32⟩
  | .hbm, ⟨62, _⟩ => ⟨S8192x5632, .f32⟩
  | .hbm, ⟨63, _⟩ => ⟨S8192x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S_, .f32⟩
  | .hbm, ⟨68, _⟩ => ⟨S3x5632, .f32⟩
  | .hbm, ⟨69, _⟩ => ⟨S_, .f32⟩
  | .hbm, ⟨70, _⟩ => ⟨S8194x5632, .f32⟩
  | .hbm, ⟨71, _⟩ => ⟨S8192x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S8192x5632, .f32⟩
  | .hbm, ⟨76, _⟩ => ⟨S8192x5632, .f32⟩
  | .hbm, ⟨77, _⟩ => ⟨S_, .f32⟩
  | .hbm, ⟨78, _⟩ => ⟨S5632, .f32⟩
  | .hbm, ⟨79, _⟩ => ⟨S1x5632, .f32⟩
  | .hbm, ⟨80, _⟩ => ⟨S_, .f32⟩
  | .hbm, ⟨81, _⟩ => ⟨S3x5632, .f32⟩
  | .hbm, ⟨82, _⟩ => ⟨S3x5632, .f32⟩
  | .hbm, ⟨83, _⟩ => ⟨S_, .f32⟩
  | .hbm, ⟨84, _⟩ => ⟨S8194x5632, .f32⟩
  | .hbm, ⟨85, _⟩ => ⟨S8194x5632, .f32⟩
  | .hbm, ⟨86, _⟩ => ⟨S8192x5632, .f32⟩
  | .hbm, ⟨87, _⟩ => ⟨S_, .f32⟩
  | .hbm, ⟨88, _⟩ => ⟨S5632, .f32⟩
  | .hbm, ⟨89, _⟩ => ⟨S1x5632, .f32⟩
  | .hbm, ⟨90, _⟩ => ⟨S8192x5632, .f32⟩
  | .hbm, ⟨91, _⟩ => ⟨S8192x5632, .f32⟩
  | .hbm, ⟨92, _⟩ => ⟨S_, .f32⟩
  | .hbm, ⟨93, _⟩ => ⟨S5632, .f32⟩
  | .hbm, ⟨94, _⟩ => ⟨S1x5632, .f32⟩
  | .hbm, ⟨95, _⟩ => ⟨S_, .f32⟩
  | .hbm, ⟨96, _⟩ => ⟨S3x5632, .f32⟩
  | .hbm, ⟨97, _⟩ => ⟨S3x5632, .f32⟩
  | .hbm, ⟨98, _⟩ => ⟨S_, .f32⟩
  | .hbm, ⟨99, _⟩ => ⟨S8194x5632, .f32⟩
  | .hbm, ⟨100, _⟩ => ⟨S8194x5632, .f32⟩
  | .hbm, ⟨101, _⟩ => ⟨S2x5632, .f32⟩
  | .hbm, ⟨102, _⟩ => ⟨S8192x5632, .f32⟩
  | .hbm, ⟨103, _⟩ => ⟨S_, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1408, .f32⟩
  | .hbm, ⟨109, _⟩ => ⟨S8192x1408, .f32⟩
  | .hbm, ⟨110, _⟩ => ⟨S8192x1408, .f32⟩
  | .hbm, ⟨111, _⟩ => ⟨S8192x1408, .f32⟩
  | .hbm, ⟨112, _⟩ => ⟨S3x1408, .f32⟩
  | .hbm, ⟨113, _⟩ => ⟨S3x1408, .f32⟩
  | .hbm, ⟨114, _⟩ => ⟨S3x1408, .f32⟩
  | .hbm, ⟨115, _⟩ => ⟨S3x1408, .f32⟩
  | .hbm, ⟨116, _⟩ => ⟨S8192x5632, .f32⟩
  | .hbm, ⟨117, _⟩ => ⟨S8192x5632, .bf16⟩
  | .hbm, ⟨118, _⟩ => ⟨S3x2816, .f32⟩
  | .hbm, ⟨119, _⟩ => ⟨S3x2816, .f32⟩
  | .hbm, ⟨120, _⟩ => ⟨S1x3x2816, .f32⟩
  | .hbm, ⟨121, _⟩ => ⟨S1x3x2816, .f32⟩
  | .hbm, ⟨122, _⟩ => ⟨S2x3x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v28_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v28_1 : Ref sig .tc := ⟨.hbm, 47, rfl⟩
abbrev main_v28_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩

abbrev nD : Nat := 1
abbrev τ : Topo := Topo.v7x

variable {F : FTy → Type} [FloatOps F]
-- ==== Kernel3.lean ====
abbrev S8192x5632 : Shape := ⟨2, ![8192, 5632]⟩
abbrev S8192x1024 : Shape := ⟨2, ![8192, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S8192x5632, .f32⟩
  | .hbm, ⟨6, _⟩ => ⟨S5632x1024, .f32⟩
  | .hbm, ⟨7, _⟩ => ⟨S1024x5632, .f32⟩
  | .hbm, ⟨8, _⟩ => ⟨S5632x1024, .f32⟩
  | .hbm, ⟨9, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x3072 : Shape := ⟨2, ![8192, 3072]⟩
abbrev S8192x1024 : Shape := ⟨2, ![8192, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S8192x3072, .f32⟩
  | .hbm, ⟨6, _⟩ => ⟨S3072x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x768 : Shape := ⟨2, ![8192, 768]⟩
abbrev S8192x1024 : Shape := ⟨2, ![8192, 1024]⟩
abbrev S768x1024 : Shape := ⟨2, ![768, 1024]⟩
abbrev S2048x768 : Shape := ⟨2, ![2048, 768]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x768, .bf16⟩
  | .hbm, ⟨1, _⟩ => ⟨S8192x1024, .f32⟩
  | .hbm, ⟨2, _⟩ => ⟨S768x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .f32⟩
  | .local _ .vmem, ⟨3, _⟩ => ⟨S2048x1024, .f32⟩
  | .local _ .vmem, ⟨4, _⟩ => ⟨S768x1024, .bf16⟩
  | .local _ .vmem, ⟨5, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x768 : Shape := ⟨2, ![8192, 768]⟩
abbrev S8192x1024 : Shape := ⟨2, ![8192, 1024]⟩
abbrev S_ : Shape := ⟨0, ![]⟩
abbrev S1024x768 : Shape := ⟨2, ![1024, 768]⟩
abbrev S768x1024 : Shape := ⟨2, ![768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x1024, .f32⟩
  | .hbm, ⟨2, _⟩ => ⟨S_, .f32⟩
  | .hbm, ⟨3, _⟩ => ⟨S1024x768, .f32⟩
  | .hbm, ⟨4, _⟩ => ⟨S8192x768, .f32⟩
  | .hbm, ⟨5, _⟩ => ⟨S8192x768, .f32⟩
  | .hbm, ⟨6, _⟩ => ⟨S768x1024, .f32⟩
  | .hbm, ⟨7, _⟩ => ⟨S1024x768, .f32⟩
  | .hbm, ⟨8, _⟩ => ⟨S768x1024, .f32⟩
  | .hbm, ⟨9, _⟩ => ⟨S768x1024, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x256 : Shape := ⟨2, ![8192, 256]⟩
abbrev S8192x3072 : Shape := ⟨2, ![8192, 3072]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x3072, .bf16⟩
  | .hbm, ⟨2, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x256 : Shape := ⟨2, ![8192, 256]⟩
abbrev S8192x3072 : Shape := ⟨2, ![8192, 3072]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x3072, .bf16⟩
  | .hbm, ⟨2, _⟩ => ⟨S8192x1024, .bf16⟩
  | .hbm, ⟨3, _⟩ => ⟨S_, .f32⟩
  | .hbm, ⟨4, _⟩ => ⟨S256x1024, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S1024x256, .f32⟩
  | .hbm, ⟨9, _⟩ => ⟨S256x1024, .f32⟩
  | .hbm, ⟨10, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x512 : Shape := ⟨2, ![8192, 512]⟩
abbrev S8192x3072 : Shape := ⟨2, ![8192, 3072]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x3072, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x512 : Shape := ⟨2, ![8192, 512]⟩
abbrev S8192x3072 : Shape := ⟨2, ![8192, 3072]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x3072, .bf16⟩
  | .hbm, ⟨2, _⟩ => ⟨S8192x1024, .bf16⟩
  | .hbm, ⟨3, _⟩ => ⟨S_, .f32⟩
  | .hbm, ⟨4, _⟩ => ⟨S512x1024, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S8192x256 : Shape := ⟨2, ![8192, 256]⟩
abbrev S8192x3072 : Shape := ⟨2, ![8192, 3072]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x3072, .bf16⟩
  | .hbm, ⟨2, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x256 : Shape := ⟨2, ![8192, 256]⟩
abbrev S8192x3072 : Shape := ⟨2, ![8192, 3072]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x3072, .bf16⟩
  | .hbm, ⟨2, _⟩ => ⟨S8192x1024, .bf16⟩
  | .hbm, ⟨3, _⟩ => ⟨S_, .f32⟩
  | .hbm, ⟨4, _⟩ => ⟨S256x1024, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S1024x256, .f32⟩
  | .hbm, ⟨9, _⟩ => ⟨S256x1024, .f32⟩
  | .hbm, ⟨10, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S2816x1024, .bf16⟩
  | .hbm, ⟨3, _⟩ => ⟨S1024x2816, .bf16⟩
  | .hbm, ⟨4, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S1024x1024, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S1024x5632 : Shape := ⟨2, ![1024, 5632]⟩
abbrev S1024x2x2x1408 : Shape := ⟨4, ![1024, 2, 2, 1408]⟩
abbrev S8192x5632 : Shape := ⟨2, ![8192, 5632]⟩
abbrev S512x1024 : Shape := ⟨2, ![512, 1024]⟩
abbrev S512x5632 : Shape := ⟨2, ![512, 5632]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S1024x2x2x1408, .bf16⟩
  | .hbm, ⟨4, _⟩ => ⟨S1024x2x2x1408, .bf16⟩
  | .hbm, ⟨5, _⟩ => ⟨S1024x5632, .bf16⟩
  | .hbm, ⟨6, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S512x5632, .bf16⟩
  | .local _ .vmem, ⟨4, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x5632 : Shape := ⟨2, ![1024, 5632]⟩
abbrev S8192x5632 : Shape := ⟨2, ![8192, 5632]⟩
abbrev S8192x1408 : Shape := ⟨2, ![8192, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x5632, .f32⟩
  | .hbm, ⟨8, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel15.lean ====
abbrev S8192x1024 : Shape := ⟨2, ![8192, 1024]⟩
abbrev S1024x4864 : Shape := ⟨2, ![1024, 4864]⟩
abbrev S4864x1024 : Shape := ⟨2, ![4864, 1024]⟩
abbrev S3072x1024 : Shape := ⟨2, ![3072, 1024]⟩
abbrev S256x1024 : Shape := ⟨2, ![256, 1024]⟩
abbrev S768x1024 : Shape := ⟨2, ![768, 1024]⟩
abbrev S1024x1024 : Shape := ⟨2, ![1024, 1024]⟩
abbrev S1024x3072 : Shape := ⟨2, ![1024, 3072]⟩
abbrev S1024x768 : Shape := ⟨2, ![1024, 768]⟩
abbrev S8192x3072 : Shape := ⟨2, ![8192, 3072]⟩
abbrev S8192x768 : Shape := ⟨2, ![8192, 768]⟩
abbrev S512x1024 : Shape := ⟨2, ![512, 1024]⟩
abbrev S512x3072 : Shape := ⟨2, ![512, 3072]⟩
abbrev S512x768 : Shape := ⟨2, ![512, 768]⟩

abbrev nBuf : Space → Nat
  | .hbm => 15
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x4864, .f32⟩
  | .hbm, ⟨2, _⟩ => ⟨S1024x4864, .bf16⟩
  | .hbm, ⟨3, _⟩ => ⟨S4864x1024, .bf16⟩
  | .hbm, ⟨4, _⟩ => ⟨S3072x1024, .bf16⟩
  | .hbm, ⟨5, _⟩ => ⟨S256x1024, .bf16⟩
  | .hbm, ⟨6, _⟩ => ⟨S768x1024, .bf16⟩
  | .hbm, ⟨7, _⟩ => ⟨S1024x1024, .bf16⟩
  | .hbm, ⟨8, _⟩ => ⟨S768x1024, .bf16⟩
  | .hbm, ⟨9, _⟩ => ⟨S1024x3072, .bf16⟩
  | .hbm, ⟨10, _⟩ => ⟨S1024x1024, .bf16⟩
  | .hbm, ⟨11, _⟩ => ⟨S1024x768, .bf16⟩
  | .hbm, ⟨12, _⟩ => ⟨S8192x3072, .bf16⟩
  | .hbm, ⟨13, _⟩ => ⟨S8192x1024, .bf16⟩
  | .hbm, ⟨14, _⟩ => ⟨S8192x768, .bf16⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1024x1024, .bf16⟩
  | .local _ .vmem, ⟨4, _⟩ => ⟨S1024x768, .bf16⟩
  | .local _ .vmem, ⟨5, _⟩ => ⟨S512x3072, .bf16⟩
  | .local _ .vmem, ⟨6, _⟩ => ⟨S512x3072, .bf16⟩
  | .local _ .vmem, ⟨7, _⟩ => ⟨S512x1024, .bf16⟩
  | .local _ .vmem, ⟨8, _⟩ => ⟨S512x1024, .bf16⟩
  | .local _ .vmem, ⟨9, _⟩ => ⟨S512x768, .bf16⟩
  | .local _ .vmem, ⟨10, _⟩ => ⟨S512x768, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v10_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S8192x1024 : Shape := ⟨2, ![8192, 1024]⟩
abbrev S1024x4864 : Shape := ⟨2, ![1024, 4864]⟩
abbrev S8192x4864 : Shape := ⟨2, ![8192, 4864]⟩
abbrev S8192x256 : Shape := ⟨2, ![8192, 256]⟩
abbrev S8192x512 : Shape := ⟨2, ![8192, 512]⟩
abbrev S8192x128 : Shape := ⟨2, ![8192, 128]⟩
abbrev S8192x3072 : Shape := ⟨2, ![8192, 3072]⟩
abbrev S8192x768 : Shape := ⟨2, ![8192, 768]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4864, .f32⟩
  | .hbm, ⟨2, _⟩ => ⟨S8192x4864, .f32⟩
  | .hbm, ⟨3, _⟩ => ⟨S8192x256, .f32⟩
  | .hbm, ⟨4, _⟩ => ⟨S8192x512, .f32⟩
  | .hbm, ⟨5, _⟩ => ⟨S8192x128, .f32⟩
  | .hbm, ⟨6, _⟩ => ⟨S8192x128, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x3072, .f32⟩
  | .hbm, ⟨11, _⟩ => ⟨S8192x3072, .bf16⟩
  | .hbm, ⟨12, _⟩ => ⟨S8192x1024, .f32⟩
  | .hbm, ⟨13, _⟩ => ⟨S8192x1024, .bf16⟩
  | .hbm, ⟨14, _⟩ => ⟨S8192x768, .f32⟩
  | .hbm, ⟨15, _⟩ => ⟨S8192x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Kernel16.lean ====
abbrev S8192x256 : Shape := ⟨2, ![8192, 256]⟩
abbrev S8192x512 : Shape := ⟨2, ![8192, 512]⟩
abbrev S8192x3072 : Shape := ⟨2, ![8192, 3072]⟩
abbrev S256x1024 : Shape := ⟨2, ![256, 1024]⟩
abbrev S512x1024 : Shape := ⟨2, ![512, 1024]⟩
abbrev S1024x1024 : Shape := ⟨2, ![1024, 1024]⟩
abbrev S8192x1024 : Shape := ⟨2, ![8192, 1024]⟩
abbrev S512x256 : Shape := ⟨2, ![512, 256]⟩
abbrev S512x512 : Shape := ⟨2, ![512, 512]⟩
abbrev S512x3072 : Shape := ⟨2, ![512, 3072]⟩

abbrev nBuf : Space → Nat
  | .hbm => 12
  | .vmem => 11
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S8192x3072, .bf16⟩
  | .hbm, ⟨4, _⟩ => ⟨S256x1024, .f32⟩
  | .hbm, ⟨5, _⟩ => ⟨S512x1024, .f32⟩
  | .hbm, ⟨6, _⟩ => ⟨S256x1024, .f32⟩
  | .hbm, ⟨7, _⟩ => ⟨S256x1024, .bf16⟩
  | .hbm, ⟨8, _⟩ => ⟨S512x1024, .bf16⟩
  | .hbm, ⟨9, _⟩ => ⟨S256x1024, .bf16⟩
  | .hbm, ⟨10, _⟩ => ⟨S1024x1024, .bf16⟩
  | .hbm, ⟨11, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x3072, .bf16⟩
  | .local _ .vmem, ⟨7, _⟩ => ⟨S512x3072, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S8192x256 : Shape := ⟨2, ![8192, 256]⟩
abbrev S8192x512 : Shape := ⟨2, ![8192, 512]⟩
abbrev S8192x3072 : Shape := ⟨2, ![8192, 3072]⟩
abbrev S256x1024 : Shape := ⟨2, ![256, 1024]⟩
abbrev S512x1024 : Shape := ⟨2, ![512, 1024]⟩
abbrev S8192x1024 : Shape := ⟨2, ![8192, 1024]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S8192x256, .bf16⟩
  | .hbm, ⟨3, _⟩ => ⟨S8192x3072, .bf16⟩
  | .hbm, ⟨4, _⟩ => ⟨S256x1024, .f32⟩
  | .hbm, ⟨5, _⟩ => ⟨S512x1024, .f32⟩
  | .hbm, ⟨6, _⟩ => ⟨S256x1024, .f32⟩
  | .hbm, ⟨7, _⟩ => ⟨S8192x256, .f32⟩
  | .hbm, ⟨8, _⟩ => ⟨S8192x512, .f32⟩
  | .hbm, ⟨9, _⟩ => ⟨S8192x256, .f32⟩
  | .hbm, ⟨10, _⟩ => ⟨S8192x3072, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S8192x3x1024, .f32⟩
  | .hbm, ⟨23, _⟩ => ⟨S8192x1x1024, .f32⟩
  | .hbm, ⟨24, _⟩ => ⟨S8192x1024, .f32⟩
  | .hbm, ⟨25, _⟩ => ⟨S8192x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8192x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1, .f32⟩
  | .local _ .vmem, ⟨12, _⟩ => ⟨S512x1, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference17Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel18.lean ====
abbrev S8192x1024 : Shape := ⟨2, ![8192, 1024]⟩
abbrev S1024 : Shape := ⟨1, ![1024]⟩
abbrev S1024x4864 : Shape := ⟨2, ![1024, 4864]⟩
abbrev S8192x3072 : Shape := ⟨2, ![8192, 3072]⟩
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S4864x1024 : Shape := ⟨2, ![4864, 1024]⟩
abbrev S3072x1024 : Shape := ⟨2, ![3072, 1024]⟩
abbrev S256x1024 : Shape := ⟨2, ![256, 1024]⟩
abbrev S768x1024 : Shape := ⟨2, ![768, 1024]⟩
abbrev S1024x1024 : Shape := ⟨2, ![1024, 1024]⟩
abbrev S1x1024 : Shape := ⟨2, ![1, 1024]⟩
abbrev S512x3072 : Shape := ⟨2, ![512, 3072]⟩
abbrev S512x1024 : Shape := ⟨2, ![512, 1024]⟩
abbrev S512x768 : Shape := ⟨2, ![512, 768]⟩
abbrev S512x1 : Shape := ⟨2, ![512, 1]⟩
abbrev S512 : Shape := ⟨1, ![512]⟩

abbrev nBuf : Space → Nat
  | .hbm => 42
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4864, .f32⟩
  | .hbm, ⟨3, _⟩ => ⟨S8192x3072, .bf16⟩
  | .hbm, ⟨4, _⟩ => ⟨S8192x1024, .bf16⟩
  | .hbm, ⟨5, _⟩ => ⟨S8192x768, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S1024x4864, .bf16⟩
  | .hbm, ⟨27, _⟩ => ⟨S4864x1024, .bf16⟩
  | .hbm, ⟨28, _⟩ => ⟨S3072x1024, .bf16⟩
  | .hbm, ⟨29, _⟩ => ⟨S256x1024, .bf16⟩
  | .hbm, ⟨30, _⟩ => ⟨S768x1024, .bf16⟩
  | .hbm, ⟨31, _⟩ => ⟨S1024x1024, .bf16⟩
  | .hbm, ⟨32, _⟩ => ⟨S768x1024, .bf16⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S1x1024, .f32⟩
  | .hbm, ⟨39, _⟩ => ⟨S8192x1024, .f32⟩
  | .hbm, ⟨40, _⟩ => ⟨S1x1024, .f32⟩
  | .hbm, ⟨41, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S512x768, .bf16⟩
  | .local _ .vmem, ⟨5, _⟩ => ⟨S512x768, .bf16⟩
  | .local _ .vmem, ⟨6, _⟩ => ⟨S3072x1024, .bf16⟩
  | .local _ .vmem, ⟨7, _⟩ => ⟨S1024x1024, .bf16⟩
  | .local _ .vmem, ⟨8, _⟩ => ⟨S768x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1, .f32⟩
  | .local _ .vmem, ⟨14, _⟩ => ⟨S512x1, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference18Ideal.lean ====
abbrev S8192x1024 : Shape := ⟨2, ![8192, 1024]⟩
abbrev S1024 : Shape := ⟨1, ![1024]⟩
abbrev S1024x4864 : Shape := ⟨2, ![1024, 4864]⟩
abbrev S8192x3072 : Shape := ⟨2, ![8192, 3072]⟩
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4864 : Shape := ⟨2, ![8192, 4864]⟩
abbrev S8192x256 : Shape := ⟨2, ![8192, 256]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4864, .f32⟩
  | .hbm, ⟨3, _⟩ => ⟨S8192x3072, .bf16⟩
  | .hbm, ⟨4, _⟩ => ⟨S8192x1024, .bf16⟩
  | .hbm, ⟨5, _⟩ => ⟨S8192x768, .bf16⟩
  | .hbm, ⟨6, _⟩ => ⟨S8192x1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x4864, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x256, .bf16⟩
  | .hbm, ⟨50, _⟩ => ⟨S8192x768, .bf16⟩
  | .hbm, ⟨51, _⟩ => ⟨S8192x4864, .bf16⟩
  | .hbm, ⟨52, _⟩ => ⟨S8192x4864, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S1x1024, .f32⟩
  | .hbm, ⟨103, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_cst_16 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_17 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_cst_19 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== Proof.Merge.Spec.lean ====
/- The gradient of the gated merge of three branches, written at coordinates. At row `r` and channel `k` the merged value is
   `σ(g₀) p₀ + σ(g₁) p₁ + σ(g₂) p₂`, where `p_b` is branch `b`'s output times its projection matrix and `g_b` is its gate
   logit (column `1024 b + k` of the logits). With the cotangent `dm` the gradients are `dm · p_b · σ(g_b) · (1 - σ(g_b))` of the
   logit, `dm · σ(g_b)` of the product `p_b`, and the latter times the transposed matrix of the branch's output. -/
module

public import Idealize.ShloMosaic.PureOps.Ideal
public import Idealize.ShloMosaic.Lib.Pointwise.Index

@[expose] public section

noncomputable section

namespace Cert.Proof.Merge

open Idealize.ShloMosaic

/-- The gradient of one gate logit `g`, from the cotangent `d` of the merged value and the branch's product `p`. -/
def dLogit (d p g : EReal) : EReal := d * p * Ideal.logistic g * (1 - Ideal.logistic g)

/-- The gradient of one branch's product, from the cotangent `d` of the merged value and the gate logit `g`. -/
def dProd (d g : EReal) : EReal := d * Ideal.logistic g

/-- Row `r`, channel `k` of a branch's output (256 wide) times its matrix. -/
def prod256 (o : FVec Ideal ⟨2, ![8192, 256]⟩ .bf16) (w : FVec Ideal ⟨2, ![256, 1024]⟩ .f32) (r : Fin 8192) (k : Fin 1024) :
    EReal := ∑ j : Fin 256, o (ix2 r j) * w (ix2 j k)

/-- Row `r`, channel `k` of a branch's output (512 wide) times its matrix. -/
def prod512 (o : FVec Ideal ⟨2, ![8192, 512]⟩ .bf16) (w : FVec Ideal ⟨2, ![512, 1024]⟩ .f32) (r : Fin 8192) (k : Fin 1024) :
    EReal := ∑ j : Fin 512, o (ix2 r j) * w (ix2 j k)

/-- The gradient of the gate logits, [8192, 3 · 1024]: the three branches' side by side. -/
def dLogits (dm : FVec Ideal ⟨2, ![8192, 1024]⟩ .bf16) (oa : FVec Ideal ⟨2, ![8192, 256]⟩ .bf16)
    (ob : FVec Ideal ⟨2, ![8192, 512]⟩ .bf16) (oc : FVec Ideal ⟨2, ![8192, 256]⟩ .bf16)
    (g : FVec Ideal ⟨2, ![8192, 3072]⟩ .bf16) (wa : FVec Ideal ⟨2, ![256, 1024]⟩ .f32)
    (wb : FVec Ideal ⟨2, ![512, 1024]⟩ .f32) (wc : FVec Ideal ⟨2, ![256, 1024]⟩ .f32) : FVec Ideal ⟨2, ![8192, 3072]⟩ .bf16 :=
  fun i =>
    if h : (i 1 : ℕ) < 1024 then
      dLogit (dm (ix2 (i 0) ⟨(i 1 : ℕ), h⟩)) (prod256 oa wa (i 0) ⟨(i 1 : ℕ), h⟩) (g (ix2 (i 0) (i 1)))
    else if h' : (i 1 : ℕ) - 1024 < 1024 then
      dLogit (dm (ix2 (i 0) ⟨(i 1 : ℕ) - 1024, h'⟩)) (prod512 ob wb (i 0) ⟨(i 1 : ℕ) - 1024, h'⟩) (g (ix2 (i 0) (i 1)))
    else
      dLogit (dm (ix2 (i 0) ⟨((i 1 : ℕ) - 1024) % 1024, Nat.mod_lt _ (by decide)⟩))
        (prod256 oc wc (i 0) ⟨((i 1 : ℕ) - 1024) % 1024, Nat.mod_lt _ (by decide)⟩) (g (ix2 (i 0) (i 1)))

/-- The gradient of the three branches' products side by side, [8192, 3 · 1024]. -/
def dProds (dm : FVec Ideal ⟨2, ![8192, 1024]⟩ .bf16) (g : FVec Ideal ⟨2, ![8192, 3072]⟩ .bf16) :
    FVec Ideal ⟨2, ![8192, 3072]⟩ .bf16 :=
  fun i => dProd (dm (ix2 (i 0) ⟨(i 1 : ℕ) % 1024, Nat.mod_lt _ (by decide)⟩)) (g (ix2 (i 0) (i 1)))

/-- The gradient of the first or third branch's output (256 wide); `off` is the first column of its gate logits. -/
def dOut256 (off : ℕ) (hoff : off + 1024 ≤ 3072) (dm : FVec Ideal ⟨2, ![8192, 1024]⟩ .bf16)
    (g : FVec Ideal ⟨2, ![8192, 3072]⟩ .bf16) (w : FVec Ideal ⟨2, ![256, 1024]⟩ .f32) : FVec Ideal ⟨2, ![8192, 256]⟩ .bf16 :=
  fun i => ∑ k : Fin 1024, dProd (dm (ix2 (i 0) k)) (g (ix2 (i 0) ⟨off + (k : ℕ), by omega⟩)) * w (ix2 (i 1) k)

/-- The gradient of the second branch's output (512 wide), whose gate logits begin at column 1024. -/
def dOut512 (dm : FVec Ideal ⟨2, ![8192, 1024]⟩ .bf16)
    (g : FVec Ideal ⟨2, ![8192, 3072]⟩ .bf16) (w : FVec Ideal ⟨2, ![512, 1024]⟩ .f32) : FVec Ideal ⟨2, ![8192, 512]⟩ .bf16 :=
  fun i => ∑ k : Fin 1024, dProd (dm (ix2 (i 0) k)) (g (ix2 (i 0) ⟨1024 + (k : ℕ), by omega⟩)) * w (ix2 (i 1) k)

end Cert.Proof.Merge

end
-- ==== Proof.Sigmoid.lean ====
/- The logistic function over the extended reals, in the two spellings that the programs use: the host's
   `1 / (1 + e⁻ˣ)` and the kernels' `½ · tanh (½ · x) + ½`. They are equal at every extended real. -/
module

public import Idealize.ShloMosaic.PureOps.Ideal
public import Idealize.ShloMosaic.PureOps.Ideal.Laws
public import Idealize.ShloMosaic.Lib.IdealHost

@[expose] public section

noncomputable section

namespace Cert.Proof

open Idealize.ShloMosaic

/-- The f32 word of one half stands for the real number one half. -/
theorem half_word : Ideal.ofBits .f32 0x3F000000#32 = (((1 : ℝ) / 2 : ℝ) : EReal) := by
  simp [Ideal.ofBits, Ideal.ieee]
  rw [← EReal.coe_mul]
  norm_num

/-- On the reals: half of `tanh` of half the argument, plus one half, is the logistic function. -/
theorem real_gate (x : ℝ) : 1 / 2 * Real.tanh (1 / 2 * x) + 1 / 2 = (1 + Real.exp (-x))⁻¹ := by
  have hx : Real.exp (-x) = Real.exp (-(1 / 2 * x)) * Real.exp (-(1 / 2 * x)) := by
    rw [← Real.exp_add]; congr 1; ring
  have hi : Real.exp (1 / 2 * x) * Real.exp (-(1 / 2 * x)) = 1 := by
    rw [← Real.exp_add]; simp
  rw [Real.tanh_eq_sinh_div_cosh, Real.sinh_eq, Real.cosh_eq, hx]
  generalize hp : Real.exp (1 / 2 * x) = p at *
  generalize hq : Real.exp (-(1 / 2 * x)) = q at *
  have hp0 : 0 < p := hp ▸ Real.exp_pos _
  have hq0 : 0 < q := hq ▸ Real.exp_pos _
  have h1 : p + q ≠ 0 := by positivity
  have h2 : 1 + q * q ≠ 0 := by positivity
  field_simp
  linear_combination (2 * q) * hi

/-- The kernels' gate: the word of one half, `tanh`, and the word of one half. -/
def gate (x : EReal) : EReal :=
  Ideal.ofBits .f32 0x3F000000#32 * Ideal.tanh (Ideal.ofBits .f32 0x3F000000#32 * x) + Ideal.ofBits .f32 0x3F000000#32

/-- At every extended real the kernels' gate is the logistic function. -/
theorem gate_eq (x : EReal) : gate x = Ideal.logistic x := by
  unfold gate
  rw [half_word]
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, real_gate]

end Cert.Proof

end
-- ==== Proof.Merge.Handed.lean ====
/- The merge kernel's blocks, and the two matrices that the host prepares for it. -/
module

public import proofs.«01_k».proof.Proof.Gen.KernelIdeal.Frame
public import proofs.«01_k».proof.Proof.Merge.Spec
public import proofs.«01_k».proof.Proof.Sigmoid
public import Idealize.ShloMosaic.Lib.Pipeline.ValueKit

@[expose] public section

set_option maxRecDepth 16384

noncomputable section

namespace Cert.Proof.Merge

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Every window's block at grid point `t`: row block `t`, but for the two matrices, which are whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-- The stacked branch matrices that the kernel is handed: rows 0 … 255 the first branch's, 256 … 767 the second's,
    768 … 1023 the third's. -/
theorem stacked (c : Dev nD) (a b : Fin 1024) : V m c main_v3 (ix2 a b)
    = if h : (a : ℕ) < 256 then m ((c : Thread nD τ).loc main_arg5) (ix2 ⟨a, h⟩ b)
      else if h' : (a : ℕ) - 256 < 512 then m ((c : Thread nD τ).loc main_arg6) (ix2 ⟨(a : ℕ) - 256, h'⟩ b)
      else m ((c : Thread nD τ).loc main_arg7) (ix2 ⟨(a : ℕ) - 256 - 512, by omega⟩ b) := by
  have e : V m c main_v3 = (concatenate S1024x1024 0
      [⟨S256x1024, truncf (F := Ideal) .bf16 (m ((c : Thread nD τ).loc main_arg5) : FVec Ideal S256x1024 .f32) bitsLt_bf16_f32⟩,
       ⟨S512x1024, truncf (F := Ideal) .bf16 (m ((c : Thread nD τ).loc main_arg6) : FVec Ideal S512x1024 .f32) bitsLt_bf16_f32⟩,
       ⟨S256x1024, truncf (F := Ideal) .bf16 (m ((c : Thread nD τ).loc main_arg7) : FVec Ideal S256x1024 .f32) bitsLt_bf16_f32⟩]
      concatenates_S256x1024_S512x1024_S256x1024_S1024x1024_d0 : FVec Ideal S1024x1024 .bf16) := by
    unfold V; after_results; try rfl
  rw [e]
  pointwise

/-- The transposed stacked matrices that the kernel is handed. -/
theorem stackedT (c : Dev nD) (a b : Fin 1024) : V m c main_v4 (ix2 a b) = V m c main_v3 (ix2 b a) := by
  have e : V m c main_v4 = transpose S1024x1024 [1, 0] (V m c main_v3 : FVec Ideal S1024x1024 .bf16)
      transposes_S1024x1024_S1024x1024_1_0 := by
    unfold V; after_results; try rfl
  rw [e]
  pointwise

end Cert.Proof.Merge

end
-- ==== Proof.Merge.Outputs.lean ====
/- What the merge kernel leaves in the gradients of the branches' products and of the branches' outputs. -/
module

public import proofs.«01_k».proof.Proof.Merge.Handed
public import Idealize.ShloMosaic.Lib.Pipeline.ValueKit

@[expose] public section

set_option maxRecDepth 16384

noncomputable section

namespace Cert.Proof.Merge

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The gradient of a branch's output, `n` wide, whose gate logits begin at column `g0` and whose rows of the stacked
    matrices begin at `r0`: over the arrays that the kernel is handed. -/
def outOf (n g0 r0 : ℕ) (hg : g0 + 1024 ≤ 3072) (hr : r0 + n ≤ 1024) (dm : FVec Ideal S8192x1024 .bf16)
    (g : FVec Ideal S8192x3072 .bf16) (wt : FVec Ideal S1024x1024 .bf16) : FVec Ideal ⟨2, ![8192, n]⟩ .bf16 :=
  fun i => ∑ k : Fin 1024, dProd (dm (ix2 (i 0) k)) (g (ix2 (i 0) ⟨g0 + (k : ℕ), by omega⟩))
    * wt (ix2 k ⟨r0 + (i 1 : ℕ), by have h : (i 1 : ℕ) < n := (i 1).isLt; omega⟩)

theorem out9 (c : Dev nD) : (dats m 0 c).arrAt 9 (cfgs 0).N
    = outOf 256 0 0 (by decide) (by decide) (V m c main_arg0) (V m c main_arg4) (V m c main_v4) := by
  refine (dats m 0 c).arrAt_eq_of_covers 9 _ (by decide +kernel) fun t hf y => ?_
  blk_simp
  rw [after0_9]
  frame_out
  pointwise [k0_pay9, k0_pay8, k0_pay6, k0_pay5, outOf, dProd, ← gate_eq, gate]
  blk_point [iblk, idx t]

theorem out10 (c : Dev nD) : (dats m 0 c).arrAt 10 (cfgs 0).N
    = outOf 512 1024 256 (by decide) (by decide) (V m c main_arg0) (V m c main_arg4) (V m c main_v4) := by
  refine (dats m 0 c).arrAt_eq_of_covers 10 _ (by decide +kernel) fun t hf y => ?_
  blk_simp
  rw [after0_10]
  frame_out
  unfold_payloads
  pointwise [outOf, dProd, ← gate_eq, gate]
  blk_point [iblk, idx t]

theorem out11 (c : Dev nD) : (dats m 0 c).arrAt 11 (cfgs 0).N
    = outOf 256 2048 768 (by decide) (by decide) (V m c main_arg0) (V m c main_arg4) (V m c main_v4) := by
  refine (dats m 0 c).arrAt_eq_of_covers 11 _ (by decide +kernel) fun t hf y => ?_
  blk_simp
  rw [after0_11]
  frame_out
  unfold_payloads
  pointwise [outOf, dProd, ← gate_eq, gate]
  blk_point [iblk, idx t]

/-- The gradient of the three branches' products. -/
theorem final8 (c : Dev nD) : (dats m 0 c).arrAt 8 (cfgs 0).N
    = dProds (m ((c : Thread nD τ).loc main_arg0)) (m ((c : Thread nD τ).loc main_arg4)) := by
  refine (dats m 0 c).arrAt_eq_of_covers 8 _ (by decide +kernel) fun t hf y => ?_
  blk_simp
  rw [after0_8]
  canon_tiles x h
  all_goals (open_payloads; pointwise [dProds, dProd, ← gate_eq, gate]; blk_point [iblk, V, idx t])

end Cert.Proof.Merge

end
-- ==== Proof.Merge.Logits.lean ====
/- What the merge kernel leaves in the gradient of the gate logits. -/
module

public import proofs.«01_k».proof.Proof.Merge.Handed
public import Idealize.ShloMosaic.Lib.Pipeline.ValueKit

@[expose] public section

set_option maxRecDepth 16384

noncomputable section

namespace Cert.Proof.Merge

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- One branch's part of the logits' gradient, over the arrays that the kernel is handed: `o` is the branch's output, `r0`
    the first of its rows in the stacked matrices. -/
def logitOf (n r0 : ℕ) (hr : r0 + n ≤ 1024) (dm : FVec Ideal S8192x1024 .bf16) (o : FVec Ideal ⟨2, ![8192, n]⟩ .bf16)
    (g : FVec Ideal S8192x3072 .bf16) (w : FVec Ideal S1024x1024 .bf16) (r : Fin 8192) (k : Fin 1024) (l : Fin 3072) : EReal :=
  dLogit (dm (ix2 r k)) (∑ j : Fin n, o (ix2 r j) * w (ix2 ⟨r0 + (j : ℕ), by omega⟩ k)) (g (ix2 r l))

/-- The logits' gradient over the arrays that the kernel is handed. -/
def logitsOf (dm : FVec Ideal S8192x1024 .bf16) (oa : FVec Ideal S8192x256 .bf16) (ob : FVec Ideal S8192x512 .bf16)
    (oc : FVec Ideal S8192x256 .bf16) (g : FVec Ideal S8192x3072 .bf16) (w : FVec Ideal S1024x1024 .bf16) :
    FVec Ideal S8192x3072 .bf16 :=
  fun i =>
    if h : (i 1 : ℕ) < 1024 then logitOf 256 0 (by decide) dm oa g w (i 0) ⟨(i 1 : ℕ), h⟩ (i 1)
    else if h' : (i 1 : ℕ) - 1024 < 1024 then logitOf 512 256 (by decide) dm ob g w (i 0) ⟨(i 1 : ℕ) - 1024, h'⟩ (i 1)
    else logitOf 256 768 (by decide) dm oc g w (i 0) ⟨((i 1 : ℕ) - 1024) % 1024, Nat.mod_lt _ (by decide)⟩ (i 1)

/-- In the first 1024 columns the logits' gradient is the first branch's. -/
theorem logitsOf_a (dm oa ob oc g w) (i : S8192x3072.Idx) (x : ℕ) (hx : x < 1024) (hi : (i 1 : ℕ) = x) :
    logitsOf dm oa ob oc g w i = logitOf 256 0 (by decide) dm oa g w (i 0) ⟨x, hx⟩ (i 1) := by
  subst hi
  unfold logitsOf
  rw [dif_pos hx]

/-- In the next 1024 columns it is the second branch's. -/
theorem logitsOf_b (dm oa ob oc g w) (i : S8192x3072.Idx) (x : ℕ) (hx : x < 1024) (hi : (i 1 : ℕ) = 1024 + x) :
    logitsOf dm oa ob oc g w i = logitOf 512 256 (by decide) dm ob g w (i 0) ⟨x, hx⟩ (i 1) := by
  unfold logitsOf
  rw [dif_neg (by omega), dif_pos (by omega)]
  congr 2
  omega

/-- In the last 1024 columns it is the third branch's. -/
theorem logitsOf_c (dm oa ob oc g w) (i : S8192x3072.Idx) (x : ℕ) (hx : x < 1024) (hi : (i 1 : ℕ) = 2048 + x) :
    logitsOf dm oa ob oc g w i = logitOf 256 768 (by decide) dm oc g w (i 0) ⟨x, hx⟩ (i 1) := by
  unfold logitsOf
  rw [dif_neg (by omega), dif_neg (by omega)]
  congr 2
  omega

theorem out7 (c : Dev nD) : (dats m 0 c).arrAt 7 (cfgs 0).N
    = logitsOf (V m c main_arg0) (V m c main_arg1) (V m c main_arg2) (V m c main_arg3) (V m c main_arg4) (V m c main_v3) := by
  refine (dats m 0 c).arrAt_eq_of_covers 7 _ (by decide +kernel) fun t hf y => ?_
  blk_simp
  rw [after0_7]
  canon_tiles x h
  · have hl : ((((cfg0.win 7).blk t).view.emb y) 1 : ℕ) = 2048 + ↑(x 1) := by blk_simp [idx t]; omega
    refine Eq.trans ?_ (logitsOf_c _ _ _ _ _ _ _ _ x1_lt hl).symm
    unfold_payloads
    pointwise [logitOf, dLogit, ← gate_eq, gate]
    blk_point [iblk, idx t]
  · have hl : ((((cfg0.win 7).blk t).view.emb y) 1 : ℕ) = 1024 + ↑(x 1) := by blk_simp [idx t]; omega
    refine Eq.trans ?_ (logitsOf_b _ _ _ _ _ _ _ _ x1_lt hl).symm
    unfold_payloads
    pointwise [logitOf, dLogit, ← gate_eq, gate]
    blk_point [iblk, idx t]
  · have hl : ((((cfg0.win 7).blk t).view.emb y) 1 : ℕ) = ↑(x 1) := by blk_simp [idx t]; omega
    refine Eq.trans ?_ (logitsOf_a _ _ _ _ _ _ _ _ x1_lt hl).symm
    unfold_payloads
    pointwise [logitOf, dLogit, ← gate_eq, gate]
    blk_point [iblk, idx t]

end Cert.Proof.Merge

end
-- ==== Proof.Merge.Final.lean ====
/- What the merge kernel leaves, over its arguments: the specification's arrays. -/
module

public import proofs.«01_k».proof.Proof.Merge.Outputs
public import proofs.«01_k».proof.Proof.Merge.Logits

@[expose] public section

set_option maxRecDepth 16384

noncomputable section

namespace Cert.Proof.Merge

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The first branch's rows of the stacked matrices. -/
theorem stacked_a (c : Dev nD) (a : Fin 256) (b : Fin 1024) :
    V m c main_v3 (ix2 ⟨0 + (a : ℕ), by omega⟩ b) = m ((c : Thread nD τ).loc main_arg5) (ix2 a b) := by
  rw [stacked, dif_pos (show 0 + (a : ℕ) < 256 by omega)]
  simp only [zero_add]

/-- The second branch's rows. -/
theorem stacked_b (c : Dev nD) (a : Fin 512) (b : Fin 1024) :
    V m c main_v3 (ix2 ⟨256 + (a : ℕ), by omega⟩ b) = m ((c : Thread nD τ).loc main_arg6) (ix2 a b) := by
  rw [stacked, dif_neg (show ¬(256 + (a : ℕ) < 256) by omega), dif_pos (show 256 + (a : ℕ) - 256 < 512 by omega)]
  simp only [Nat.add_sub_cancel_left]

/-- The third branch's rows. -/
theorem stacked_c (c : Dev nD) (a : Fin 256) (b : Fin 1024) :
    V m c main_v3 (ix2 ⟨768 + (a : ℕ), by omega⟩ b) = m ((c : Thread nD τ).loc main_arg7) (ix2 a b) := by
  have e : 768 + (a : ℕ) - 256 - 512 = a := by omega
  rw [stacked, dif_neg (show ¬(768 + (a : ℕ) < 256) by omega), dif_neg (show ¬(768 + (a : ℕ) - 256 < 512) by omega)]
  simp only [e]

/-- The gradient of the gate logits. -/
theorem final7 (c : Dev nD) : (dats m 0 c).arrAt 7 (cfgs 0).N
    = dLogits (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  rw [out7, V_main_arg0, V_main_arg1, V_main_arg2, V_main_arg3, V_main_arg4]
  funext i
  unfold logitsOf dLogits
  split_ifs with h h'
  · exact congrArg (fun s => dLogit _ s _) (Finset.sum_congr rfl fun j _ => congrArg _ (stacked_a m c j _))
  · exact congrArg (fun s => dLogit _ s _) (Finset.sum_congr rfl fun j _ => congrArg _ (stacked_b m c j _))
  · exact congrArg (fun s => dLogit _ s _) (Finset.sum_congr rfl fun j _ => congrArg _ (stacked_c m c j _))

/-- The gradient of the first branch's output. -/
theorem final9 (c : Dev nD) : (dats m 0 c).arrAt 9 (cfgs 0).N
    = dOut256 0 (by decide) (m ((c : Thread nD τ).loc main_arg0)) (m ((c : Thread nD τ).loc main_arg4))
        (m ((c : Thread nD τ).loc main_arg5)) := by
  rw [out9, V_main_arg0, V_main_arg4]
  funext i
  unfold outOf dOut256
  exact Finset.sum_congr rfl fun k _ => congrArg _ ((stackedT m c k _).trans (stacked_a m c (i 1) k))

/-- The gradient of the second branch's output. -/
theorem final10 (c : Dev nD) : (dats m 0 c).arrAt 10 (cfgs 0).N
    = dOut512 (m ((c : Thread nD τ).loc main_arg0)) (m ((c : Thread nD τ).loc main_arg4))
        (m ((c : Thread nD τ).loc main_arg6)) := by
  rw [out10, V_main_arg0, V_main_arg4]
  funext i
  unfold outOf dOut512
  exact Finset.sum_congr rfl fun k _ => congrArg _ ((stackedT m c k _).trans (stacked_b m c (i 1) k))

/-- The gradient of the third branch's output. -/
theorem final11 (c : Dev nD) : (dats m 0 c).arrAt 11 (cfgs 0).N
    = dOut256 2048 (by decide) (m ((c : Thread nD τ).loc main_arg0)) (m ((c : Thread nD τ).loc main_arg4))
        (m ((c : Thread nD τ).loc main_arg7)) := by
  rw [out11, V_main_arg0, V_main_arg4]
  funext i
  unfold outOf dOut256
  exact Finset.sum_congr rfl fun k _ => congrArg _ ((stackedT m c k _).trans (stacked_c m c (i 1) k))

end Cert.Proof.Merge

end
-- ==== Proof.Merge.KernelRun.lean ====
/- The merge kernel's run: what its five results hold. -/
module

public import proofs.«01_k».proof.Proof.Gen.KernelIdeal.Value
public import proofs.«01_k».proof.Proof.Merge.Final

@[expose] public section

set_option maxRecDepth 16384

noncomputable section

namespace Cert.Proof.Merge

open Idealize.ShloMosaic Idealize.ShloMosaic.TcCoe Idealize.SL.Sem

open Cert.KernelIdeal Cert.KernelIdeal.Gen

/-- The kernel leaves the specification's five arrays and keeps its arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5_0) = dLogits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v5_1) = dProds (m ((c.tc : Thread nD τ).loc main_arg0)) (m ((c.tc : Thread nD τ).loc main_arg4))
      ∧ r.2.mem ((c.tc : Thread nD τ).loc main_v5_2) = dOut256 0 (by decide) (m ((c.tc : Thread nD τ).loc main_arg0)) (m ((c.tc : Thread nD τ).loc main_arg4)) (m ((c.tc : Thread nD τ).loc main_arg5))
      ∧ r.2.mem ((c.tc : Thread nD τ).loc main_v5_3) = dOut512 (m ((c.tc : Thread nD τ).loc main_arg0)) (m ((c.tc : Thread nD τ).loc main_arg4)) (m ((c.tc : Thread nD τ).loc main_arg6))
      ∧ r.2.mem ((c.tc : Thread nD τ).loc main_v5_4) = dOut256 2048 (by decide) (m ((c.tc : Thread nD τ).loc main_arg0)) (m ((c.tc : Thread nD τ).loc main_arg4)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (final7 m c), (h c).2.1.trans (final8 m c), (h c).2.2.1.trans (final9 m c),
      (h c).2.2.2.1.trans (final10 m c), (h c).2.2.2.2.1.trans (final11 m c), (h c).2.2.2.2.2⟩)
    (Cert.KernelIdeal.Value.run_blocks m ρ)

end Cert.Proof.Merge

end
-- ==== Proof.Merge.Ref.lean ====
/- The reference's five results, read at an index: the gradients of Spec.lean. -/
module

public import proofs.«01_k».proof.Proof.Gen.ReferenceIdeal.Read
public import proofs.«01_k».proof.Proof.Merge.Spec
public import Idealize.ShloMosaic.Lib.Pointwise

@[expose] public section

set_option maxRecDepth 16384

noncomputable section

namespace Cert.Proof.Merge

open Idealize.ShloMosaic Idealize.ShloMosaic.TcCoe Idealize.SL.Sem
open Cert.ReferenceIdeal Cert.ReferenceIdeal.Read

variable (dm : FVec Ideal S8192x1024 .bf16) (oa : FVec Ideal S8192x256 .bf16) (ob : FVec Ideal S8192x512 .bf16)
  (oc : FVec Ideal S8192x256 .bf16) (g : FVec Ideal S8192x3072 .bf16) (wa : FVec Ideal S256x1024 .f32)
  (wb : FVec Ideal S512x1024 .f32) (wc : FVec Ideal S256x1024 .f32)

/-- The reference's spelling of the logistic function of the gate logits. -/
theorem sigma_apply (r : Fin 8192) (l : Fin 3072) : val_main_v13 (F := Ideal) g (ix2 r l) = Ideal.logistic (g (ix2 r l)) := by
  pointwise [val_main_v13, val_main_v12, val_main_cst_0, val_main_v11, val_main_v10, val_main_cst, val_main_v9, val_main_v8,
    val_main_v4, Ideal.logistic]

/-- The first branch's output. -/
theorem ref51 : val_main_v51 (F := Ideal) dm g wa = dOut256 0 (by decide) dm g wa := by
  funext i
  idx_vars i
  pointwise [val_main_v51, val_main_v47, val_main_v38, val_main_v19, val_main_v18, val_main_v17, val_main_v0, sigma_apply,
    dOut256, dProd]
  exact Finset.sum_congr rfl fun k _ => by rw [mul_comm (Ideal.logistic _)]

/-- The second branch's output. -/
theorem ref52 : val_main_v52 (F := Ideal) dm g wb = dOut512 dm g wb := by
  funext i
  idx_vars i
  pointwise [val_main_v52, val_main_v46, val_main_v33, val_main_v22, val_main_v21, val_main_v17, val_main_v0, sigma_apply,
    dOut512, dProd]
  exact Finset.sum_congr rfl fun k _ => by rw [mul_comm (Ideal.logistic _)]

/-- The third branch's output. -/
theorem ref53 : val_main_v53 (F := Ideal) dm g wc = dOut256 2048 (by decide) dm g wc := by
  funext i
  idx_vars i
  pointwise [val_main_v53, val_main_v45, val_main_v29, val_main_v26, val_main_v25, val_main_v17, val_main_v0, sigma_apply,
    dOut256, dProd]
  exact Finset.sum_congr rfl fun k _ => by rw [mul_comm (Ideal.logistic _)]

/-- The three branches' products side by side. -/
theorem ref50 : val_main_v50 (F := Ideal) dm g = dProds dm g := by
  funext i
  idx_vars i
  pointwise [val_main_v50, val_main_v48, val_main_v38, val_main_v19, val_main_v18, val_main_v33, val_main_v22,
    val_main_v21, val_main_v29, val_main_v26, val_main_v25, val_main_v17, val_main_v0, sigma_apply, dProds, dProd]
  rcases (by omega : (i1 : ℕ) < 1024 ∨ 1024 ≤ (i1 : ℕ) ∧ (i1 : ℕ) < 2048 ∨ 2048 ≤ (i1 : ℕ)) with h | ⟨h, h'⟩ | h
  · have hm : (i1 : ℕ) % 1024 = i1 := by omega
    rw [dif_pos h, mul_comm]
    simp only [hm]
  · have hm : (i1 : ℕ) % 1024 = i1 - 1024 := by omega
    have hn : 1024 + ((i1 : ℕ) - 1024) = i1 := by omega
    rw [dif_neg (by omega), dif_pos (by omega), mul_comm]
    simp only [hm, hn]
  · have hm : (i1 : ℕ) % 1024 = i1 - 1024 - 1024 := by omega
    have hn : 2048 + ((i1 : ℕ) - 1024 - 1024) = i1 := by omega
    rw [dif_neg (by omega), dif_neg (by omega), mul_comm]
    simp only [hm, hn]

/-- Three summands of which only the one for column `x`'s branch is not zero, against the choice of that branch. -/
theorem pick (x : ℕ) (hx : x < 3072) (A B C : (k : ℕ) → k < 1024 → EReal) (s t : EReal) :
    (((if h : (2 ≤ x / 1024 ∧ x / 1024 - 2 < 1) ∧ x % 1024 < 1024 then C (x % 1024) h.2 else 0)
      + (if h : (1 ≤ x / 1024 ∧ x / 1024 - 1 < 1) ∧ x % 1024 < 1024 then B (x % 1024) h.2 else 0))
      + (if h : x / 1024 < 1 ∧ x % 1024 < 1024 then A (x % 1024) h.2 else 0)) * (s * t)
    = if h : x < 1024 then A x h * s * t else if h' : x - 1024 < 1024 then B (x - 1024) h' * s * t
      else C ((x - 1024) % 1024) (Nat.mod_lt _ (by decide)) * s * t := by
  rcases (by omega : x < 1024 ∨ 1024 ≤ x ∧ x < 2048 ∨ 2048 ≤ x) with h | ⟨h, h'⟩ | h
  · have e : x % 1024 = x := by omega
    rw [dif_neg (show ¬((2 ≤ x / 1024 ∧ x / 1024 - 2 < 1) ∧ x % 1024 < 1024) by omega),
      dif_neg (show ¬((1 ≤ x / 1024 ∧ x / 1024 - 1 < 1) ∧ x % 1024 < 1024) by omega),
      dif_pos (show x / 1024 < 1 ∧ x % 1024 < 1024 by omega), dif_pos h]
    simp only [zero_add, e, mul_assoc]
  · have e : x % 1024 = x - 1024 := by omega
    rw [dif_neg (show ¬((2 ≤ x / 1024 ∧ x / 1024 - 2 < 1) ∧ x % 1024 < 1024) by omega),
      dif_pos (show (1 ≤ x / 1024 ∧ x / 1024 - 1 < 1) ∧ x % 1024 < 1024 by omega),
      dif_neg (show ¬(x / 1024 < 1 ∧ x % 1024 < 1024) by omega), dif_neg (show ¬(x < 1024) by omega),
      dif_pos (show x - 1024 < 1024 by omega)]
    simp only [zero_add, add_zero, e, mul_assoc]
  · have e : x % 1024 = (x - 1024) % 1024 := by omega
    rw [dif_pos (show (2 ≤ x / 1024 ∧ x / 1024 - 2 < 1) ∧ x % 1024 < 1024 by omega),
      dif_neg (show ¬((1 ≤ x / 1024 ∧ x / 1024 - 1 < 1) ∧ x % 1024 < 1024) by omega),
      dif_neg (show ¬(x / 1024 < 1 ∧ x % 1024 < 1024) by omega), dif_neg (show ¬(x < 1024) by omega),
      dif_neg (show ¬(x - 1024 < 1024) by omega)]
    simp only [add_zero, e, mul_assoc]

/-- The gate logits. -/
theorem ref49 : val_main_v49 (F := Ideal) dm oa ob oc g wa wb wc = dLogits dm oa ob oc g wa wb wc := by
  funext i
  idx_vars i
  pointwise [val_main_v49, val_main_v44, val_main_v43, val_main_v42, val_main_v41, val_main_v40, val_main_v39, val_main_v37,
    val_main_v36, val_main_v35, val_main_v34, val_main_v32, val_main_v31, val_main_v30, val_main_v16, val_main_v15,
    val_main_v14, val_main_cst_1, val_main_cst_2, val_main_cst_3, val_main_cst_4, sigma_apply, dLogits, dLogit, prod256,
    prod512, val_main_v0, val_main_v1, val_main_v2, val_main_v3, val_main_v5, val_main_v6, val_main_v7]
  exact pick i1 i1.isLt (fun k h => dm (ix2 i0 ⟨k, h⟩) * ∑ x, oa (ix2 i0 x) * wa (ix2 x ⟨k, h⟩))
    (fun k h => dm (ix2 i0 ⟨k, h⟩) * ∑ x, ob (ix2 i0 x) * wb (ix2 x ⟨k, h⟩))
    (fun k h => dm (ix2 i0 ⟨k, h⟩) * ∑ x, oc (ix2 i0 x) * wc (ix2 x ⟨k, h⟩)) _ _

end Cert.Proof.Merge

end
-- ==== Proof.Merge.ReferenceRun.lean ====
/- The merge reference's run: what its five results hold. -/
module

public import proofs.«01_k».proof.Proof.Merge.Ref
public import proofs.«01_k».proof.Proof.Gen.ReferenceIdeal.Run

@[expose] public section

set_option maxRecDepth 16384

noncomputable section

namespace Cert.Proof.Merge

open Idealize.ShloMosaic Idealize.ShloMosaic.TcCoe Idealize.SL.Sem

open Cert.ReferenceIdeal Cert.ReferenceIdeal.Gen Cert.ReferenceIdeal.Read

/-- The reference leaves the specification's five arrays and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = dLogits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v50) = dProds (m ((c.tc : Thread nD τ).loc main_arg0)) (m ((c.tc : Thread nD τ).loc main_arg4))
      ∧ r.2.mem ((c.tc : Thread nD τ).loc main_v51) = dOut256 0 (by decide) (m ((c.tc : Thread nD τ).loc main_arg0)) (m ((c.tc : Thread nD τ).loc main_arg4)) (m ((c.tc : Thread nD τ).loc main_arg5))
      ∧ r.2.mem ((c.tc : Thread nD τ).loc main_v52) = dOut512 (m ((c.tc : Thread nD τ).loc main_arg0)) (m ((c.tc : Thread nD τ).loc main_arg4)) (m ((c.tc : Thread nD τ).loc main_arg6))
      ∧ r.2.mem ((c.tc : Thread nD τ).loc main_v53) = dOut256 2048 (by decide) (m ((c.tc : Thread nD τ).loc main_arg0)) (m ((c.tc : Thread nD τ).loc main_arg4)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(h c).1.trans ((val_main_v49_eq _ _ _ _ _ _ _ _).trans (ref49 _ _ _ _ _ _ _ _)),
      (h c).2.1.trans ((val_main_v50_eq _ _).trans (ref50 _ _)),
      (h c).2.2.1.trans ((val_main_v51_eq _ _ _).trans (ref51 _ _ _)),
      (h c).2.2.2.1.trans ((val_main_v52_eq _ _ _).trans (ref52 _ _ _)),
      (h c).2.2.2.2.1.trans ((val_main_v53_eq _ _ _).trans (ref53 _ _ _)), (h c).2.2.2.2.2⟩)
    (Cert.ReferenceIdeal.Value.run m ρ)

end Cert.Proof.Merge

end
-- ==== Proof.Merge.Forward.lean ====
/- The gated merge of the forward pass: three branches, each projected to 1024 channels and weighted by its own gate. -/
module

public import proofs.«01_k».proof.Proof.Gen.Kernel16Ideal.Value
public import proofs.«01_k».proof.Proof.Gen.Reference16Ideal.Run
public import proofs.«01_k».proof.Proof.Gen.Reference16Ideal.Read
public import proofs.«01_k».proof.Proof.Merge.Spec
public import proofs.«01_k».proof.Proof.Sigmoid
public import Idealize.ShloMosaic.Lib.Pipeline.ValueKit

@[expose] public section

set_option maxRecDepth 16384

noncomputable section

namespace Cert.Proof.Forward

open Idealize.ShloMosaic Idealize.ShloMosaic.TcCoe Idealize.SL.Sem
open Idealize.ShloMosaic.Pipeline (Dat)
open Cert.Proof.Merge (prod256 prod512)

/-- The merged value: at row `s` and channel `d` the three branches' products, each times the logistic function of its gate logit
    (columns `d`, `1024 + d` and `2048 + d` of the logits). -/
def merged (oa : FVec Ideal ⟨2, ![8192, 256]⟩ .bf16) (ob : FVec Ideal ⟨2, ![8192, 512]⟩ .bf16)
    (oc : FVec Ideal ⟨2, ![8192, 256]⟩ .bf16) (g : FVec Ideal ⟨2, ![8192, 3072]⟩ .bf16) (wa : FVec Ideal ⟨2, ![256, 1024]⟩ .f32)
    (wb : FVec Ideal ⟨2, ![512, 1024]⟩ .f32) (wc : FVec Ideal ⟨2, ![256, 1024]⟩ .f32) : FVec Ideal ⟨2, ![8192, 1024]⟩ .bf16 :=
  fun i => Ideal.logistic (g (ix2 (i 0) ⟨0 + (i 1 : ℕ), by have := (i 1).isLt; simp at this; omega⟩)) * prod256 oa wa (i 0) (i 1)
    + Ideal.logistic (g (ix2 (i 0) ⟨1024 + (i 1 : ℕ), by have := (i 1).isLt; simp at this; omega⟩)) * prod512 ob wb (i 0) (i 1)
    + Ideal.logistic (g (ix2 (i 0) ⟨2048 + (i 1 : ℕ), by have := (i 1).isLt; simp at this; omega⟩)) * prod256 oc wc (i 0) (i 1)

section
open Cert.Kernel16Ideal Cert.Kernel16Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] :=
  (by decide +kernel : ∀ t : Fin grid0.N, _)

/-- The stacked branch matrices that the kernel is handed: rows 0 … 255 the first branch's, 256 … 767 the second's,
    768 … 1023 the third's. -/
theorem stacked (c : Dev nD) (a b : Fin 1024) : V m c main_v3 (ix2 a b)
    = if h : (a : ℕ) < 256 then m ((c : Thread nD τ).loc main_arg4) (ix2 ⟨a, h⟩ b)
      else if h' : (a : ℕ) - 256 < 512 then m ((c : Thread nD τ).loc main_arg5) (ix2 ⟨(a : ℕ) - 256, h'⟩ b)
      else m ((c : Thread nD τ).loc main_arg6) (ix2 ⟨(a : ℕ) - 256 - 512, by omega⟩ b) := by
  have e : V m c main_v3 = (concatenate S1024x1024 0
      [⟨S256x1024, truncf (F := Ideal) .bf16 (m ((c : Thread nD τ).loc main_arg4) : FVec Ideal S256x1024 .f32) bitsLt_bf16_f32⟩,
       ⟨S512x1024, truncf (F := Ideal) .bf16 (m ((c : Thread nD τ).loc main_arg5) : FVec Ideal S512x1024 .f32) bitsLt_bf16_f32⟩,
       ⟨S256x1024, truncf (F := Ideal) .bf16 (m ((c : Thread nD τ).loc main_arg6) : FVec Ideal S256x1024 .f32) bitsLt_bf16_f32⟩]
      concatenates_S256x1024_S512x1024_S256x1024_S1024x1024_d0 : FVec Ideal S1024x1024 .bf16) := by
    unfold V; after_results; try rfl
  rw [e]
  pointwise

theorem stacked_a (c : Dev nD) (a : Fin 256) (b : Fin 1024) :
    V m c main_v3 (ix2 ⟨0 + (a : ℕ), by omega⟩ b) = m ((c : Thread nD τ).loc main_arg4) (ix2 a b) := by
  rw [stacked, dif_pos (show 0 + (a : ℕ) < 256 by omega)]
  simp only [zero_add]

theorem stacked_b (c : Dev nD) (a : Fin 512) (b : Fin 1024) :
    V m c main_v3 (ix2 ⟨256 + (a : ℕ), by omega⟩ b) = m ((c : Thread nD τ).loc main_arg5) (ix2 a b) := by
  rw [stacked, dif_neg (show ¬(256 + (a : ℕ) < 256) by omega), dif_pos (show 256 + (a : ℕ) - 256 < 512 by omega)]
  simp only [Nat.add_sub_cancel_left]

theorem stacked_c (c : Dev nD) (a : Fin 256) (b : Fin 1024) :
    V m c main_v3 (ix2 ⟨768 + (a : ℕ), by omega⟩ b) = m ((c : Thread nD τ).loc main_arg6) (ix2 a b) := by
  have e : 768 + (a : ℕ) - 256 - 512 = a := by omega
  rw [stacked, dif_neg (show ¬(768 + (a : ℕ) < 256) by omega), dif_neg (show ¬(768 + (a : ℕ) - 256 < 512) by omega)]
  simp only [e]

/-- One branch's part of the merged value over the arrays that the kernel is handed: `r0` is the first of its rows in the stacked
    matrices, `l` the column of its gate logit. -/
def partOf (n r0 : ℕ) (hr : r0 + n ≤ 1024) (o : FVec Ideal ⟨2, ![8192, n]⟩ .bf16) (g : FVec Ideal S8192x3072 .bf16)
    (w : FVec Ideal S1024x1024 .bf16) (r : Fin 8192) (k : Fin 1024) (l : Fin 3072) : EReal :=
  Ideal.logistic (g (ix2 r l)) * ∑ j : Fin n, o (ix2 r j) * w (ix2 ⟨r0 + (j : ℕ), by omega⟩ k)

/-- The merged value over the arrays that the kernel is handed. -/
def over (oa : FVec Ideal S8192x256 .bf16) (ob : FVec Ideal S8192x512 .bf16) (oc : FVec Ideal S8192x256 .bf16)
    (g : FVec Ideal S8192x3072 .bf16) (w : FVec Ideal S1024x1024 .bf16) : FVec Ideal S8192x1024 .bf16 :=
  fun i => partOf 256 0 (by decide) oa g w (i 0) (i 1) ⟨0 + (i 1 : ℕ), by have := (i 1).isLt; simp at this; omega⟩
    + partOf 512 256 (by decide) ob g w (i 0) (i 1) ⟨1024 + (i 1 : ℕ), by have := (i 1).isLt; simp at this; omega⟩
    + partOf 256 768 (by decide) oc g w (i 0) (i 1) ⟨2048 + (i 1 : ℕ), by have := (i 1).isLt; simp at this; omega⟩

theorem out (c : Dev nD) : (dats m 0 c).arrAt 5 (cfgs 0).N
    = over (V m c main_arg0) (V m c main_arg1) (V m c main_arg2) (V m c main_arg3) (V m c main_v3) := by
  refine (dats m 0 c).arrAt_eq_of_covers 5 _ (by decide +kernel) fun t hf y => ?_
  blk_simp
  rw [after0_5]
  frame_out
  unfold_payloads
  pointwise [over, partOf, ← gate_eq, gate]
  blk_point [iblk, idx t]

theorem final (c : Dev nD) : (dats m 0 c).arrAt 5 (cfgs 0).N
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [out, V_main_arg0, V_main_arg1, V_main_arg2, V_main_arg3]
  funext i
  exact congrArg₂ (· + ·) (congrArg₂ (· + ·)
    (congrArg (_ * ·) (Finset.sum_congr rfl fun j _ => congrArg _ (stacked_a m c j (i 1))))
    (congrArg (_ * ·) (Finset.sum_congr rfl fun j _ => congrArg _ (stacked_b m c j (i 1)))))
    (congrArg (_ * ·) (Finset.sum_congr rfl fun j _ => congrArg _ (stacked_c m c j (i 1))))

/-- The kernel leaves the merged value and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v4) = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (final m c), (h c).2⟩) (Cert.Kernel16Ideal.Value.run_blocks m ρ)

end

section
open Cert.Reference16Ideal Cert.Reference16Ideal.Read

variable (oa : FVec Ideal S8192x256 .bf16) (ob : FVec Ideal S8192x512 .bf16)
  (oc : FVec Ideal S8192x256 .bf16) (g : FVec Ideal S8192x3072 .bf16) (wa : FVec Ideal S256x1024 .f32)
  (wb : FVec Ideal S512x1024 .f32) (wc : FVec Ideal S256x1024 .f32)

theorem ref : val_main_v25 (F := Ideal) oa ob oc g wa wb wc = merged oa ob oc g wa wb wc := by
  funext i
  idx_vars i
  pointwise [val_main_v25, val_main_v24, val_main_v23, val_main_v22, val_main_v21, val_main_v20, val_main_v19, val_main_v18, val_main_v17, val_main_v16, val_main_v15, val_main_v14, val_main_v13, val_main_v12, val_main_v11, val_main_cst_0, val_main_v10, val_main_v9, val_main_cst, val_main_v8, val_main_v7, val_main_v6, val_main_v5, val_main_v4, val_main_v3, val_main_v2, val_main_v1, val_main_v0, Ideal.logistic, merged, prod256, prod512]

/-- The reference leaves the merged value and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans ((val_main_v25_eq _ _ _ _ _ _ _).trans (ref _ _ _ _ _ _ _)), (h c).2⟩)
    (Cert.Reference16Ideal.Value.run m ρ)

end

end Cert.Proof.Forward

end
-- ==== Proof.Ffn.Spec.lean ====
/- The gated MLP's gradient up to its input, as mathematics over the extended reals.  The forward part: each token is projected
   to 5632 channels, every channel runs through a causal convolution of three taps over the tokens, and the first 2816
   channels `a` and the last 2816 channels `b` are joined as `silu a · b`. -/
module

public import proofs.«01_k».proof.Proof.Sigmoid
public import Idealize.ShloMosaic.Lib.Pipeline.ValueKit

@[expose] public section

noncomputable section

namespace Cert.Proof.Ffn

open Idealize.ShloMosaic

abbrev Tokens := FVec Ideal ⟨2, ![8192, 1024]⟩ .f32
abbrev Matrix := FVec Ideal ⟨2, ![1024, 5632]⟩ .f32
abbrev Taps := FVec Ideal ⟨2, ![3, 5632]⟩ .f32
abbrev Channels := FVec Ideal ⟨2, ![8192, 5632]⟩ .f32
abbrev Half := FVec Ideal ⟨2, ![8192, 2816]⟩ .bf16

/-- Where column `q` of the tiled order comes from: each tile of 2816 columns holds 1408 columns of the first half, then the
    same 1408 of the second half. -/
def source (q : ℕ) : ℕ := q / 1408 % 2 * 2816 + q / 2816 * 1408 + q % 1408

theorem source_lt (q : ℕ) (h : q < 5632) : source q < 5632 := by unfold source; omega

/-- The source of column `q` as an index. -/
def src (q : Fin 5632) : Fin 5632 := ⟨source q, source_lt q q.isLt⟩

/-- The projection of the tokens. -/
def projected (x : Tokens) (w : Matrix) : Channels := fun i => ∑ k : Fin 1024, x (ix2 (i 0) k) * w (ix2 k (i 1))

/-- Channel `f` of `u` at `d` tokens before token `s`; before the first token it is zero. -/
def earlier (u : Channels) (d : ℕ) (s : Fin 8192) (f : Fin 5632) : EReal :=
  if d ≤ (s : ℕ) then u (ix2 ⟨s - d, by omega⟩ f) else 0

/-- Channel `f` of `u` at token number `s`; after the last token it is zero. -/
def later (u : Channels) (s : ℕ) (f : Fin 5632) : EReal := if h : s < 8192 then u (ix2 ⟨s, h⟩ f) else 0

/-- The causal convolution of three taps. -/
def conv (u : Channels) (v : Taps) : Channels := fun i =>
  earlier u 2 (i 0) (i 1) * v (ix2 0 (i 1)) + earlier u 1 (i 0) (i 1) * v (ix2 1 (i 1)) + u i * v (ix2 2 (i 1))

/-- The cotangent of the first factor's argument. -/
def backA (h a b : EReal) : EReal := h * b * (gate a * (1 + a * (1 - gate a)))

/-- The cotangent of the second factor. -/
def backB (h a : EReal) : EReal := h * (a * gate a)

/-- The cotangent of the convolved channels `c`, where `h` is the cotangent of `silu a · b`. -/
def back (c : Channels) (h : Half) : Channels := fun i =>
  if e : (i 1 : ℕ) < 2816 then
    backA (h (ix2 (i 0) ⟨i 1, e⟩)) (c i) (c (ix2 (i 0) ⟨i 1 + 2816, by omega⟩))
  else
    backB (h (ix2 (i 0) ⟨(i 1 : ℕ) - 2816, by have e1 : (i 1 : ℕ) < 5632 := (i 1).isLt; omega⟩)) (c (ix2 (i 0) ⟨(i 1 : ℕ) - 2816, by have e1 : (i 1 : ℕ) < 5632 := (i 1).isLt; omega⟩))

/-- The convolution's transpose: the cotangent of the channels before the convolution. -/
def unconv (y : Channels) (v : Taps) : Channels := fun i =>
  v (ix2 2 (i 1)) * y i + v (ix2 1 (i 1)) * later y ((i 0 : ℕ) + 1) (i 1) + v (ix2 0 (i 1)) * later y ((i 0 : ℕ) + 2) (i 1)

/-- The cotangent of the convolved channels from the arguments. -/
def backOf (x : Tokens) (w : Matrix) (v : Taps) (h : Half) : Channels := back (conv (projected x w) v) h

/-- The cotangent of the projected channels, in the tiled order. -/
def gradU (x : Tokens) (w : Matrix) (v : Taps) (h : Half) : FVec Ideal ⟨2, ![8192, 5632]⟩ .bf16 :=
  fun i => unconv (backOf x w v h) v (ix2 (i 0) (src (i 1)))

/-- The cotangent of the tokens: through the projection, and through the residual's scaled path. -/
def gradX (x : Tokens) (w : Matrix) (v : Taps) (h : Half) (z : Tokens) : Tokens := fun i =>
  (∑ f : Fin 5632, unconv (backOf x w v h) v (ix2 (i 0) f) * w (ix2 (i 1) f)) + Ideal.ofBits .f32 0x3FD744FD#32 * z i

/-- The column of tile `i 0` at place `i 2`, in the untiled order. -/
def col (i : Shape.Idx ⟨3, ![2, 3, 2816]⟩) : Fin 5632 :=
  src ⟨(i 0 : ℕ) * 2816 + i 2, by have e0 : (i 0 : ℕ) < 2 := (i 0).isLt; have e2 : (i 2 : ℕ) < 2816 := (i 2).isLt; omega⟩

/-- The gradient of the taps, in the tiled order. -/
def gradV (x : Tokens) (w : Matrix) (v : Taps) (h : Half) : FVec Ideal ⟨3, ![2, 3, 2816]⟩ .f32 := fun i =>
  ∑ s : Fin 8192, backOf x w v h (ix2 s (col i)) * earlier (projected x w) (2 - i 1) s (col i)

end Cert.Proof.Ffn

end
-- ==== Proof.Ffn.Ref.lean ====
module

public import proofs.«01_k».proof.Proof.Gen.Reference2Ideal.Read
public import proofs.«01_k».proof.Proof.Ffn.Spec
public import Idealize.ShloMosaic.Lib.Pointwise

/-! The reference reads as the three gradients of `Spec` where its arguments are real numbers: the derivative of `silu` in its two
spellings, and the transposed convolution. -/

@[expose] public section

set_option maxRecDepth 16384

noncomputable section

namespace Cert.Proof.Ffn

open Idealize.ShloMosaic Idealize.ShloMosaic.TcCoe Idealize.SL.Sem
open Cert.Reference2Ideal Cert.Reference2Ideal.Read

/-- Every entry is a real number. -/
def Finite {s : Shape} {φ : FTy} (t : FVec Ideal s φ) : Prop := ∀ i, ∃ r : ℝ, t i = (r : EReal)

/-- On the reals: the derivative of `silu` in its two spellings. -/
theorem backA_eq (h a b : ℝ) : backA h a b
    = (h : EReal) * b * Ideal.logistic a + (a : EReal) * ((h : EReal) * b) * (Ideal.logistic a * (1 - Ideal.logistic a)) := by
  unfold backA
  rw [gate_eq, Ideal.logistic_coe]
  generalize (1 + Real.exp (-a))⁻¹ = g
  norm_cast
  ring

theorem coe_sum {n : ℕ} (f : Fin n → ℝ) : (∑ k, (f k : EReal)) = ((∑ k, f k : ℝ) : EReal) :=
  (map_sum (⟨⟨Real.toEReal, EReal.coe_zero⟩, EReal.coe_add⟩ : ℝ →+ EReal) f Finset.univ).symm

theorem sum_real {n : ℕ} (f : Fin n → EReal) (h : ∀ k, ∃ r : ℝ, f k = r) : ∃ r : ℝ, ∑ k, f k = r := by
  choose g hg using h
  exact ⟨∑ k, g k, by simp only [hg]; exact coe_sum g⟩

theorem mul_real {a b : EReal} (ha : ∃ r : ℝ, a = r) (hb : ∃ r : ℝ, b = r) : ∃ r : ℝ, a * b = r := by
  obtain ⟨r, rfl⟩ := ha
  obtain ⟨q, rfl⟩ := hb
  exact ⟨r * q, (EReal.coe_mul r q).symm⟩

theorem add_real {a b : EReal} (ha : ∃ r : ℝ, a = r) (hb : ∃ r : ℝ, b = r) : ∃ r : ℝ, a + b = r := by
  obtain ⟨r, rfl⟩ := ha
  obtain ⟨q, rfl⟩ := hb
  exact ⟨r + q, (EReal.coe_add r q).symm⟩

theorem projected_real {x : Tokens} {w : Matrix} (hx : Finite x) (hw : Finite w) : Finite (projected x w) := fun i =>
  sum_real _ fun k => mul_real (hx _) (hw _)

theorem earlier_real {u : Channels} (hu : Finite u) (d : ℕ) (s : Fin 8192) (f : Fin 5632) : ∃ r : ℝ, earlier u d s f = r := by
  unfold earlier
  split
  · exact hu _
  · exact ⟨0, rfl⟩

theorem conv_real {u : Channels} {v : Taps} (hu : Finite u) (hv : Finite v) : Finite (conv u v) := fun i =>
  add_real (add_real (mul_real (earlier_real hu _ _ _) (hv _)) (mul_real (earlier_real hu _ _ _) (hv _))) (mul_real (hu _) (hv _))

variable (x : FVec Ideal S8192x1024 .f32) (w : FVec Ideal S1024x5632 .f32) (v : FVec Ideal S3x5632 .f32)
  (h : FVec Ideal S8192x2816 .bf16) (z : FVec Ideal S8192x1024 .f32)

theorem ref_projected : val_main_v0 (F := Ideal) x w = projected x w := by
  funext i
  idx_vars i
  pointwise [val_main_v0, projected]

theorem ref_padded (s : Fin 8194) (f : Fin 5632) : val_main_v4 (F := Ideal) x w (ix2 s f)
    = if e : 2 ≤ (s : ℕ) then projected x w (ix2 ⟨(s : ℕ) - 2, by omega⟩ f) else 0 := by
  have := ref_projected x w
  generalize projected x w = u at this ⊢
  pointwise [val_main_v4, val_main_v3, val_main_cst_0, this]
  by_cases e : (s : ℕ) < 2
  · rw [dif_pos e, dif_neg (by omega)]
  · rw [dif_neg e, dif_pos (by omega)]

theorem ref_conv : val_main_v25 (F := Ideal) x w v = conv (projected x w) v := by
  funext i
  idx_vars i
  pointwise [val_main_v25, val_main_v18, val_main_v11, val_main_v6, val_main_v10, val_main_v9, val_main_v8, val_main_v7,
    val_main_v17, val_main_v12, val_main_v16, val_main_v15, val_main_v14, val_main_v13, val_main_v24, val_main_v19,
    val_main_v23, val_main_v22, val_main_v21, val_main_v20, ref_padded, conv, earlier]
  generalize projected x w = u
  congr 3
  by_cases e : 1 ≤ (i0 : ℕ)
  · rw [dif_pos (by omega), if_pos e]
    blk_ext []
  · rw [dif_neg (by omega), if_neg e]

theorem ref_back (hx : Finite x) (hw : Finite w) (hv : Finite v) (hh : Finite h) :
    val_main_v34 (F := Ideal) x w v h = backOf x w v h := by
  have hc := conv_real (projected_real hx hw) hv
  have := ref_conv x w v
  unfold backOf
  generalize conv (projected x w) v = c at this hc ⊢
  funext i
  idx_vars i
  pointwise [val_main_v34, val_main_v33, val_main_call1_v0, val_main_call1_v1, val_main_call1_v2, val_main_v32, val_main_v31, val_main_v30,
    val_main_v28_0, val_main_v28_1, val_main_v28_2, val_main_call0_v0, val_main_call0_v1, val_main_call0_v2, val_main_call0_v3, val_main_call0_v4,
    val_main_call0_v6, val_main_call0_v7, val_main_call0_cst, val_main_call0_cst_0, val_main_call0_cst_1, val_main_v26, val_main_v27, this, back]
  by_cases e : (i1 : ℕ) < 2816
  · rw [dif_pos e, dif_pos e]
    obtain ⟨r, hr⟩ := hh (ix2 i0 ⟨i1, e⟩)
    obtain ⟨a, ha⟩ := hc (ix2 i0 i1)
    obtain ⟨b, hb⟩ := hc (ix2 i0 ⟨(i1 : ℕ) + 2816, by omega⟩)
    have hb' : c (ix2 i0 ⟨2816 + (i1 : ℕ), by omega⟩) = b := by rw [← hb]; congr 2; exact Fin.ext (Nat.add_comm _ _)
    rw [hr, ha, hb, hb', backA_eq]
    rfl
  · rw [dif_neg e, dif_neg e]
    unfold backB
    rw [gate_eq]
    exact mul_comm _ _

theorem ref_unconv (y : Channels) (e : val_main_v34 (F := Ideal) x w v h = y) : val_main_v67 (F := Ideal) x w v h = unconv y v := by
  funext i
  idx_vars i
  pointwise [val_main_v67, val_main_v65, val_main_v64, val_main_v54, val_main_v53, val_main_v43, val_main_v59, val_main_v48, val_main_v39,
    val_main_cst_5, val_main_cst_9, val_main_cst_13, val_main_v58, val_main_v47, val_main_v38, val_main_v22, val_main_v21, val_main_v20,
    val_main_v15, val_main_v14, val_main_v13, val_main_v9, val_main_v8, val_main_v7, e]
  unfold unconv later
  congr 1
  · congr 1
    · exact mul_comm _ _
    · by_cases d : (i0 : ℕ) + 1 < 8192
      · rw [dif_pos (by omega), dif_pos (by exact d), mul_comm]
        exact congrArg (fun q => v (ix2 1 i1) * y (ix2 q i1)) (Fin.ext (by dsimp only [ix2]; omega))
      · rw [dif_neg (by omega), dif_neg (by exact d)]
        exact (mul_zero _).symm
  · by_cases d : (i0 : ℕ) + 2 < 8192
    · rw [dif_pos (by omega), dif_pos (by exact d), mul_comm]
      exact congrArg (fun q => v (ix2 0 i1) * y (ix2 q i1)) (Fin.ext (by dsimp only [ix2]; omega))
    · rw [dif_neg (by omega), dif_neg (by exact d)]
      exact (mul_zero _).symm

theorem ref_gradX (y : Channels) (e : val_main_v67 (F := Ideal) x w v h = y) : val_main_v71 (F := Ideal) x w v h z
    = fun i => (∑ f : Fin 5632, y (ix2 (i 0) f) * w (ix2 (i 1) f)) + Ideal.ofBits .f32 0x3FD744FD#32 * z i := by
  funext i
  idx_vars i
  pointwise [val_main_v71, val_main_v69, val_main_v68, val_main_v70, val_main_cst_14, e]
  exact add_comm _ _

theorem ref_gradU (y : Channels) (e : val_main_v67 (F := Ideal) x w v h = y) : val_main_v81 (F := Ideal) x w v h
    = fun i => y (ix2 (i 0) (src (i 1))) := by
  funext i
  idx_vars i
  pointwise [val_main_v81, val_main_v80, val_main_v72, val_main_v73, val_main_v74, val_main_v75, e]
  have h1 := i1.isLt
  unfold src source
  by_cases a : (i1 : ℕ) < 1408
  · rw [dif_pos a]
    refine congrArg y (congrArg (ix2 i0) (Fin.ext ?_))
    dsimp only
    omega
  rw [dif_neg a]
  by_cases b : (i1 : ℕ) - 1408 < 1408
  · rw [dif_pos b]
    refine congrArg y (congrArg (ix2 i0) (Fin.ext ?_))
    dsimp only
    omega
  rw [dif_neg b]
  by_cases c : (i1 : ℕ) - 1408 - 1408 < 1408
  · rw [dif_pos c]
    refine congrArg y (congrArg (ix2 i0) (Fin.ext ?_))
    dsimp only
    omega
  rw [dif_neg c]
  refine congrArg y (congrArg (ix2 i0) (Fin.ext ?_))
  dsimp only
  omega

theorem ref_two : val_main_v6 (F := Ideal) x w = fun i => earlier (projected x w) 2 (i 0) (i 1) := by
  funext i
  idx_vars i
  pointwise [val_main_v6, ref_padded, earlier]
  rfl

theorem ref_one : val_main_v12 (F := Ideal) x w = fun i => earlier (projected x w) 1 (i 0) (i 1) := by
  funext i
  idx_vars i
  pointwise [val_main_v12, ref_padded, earlier]
  generalize projected x w = u
  by_cases e : 1 ≤ (i0 : ℕ)
  · rw [dif_pos (by omega), if_pos e]
    blk_ext []
  · rw [dif_neg (by omega), if_neg e]

theorem ref_none : val_main_v19 (F := Ideal) x w = fun i => earlier (projected x w) 0 (i 0) (i 1) := by
  funext i
  idx_vars i
  pointwise [val_main_v19, ref_padded, earlier]

theorem ref_taps (y : Channels) (e : val_main_v34 (F := Ideal) x w v h = y) (k : Fin 3) (f : Fin 5632) :
    val_main_v63 (F := Ideal) x w v h (ix2 k f) = ∑ s : Fin 8192, y (ix2 s f) * earlier (projected x w) (2 - k) s f := by
  pointwise [val_main_v63, val_main_v62, val_main_v52, val_main_v51, val_main_v42, val_main_v41, val_main_v40, val_main_v37, val_main_v36, val_main_v35,
    val_main_v50, val_main_v49, val_main_v46, val_main_v45, val_main_v44, val_main_v61, val_main_v60, val_main_v57, val_main_v56, val_main_v55,
    ref_two, ref_one, ref_none, val_main_cst_2, val_main_cst_3, val_main_cst_4, val_main_cst_6, val_main_cst_7,
    val_main_cst_8, val_main_cst_10, val_main_cst_11, val_main_cst_12, e]
  simp only [Fin.sum_univ_one, mul_comm (y _)]
  match k with
  | ⟨0, _⟩ => simp
  | ⟨1, _⟩ => simp
  | ⟨2, _⟩ => simp

theorem ref_gradV (g : FVec Ideal S3x5632 .f32) (e : val_main_v63 (F := Ideal) x w v h = g) : val_main_v86 (F := Ideal) x w v h
    = fun i => g (ix2 (i 1) (col i)) := by
  funext i
  idx_vars i
  pointwise [val_main_v86, val_main_v85, val_main_v84, val_main_v83, val_main_v82, val_main_v76, val_main_v77, val_main_v78, val_main_v79, e]
  have h0 := i0.isLt
  have h2 := i2.isLt
  unfold col src source
  by_cases a : (i0 : ℕ) < 1
  · rw [dif_pos a]
    by_cases b : (i2 : ℕ) < 1408
    · rw [dif_pos b]
      refine congrArg g (congrArg (ix2 i1) (Fin.ext ?_))
      dsimp only [ix3]
      omega
    · rw [dif_neg b]
      refine congrArg g (congrArg (ix2 i1) (Fin.ext ?_))
      dsimp only [ix3]
      omega
  · rw [dif_neg a]
    by_cases b : (i2 : ℕ) < 1408
    · rw [dif_pos b]
      refine congrArg g (congrArg (ix2 i1) (Fin.ext ?_))
      dsimp only [ix3]
      omega
    · rw [dif_neg b]
      refine congrArg g (congrArg (ix2 i1) (Fin.ext ?_))
      dsimp only [ix3]
      omega

/-- Where the arguments are real numbers, the reference's three results are the three gradients. -/
theorem ref_results (hx : Finite x) (hw : Finite w) (hv : Finite v) (hh : Finite h) :
    val_main_v81 (F := Ideal) x w v h = gradU x w v h ∧ val_main_v71 (F := Ideal) x w v h z = gradX x w v h z
      ∧ val_main_v86 (F := Ideal) x w v h = gradV x w v h := by
  have e := ref_back x w v h hx hw hv hh
  have e' := ref_unconv x w v h _ e
  refine ⟨ref_gradU x w v h _ e', ref_gradX x w v h z _ e', (ref_gradV x w v h _ rfl).trans ?_⟩
  funext i
  exact ref_taps x w v h _ e _ _

end Cert.Proof.Ffn

end
-- ==== Proof.Ffn.Reals.lean ====
module

public import proofs.«01_k».proof.Pre_finite2
public import proofs.«01_k».proof.Proof.Ffn.Ref
public import Idealize.ShloMosaic.Lib.ReduceAll
public import Idealize.ShloMosaic.Lib.Pointwise

/-! # The precondition

Every entry of the tokens, the matrix, the taps and the channels' cotangent is a real number, that is, below infinity in
absolute value. -/

@[expose] public section

set_option maxRecDepth 16384

noncomputable section

namespace Cert.Proof.Ffn

open Idealize.ShloMosaic

/-- What the precondition's operations ask of the shapes. -/
instance pre_facts : Cert.Pre_finite2.Facts where
  bcast_S_S8192x1024 := by decide
  reducesTo_S8192x1024_S_d0_1 := by decide
  h_S_ := by decide
  bcast_S_S1024x5632 := by decide
  reducesTo_S1024x5632_S_d0_1 := by decide
  bcast_S_S3x5632 := by decide
  reducesTo_S3x5632_S_d0_1 := by decide
  bitsLt_bf16_f32 := by decide
  bcast_S_S8192x2816 := by decide
  reducesTo_S8192x2816_S_d0_1 := by decide

/-- A number below infinity in absolute value is real. -/
theorem real_of_below (x : EReal) (h : Ideal.cmp .olt (max x (-x)) (Ideal.ofBits .f32 0x7F800000#32) = 1#1) : ∃ r : ℝ, x = (r : EReal) := by
  have top : Ideal.ofBits .f32 0x7F800000#32 = ⊤ := by simp [Ideal.ofBits, Ideal.ieee]
  rw [top] at h
  induction x using EReal.rec with
  | bot => exact absurd h (by simp [Ideal.cmp])
  | coe r => exact ⟨r, rfl⟩
  | top => exact absurd h (by simp [Ideal.cmp])

instance : Subsingleton Cert.Pre_finite2.S_.Idx := ⟨fun a b => funext fun i => i.elim0⟩

/-- The reduction of the comparisons by `and` being one, every entry is real. -/
theorem finite_of {s : Shape} {φ : FTy} {axes : List (Fin s.rank)} (x : FVec Ideal s φ) (p : s.Idx → BitVec 1) (init : Cert.Pre_finite2.S_.Idx → BitVec 1)
    (hr : s.ReducesTo axes Cert.Pre_finite2.S_) (hu : 0 < Cert.Pre_finite2.S_.numel) (j : Cert.Pre_finite2.S_.Idx)
    (e : Host.reduce IntOp.andi p init hr hu j = 1#1) (hp : ∀ i, p i = Ideal.cmp .olt (max (x i) (-(x i))) (Ideal.ofBits .f32 0x7F800000#32)) :
    Finite x := fun i =>
  real_of_below (x i) ((hp i).symm.trans (Host.reduce_andi_all p init hr hu j e i))

theorem finite_args (x : Tokens) (w : Matrix) (v : Taps) (h : Half) (z : Tokens) (e : Cert.Pre_finite2.fn (F := Ideal) x w v h z = fun _ => 1#1) :
    Finite x ∧ Finite w ∧ Finite v ∧ Finite h := by
  have e0 := congrFun e (fun i => i.elim0)
  dsimp only [Cert.Pre_finite2.fn, Cert.Pre_finite2.fn_part1] at e0
  obtain ⟨e1, eh⟩ := IntOp.andi_eq_one.1 e0
  obtain ⟨e2, ev⟩ := IntOp.andi_eq_one.1 e1
  obtain ⟨ex, ew⟩ := IntOp.andi_eq_one.1 e2
  exact ⟨finite_of x _ _ _ _ _ ex fun _ => rfl, finite_of w _ _ _ _ _ ew fun _ => rfl, finite_of v _ _ _ _ _ ev fun _ => rfl,
    finite_of h _ _ _ _ _ eh fun _ => rfl⟩

end Cert.Proof.Ffn

end
-- ==== Proof.Ffn.Blocks.lean ====
module

public import proofs.«01_k».proof.Proof.Gen.Kernel2Ideal.Frame
public import proofs.«01_k».proof.Proof.Ffn.Spec
public import Idealize.ShloMosaic.Lib.Pipeline.ValueKit

/-! # The blocks of a grid point

Point `t` holds the 256 tokens numbered `t / 2`, and the half of the tiled columns numbered `t % 2`. -/

@[expose] public section

set_option maxRecDepth 16384

noncomputable section

namespace Cert.Proof.Ffn

open Idealize.ShloMosaic Idealize.ShloMosaic.TcCoe Idealize.SL.Sem
open Cert.Kernel2Ideal Cert.Kernel2Ideal.Gen

variable (m : (ℓ : Loc nD τ sig) → Buf (Elt Ideal) ℓ)

theorem idx : ∀ t : Fin cfg0.N, win0_0.index t = ![t.val / 2, t.val % 2] ∧ win0_1.index t = ![t.val / 2, t.val % 2]
    ∧ win0_2.index t = ![min ((t.val / 2 + 1) * 16) 511, t.val % 2] ∧ win0_3.index t = ![t.val / 2, t.val % 2]
    ∧ win0_4.index t = ![min ((t.val / 2 + 1) * 16) 511, t.val % 2] ∧ win0_5.index t = ![0, t.val % 2]
    ∧ win0_6.index t = ![0, 0, 0] ∧ win0_7.index t = ![t.val / 2, 0]
    ∧ win0_8.index t = ![t.val / 2, t.val % 2] ∧ win0_9.index t = ![t.val / 2, 0] ∧ win0_10.index t = ![0, 0, 0] :=
  (by decide +kernel : ∀ t : Fin grid0.N, _)

theorem coords_0 : ∀ t : Fin cfg0.N, ((grid0.coords t 0 : Fin 32) : ℕ) = t.val / 2 := (by decide +kernel : ∀ t : Fin grid0.N, _)

theorem coords_1 : ∀ t : Fin cfg0.N, ((grid0.coords t 1 : Fin 2) : ℕ) = t.val % 2 := (by decide +kernel : ∀ t : Fin grid0.N, _)

theorem blk_0 (c : Dev nD) (t : Fin cfg0.N) (r : Fin 256) (q : Fin 2816) (s : Fin 8192) (f : Fin 5632)
    (hs : (s : ℕ) = t.val / 2 * 256 + r) (hf : (f : ℕ) = t.val % 2 * 2816 + q) :
    (iblk m c 0 t : FVec Ideal S256x2816 .bf16) (ix2 r q) = V m c main_v31 (ix2 s f) := by
  blk_point [iblk, idx t, hs, hf]

theorem blk_1 (c : Dev nD) (t : Fin cfg0.N) (r : Fin 256) (q : Fin 2816) (s : Fin 8192) (f : Fin 5632)
    (hs : (s : ℕ) = t.val / 2 * 256 + r) (hf : (f : ℕ) = t.val % 2 * 2816 + q) :
    (iblk m c 1 t : FVec Ideal S256x2816 .bf16) (ix2 r q) = V m c main_v35 (ix2 s f) := by
  blk_point [iblk, idx t, hs, hf]

theorem blk_2 (c : Dev nD) (t : Fin cfg0.N) (ht : t.val / 2 < 31) (r : Fin 16) (q : Fin 2816) (s : Fin 8192) (f : Fin 5632)
    (hs : (s : ℕ) = t.val / 2 * 256 + 256 + r) (hf : (f : ℕ) = t.val % 2 * 2816 + q) :
    (iblk m c 2 t : FVec Ideal S16x2816 .bf16) (ix2 r q) = V m c main_v35 (ix2 s f) := by
  blk_point [iblk, idx t, hs, hf]

theorem blk_3 (c : Dev nD) (t : Fin cfg0.N) (r : Fin 256) (q : Fin 1408) (s : Fin 8192) (f : Fin 2816)
    (hs : (s : ℕ) = t.val / 2 * 256 + r) (hf : (f : ℕ) = t.val % 2 * 1408 + q) :
    (iblk m c 3 t : FVec Ideal S256x1408 .bf16) (ix2 r q) = V m c main_arg3 (ix2 s f) := by
  blk_point [iblk, idx t, hs, hf]

theorem blk_4 (c : Dev nD) (t : Fin cfg0.N) (ht : t.val / 2 < 31) (r : Fin 16) (q : Fin 1408) (s : Fin 8192) (f : Fin 2816)
    (hs : (s : ℕ) = t.val / 2 * 256 + 256 + r) (hf : (f : ℕ) = t.val % 2 * 1408 + q) :
    (iblk m c 4 t : FVec Ideal S16x1408 .bf16) (ix2 r q) = V m c main_arg3 (ix2 s f) := by
  blk_point [iblk, idx t, hs, hf]

theorem blk_5 (c : Dev nD) (t : Fin cfg0.N) (k : Fin 3) (q : Fin 2816) (f : Fin 5632) (hf : (f : ℕ) = t.val % 2 * 2816 + q) :
    (iblk m c 5 t : FVec Ideal S3x2816 .f32) (ix2 k q) = V m c main_v38 (ix2 k f) := by
  blk_point [iblk, idx t, hf]

theorem blk_6 (c : Dev nD) (t : Fin cfg0.N) (j : Fin 2) (q : Fin 2816) (b : Fin 1024) :
    (iblk m c 6 t : FVec Ideal S2x2816x1024 .bf16) (ix3 j q b) = V m c main_v39 (ix3 j q b) := by
  blk_point [iblk, idx t]

theorem blk_7 (c : Dev nD) (t : Fin cfg0.N) (r : Fin 256) (b : Fin 1024) (s : Fin 8192) (hs : (s : ℕ) = t.val / 2 * 256 + r) :
    (iblk m c 7 t : FVec Ideal S256x1024 .f32) (ix2 r b) = V m c main_arg4 (ix2 s b) := by
  blk_point [iblk, idx t, hs]

end Cert.Proof.Ffn

end
-- ==== Proof.Ffn.Handed.lean ====
module

public import proofs.«01_k».proof.Proof.Gen.Kernel2Ideal.Frame
public import proofs.«01_k».proof.Proof.Ffn.Spec
public import Idealize.ShloMosaic.Lib.Pipeline.ValueKit

/-! # The arrays that the gated MLP's gradient is handed

The host projects the tokens, convolves the channels and puts the columns of each array in the tiled order. -/

@[expose] public section

set_option maxRecDepth 16384

noncomputable section

namespace Cert.Proof.Ffn

open Idealize.ShloMosaic Idealize.ShloMosaic.TcCoe Idealize.SL.Sem
open Cert.Kernel2Ideal Cert.Kernel2Ideal.Gen

variable (m : (ℓ : Loc nD τ sig) → Buf (Elt Ideal) ℓ)

/-- The columns in the tiled order. -/
def tiled (a : FVec Ideal S8192x5632 .f32) : FVec Ideal S8192x5632 .bf16 :=
  shapeCast S8192x5632 (transpose S8192x2x2x1408 [0, 2, 1, 3] (shapeCast S8192x2x2x1408 (truncf (F := Ideal) .bf16 a bitsLt_bf16_f32)
    shapeCasts_S8192x5632_S8192x2x2x1408 : FVec Ideal S8192x2x2x1408 .bf16) transposes_S8192x2x2x1408_S8192x2x2x1408_0_2_1_3 : FVec Ideal S8192x2x2x1408 .bf16)
    shapeCasts_S8192x2x2x1408_S8192x5632

theorem tiled_at (a : FVec Ideal S8192x5632 .f32) (s : Fin 8192) (q : Fin 5632) : tiled a (ix2 s q) = a (ix2 s (src q)) := by
  pointwise [tiled]
  blk_ext [src, source]

/-- Two rows of zeros above the channels. -/
def padded (u : FVec Ideal S8192x5632 .f32) : FVec Ideal S8194x5632 .f32 :=
  (concatenate S8194x5632 0 [⟨S2x5632, (broadcastInDim S2x5632 ![] bcast_S_S2x5632 (constant (F := Ideal) S_ .f32 0x00000000#32 : FVec Ideal S_ .f32) : FVec Ideal S2x5632 .f32)⟩, ⟨S8192x5632, u⟩] concatenates_S2x5632_S8192x5632_S8194x5632_d0 : FVec Ideal S8194x5632 .f32)

/-- The host's convolution. -/
def convolved (u : FVec Ideal S8192x5632 .f32) (v : FVec Ideal S3x5632 .f32) : FVec Ideal S8192x5632 .f32 :=
  addf (addf (mulf (extractStridedSlice S8192x5632 ![0, 0] (padded u) slices_S8194x5632_S8192x5632_0_0 : FVec Ideal S8192x5632 .f32) (broadcastInDim S8192x5632 ![0, 1] bcast_S1x5632_S8192x5632_0_1 (broadcastInDim S1x5632 ![1] bcast_S5632_S1x5632_1 (shapeCast S5632 (extractStridedSlice S1x5632 ![0, 0] v slices_S3x5632_S1x5632_0_0 : FVec Ideal S1x5632 .f32) shapeCasts_S1x5632_S5632 : FVec Ideal S5632 .f32) : FVec Ideal S1x5632 .f32) : FVec Ideal S8192x5632 .f32)) (mulf (extractStridedSlice S8192x5632 ![1, 0] (padded u) slices_S8194x5632_S8192x5632_1_0 : FVec Ideal S8192x5632 .f32) (broadcastInDim S8192x5632 ![0, 1] bcast_S1x5632_S8192x5632_0_1 (broadcastInDim S1x5632 ![1] bcast_S5632_S1x5632_1 (shapeCast S5632 (extractStridedSlice S1x5632 ![1, 0] v slices_S3x5632_S1x5632_1_0 : FVec Ideal S1x5632 .f32) shapeCasts_S1x5632_S5632 : FVec Ideal S5632 .f32) : FVec Ideal S1x5632 .f32) : FVec Ideal S8192x5632 .f32))) (mulf (extractStridedSlice S8192x5632 ![2, 0] (padded u) slices_S8194x5632_S8192x5632_2_0 : FVec Ideal S8192x5632 .f32) (broadcastInDim S8192x5632 ![0, 1] bcast_S1x5632_S8192x5632_0_1 (broadcastInDim S1x5632 ![1] bcast_S5632_S1x5632_1 (shapeCast S5632 (extractStridedSlice S1x5632 ![2, 0] v slices_S3x5632_S1x5632_2_0 : FVec Ideal S1x5632 .f32) shapeCasts_S1x5632_S5632 : FVec Ideal S5632 .f32) : FVec Ideal S1x5632 .f32) : FVec Ideal S8192x5632 .f32))

/-- The host's projection. -/
def project (x : FVec Ideal S8192x1024 .f32) (w : FVec Ideal S1024x5632 .f32) : FVec Ideal S8192x5632 .f32 :=
  Host.dotGeneral dot_S8192x1024_S1024x5632_S8192x5632_1_0_0_1_n_n none x w

theorem project_eq (x : FVec Ideal S8192x1024 .f32) (w : FVec Ideal S1024x5632 .f32) : project x w = projected x w := by
  funext i
  idx_vars i
  pointwise [project, projected]

theorem convolved_eq (u : FVec Ideal S8192x5632 .f32) (v : FVec Ideal S3x5632 .f32) : convolved u v = conv u v := by
  funext i
  idx_vars i
  pointwise [convolved, padded, conv, earlier]
  have e0 : (if h : (i0 : ℕ) < 2 then (0 : EReal) else u (ix2 ⟨(i0 : ℕ) - 2, by omega⟩ i1))
      = if 2 ≤ (i0 : ℕ) then u (ix2 ⟨(i0 : ℕ) - 2, by omega⟩ i1) else 0 := by
    by_cases c : (i0 : ℕ) < 2
    · rw [dif_pos c, if_neg (by omega)]
    · rw [dif_neg c, if_pos (by omega)]
  have e1 : (if h : 1 + (i0 : ℕ) < 2 then (0 : EReal) else u (ix2 ⟨1 + (i0 : ℕ) - 2, by omega⟩ i1))
      = if 1 ≤ (i0 : ℕ) then u (ix2 ⟨(i0 : ℕ) - 1, by omega⟩ i1) else 0 := by
    by_cases c : 1 + (i0 : ℕ) < 2
    · rw [dif_pos c, if_neg (by omega)]
    · rw [dif_neg c, if_pos (by omega)]
      exact congrArg (fun s => u (ix2 s i1)) (Fin.ext (by show 1 + (i0 : ℕ) - 2 = (i0 : ℕ) - 1; omega))
  rw [e0, e1]

theorem handed_projected (c : Dev nD) (s : Fin 8192) (q : Fin 5632) : V m c main_v31 (ix2 s q)
    = projected (m ((c : Thread nD τ).loc main_arg0)) (m ((c : Thread nD τ).loc main_arg1)) (ix2 s (src q)) := by
  have e : V m c main_v31 = tiled (project (m ((c : Thread nD τ).loc main_arg0)) (m ((c : Thread nD τ).loc main_arg1))) := by
    unfold V; after_results; try rfl
  rw [e, tiled_at, project_eq]

theorem handed_conv (c : Dev nD) (s : Fin 8192) (q : Fin 5632) : V m c main_v35 (ix2 s q)
    = conv (projected (m ((c : Thread nD τ).loc main_arg0)) (m ((c : Thread nD τ).loc main_arg1))) (m ((c : Thread nD τ).loc main_arg2)) (ix2 s (src q)) := by
  have e : V m c main_v35 = tiled (convolved (project (m ((c : Thread nD τ).loc main_arg0)) (m ((c : Thread nD τ).loc main_arg1)))
      (m ((c : Thread nD τ).loc main_arg2))) := by
    unfold V; after_results; try rfl
  rw [e, tiled_at, project_eq, convolved_eq]

theorem handed_taps (c : Dev nD) (k : Fin 3) (q : Fin 5632) : V m c main_v38 (ix2 k q) = m ((c : Thread nD τ).loc main_arg2) (ix2 k (src q)) := by
  have e : V m c main_v38 = shapeCast S3x5632 (transpose S3x2x2x1408 [0, 2, 1, 3] (shapeCast S3x2x2x1408 (m ((c : Thread nD τ).loc main_arg2) : FVec Ideal S3x5632 .f32)
    shapeCasts_S3x5632_S3x2x2x1408 : FVec Ideal S3x2x2x1408 .f32) transposes_S3x2x2x1408_S3x2x2x1408_0_2_1_3 : FVec Ideal S3x2x2x1408 .f32)
    shapeCasts_S3x2x2x1408_S3x5632 := by
    unfold V; after_results; try rfl
  rw [e]
  pointwise
  blk_ext [src, source]

theorem handed_weights (c : Dev nD) (j : Fin 2) (q : Fin 2816) (b : Fin 1024) : V m c main_v39 (ix3 j q b)
    = m ((c : Thread nD τ).loc main_arg1) (ix2 b (src ⟨(j : ℕ) * 2816 + q, by omega⟩)) := by
  have e : V m c main_v39 = shapeCast S2x2816x1024 (transpose S5632x1024 [1, 0] (shapeCast S1024x5632 (transpose S1024x2x2x1408 [0, 2, 1, 3]
      (shapeCast S1024x2x2x1408 (truncf (F := Ideal) .bf16 (m ((c : Thread nD τ).loc main_arg1) : FVec Ideal S1024x5632 .f32) bitsLt_bf16_f32)
        shapeCasts_S1024x5632_S1024x2x2x1408 : FVec Ideal S1024x2x2x1408 .bf16)
      transposes_S1024x2x2x1408_S1024x2x2x1408_0_2_1_3) shapeCasts_S1024x2x2x1408_S1024x5632 : FVec Ideal S1024x5632 .bf16)
      transposes_S1024x5632_S5632x1024_1_0 : FVec Ideal S5632x1024 .bf16) shapeCasts_S5632x1024_S2x2816x1024 := by
    unfold V; after_results; try rfl
  rw [e]
  pointwise
  blk_ext [src, source]

end Cert.Proof.Ffn

end
-- ==== Proof.Ffn.Block.lean ====
module

public import Idealize.ShloMosaic.Lib.Pointwise
public import proofs.«01_k».proof.Proof.Ffn.Spec

/-! # One grid point's block of the gated MLP's gradient

The blocks of one grid point, as functions: the rows of a block continue into the 16 rows of the block below it. -/

@[expose] public section

noncomputable section

namespace Cert.Proof.Ffn

open Idealize.ShloMosaic

/-- The 256 rows of a block followed by the 16 rows below it. -/
def rows {n : ℕ} (a : FVec Ideal ⟨2, ![256, n]⟩ .bf16) (b : FVec Ideal ⟨2, ![16, n]⟩ .bf16) (r : Fin 272) (p : Fin n) : EReal :=
  if e : (r : ℕ) < 256 then a (ix2 ⟨r, e⟩ p) else b (ix2 ⟨(r : ℕ) - 256, by omega⟩ p)

/-- The incoming cotangent's rows; below the last block there are zeros. -/
def under {n : ℕ} (i : ℕ) (a : FVec Ideal ⟨2, ![256, n]⟩ .bf16) (b : FVec Ideal ⟨2, ![16, n]⟩ .bf16) (r : Fin 272) (p : Fin n) : EReal :=
  if e : (r : ℕ) < 256 then a (ix2 ⟨r, e⟩ p) else if i < 31 then b (ix2 ⟨(r : ℕ) - 256, by omega⟩ p) else 0

/-- The cotangent of the convolved channels on the block's rows; columns below 1408 are the first factor's, the others the
    second's. -/
def bent (i : ℕ) (x1 : FVec Ideal ⟨2, ![256, 2816]⟩ .bf16) (x2 : FVec Ideal ⟨2, ![16, 2816]⟩ .bf16) (x3 : FVec Ideal ⟨2, ![256, 1408]⟩ .bf16)
    (x4 : FVec Ideal ⟨2, ![16, 1408]⟩ .bf16) (r : Fin 272) (q : Fin 2816) : EReal :=
  if e : (q : ℕ) < 1408 then
    backA (under i x3 x4 r ⟨q, e⟩) (rows x1 x2 r q) (rows x1 x2 r ⟨(q : ℕ) + 1408, by omega⟩)
  else
    backB (under i x3 x4 r ⟨(q : ℕ) - 1408, by omega⟩) (rows x1 x2 r ⟨(q : ℕ) - 1408, by omega⟩)

/-- The cotangent of the projected channels on the block. -/
def straight (i : ℕ) (x1 : FVec Ideal ⟨2, ![256, 2816]⟩ .bf16) (x2 : FVec Ideal ⟨2, ![16, 2816]⟩ .bf16) (x3 : FVec Ideal ⟨2, ![256, 1408]⟩ .bf16)
    (x4 : FVec Ideal ⟨2, ![16, 1408]⟩ .bf16) (x5 : FVec Ideal ⟨2, ![3, 2816]⟩ .f32) (r : Fin 256) (q : Fin 2816) : EReal :=
  x5 (ix2 2 q) * bent i x1 x2 x3 x4 ⟨r, by omega⟩ q + x5 (ix2 1 q) * bent i x1 x2 x3 x4 ⟨(r : ℕ) + 1, by omega⟩ q
    + x5 (ix2 0 q) * bent i x1 x2 x3 x4 ⟨(r : ℕ) + 2, by omega⟩ q

/-- What the block adds to the gradient of tap `k`. -/
def tapped (i : ℕ) (x0 x1 : FVec Ideal ⟨2, ![256, 2816]⟩ .bf16) (x2 : FVec Ideal ⟨2, ![16, 2816]⟩ .bf16) (x3 : FVec Ideal ⟨2, ![256, 1408]⟩ .bf16)
    (x4 : FVec Ideal ⟨2, ![16, 1408]⟩ .bf16) (k : Fin 3) (q : Fin 2816) : EReal :=
  ∑ s : Fin 256, bent i x1 x2 x3 x4 ⟨(s : ℕ) + 2 - k, by omega⟩ q * x0 (ix2 s q)

end Cert.Proof.Ffn

end
-- ==== Proof.Ffn.Joined.lean ====
module

public import proofs.«01_k».proof.Proof.Ffn.Spec
public import proofs.«01_k».proof.Proof.Ffn.Block

/-! # From blocks to whole arrays

When the blocks are rows and tiled columns of the whole arrays, what a block computes is a part of the whole gradients, and
sums over blocks are sums over all tokens or all columns. -/

@[expose] public section

set_option maxRecDepth 16384

noncomputable section

namespace Cert.Proof.Ffn

open Idealize.ShloMosaic

/-- The blocks of tokens `i * 256 …` and tiled columns `j * 2816 …` of the convolved channels and of the cotangent. -/
structure Cut (i j : ℕ) (C : Channels) (h : Half) (x1 : FVec Ideal ⟨2, ![256, 2816]⟩ .bf16) (x2 : FVec Ideal ⟨2, ![16, 2816]⟩ .bf16)
    (x3 : FVec Ideal ⟨2, ![256, 1408]⟩ .bf16) (x4 : FVec Ideal ⟨2, ![16, 1408]⟩ .bf16) : Prop where
  low : i < 32
  side : j < 2
  one (r : Fin 256) (q : Fin 2816) (s : Fin 8192) (f : Fin 5632) : (s : ℕ) = i * 256 + r → (f : ℕ) = j * 2816 + q →
    x1 (ix2 r q) = C (ix2 s (src f))
  two (r : Fin 16) (q : Fin 2816) (s : Fin 8192) (f : Fin 5632) : i < 31 → (s : ℕ) = i * 256 + 256 + r → (f : ℕ) = j * 2816 + q →
    x2 (ix2 r q) = C (ix2 s (src f))
  three (r : Fin 256) (q : Fin 1408) (s : Fin 8192) (f : Fin 2816) : (s : ℕ) = i * 256 + r → (f : ℕ) = j * 1408 + q →
    x3 (ix2 r q) = h (ix2 s f)
  four (r : Fin 16) (q : Fin 1408) (s : Fin 8192) (f : Fin 2816) : i < 31 → (s : ℕ) = i * 256 + 256 + r → (f : ℕ) = j * 1408 + q →
    x4 (ix2 r q) = h (ix2 s f)

section

variable {i j : ℕ} {C : Channels} {h : Half} {x1 : FVec Ideal ⟨2, ![256, 2816]⟩ .bf16} {x2 : FVec Ideal ⟨2, ![16, 2816]⟩ .bf16}
  {x3 : FVec Ideal ⟨2, ![256, 1408]⟩ .bf16} {x4 : FVec Ideal ⟨2, ![16, 1408]⟩ .bf16} (k : Cut i j C h x1 x2 x3 x4)
include k

theorem rows_at (r : Fin 272) (q : Fin 2816) (s : Fin 8192) (f : Fin 5632) (hs : (s : ℕ) = i * 256 + r) (hf : (f : ℕ) = j * 2816 + q) :
    rows x1 x2 r q = C (ix2 s (src f)) := by
  unfold rows
  by_cases e : (r : ℕ) < 256
  · rw [dif_pos e]; exact k.one ⟨r, e⟩ q s f hs hf
  · rw [dif_neg e]
    exact k.two ⟨(r : ℕ) - 256, by omega⟩ q s f (by have := s.isLt; omega) (by show (s : ℕ) = i * 256 + 256 + ((r : ℕ) - 256); omega) hf

theorem under_at (r : Fin 272) (q : Fin 1408) (s : Fin 8192) (f : Fin 2816) (hs : (s : ℕ) = i * 256 + r) (hf : (f : ℕ) = j * 1408 + q) :
    under i x3 x4 r q = h (ix2 s f) := by
  unfold under
  by_cases e : (r : ℕ) < 256
  · rw [dif_pos e]; exact k.three ⟨r, e⟩ q s f hs hf
  · have e1 : i < 31 := by have := s.isLt; omega
    rw [dif_neg e, if_pos e1]
    exact k.four ⟨(r : ℕ) - 256, by omega⟩ q s f e1 (by show (s : ℕ) = i * 256 + 256 + ((r : ℕ) - 256); omega) hf

theorem bent_at (r : Fin 272) (q : Fin 2816) (n : ℕ) (f : Fin 5632) (hn : n = i * 256 + r) (hf : (f : ℕ) = j * 2816 + q) :
    bent i x1 x2 x3 x4 r q = later (back C h) n (src f) := by
  have hj := k.side
  have hi := k.low
  unfold later
  by_cases lt : n < 8192
  · rw [dif_pos lt]
    unfold bent back
    by_cases e : (q : ℕ) < 1408
    · have a1 : ((src f : Fin 5632) : ℕ) = j * 1408 + q := by show source f = _; unfold source; omega
      have a2 : ((src f : Fin 5632) : ℕ) < 2816 := by omega
      rw [dif_pos e, dif_pos (show (((ix2 (⟨n, lt⟩ : Fin 8192) (src f)) 1 : Fin 5632) : ℕ) < 2816 from a2)]
      rw [under_at k r ⟨q, e⟩ ⟨n, lt⟩ ⟨(src f : Fin 5632), a2⟩ hn a1, rows_at k r q ⟨n, lt⟩ f hn hf,
        rows_at k r ⟨(q : ℕ) + 1408, by omega⟩ ⟨n, lt⟩ ⟨(f : ℕ) + 1408, by omega⟩ hn (by show (f : ℕ) + 1408 = j * 2816 + ((q : ℕ) + 1408); omega)]
      have a3 : src ⟨(f : ℕ) + 1408, by omega⟩ = ⟨((src f : Fin 5632) : ℕ) + 2816, by omega⟩ :=
        Fin.ext (by show source ((f : ℕ) + 1408) = ((src f : Fin 5632) : ℕ) + 2816; rw [a1]; unfold source; omega)
      rw [a3]
      rfl
    · have a1 : ((src f : Fin 5632) : ℕ) = 2816 + j * 1408 + (q - 1408) := by show source f = _; unfold source; omega
      have a2 : ¬ ((src f : Fin 5632) : ℕ) < 2816 := by omega
      rw [dif_neg e, dif_neg (show ¬ (((ix2 (⟨n, lt⟩ : Fin 8192) (src f)) 1 : Fin 5632) : ℕ) < 2816 from a2)]
      rw [under_at k r ⟨(q : ℕ) - 1408, by omega⟩ ⟨n, lt⟩ ⟨((src f : Fin 5632) : ℕ) - 2816, by omega⟩ hn
          (by show ((src f : Fin 5632) : ℕ) - 2816 = j * 1408 + ((q : ℕ) - 1408); omega),
        rows_at k r ⟨(q : ℕ) - 1408, by omega⟩ ⟨n, lt⟩ ⟨(f : ℕ) - 1408, by omega⟩ hn (by show (f : ℕ) - 1408 = j * 2816 + ((q : ℕ) - 1408); omega)]
      have a3 : src ⟨(f : ℕ) - 1408, by omega⟩ = ⟨((src f : Fin 5632) : ℕ) - 2816, by omega⟩ :=
        Fin.ext (by show source ((f : ℕ) - 1408) = ((src f : Fin 5632) : ℕ) - 2816; rw [a1]; unfold source; omega)
      rw [a3]
      rfl
  · rw [dif_neg lt]
    have e0 : ¬ (r : ℕ) < 256 := by omega
    have e1 : ¬ i < 31 := by omega
    have z : ∀ p : Fin 1408, under i x3 x4 r p = 0 := fun p => by
      unfold under
      rw [dif_neg e0, if_neg e1]
    unfold bent
    by_cases e : (q : ℕ) < 1408
    · rw [dif_pos e, z]; unfold backA; rw [zero_mul, zero_mul]
    · rw [dif_neg e, z]; unfold backB; rw [zero_mul]

theorem straight_at (v : Taps) (x5 : FVec Ideal ⟨2, ![3, 2816]⟩ .f32)
    (h5 : ∀ (t : Fin 3) (q : Fin 2816) (f : Fin 5632), (f : ℕ) = j * 2816 + q → x5 (ix2 t q) = v (ix2 t (src f)))
    (r : Fin 256) (q : Fin 2816) (s : Fin 8192) (f : Fin 5632) (hs : (s : ℕ) = i * 256 + r) (hf : (f : ℕ) = j * 2816 + q) :
    straight i x1 x2 x3 x4 x5 r q = unconv (back C h) v (ix2 s (src f)) := by
  have e0 : later (back C h) s (src f) = back C h (ix2 s (src f)) := dif_pos s.isLt
  unfold straight unconv
  rw [h5 2 q f hf, h5 1 q f hf, h5 0 q f hf, bent_at k ⟨r, by omega⟩ q s f hs hf,
    bent_at k ⟨(r : ℕ) + 1, by omega⟩ q ((s : ℕ) + 1) f (by show (s : ℕ) + 1 = i * 256 + ((r : ℕ) + 1); omega) hf,
    bent_at k ⟨(r : ℕ) + 2, by omega⟩ q ((s : ℕ) + 2) f (by show (s : ℕ) + 2 = i * 256 + ((r : ℕ) + 2); omega) hf, e0]
  rfl

theorem tapped_at (P : Channels) (x0 : FVec Ideal ⟨2, ![256, 2816]⟩ .bf16)
    (h0 : ∀ (r : Fin 256) (q : Fin 2816) (s : Fin 8192) (f : Fin 5632), (s : ℕ) = i * 256 + r → (f : ℕ) = j * 2816 + q →
      x0 (ix2 r q) = P (ix2 s (src f)))
    (t : Fin 3) (q : Fin 2816) (f : Fin 5632) (hf : (f : ℕ) = j * 2816 + q) :
    tapped i x0 x1 x2 x3 x4 t q = ∑ s : Fin 256, later (back C h) (i * 256 + s + (2 - t)) (src f)
      * P (ix2 ⟨i * 256 + s, by have := k.low; omega⟩ (src f)) := by
  unfold tapped
  refine Finset.sum_congr rfl fun s _ => ?_
  rw [bent_at k ⟨(s : ℕ) + 2 - t, by omega⟩ q (i * 256 + s + (2 - t)) f (by show _ = i * 256 + ((s : ℕ) + 2 - t); omega) hf,
    h0 s q ⟨i * 256 + s, by have := k.low; omega⟩ f rfl hf]

end

/-- The tiled order names every column once. -/
theorem src_bijective : Function.Bijective src := by
  refine Function.Injective.bijective_of_finite fun a b e => Fin.ext ?_
  have e1 : source (a : ℕ) = source (b : ℕ) := congrArg Fin.val e
  have ha := a.isLt
  have hb := b.isLt
  generalize (a : ℕ) = p at *
  generalize (b : ℕ) = q at *
  clear e
  unfold source at e1
  have p1 : p / 2816 = p / 1408 / 2 := by omega
  have q1 : q / 2816 = q / 1408 / 2 := by omega
  have p2 : p / 1408 = 0 ∨ p / 1408 = 1 ∨ p / 1408 = 2 ∨ p / 1408 = 3 := by omega
  have q2 : q / 1408 = 0 ∨ q / 1408 = 1 ∨ q / 1408 = 2 ∨ q / 1408 = 3 := by omega
  rw [p1, q1] at e1
  rcases p2 with c | c | c | c <;> rcases q2 with g | g | g | g <;> rw [c, g] at e1 <;> omega

/-- The sum over the two tiles is the sum over all columns. -/
theorem both_tiles (F : Fin 5632 → EReal) :
    (∑ q : Fin 2816, F (src ⟨q, by omega⟩)) + (∑ q : Fin 2816, F (src ⟨2816 + q, by omega⟩)) = ∑ f : Fin 5632, F f :=
  (Fin.sum_univ_add (fun g : Fin (2816 + 2816) => F (src g))).symm.trans
    (Function.Bijective.sum_comp src_bijective F)

/-- The transposed shift: moving the later factor back is moving the earlier factor forward. -/
theorem shifted (y P : Channels) (f : Fin 5632) (d : ℕ) (hd : d ≤ 2) :
    (∑ s : Fin 8192, later y ((s : ℕ) + d) f * P (ix2 s f)) = ∑ s : Fin 8192, y (ix2 s f) * earlier P d s f := by
  let G : ℕ → EReal := fun n => later y n f * (if d ≤ n then later P (n - d) f else 0)
  have l : (∑ s : Fin 8192, later y ((s : ℕ) + d) f * P (ix2 s f)) = ∑ n ∈ Finset.range 8192, G (d + n) := by
    rw [← Fin.sum_univ_eq_sum_range (fun n => G (d + n)) 8192]
    refine Finset.sum_congr rfl fun s _ => ?_
    show _ = later y (d + s) f * (if d ≤ d + (s : ℕ) then later P (d + (s : ℕ) - d) f else 0)
    rw [if_pos (Nat.le_add_right d s), Nat.add_sub_cancel_left, Nat.add_comm d s]
    have e0 : later P s f = P (ix2 s f) := dif_pos s.isLt
    rw [e0]
  have r : (∑ s : Fin 8192, y (ix2 s f) * earlier P d s f) = ∑ n ∈ Finset.range 8192, G n := by
    rw [← Fin.sum_univ_eq_sum_range G 8192]
    refine Finset.sum_congr rfl fun s _ => ?_
    show _ = later y s f * (if d ≤ (s : ℕ) then later P ((s : ℕ) - d) f else 0)
    have e0 : later y s f = y (ix2 s f) := dif_pos s.isLt
    have e1 : later P ((s : ℕ) - d) f = P (ix2 ⟨(s : ℕ) - d, by omega⟩ f) := dif_pos (by omega)
    rw [e0, e1]
    rfl
  have top : ∀ n, n ∈ Finset.range d → G (8192 + n) = 0 := fun n _ => by
    show later y (8192 + n) f * _ = 0
    have e0 : later y (8192 + n) f = 0 := dif_neg (by omega)
    rw [e0, zero_mul]
  have bottom : ∀ n, n ∈ Finset.range d → G n = 0 := fun n hn => by
    show _ * (if d ≤ n then later P (n - d) f else 0) = 0
    rw [if_neg (by have := Finset.mem_range.1 hn; omega), mul_zero]
  have a := Finset.sum_range_add G d 8192
  have b := Finset.sum_range_add G 8192 d
  rw [Finset.sum_eq_zero bottom, zero_add] at a
  rw [Finset.sum_eq_zero top, add_zero] at b
  rw [l, r, ← a, ← b, Nat.add_comm]

/-- Among the 64 grid points, those of one tile are the 32 token blocks. -/
theorem every_other (h : Fin 2) (T : Fin 32 → EReal) :
    (∑ u : Fin 64, if (h : ℕ) = (u : ℕ) % 2 then T ⟨(u : ℕ) / 2, by omega⟩ else 0) = ∑ i : Fin 32, T i := by
  have e : (∑ u : Fin 64, if (h : ℕ) = (u : ℕ) % 2 then T ⟨(u : ℕ) / 2, by omega⟩ else 0)
      = ∑ p : Fin 32 × Fin 2, if h = p.2 then T p.1 else 0 := by
    refine Fintype.sum_bijective (fun u : Fin 64 => ((⟨(u : ℕ) / 2, by omega⟩, ⟨(u : ℕ) % 2, by omega⟩) : Fin 32 × Fin 2)) ⟨?_, ?_⟩ _ _ fun u => ?_
    · intro a b e
      have e1 : (a : ℕ) / 2 = (b : ℕ) / 2 := congrArg (fun p : Fin 32 × Fin 2 => (p.1 : ℕ)) e
      have e2 : (a : ℕ) % 2 = (b : ℕ) % 2 := congrArg (fun p : Fin 32 × Fin 2 => (p.2 : ℕ)) e
      exact Fin.ext (by omega)
    · intro p
      refine ⟨⟨(p.1 : ℕ) * 2 + p.2, by omega⟩, Prod.ext (Fin.ext ?_) (Fin.ext ?_)⟩
      · show ((p.1 : ℕ) * 2 + p.2) / 2 = p.1
        omega
      · show ((p.1 : ℕ) * 2 + p.2) % 2 = p.2
        omega
    · exact if_congr (Fin.ext_iff (a := h) (b := ⟨(u : ℕ) % 2, by omega⟩)).symm rfl rfl
  rw [e, Fintype.sum_prod_type]
  exact Finset.sum_congr rfl fun i _ => by simp

/-- The sum over the blocks of tokens is the sum over all tokens. -/
theorem all_tokens (F : Fin 8192 → EReal) :
    (∑ i : Fin 32, ∑ s : Fin 256, F ⟨(i : ℕ) * 256 + s, by omega⟩) = ∑ s : Fin 8192, F s := by
  rw [← Finset.sum_product' Finset.univ Finset.univ (fun (i : Fin 32) (s : Fin 256) => F ⟨(i : ℕ) * 256 + s, by omega⟩)]
  refine Fintype.sum_bijective (fun p : Fin 32 × Fin 256 => (⟨(p.1 : ℕ) * 256 + p.2, by omega⟩ : Fin 8192)) ⟨?_, ?_⟩ _ _ fun _ => rfl
  · intro a b e
    have e1 : (a.1 : ℕ) * 256 + a.2 = (b.1 : ℕ) * 256 + b.2 := congrArg Fin.val e
    refine Prod.ext (Fin.ext ?_) (Fin.ext ?_) <;> omega
  · intro s
    exact ⟨(⟨(s : ℕ) / 256, by omega⟩, ⟨(s : ℕ) % 256, by omega⟩), Fin.ext (by show (s : ℕ) / 256 * 256 + (s : ℕ) % 256 = s; omega)⟩

end Cert.Proof.Ffn

end
-- ==== Proof.Ffn.Tile.lean ====
module

public import proofs.«01_k».proof.Proof.Gen.Kernel2Ideal.Frame
public import proofs.«01_k».proof.Proof.Ffn.Block
public import Idealize.ShloMosaic.Lib.Pipeline.ValueKit

@[expose] public section

set_option maxRecDepth 16384

noncomputable section

namespace Cert.Proof.Ffn

open Idealize.ShloMosaic Idealize.ShloMosaic.TcCoe Idealize.SL.Sem
open Cert.Kernel2Ideal Cert.Kernel2Ideal.Gen

/-- The first factor's cotangent on a tile's rows, from the tile's loads. -/
def bentA (i : grid0.Coords) (hn : Vec Ideal S16x128 .bf16) (h : Vec Ideal S256x128 .bf16) (a : Vec Ideal S256x128 .bf16)
    (an : Vec Ideal S16x128 .bf16) (b : Vec Ideal S256x128 .bf16) (bn : Vec Ideal S16x128 .bf16) : FVec Ideal S272x128 .f32 :=
  k0_pay10 (k0_pay6 a an) (k0_pay7 a an) (k0_pay8 i hn h b bn) k0_pay9

/-- The second factor's. -/
def bentB (i : grid0.Coords) (hn : Vec Ideal S16x128 .bf16) (h : Vec Ideal S256x128 .bf16) (a : Vec Ideal S256x128 .bf16)
    (an : Vec Ideal S16x128 .bf16) : FVec Ideal S272x128 .f32 :=
  k0_pay11 (k0_pay5 i hn h) (k0_pay6 a an) (k0_pay7 a an)

theorem lower (i : grid0.Coords) : Scalar.cmpi CmpIPredicate.slt (BitVec.ofNat 32 ((i 0 : Fin 32) : ℕ)) 31#32
    = if ((i 0 : Fin 32) : ℕ) < 31 then 1#1 else 0#1 :=
  (by decide : ∀ n : Fin 32, Scalar.cmpi CmpIPredicate.slt (BitVec.ofNat 32 (n : ℕ)) 31#32 = if (n : ℕ) < 31 then 1#1 else 0#1) (i 0)

theorem bentA_at (i : grid0.Coords) (hn : Vec Ideal S16x128 .bf16) (h : Vec Ideal S256x128 .bf16) (a : Vec Ideal S256x128 .bf16)
    (an : Vec Ideal S16x128 .bf16) (b : Vec Ideal S256x128 .bf16) (bn : Vec Ideal S16x128 .bf16) (r : Fin 272) (p : Fin 128) :
    bentA i hn h a an b bn (ix2 r p) = backA (under ((i 0 : Fin 32) : ℕ) h hn r p) (rows a an r p) (rows b bn r p) := by
  have hl := lower i
  pointwise [bentA, k0_pay5, k0_pay6, k0_pay7, k0_pay8, k0_pay9, k0_pay10, hl, backA, gate, under, rows]
  by_cases e : ((i 0 : Fin 32) : ℕ) < 31
  · simp only [if_pos e]; rfl
  · simp only [if_neg e]; rfl

theorem bentB_at (i : grid0.Coords) (hn : Vec Ideal S16x128 .bf16) (h : Vec Ideal S256x128 .bf16) (a : Vec Ideal S256x128 .bf16)
    (an : Vec Ideal S16x128 .bf16) (r : Fin 272) (p : Fin 128) :
    bentB i hn h a an (ix2 r p) = backB (under ((i 0 : Fin 32) : ℕ) h hn r p) (rows a an r p) := by
  have hl := lower i
  pointwise [bentB, k0_pay5, k0_pay6, k0_pay7, k0_pay11, hl, backB, gate, under, rows]
  by_cases e : ((i 0 : Fin 32) : ℕ) < 31
  · simp only [if_pos e]; rfl
  · simp only [if_neg e]; rfl

theorem tile_at (d : FVec Ideal S272x128 .f32) (w2 w1 w0 : Vec Ideal S1x128 .f32) (r : Fin 256) (p : Fin 128) :
    k0_pay18 d w2 w1 w0 (ix2 r p) = w2 (ix2 0 p) * d (ix2 ⟨r, by omega⟩ p) + w1 (ix2 0 p) * d (ix2 ⟨(r : ℕ) + 1, by omega⟩ p)
      + w0 (ix2 0 p) * d (ix2 ⟨(r : ℕ) + 2, by omega⟩ p) := by
  pointwise [k0_pay16, k0_pay17, k0_pay18]
  have e1 : (⟨((r : ℕ) + 272 - 271) % 272, Nat.mod_lt _ (by decide)⟩ : Fin 272) = ⟨(r : ℕ) + 1, by omega⟩ := Fin.ext (by dsimp only; omega)
  have e2 : (⟨((r : ℕ) + 272 - 270) % 272, Nat.mod_lt _ (by decide)⟩ : Fin 272) = ⟨(r : ℕ) + 2, by omega⟩ := Fin.ext (by dsimp only; omega)
  rw [e1, e2]

theorem taps_at (d : FVec Ideal S272x128 .f32) (x : Vec Ideal S256x128 .bf16) (k : Fin 3) (p : Fin 128) :
    k0_pay19 d x (ix2 k p) = ∑ s : Fin 256, d (ix2 ⟨(s : ℕ) + 2 - k, by omega⟩ p) * x (ix2 s p) := by
  pointwise [k0_pay16, k0_pay17, k0_pay19]
  match k with
  | ⟨0, _⟩ =>
    refine Fin.sum_fin_congr fun s => congrArg (fun q => d (ix2 q p) * x (ix2 s p)) (Fin.ext ?_)
    dsimp only
    omega
  | ⟨1, _⟩ =>
    refine Fin.sum_fin_congr fun s => congrArg (fun q => d (ix2 q p) * x (ix2 s p)) (Fin.ext ?_)
    dsimp only
    omega
  | ⟨2, _⟩ =>
    refine Fin.sum_fin_congr fun s => congrArg (fun q => d (ix2 q p) * x (ix2 s p)) (Fin.ext ?_)
    dsimp only
    omega

variable (i : grid0.Coords) (x1 : Vec Ideal S256x2816 .bf16) (x2 : Vec Ideal S16x2816 .bf16) (x3 : Vec Ideal S256x1408 .bf16) (x4 : Vec Ideal S16x1408 .bf16)

theorem rows_load (o : ℕ) (h1 : ∀ a, (![0, o] : Fin 2 → ℕ) a + S256x128.size a ≤ S256x2816.size a) (h2 : ∀ a, (![0, o] : Fin 2 → ℕ) a + S16x128.size a ≤ S16x2816.size a)
    (r : Fin 272) (p : Fin 128) (q : Fin 2816) (hq : (q : ℕ) = o + p) :
    rows (View.ld x1 (Rect.unit (s := S256x2816) ![0, o] S256x128.size h1)) (View.ld x2 (Rect.unit (s := S16x2816) ![0, o] S16x128.size h2)) r p = rows x1 x2 r q := by
  unfold rows
  split
  · pointwise []
    exact congrArg (fun q => x1 (ix2 _ q)) (Fin.ext (by rw [hq]))
  · pointwise []
    exact congrArg (fun q => x2 (ix2 _ q)) (Fin.ext (by rw [hq]))

theorem under_load (n : ℕ) (o : ℕ) (h3 : ∀ a, (![0, o] : Fin 2 → ℕ) a + S256x128.size a ≤ S256x1408.size a) (h4 : ∀ a, (![0, o] : Fin 2 → ℕ) a + S16x128.size a ≤ S16x1408.size a)
    (r : Fin 272) (p : Fin 128) (q : Fin 1408) (hq : (q : ℕ) = o + p) :
    under n (View.ld x3 (Rect.unit (s := S256x1408) ![0, o] S256x128.size h3)) (View.ld x4 (Rect.unit (s := S16x1408) ![0, o] S16x128.size h4)) r p = under n x3 x4 r q := by
  unfold under
  split
  · pointwise []
    exact congrArg (fun q => x3 (ix2 _ q)) (Fin.ext (by rw [hq]))
  · split
    · pointwise []
      exact congrArg (fun q => x4 (ix2 _ q)) (Fin.ext (by rw [hq]))
    · rfl

theorem loadedA (o : ℕ) (h1 : ∀ a, (![0, o] : Fin 2 → ℕ) a + S256x128.size a ≤ S256x2816.size a) (h2 : ∀ a, (![0, o] : Fin 2 → ℕ) a + S16x128.size a ≤ S16x2816.size a)
    (h3 : ∀ a, (![0, o] : Fin 2 → ℕ) a + S256x128.size a ≤ S256x1408.size a) (h4 : ∀ a, (![0, o] : Fin 2 → ℕ) a + S16x128.size a ≤ S16x1408.size a)
    (h5 : ∀ a, (![0, 1408 + o] : Fin 2 → ℕ) a + S256x128.size a ≤ S256x2816.size a) (h6 : ∀ a, (![0, 1408 + o] : Fin 2 → ℕ) a + S16x128.size a ≤ S16x2816.size a) (r : Fin 272) (p : Fin 128) (q : Fin 2816) (hq : (q : ℕ) = o + p) (ho : o ≤ 1280) :
    bentA i (View.ld x4 (Rect.unit (s := S16x1408) ![0, o] S16x128.size h4)) (View.ld x3 (Rect.unit (s := S256x1408) ![0, o] S256x128.size h3)) (View.ld x1 (Rect.unit (s := S256x2816) ![0, o] S256x128.size h1)) (View.ld x2 (Rect.unit (s := S16x2816) ![0, o] S16x128.size h2)) (View.ld x1 (Rect.unit (s := S256x2816) ![0, 1408 + o] S256x128.size h5)) (View.ld x2 (Rect.unit (s := S16x2816) ![0, 1408 + o] S16x128.size h6)) (ix2 r p) = bent ((i 0 : Fin 32) : ℕ) x1 x2 x3 x4 r q := by
  rw [bentA_at]
  unfold bent
  have e : (q : ℕ) < 1408 := by omega
  rw [dif_pos e, rows_load x1 x2 o h1 h2 r p q hq,
    rows_load x1 x2 (1408 + o) h5 h6 r p ⟨(q : ℕ) + 1408, by omega⟩ (by dsimp only; omega),
    under_load x3 x4 _ o h3 h4 r p ⟨q, e⟩ hq]

theorem loadedB (o : ℕ) (h1 : ∀ a, (![0, o] : Fin 2 → ℕ) a + S256x128.size a ≤ S256x2816.size a) (h2 : ∀ a, (![0, o] : Fin 2 → ℕ) a + S16x128.size a ≤ S16x2816.size a)
    (h3 : ∀ a, (![0, o] : Fin 2 → ℕ) a + S256x128.size a ≤ S256x1408.size a) (h4 : ∀ a, (![0, o] : Fin 2 → ℕ) a + S16x128.size a ≤ S16x1408.size a)
    (r : Fin 272) (p : Fin 128) (q : Fin 2816) (hq : (q : ℕ) = 1408 + o + p) (ho : o ≤ 1280) :
    bentB i (View.ld x4 (Rect.unit (s := S16x1408) ![0, o] S16x128.size h4)) (View.ld x3 (Rect.unit (s := S256x1408) ![0, o] S256x128.size h3)) (View.ld x1 (Rect.unit (s := S256x2816) ![0, o] S256x128.size h1)) (View.ld x2 (Rect.unit (s := S16x2816) ![0, o] S16x128.size h2)) (ix2 r p) = bent ((i 0 : Fin 32) : ℕ) x1 x2 x3 x4 r q := by
  rw [bentB_at]
  unfold bent
  rw [dif_neg (by omega),
    rows_load x1 x2 o h1 h2 r p ⟨(q : ℕ) - 1408, by omega⟩ (by dsimp only; omega),
    under_load x3 x4 _ o h3 h4 r p ⟨(q : ℕ) - 1408, by omega⟩ (by dsimp only; omega)]

/-- A tile of the projected channels' cotangent, for any tensor that holds the convolved channels'. -/
theorem tile_of (x5 : Vec Ideal S3x2816 .f32) (d : FVec Ideal S272x128 .f32) (n b : ℕ)
    (g0 : ∀ a, (![2, b] : Fin 2 → ℕ) a + S1x128.size a ≤ S3x2816.size a) (g1 : ∀ a, (![1, b] : Fin 2 → ℕ) a + S1x128.size a ≤ S3x2816.size a)
    (g2 : ∀ a, (![0, b] : Fin 2 → ℕ) a + S1x128.size a ≤ S3x2816.size a)
    (hb : b + 128 ≤ 2816) (hd : ∀ (r : Fin 272) (p : Fin 128) (q : Fin 2816), (q : ℕ) = b + p → d (ix2 r p) = bent n x1 x2 x3 x4 r q)
    (z : S256x128.Idx) (r : Fin 256) (q : Fin 2816) (hr : (r : ℕ) = z 0) (hq : (q : ℕ) = b + z 1) :
    k0_pay18 d (View.ld x5 (Rect.unit (s := S3x2816) ![2, b] S1x128.size g0)) (View.ld x5 (Rect.unit (s := S3x2816) ![1, b] S1x128.size g1))
      (View.ld x5 (Rect.unit (s := S3x2816) ![0, b] S1x128.size g2)) z = straight n x1 x2 x3 x4 x5 r q := by
  idx_vars z
  rw [tile_at]
  obtain rfl : r = z0 := Fin.ext hr
  rw [hd _ _ q hq, hd _ _ q hq, hd _ _ q hq]
  unfold straight
  pointwise []
  have e : (⟨b + (z1 : ℕ), by omega⟩ : Fin 2816) = q := Fin.ext hq.symm
  rw [e]

/-- A tile of the taps' gradient. -/
theorem taps_of (x0 : Vec Ideal S256x2816 .bf16) (d : FVec Ideal S272x128 .f32) (n b : ℕ)
    (g : ∀ a, (![0, b] : Fin 2 → ℕ) a + S256x128.size a ≤ S256x2816.size a)
    (hb : b + 128 ≤ 2816) (hd : ∀ (r : Fin 272) (p : Fin 128) (q : Fin 2816), (q : ℕ) = b + p → d (ix2 r p) = bent n x1 x2 x3 x4 r q)
    (k : Fin 3) (p : Fin 128) (q : Fin 2816) (hq : (q : ℕ) = b + p) :
    k0_pay19 d (View.ld x0 (Rect.unit (s := S256x2816) ![0, b] S256x128.size g)) (ix2 k p) = tapped n x0 x1 x2 x3 x4 k q := by
  rw [taps_at]
  unfold tapped
  refine Fin.sum_fin_congr fun s => ?_
  rw [hd _ _ q hq]
  refine congrArg (bent n x1 x2 x3 x4 _ q * ·) ?_
  pointwise []
  exact congrArg (fun q => x0 (ix2 _ q)) (Fin.ext (by rw [hq]))

end Cert.Proof.Ffn

end
-- ==== Proof.Ffn.Part.lean ====
module

public import proofs.«01_k».proof.Proof.Gen.Kernel2Ideal.Frame
public import proofs.«01_k».proof.Proof.Ffn.Tile
public import Idealize.ShloMosaic.Lib.Pipeline.ValueKit

/-! # A grid point's product with the weights

The point reads back, in six stretches of columns, the block it has just stored piece by piece, and multiplies each
stretch by the rows of the weights that belong to it: together one product over the 2816 columns. -/

@[expose] public section

set_option maxRecDepth 16384

noncomputable section

namespace Cert.Proof.Ffn

open Idealize.ShloMosaic Idealize.ShloMosaic.TcCoe Idealize.SL.Sem
open Cert.Kernel2Ideal Cert.Kernel2Ideal.Gen

/-- What a stored piece must satisfy to be the part of the block `G` that it is stored at. -/
def Good (G : S256x2816.Idx → EReal) (pc : View.Piece (Elt Ideal) S256x2816 .bf16) : Prop :=
  ∀ x, pc.2 x = G (pc.1.emb x)

theorem good_nil (G : S256x2816.Idx → EReal) : ∀ pc ∈ ([] : List (View.Piece (Elt Ideal) S256x2816 .bf16)), Good G pc :=
  fun _ h => absurd h List.not_mem_nil

theorem good_cons {G : S256x2816.Idx → EReal} {p : View.Piece (Elt Ideal) S256x2816 .bf16} {L : List (View.Piece (Elt Ideal) S256x2816 .bf16)}
    (h : Good G p) (t : ∀ pc ∈ L, Good G pc) : ∀ pc ∈ p :: L, Good G pc := by
  intro pc hpc
  rcases List.mem_cons.mp hpc with rfl | hpc
  · exact h
  · exact t pc hpc

/-- Where some piece holds an index, good pieces leave the block's value there. -/
theorem canon_good {G : S256x2816.Idx → EReal} {L : List (View.Piece (Elt Ideal) S256x2816 .bf16)} (h : ∀ pc ∈ L, Good G pc)
    (y : S256x2816.Idx) (hc : ∃ p ∈ L, y ∈ p.1.set) : View.canon L y = G y :=
  View.canon_eq_of_allAt L y (G y) hc fun p hp x hx => by rw [h p hp x, hx]

/-- The piece of 128 columns from `b` on holds the columns from `b` to `b + 127`. -/
theorem holds (L : List (View.Piece (Elt Ideal) S256x2816 .bf16)) (b : ℕ) (y : S256x2816.Idx)
    (h1 : b ≤ (y 1 : ℕ)) (h2 : (y 1 : ℕ) < b + 128)
    (g : ∀ a, (![0, b] : Fin 2 → ℕ) a + S256x128.size a ≤ S256x2816.size a)
    (hm : ∃ w, (⟨Rect.unit (s := S256x2816) ![0, b] S256x128.size g, w⟩ : View.Piece (Elt Ideal) S256x2816 .bf16) ∈ L) : ∃ p ∈ L, y ∈ p.1.set := by
  obtain ⟨w, hw⟩ := hm
  refine ⟨_, hw, ?_⟩
  refine (LoadRect.mem_set _).mpr fun a => ?_
  match a with
  | 0 => exact ⟨(y 0 : ℕ), (y 0).isLt, show (y 0 : ℕ) = 0 + 1 * (y 0 : ℕ) by omega⟩
  | 1 => exact ⟨(y 1 : ℕ) - b, show (y 1 : ℕ) - b < 128 by omega, show (y 1 : ℕ) = b + 1 * ((y 1 : ℕ) - b) by omega⟩

theorem read_512 {sp : Space} (v : View sig .tc sp S256x2816 .bf16) {G : S256x2816.Idx → EReal} {L : List (View.Piece (Elt Ideal) S256x2816 .bf16)}
    (h : ∀ pc ∈ L, Good G pc) (o : ℕ) (ho : o + 512 ≤ 2816)
    (g : ∀ a, (![0, o] : Fin 2 → ℕ) a + S256x512.size a ≤ S256x2816.size a)
    (g0 : ∀ a, (![0, o] : Fin 2 → ℕ) a + S256x128.size a ≤ S256x2816.size a)
    (g1 : ∀ a, (![0, o + 128] : Fin 2 → ℕ) a + S256x128.size a ≤ S256x2816.size a)
    (g2 : ∀ a, (![0, o + 256] : Fin 2 → ℕ) a + S256x128.size a ≤ S256x2816.size a)
    (g3 : ∀ a, (![0, o + 384] : Fin 2 → ℕ) a + S256x128.size a ≤ S256x2816.size a)
    (m0 : ∃ w, (⟨Rect.unit (s := S256x2816) ![0, o] S256x128.size g0, w⟩ : View.Piece (Elt Ideal) S256x2816 .bf16) ∈ L)
    (m1 : ∃ w, (⟨Rect.unit (s := S256x2816) ![0, o + 128] S256x128.size g1, w⟩ : View.Piece (Elt Ideal) S256x2816 .bf16) ∈ L)
    (m2 : ∃ w, (⟨Rect.unit (s := S256x2816) ![0, o + 256] S256x128.size g2, w⟩ : View.Piece (Elt Ideal) S256x2816 .bf16) ∈ L)
    (m3 : ∃ w, (⟨Rect.unit (s := S256x2816) ![0, o + 384] S256x128.size g3, w⟩ : View.Piece (Elt Ideal) S256x2816 .bf16) ∈ L)
    (r : Fin 256) (k : Fin 512) (q : Fin 2816) (hq : (q : ℕ) = o + k) :
    v.readCov L (Rect.unit (s := S256x2816) ![0, o] S256x512.size g).toLoadRect (ix2 r k) = G (ix2 r q) := by
  rw [View.readCov_eq_canon']
  have e : (Rect.unit (s := S256x2816) ![0, o] S256x512.size g).toLoadRect.idx (ix2 r k) = ix2 r q := by
    funext a
    refine Fin.ext ?_
    match a with
    | 0 => show 0 + 1 * (r : ℕ) = (r : ℕ); omega
    | 1 => show o + 1 * (k : ℕ) = (q : ℕ); omega
  show View.canon L _ = _
  rw [e]
  refine canon_good h _ ?_
  have hk := k.isLt
  by_cases c1 : (k : ℕ) < 128
  · exact holds L o _ (show o ≤ (q : ℕ) by omega) (show (q : ℕ) < o + 128 by omega) g0 m0
  by_cases c2 : (k : ℕ) < 256
  · exact holds L (o + 128) _ (show o + 128 ≤ (q : ℕ) by omega) (show (q : ℕ) < o + 128 + 128 by omega) g1 m1
  by_cases c3 : (k : ℕ) < 384
  · exact holds L (o + 256) _ (show o + 256 ≤ (q : ℕ) by omega) (show (q : ℕ) < o + 256 + 128 by omega) g2 m2
  · exact holds L (o + 384) _ (show o + 384 ≤ (q : ℕ) by omega) (show (q : ℕ) < o + 384 + 128 by omega) g3 m3

theorem read_384 {sp : Space} (v : View sig .tc sp S256x2816 .bf16) {G : S256x2816.Idx → EReal} {L : List (View.Piece (Elt Ideal) S256x2816 .bf16)}
    (h : ∀ pc ∈ L, Good G pc) (o : ℕ) (ho : o + 384 ≤ 2816)
    (g : ∀ a, (![0, o] : Fin 2 → ℕ) a + S256x384.size a ≤ S256x2816.size a)
    (g0 : ∀ a, (![0, o] : Fin 2 → ℕ) a + S256x128.size a ≤ S256x2816.size a)
    (g1 : ∀ a, (![0, o + 128] : Fin 2 → ℕ) a + S256x128.size a ≤ S256x2816.size a)
    (g2 : ∀ a, (![0, o + 256] : Fin 2 → ℕ) a + S256x128.size a ≤ S256x2816.size a)
    (m0 : ∃ w, (⟨Rect.unit (s := S256x2816) ![0, o] S256x128.size g0, w⟩ : View.Piece (Elt Ideal) S256x2816 .bf16) ∈ L)
    (m1 : ∃ w, (⟨Rect.unit (s := S256x2816) ![0, o + 128] S256x128.size g1, w⟩ : View.Piece (Elt Ideal) S256x2816 .bf16) ∈ L)
    (m2 : ∃ w, (⟨Rect.unit (s := S256x2816) ![0, o + 256] S256x128.size g2, w⟩ : View.Piece (Elt Ideal) S256x2816 .bf16) ∈ L)
    (r : Fin 256) (k : Fin 384) (q : Fin 2816) (hq : (q : ℕ) = o + k) :
    v.readCov L (Rect.unit (s := S256x2816) ![0, o] S256x384.size g).toLoadRect (ix2 r k) = G (ix2 r q) := by
  rw [View.readCov_eq_canon']
  have e : (Rect.unit (s := S256x2816) ![0, o] S256x384.size g).toLoadRect.idx (ix2 r k) = ix2 r q := by
    funext a
    refine Fin.ext ?_
    match a with
    | 0 => show 0 + 1 * (r : ℕ) = (r : ℕ); omega
    | 1 => show o + 1 * (k : ℕ) = (q : ℕ); omega
  show View.canon L _ = _
  rw [e]
  refine canon_good h _ ?_
  have hk := k.isLt
  by_cases c1 : (k : ℕ) < 128
  · exact holds L o _ (show o ≤ (q : ℕ) by omega) (show (q : ℕ) < o + 128 by omega) g0 m0
  by_cases c2 : (k : ℕ) < 256
  · exact holds L (o + 128) _ (show o + 128 ≤ (q : ℕ) by omega) (show (q : ℕ) < o + 128 + 128 by omega) g1 m1
  · exact holds L (o + 256) _ (show o + 256 ≤ (q : ℕ) by omega) (show (q : ℕ) < o + 256 + 128 by omega) g2 m2

/-- A stretch of the weights of the half `j`. -/
theorem weights_512 (x6 : Vec Ideal S2x2816x1024 .bf16) (j : Fin 2) (o : ℕ) (off : Fin 3 → ℕ) (e : off = ![(j : ℕ), o, 0])
    (g : ∀ a, off a + S1x512x1024.size a ≤ S2x2816x1024.size a) (k : Fin 512) (b : Fin 1024) (q : Fin 2816) (hq : (q : ℕ) = o + k) :
    View.ld x6 (Rect.unit (s := S2x2816x1024) off S1x512x1024.size g) (ix3 0 k b) = x6 (ix3 j q b) := by
  subst e
  pointwise []
  exact congrArg (fun q => x6 (ix3 j q b)) (Fin.ext hq.symm)

theorem weights_384 (x6 : Vec Ideal S2x2816x1024 .bf16) (j : Fin 2) (o : ℕ) (off : Fin 3 → ℕ) (e : off = ![(j : ℕ), o, 0])
    (g : ∀ a, off a + S1x384x1024.size a ≤ S2x2816x1024.size a) (k : Fin 384) (b : Fin 1024) (q : Fin 2816) (hq : (q : ℕ) = o + k) :
    View.ld x6 (Rect.unit (s := S2x2816x1024) off S1x384x1024.size g) (ix3 0 k b) = x6 (ix3 j q b) := by
  subst e
  pointwise []
  exact congrArg (fun q => x6 (ix3 j q b)) (Fin.ext hq.symm)

/-- The six stretches of columns, in the order in which they are multiplied, are all the columns. -/
theorem stretches (f : Fin 2816 → EReal) :
    (∑ k : Fin 512, f ⟨k, by omega⟩) + (∑ k : Fin 512, f ⟨1408 + k, by omega⟩) + (∑ k : Fin 512, f ⟨512 + k, by omega⟩)
      + (∑ k : Fin 512, f ⟨1920 + k, by omega⟩) + (∑ k : Fin 384, f ⟨1024 + k, by omega⟩) + (∑ k : Fin 384, f ⟨2432 + k, by omega⟩)
      = ∑ q, f q := by
  have e : ∑ q, f q = ∑ q : Fin (512 + 512 + 384 + 512 + 512 + 384), f ⟨q, q.isLt⟩ := rfl
  rw [e, Fin.sum_univ_add, Fin.sum_univ_add, Fin.sum_univ_add, Fin.sum_univ_add, Fin.sum_univ_add]
  show _ = (∑ k : Fin 512, f ⟨k, by omega⟩) + (∑ k : Fin 512, f ⟨512 + k, by omega⟩) + (∑ k : Fin 384, f ⟨1024 + k, by omega⟩)
      + (∑ k : Fin 512, f ⟨1408 + k, by omega⟩) + (∑ k : Fin 512, f ⟨1920 + k, by omega⟩) + (∑ k : Fin 384, f ⟨2432 + k, by omega⟩)
  abel

/-- The six products together. -/
theorem part_of (G : S256x2816.Idx → EReal) (W : Fin 2816 → Fin 1024 → EReal) (y : S256x1024.Idx)
    (r1 r2 r3 r4 : Vec Ideal S256x512 .bf16) (r5 r6 : Vec Ideal S256x384 .bf16)
    (w1 w2 w3 w4 : Vec Ideal S1x512x1024 .bf16) (w5 w6 : Vec Ideal S1x384x1024 .bf16)
    (hr1 : ∀ (r : Fin 256) (k : Fin 512) (q : Fin 2816), (q : ℕ) = 0 + k → r1 (ix2 r k) = G (ix2 r q))
    (hr2 : ∀ (r : Fin 256) (k : Fin 512) (q : Fin 2816), (q : ℕ) = 1408 + k → r2 (ix2 r k) = G (ix2 r q))
    (hr3 : ∀ (r : Fin 256) (k : Fin 512) (q : Fin 2816), (q : ℕ) = 512 + k → r3 (ix2 r k) = G (ix2 r q))
    (hr4 : ∀ (r : Fin 256) (k : Fin 512) (q : Fin 2816), (q : ℕ) = 1920 + k → r4 (ix2 r k) = G (ix2 r q))
    (hr5 : ∀ (r : Fin 256) (k : Fin 384) (q : Fin 2816), (q : ℕ) = 1024 + k → r5 (ix2 r k) = G (ix2 r q))
    (hr6 : ∀ (r : Fin 256) (k : Fin 384) (q : Fin 2816), (q : ℕ) = 2432 + k → r6 (ix2 r k) = G (ix2 r q))
    (hw1 : ∀ (k : Fin 512) (b : Fin 1024) (q : Fin 2816), (q : ℕ) = 0 + k → w1 (ix3 0 k b) = W q b)
    (hw2 : ∀ (k : Fin 512) (b : Fin 1024) (q : Fin 2816), (q : ℕ) = 1408 + k → w2 (ix3 0 k b) = W q b)
    (hw3 : ∀ (k : Fin 512) (b : Fin 1024) (q : Fin 2816), (q : ℕ) = 512 + k → w3 (ix3 0 k b) = W q b)
    (hw4 : ∀ (k : Fin 512) (b : Fin 1024) (q : Fin 2816), (q : ℕ) = 1920 + k → w4 (ix3 0 k b) = W q b)
    (hw5 : ∀ (k : Fin 384) (b : Fin 1024) (q : Fin 2816), (q : ℕ) = 1024 + k → w5 (ix3 0 k b) = W q b)
    (hw6 : ∀ (k : Fin 384) (b : Fin 1024) (q : Fin 2816), (q : ℕ) = 2432 + k → w6 (ix3 0 k b) = W q b) :
    k0_pay186 (k0_pay138 (k0_pay69 (k0_pay67 r1) (k0_pay68 w1) r2 w2) (k0_pay137 r3) w3 r4 w4) r5 w5 r6 w6 y
      = ∑ q : Fin 2816, G (ix2 (y 0) q) * W q (y 1) := by
  idx_vars y
  show _ = ∑ q : Fin 2816, G (ix2 y0 q) * W q y1
  rw [← stretches]
  pointwise [k0_pay186, k0_pay138, k0_pay69, k0_pay67, k0_pay68, k0_pay137]
  rw [Fin.sum_fin_congr fun k : Fin 512 => congr (congrArg (· * ·) (hr1 y0 k ⟨k, by omega⟩ (Nat.zero_add _).symm)) (hw1 k y1 ⟨k, by omega⟩ (Nat.zero_add _).symm),
    Fin.sum_fin_congr fun k : Fin 512 => congr (congrArg (· * ·) (hr2 y0 k ⟨1408 + k, by omega⟩ rfl)) (hw2 k y1 ⟨1408 + k, by omega⟩ rfl),
    Fin.sum_fin_congr fun k : Fin 512 => congr (congrArg (· * ·) (hr3 y0 k ⟨512 + k, by omega⟩ rfl)) (hw3 k y1 ⟨512 + k, by omega⟩ rfl),
    Fin.sum_fin_congr fun k : Fin 512 => congr (congrArg (· * ·) (hr4 y0 k ⟨1920 + k, by omega⟩ rfl)) (hw4 k y1 ⟨1920 + k, by omega⟩ rfl),
    Fin.sum_fin_congr fun k : Fin 384 => congr (congrArg (· * ·) (hr5 y0 k ⟨1024 + k, by omega⟩ rfl)) (hw5 k y1 ⟨1024 + k, by omega⟩ rfl),
    Fin.sum_fin_congr fun k : Fin 384 => congr (congrArg (· * ·) (hr6 y0 k ⟨2432 + k, by omega⟩ rfl)) (hw6 k y1 ⟨2432 + k, by omega⟩ rfl)]

end Cert.Proof.Ffn

end
-- ==== Proof.Ffn.Pieces.lean ====
module

public import proofs.«01_k».proof.Proof.Gen.Kernel2Ideal.Frame
public import proofs.«01_k».proof.Proof.Ffn.Part
public import Idealize.ShloMosaic.Lib.Pipeline.ValueKit

/-! # The stored pieces are the block's

The block of the projected channels' cotangent is stored in 22 pieces of 128 columns; each is that part of the block. -/

@[expose] public section

set_option maxRecDepth 16384

noncomputable section

namespace Cert.Proof.Ffn

open Idealize.ShloMosaic Idealize.ShloMosaic.TcCoe Idealize.SL.Sem
open Cert.Kernel2Ideal Cert.Kernel2Ideal.Gen

/-- The block of the cotangent of the projected channels at a grid point, over its indices. -/
def block (i : grid0.Coords) (x1 : Vec Ideal S256x2816 .bf16) (x2 : Vec Ideal S16x2816 .bf16) (x3 : Vec Ideal S256x1408 .bf16)
    (x4 : Vec Ideal S16x1408 .bf16) (x5 : Vec Ideal S3x2816 .f32) (y : S256x2816.Idx) : EReal :=
  straight ((i 0 : Fin 32) : ℕ) x1 x2 x3 x4 x5 (y 0) (y 1)

variable (i : grid0.Coords) (x1 : Vec Ideal S256x2816 .bf16) (x2 : Vec Ideal S16x2816 .bf16) (x3 : Vec Ideal S256x1408 .bf16)
    (x4 : Vec Ideal S16x1408 .bf16) (x5 : Vec Ideal S3x2816 .f32)

theorem good_piece (d : FVec Ideal S272x128 .f32) (b : ℕ)
    (g : ∀ a, (![0, b] : Fin 2 → ℕ) a + S256x128.size a ≤ S256x2816.size a)
    (g0 : ∀ a, (![2, b] : Fin 2 → ℕ) a + S1x128.size a ≤ S3x2816.size a) (g1 : ∀ a, (![1, b] : Fin 2 → ℕ) a + S1x128.size a ≤ S3x2816.size a)
    (g2 : ∀ a, (![0, b] : Fin 2 → ℕ) a + S1x128.size a ≤ S3x2816.size a) (hb : b + 128 ≤ 2816)
    (hd : ∀ (r : Fin 272) (p : Fin 128) (q : Fin 2816), (q : ℕ) = b + p → d (ix2 r p) = bent ((i 0 : Fin 32) : ℕ) x1 x2 x3 x4 r q) :
    Good (block i x1 x2 x3 x4 x5) ⟨Rect.unit (s := S256x2816) ![0, b] S256x128.size g,
      k0_pay18 d (View.ld x5 (Rect.unit (s := S3x2816) ![2, b] S1x128.size g0)) (View.ld x5 (Rect.unit (s := S3x2816) ![1, b] S1x128.size g1))
        (View.ld x5 (Rect.unit (s := S3x2816) ![0, b] S1x128.size g2))⟩ := by
  intro x
  refine tile_of x1 x2 x3 x4 x5 d _ b g0 g1 g2 hb hd x _ _ ?_ ?_
  · show 0 + 1 * (x 0 : ℕ) = (x 0 : ℕ); omega
  · show b + 1 * (x 1 : ℕ) = b + (x 1 : ℕ); omega

def stored_0 : View.Piece (Elt Ideal) S256x2816 .bf16 :=
  ⟨Rect.unit (s := S256x2816) ![0, 2688] S256x128.size inb_S256x2816_S256x128_0_2688, k0_pay18 (bentB i (View.ld x4 (Rect.unit (s := S16x1408) ![0, 1280] S16x128.size inb_S16x1408_S16x128_0_1280)) (View.ld x3 (Rect.unit (s := S256x1408) ![0, 1280] S256x128.size inb_S256x1408_S256x128_0_1280)) (View.ld x1 (Rect.unit (s := S256x2816) ![0, 1280] S256x128.size inb_S256x2816_S256x128_0_1280)) (View.ld x2 (Rect.unit (s := S16x2816) ![0, 1280] S16x128.size inb_S16x2816_S16x128_0_1280)))
    (View.ld x5 (Rect.unit (s := S3x2816) ![2, 2688] S1x128.size inb_S3x2816_S1x128_2_2688)) (View.ld x5 (Rect.unit (s := S3x2816) ![1, 2688] S1x128.size inb_S3x2816_S1x128_1_2688))
    (View.ld x5 (Rect.unit (s := S3x2816) ![0, 2688] S1x128.size inb_S3x2816_S1x128_0_2688))⟩

theorem piece_0 : Good (block i x1 x2 x3 x4 x5) (stored_0 i x1 x2 x3 x4 x5) :=
  good_piece i x1 x2 x3 x4 x5 _ 2688 _ _ _ _ (by omega) (fun r p q hq => loadedB i x1 x2 x3 x4 1280 _ _ _ _ r p q (by omega) (by omega))

def stored_1 : View.Piece (Elt Ideal) S256x2816 .bf16 :=
  ⟨Rect.unit (s := S256x2816) ![0, 1280] S256x128.size inb_S256x2816_S256x128_0_1280, k0_pay18 (bentA i (View.ld x4 (Rect.unit (s := S16x1408) ![0, 1280] S16x128.size inb_S16x1408_S16x128_0_1280)) (View.ld x3 (Rect.unit (s := S256x1408) ![0, 1280] S256x128.size inb_S256x1408_S256x128_0_1280)) (View.ld x1 (Rect.unit (s := S256x2816) ![0, 1280] S256x128.size inb_S256x2816_S256x128_0_1280)) (View.ld x2 (Rect.unit (s := S16x2816) ![0, 1280] S16x128.size inb_S16x2816_S16x128_0_1280)) (View.ld x1 (Rect.unit (s := S256x2816) ![0, 2688] S256x128.size inb_S256x2816_S256x128_0_2688)) (View.ld x2 (Rect.unit (s := S16x2816) ![0, 2688] S16x128.size inb_S16x2816_S16x128_0_2688)))
    (View.ld x5 (Rect.unit (s := S3x2816) ![2, 1280] S1x128.size inb_S3x2816_S1x128_2_1280)) (View.ld x5 (Rect.unit (s := S3x2816) ![1, 1280] S1x128.size inb_S3x2816_S1x128_1_1280))
    (View.ld x5 (Rect.unit (s := S3x2816) ![0, 1280] S1x128.size inb_S3x2816_S1x128_0_1280))⟩

theorem piece_1 : Good (block i x1 x2 x3 x4 x5) (stored_1 i x1 x2 x3 x4 x5) :=
  good_piece i x1 x2 x3 x4 x5 _ 1280 _ _ _ _ (by omega) (fun r p q hq => loadedA i x1 x2 x3 x4 1280 _ _ _ _ _ _ r p q (by omega) (by omega))

def stored_2 : View.Piece (Elt Ideal) S256x2816 .bf16 :=
  ⟨Rect.unit (s := S256x2816) ![0, 2560] S256x128.size inb_S256x2816_S256x128_0_2560, k0_pay18 (bentB i (View.ld x4 (Rect.unit (s := S16x1408) ![0, 1152] S16x128.size inb_S16x1408_S16x128_0_1152)) (View.ld x3 (Rect.unit (s := S256x1408) ![0, 1152] S256x128.size inb_S256x1408_S256x128_0_1152)) (View.ld x1 (Rect.unit (s := S256x2816) ![0, 1152] S256x128.size inb_S256x2816_S256x128_0_1152)) (View.ld x2 (Rect.unit (s := S16x2816) ![0, 1152] S16x128.size inb_S16x2816_S16x128_0_1152)))
    (View.ld x5 (Rect.unit (s := S3x2816) ![2, 2560] S1x128.size inb_S3x2816_S1x128_2_2560)) (View.ld x5 (Rect.unit (s := S3x2816) ![1, 2560] S1x128.size inb_S3x2816_S1x128_1_2560))
    (View.ld x5 (Rect.unit (s := S3x2816) ![0, 2560] S1x128.size inb_S3x2816_S1x128_0_2560))⟩

theorem piece_2 : Good (block i x1 x2 x3 x4 x5) (stored_2 i x1 x2 x3 x4 x5) :=
  good_piece i x1 x2 x3 x4 x5 _ 2560 _ _ _ _ (by omega) (fun r p q hq => loadedB i x1 x2 x3 x4 1152 _ _ _ _ r p q (by omega) (by omega))

def stored_3 : View.Piece (Elt Ideal) S256x2816 .bf16 :=
  ⟨Rect.unit (s := S256x2816) ![0, 1152] S256x128.size inb_S256x2816_S256x128_0_1152, k0_pay18 (bentA i (View.ld x4 (Rect.unit (s := S16x1408) ![0, 1152] S16x128.size inb_S16x1408_S16x128_0_1152)) (View.ld x3 (Rect.unit (s := S256x1408) ![0, 1152] S256x128.size inb_S256x1408_S256x128_0_1152)) (View.ld x1 (Rect.unit (s := S256x2816) ![0, 1152] S256x128.size inb_S256x2816_S256x128_0_1152)) (View.ld x2 (Rect.unit (s := S16x2816) ![0, 1152] S16x128.size inb_S16x2816_S16x128_0_1152)) (View.ld x1 (Rect.unit (s := S256x2816) ![0, 2560] S256x128.size inb_S256x2816_S256x128_0_2560)) (View.ld x2 (Rect.unit (s := S16x2816) ![0, 2560] S16x128.size inb_S16x2816_S16x128_0_2560)))
    (View.ld x5 (Rect.unit (s := S3x2816) ![2, 1152] S1x128.size inb_S3x2816_S1x128_2_1152)) (View.ld x5 (Rect.unit (s := S3x2816) ![1, 1152] S1x128.size inb_S3x2816_S1x128_1_1152))
    (View.ld x5 (Rect.unit (s := S3x2816) ![0, 1152] S1x128.size inb_S3x2816_S1x128_0_1152))⟩

theorem piece_3 : Good (block i x1 x2 x3 x4 x5) (stored_3 i x1 x2 x3 x4 x5) :=
  good_piece i x1 x2 x3 x4 x5 _ 1152 _ _ _ _ (by omega) (fun r p q hq => loadedA i x1 x2 x3 x4 1152 _ _ _ _ _ _ r p q (by omega) (by omega))

def stored_4 : View.Piece (Elt Ideal) S256x2816 .bf16 :=
  ⟨Rect.unit (s := S256x2816) ![0, 2432] S256x128.size inb_S256x2816_S256x128_0_2432, k0_pay18 (bentB i (View.ld x4 (Rect.unit (s := S16x1408) ![0, 1024] S16x128.size inb_S16x1408_S16x128_0_1024)) (View.ld x3 (Rect.unit (s := S256x1408) ![0, 1024] S256x128.size inb_S256x1408_S256x128_0_1024)) (View.ld x1 (Rect.unit (s := S256x2816) ![0, 1024] S256x128.size inb_S256x2816_S256x128_0_1024)) (View.ld x2 (Rect.unit (s := S16x2816) ![0, 1024] S16x128.size inb_S16x2816_S16x128_0_1024)))
    (View.ld x5 (Rect.unit (s := S3x2816) ![2, 2432] S1x128.size inb_S3x2816_S1x128_2_2432)) (View.ld x5 (Rect.unit (s := S3x2816) ![1, 2432] S1x128.size inb_S3x2816_S1x128_1_2432))
    (View.ld x5 (Rect.unit (s := S3x2816) ![0, 2432] S1x128.size inb_S3x2816_S1x128_0_2432))⟩

theorem piece_4 : Good (block i x1 x2 x3 x4 x5) (stored_4 i x1 x2 x3 x4 x5) :=
  good_piece i x1 x2 x3 x4 x5 _ 2432 _ _ _ _ (by omega) (fun r p q hq => loadedB i x1 x2 x3 x4 1024 _ _ _ _ r p q (by omega) (by omega))

def stored_5 : View.Piece (Elt Ideal) S256x2816 .bf16 :=
  ⟨Rect.unit (s := S256x2816) ![0, 1024] S256x128.size inb_S256x2816_S256x128_0_1024, k0_pay18 (bentA i (View.ld x4 (Rect.unit (s := S16x1408) ![0, 1024] S16x128.size inb_S16x1408_S16x128_0_1024)) (View.ld x3 (Rect.unit (s := S256x1408) ![0, 1024] S256x128.size inb_S256x1408_S256x128_0_1024)) (View.ld x1 (Rect.unit (s := S256x2816) ![0, 1024] S256x128.size inb_S256x2816_S256x128_0_1024)) (View.ld x2 (Rect.unit (s := S16x2816) ![0, 1024] S16x128.size inb_S16x2816_S16x128_0_1024)) (View.ld x1 (Rect.unit (s := S256x2816) ![0, 2432] S256x128.size inb_S256x2816_S256x128_0_2432)) (View.ld x2 (Rect.unit (s := S16x2816) ![0, 2432] S16x128.size inb_S16x2816_S16x128_0_2432)))
    (View.ld x5 (Rect.unit (s := S3x2816) ![2, 1024] S1x128.size inb_S3x2816_S1x128_2_1024)) (View.ld x5 (Rect.unit (s := S3x2816) ![1, 1024] S1x128.size inb_S3x2816_S1x128_1_1024))
    (View.ld x5 (Rect.unit (s := S3x2816) ![0, 1024] S1x128.size inb_S3x2816_S1x128_0_1024))⟩

theorem piece_5 : Good (block i x1 x2 x3 x4 x5) (stored_5 i x1 x2 x3 x4 x5) :=
  good_piece i x1 x2 x3 x4 x5 _ 1024 _ _ _ _ (by omega) (fun r p q hq => loadedA i x1 x2 x3 x4 1024 _ _ _ _ _ _ r p q (by omega) (by omega))

def stored_6 : View.Piece (Elt Ideal) S256x2816 .bf16 :=
  ⟨Rect.unit (s := S256x2816) ![0, 2304] S256x128.size inb_S256x2816_S256x128_0_2304, k0_pay18 (bentB i (View.ld x4 (Rect.unit (s := S16x1408) ![0, 896] S16x128.size inb_S16x1408_S16x128_0_896)) (View.ld x3 (Rect.unit (s := S256x1408) ![0, 896] S256x128.size inb_S256x1408_S256x128_0_896)) (View.ld x1 (Rect.unit (s := S256x2816) ![0, 896] S256x128.size inb_S256x2816_S256x128_0_896)) (View.ld x2 (Rect.unit (s := S16x2816) ![0, 896] S16x128.size inb_S16x2816_S16x128_0_896)))
    (View.ld x5 (Rect.unit (s := S3x2816) ![2, 2304] S1x128.size inb_S3x2816_S1x128_2_2304)) (View.ld x5 (Rect.unit (s := S3x2816) ![1, 2304] S1x128.size inb_S3x2816_S1x128_1_2304))
    (View.ld x5 (Rect.unit (s := S3x2816) ![0, 2304] S1x128.size inb_S3x2816_S1x128_0_2304))⟩

theorem piece_6 : Good (block i x1 x2 x3 x4 x5) (stored_6 i x1 x2 x3 x4 x5) :=
  good_piece i x1 x2 x3 x4 x5 _ 2304 _ _ _ _ (by omega) (fun r p q hq => loadedB i x1 x2 x3 x4 896 _ _ _ _ r p q (by omega) (by omega))

def stored_7 : View.Piece (Elt Ideal) S256x2816 .bf16 :=
  ⟨Rect.unit (s := S256x2816) ![0, 896] S256x128.size inb_S256x2816_S256x128_0_896, k0_pay18 (bentA i (View.ld x4 (Rect.unit (s := S16x1408) ![0, 896] S16x128.size inb_S16x1408_S16x128_0_896)) (View.ld x3 (Rect.unit (s := S256x1408) ![0, 896] S256x128.size inb_S256x1408_S256x128_0_896)) (View.ld x1 (Rect.unit (s := S256x2816) ![0, 896] S256x128.size inb_S256x2816_S256x128_0_896)) (View.ld x2 (Rect.unit (s := S16x2816) ![0, 896] S16x128.size inb_S16x2816_S16x128_0_896)) (View.ld x1 (Rect.unit (s := S256x2816) ![0, 2304] S256x128.size inb_S256x2816_S256x128_0_2304)) (View.ld x2 (Rect.unit (s := S16x2816) ![0, 2304] S16x128.size inb_S16x2816_S16x128_0_2304)))
    (View.ld x5 (Rect.unit (s := S3x2816) ![2, 896] S1x128.size inb_S3x2816_S1x128_2_896)) (View.ld x5 (Rect.unit (s := S3x2816) ![1, 896] S1x128.size inb_S3x2816_S1x128_1_896))
    (View.ld x5 (Rect.unit (s := S3x2816) ![0, 896] S1x128.size inb_S3x2816_S1x128_0_896))⟩

theorem piece_7 : Good (block i x1 x2 x3 x4 x5) (stored_7 i x1 x2 x3 x4 x5) :=
  good_piece i x1 x2 x3 x4 x5 _ 896 _ _ _ _ (by omega) (fun r p q hq => loadedA i x1 x2 x3 x4 896 _ _ _ _ _ _ r p q (by omega) (by omega))

def stored_8 : View.Piece (Elt Ideal) S256x2816 .bf16 :=
  ⟨Rect.unit (s := S256x2816) ![0, 2176] S256x128.size inb_S256x2816_S256x128_0_2176, k0_pay18 (bentB i (View.ld x4 (Rect.unit (s := S16x1408) ![0, 768] S16x128.size inb_S16x1408_S16x128_0_768)) (View.ld x3 (Rect.unit (s := S256x1408) ![0, 768] S256x128.size inb_S256x1408_S256x128_0_768)) (View.ld x1 (Rect.unit (s := S256x2816) ![0, 768] S256x128.size inb_S256x2816_S256x128_0_768)) (View.ld x2 (Rect.unit (s := S16x2816) ![0, 768] S16x128.size inb_S16x2816_S16x128_0_768)))
    (View.ld x5 (Rect.unit (s := S3x2816) ![2, 2176] S1x128.size inb_S3x2816_S1x128_2_2176)) (View.ld x5 (Rect.unit (s := S3x2816) ![1, 2176] S1x128.size inb_S3x2816_S1x128_1_2176))
    (View.ld x5 (Rect.unit (s := S3x2816) ![0, 2176] S1x128.size inb_S3x2816_S1x128_0_2176))⟩

theorem piece_8 : Good (block i x1 x2 x3 x4 x5) (stored_8 i x1 x2 x3 x4 x5) :=
  good_piece i x1 x2 x3 x4 x5 _ 2176 _ _ _ _ (by omega) (fun r p q hq => loadedB i x1 x2 x3 x4 768 _ _ _ _ r p q (by omega) (by omega))

def stored_9 : View.Piece (Elt Ideal) S256x2816 .bf16 :=
  ⟨Rect.unit (s := S256x2816) ![0, 768] S256x128.size inb_S256x2816_S256x128_0_768, k0_pay18 (bentA i (View.ld x4 (Rect.unit (s := S16x1408) ![0, 768] S16x128.size inb_S16x1408_S16x128_0_768)) (View.ld x3 (Rect.unit (s := S256x1408) ![0, 768] S256x128.size inb_S256x1408_S256x128_0_768)) (View.ld x1 (Rect.unit (s := S256x2816) ![0, 768] S256x128.size inb_S256x2816_S256x128_0_768)) (View.ld x2 (Rect.unit (s := S16x2816) ![0, 768] S16x128.size inb_S16x2816_S16x128_0_768)) (View.ld x1 (Rect.unit (s := S256x2816) ![0, 2176] S256x128.size inb_S256x2816_S256x128_0_2176)) (View.ld x2 (Rect.unit (s := S16x2816) ![0, 2176] S16x128.size inb_S16x2816_S16x128_0_2176)))
    (View.ld x5 (Rect.unit (s := S3x2816) ![2, 768] S1x128.size inb_S3x2816_S1x128_2_768)) (View.ld x5 (Rect.unit (s := S3x2816) ![1, 768] S1x128.size inb_S3x2816_S1x128_1_768))
    (View.ld x5 (Rect.unit (s := S3x2816) ![0, 768] S1x128.size inb_S3x2816_S1x128_0_768))⟩

theorem piece_9 : Good (block i x1 x2 x3 x4 x5) (stored_9 i x1 x2 x3 x4 x5) :=
  good_piece i x1 x2 x3 x4 x5 _ 768 _ _ _ _ (by omega) (fun r p q hq => loadedA i x1 x2 x3 x4 768 _ _ _ _ _ _ r p q (by omega) (by omega))

def stored_10 : View.Piece (Elt Ideal) S256x2816 .bf16 :=
  ⟨Rect.unit (s := S256x2816) ![0, 2048] S256x128.size inb_S256x2816_S256x128_0_2048, k0_pay18 (bentB i (View.ld x4 (Rect.unit (s := S16x1408) ![0, 640] S16x128.size inb_S16x1408_S16x128_0_640)) (View.ld x3 (Rect.unit (s := S256x1408) ![0, 640] S256x128.size inb_S256x1408_S256x128_0_640)) (View.ld x1 (Rect.unit (s := S256x2816) ![0, 640] S256x128.size inb_S256x2816_S256x128_0_640)) (View.ld x2 (Rect.unit (s := S16x2816) ![0, 640] S16x128.size inb_S16x2816_S16x128_0_640)))
    (View.ld x5 (Rect.unit (s := S3x2816) ![2, 2048] S1x128.size inb_S3x2816_S1x128_2_2048)) (View.ld x5 (Rect.unit (s := S3x2816) ![1, 2048] S1x128.size inb_S3x2816_S1x128_1_2048))
    (View.ld x5 (Rect.unit (s := S3x2816) ![0, 2048] S1x128.size inb_S3x2816_S1x128_0_2048))⟩

theorem piece_10 : Good (block i x1 x2 x3 x4 x5) (stored_10 i x1 x2 x3 x4 x5) :=
  good_piece i x1 x2 x3 x4 x5 _ 2048 _ _ _ _ (by omega) (fun r p q hq => loadedB i x1 x2 x3 x4 640 _ _ _ _ r p q (by omega) (by omega))

def stored_11 : View.Piece (Elt Ideal) S256x2816 .bf16 :=
  ⟨Rect.unit (s := S256x2816) ![0, 640] S256x128.size inb_S256x2816_S256x128_0_640, k0_pay18 (bentA i (View.ld x4 (Rect.unit (s := S16x1408) ![0, 640] S16x128.size inb_S16x1408_S16x128_0_640)) (View.ld x3 (Rect.unit (s := S256x1408) ![0, 640] S256x128.size inb_S256x1408_S256x128_0_640)) (View.ld x1 (Rect.unit (s := S256x2816) ![0, 640] S256x128.size inb_S256x2816_S256x128_0_640)) (View.ld x2 (Rect.unit (s := S16x2816) ![0, 640] S16x128.size inb_S16x2816_S16x128_0_640)) (View.ld x1 (Rect.unit (s := S256x2816) ![0, 2048] S256x128.size inb_S256x2816_S256x128_0_2048)) (View.ld x2 (Rect.unit (s := S16x2816) ![0, 2048] S16x128.size inb_S16x2816_S16x128_0_2048)))
    (View.ld x5 (Rect.unit (s := S3x2816) ![2, 640] S1x128.size inb_S3x2816_S1x128_2_640)) (View.ld x5 (Rect.unit (s := S3x2816) ![1, 640] S1x128.size inb_S3x2816_S1x128_1_640))
    (View.ld x5 (Rect.unit (s := S3x2816) ![0, 640] S1x128.size inb_S3x2816_S1x128_0_640))⟩

theorem piece_11 : Good (block i x1 x2 x3 x4 x5) (stored_11 i x1 x2 x3 x4 x5) :=
  good_piece i x1 x2 x3 x4 x5 _ 640 _ _ _ _ (by omega) (fun r p q hq => loadedA i x1 x2 x3 x4 640 _ _ _ _ _ _ r p q (by omega) (by omega))

def stored_12 : View.Piece (Elt Ideal) S256x2816 .bf16 :=
  ⟨Rect.unit (s := S256x2816) ![0, 1920] S256x128.size inb_S256x2816_S256x128_0_1920, k0_pay18 (bentB i (View.ld x4 (Rect.unit (s := S16x1408) ![0, 512] S16x128.size inb_S16x1408_S16x128_0_512)) (View.ld x3 (Rect.unit (s := S256x1408) ![0, 512] S256x128.size inb_S256x1408_S256x128_0_512)) (View.ld x1 (Rect.unit (s := S256x2816) ![0, 512] S256x128.size inb_S256x2816_S256x128_0_512)) (View.ld x2 (Rect.unit (s := S16x2816) ![0, 512] S16x128.size inb_S16x2816_S16x128_0_512)))
    (View.ld x5 (Rect.unit (s := S3x2816) ![2, 1920] S1x128.size inb_S3x2816_S1x128_2_1920)) (View.ld x5 (Rect.unit (s := S3x2816) ![1, 1920] S1x128.size inb_S3x2816_S1x128_1_1920))
    (View.ld x5 (Rect.unit (s := S3x2816) ![0, 1920] S1x128.size inb_S3x2816_S1x128_0_1920))⟩

theorem piece_12 : Good (block i x1 x2 x3 x4 x5) (stored_12 i x1 x2 x3 x4 x5) :=
  good_piece i x1 x2 x3 x4 x5 _ 1920 _ _ _ _ (by omega) (fun r p q hq => loadedB i x1 x2 x3 x4 512 _ _ _ _ r p q (by omega) (by omega))

def stored_13 : View.Piece (Elt Ideal) S256x2816 .bf16 :=
  ⟨Rect.unit (s := S256x2816) ![0, 512] S256x128.size inb_S256x2816_S256x128_0_512, k0_pay18 (bentA i (View.ld x4 (Rect.unit (s := S16x1408) ![0, 512] S16x128.size inb_S16x1408_S16x128_0_512)) (View.ld x3 (Rect.unit (s := S256x1408) ![0, 512] S256x128.size inb_S256x1408_S256x128_0_512)) (View.ld x1 (Rect.unit (s := S256x2816) ![0, 512] S256x128.size inb_S256x2816_S256x128_0_512)) (View.ld x2 (Rect.unit (s := S16x2816) ![0, 512] S16x128.size inb_S16x2816_S16x128_0_512)) (View.ld x1 (Rect.unit (s := S256x2816) ![0, 1920] S256x128.size inb_S256x2816_S256x128_0_1920)) (View.ld x2 (Rect.unit (s := S16x2816) ![0, 1920] S16x128.size inb_S16x2816_S16x128_0_1920)))
    (View.ld x5 (Rect.unit (s := S3x2816) ![2, 512] S1x128.size inb_S3x2816_S1x128_2_512)) (View.ld x5 (Rect.unit (s := S3x2816) ![1, 512] S1x128.size inb_S3x2816_S1x128_1_512))
    (View.ld x5 (Rect.unit (s := S3x2816) ![0, 512] S1x128.size inb_S3x2816_S1x128_0_512))⟩

theorem piece_13 : Good (block i x1 x2 x3 x4 x5) (stored_13 i x1 x2 x3 x4 x5) :=
  good_piece i x1 x2 x3 x4 x5 _ 512 _ _ _ _ (by omega) (fun r p q hq => loadedA i x1 x2 x3 x4 512 _ _ _ _ _ _ r p q (by omega) (by omega))

def stored_14 : View.Piece (Elt Ideal) S256x2816 .bf16 :=
  ⟨Rect.unit (s := S256x2816) ![0, 1792] S256x128.size inb_S256x2816_S256x128_0_1792, k0_pay18 (bentB i (View.ld x4 (Rect.unit (s := S16x1408) ![0, 384] S16x128.size inb_S16x1408_S16x128_0_384)) (View.ld x3 (Rect.unit (s := S256x1408) ![0, 384] S256x128.size inb_S256x1408_S256x128_0_384)) (View.ld x1 (Rect.unit (s := S256x2816) ![0, 384] S256x128.size inb_S256x2816_S256x128_0_384)) (View.ld x2 (Rect.unit (s := S16x2816) ![0, 384] S16x128.size inb_S16x2816_S16x128_0_384)))
    (View.ld x5 (Rect.unit (s := S3x2816) ![2, 1792] S1x128.size inb_S3x2816_S1x128_2_1792)) (View.ld x5 (Rect.unit (s := S3x2816) ![1, 1792] S1x128.size inb_S3x2816_S1x128_1_1792))
    (View.ld x5 (Rect.unit (s := S3x2816) ![0, 1792] S1x128.size inb_S3x2816_S1x128_0_1792))⟩

theorem piece_14 : Good (block i x1 x2 x3 x4 x5) (stored_14 i x1 x2 x3 x4 x5) :=
  good_piece i x1 x2 x3 x4 x5 _ 1792 _ _ _ _ (by omega) (fun r p q hq => loadedB i x1 x2 x3 x4 384 _ _ _ _ r p q (by omega) (by omega))

def stored_15 : View.Piece (Elt Ideal) S256x2816 .bf16 :=
  ⟨Rect.unit (s := S256x2816) ![0, 384] S256x128.size inb_S256x2816_S256x128_0_384, k0_pay18 (bentA i (View.ld x4 (Rect.unit (s := S16x1408) ![0, 384] S16x128.size inb_S16x1408_S16x128_0_384)) (View.ld x3 (Rect.unit (s := S256x1408) ![0, 384] S256x128.size inb_S256x1408_S256x128_0_384)) (View.ld x1 (Rect.unit (s := S256x2816) ![0, 384] S256x128.size inb_S256x2816_S256x128_0_384)) (View.ld x2 (Rect.unit (s := S16x2816) ![0, 384] S16x128.size inb_S16x2816_S16x128_0_384)) (View.ld x1 (Rect.unit (s := S256x2816) ![0, 1792] S256x128.size inb_S256x2816_S256x128_0_1792)) (View.ld x2 (Rect.unit (s := S16x2816) ![0, 1792] S16x128.size inb_S16x2816_S16x128_0_1792)))
    (View.ld x5 (Rect.unit (s := S3x2816) ![2, 384] S1x128.size inb_S3x2816_S1x128_2_384)) (View.ld x5 (Rect.unit (s := S3x2816) ![1, 384] S1x128.size inb_S3x2816_S1x128_1_384))
    (View.ld x5 (Rect.unit (s := S3x2816) ![0, 384] S1x128.size inb_S3x2816_S1x128_0_384))⟩

theorem piece_15 : Good (block i x1 x2 x3 x4 x5) (stored_15 i x1 x2 x3 x4 x5) :=
  good_piece i x1 x2 x3 x4 x5 _ 384 _ _ _ _ (by omega) (fun r p q hq => loadedA i x1 x2 x3 x4 384 _ _ _ _ _ _ r p q (by omega) (by omega))

def stored_16 : View.Piece (Elt Ideal) S256x2816 .bf16 :=
  ⟨Rect.unit (s := S256x2816) ![0, 1664] S256x128.size inb_S256x2816_S256x128_0_1664, k0_pay18 (bentB i (View.ld x4 (Rect.unit (s := S16x1408) ![0, 256] S16x128.size inb_S16x1408_S16x128_0_256)) (View.ld x3 (Rect.unit (s := S256x1408) ![0, 256] S256x128.size inb_S256x1408_S256x128_0_256)) (View.ld x1 (Rect.unit (s := S256x2816) ![0, 256] S256x128.size inb_S256x2816_S256x128_0_256)) (View.ld x2 (Rect.unit (s := S16x2816) ![0, 256] S16x128.size inb_S16x2816_S16x128_0_256)))
    (View.ld x5 (Rect.unit (s := S3x2816) ![2, 1664] S1x128.size inb_S3x2816_S1x128_2_1664)) (View.ld x5 (Rect.unit (s := S3x2816) ![1, 1664] S1x128.size inb_S3x2816_S1x128_1_1664))
    (View.ld x5 (Rect.unit (s := S3x2816) ![0, 1664] S1x128.size inb_S3x2816_S1x128_0_1664))⟩

theorem piece_16 : Good (block i x1 x2 x3 x4 x5) (stored_16 i x1 x2 x3 x4 x5) :=
  good_piece i x1 x2 x3 x4 x5 _ 1664 _ _ _ _ (by omega) (fun r p q hq => loadedB i x1 x2 x3 x4 256 _ _ _ _ r p q (by omega) (by omega))

def stored_17 : View.Piece (Elt Ideal) S256x2816 .bf16 :=
  ⟨Rect.unit (s := S256x2816) ![0, 256] S256x128.size inb_S256x2816_S256x128_0_256, k0_pay18 (bentA i (View.ld x4 (Rect.unit (s := S16x1408) ![0, 256] S16x128.size inb_S16x1408_S16x128_0_256)) (View.ld x3 (Rect.unit (s := S256x1408) ![0, 256] S256x128.size inb_S256x1408_S256x128_0_256)) (View.ld x1 (Rect.unit (s := S256x2816) ![0, 256] S256x128.size inb_S256x2816_S256x128_0_256)) (View.ld x2 (Rect.unit (s := S16x2816) ![0, 256] S16x128.size inb_S16x2816_S16x128_0_256)) (View.ld x1 (Rect.unit (s := S256x2816) ![0, 1664] S256x128.size inb_S256x2816_S256x128_0_1664)) (View.ld x2 (Rect.unit (s := S16x2816) ![0, 1664] S16x128.size inb_S16x2816_S16x128_0_1664)))
    (View.ld x5 (Rect.unit (s := S3x2816) ![2, 256] S1x128.size inb_S3x2816_S1x128_2_256)) (View.ld x5 (Rect.unit (s := S3x2816) ![1, 256] S1x128.size inb_S3x2816_S1x128_1_256))
    (View.ld x5 (Rect.unit (s := S3x2816) ![0, 256] S1x128.size inb_S3x2816_S1x128_0_256))⟩

theorem piece_17 : Good (block i x1 x2 x3 x4 x5) (stored_17 i x1 x2 x3 x4 x5) :=
  good_piece i x1 x2 x3 x4 x5 _ 256 _ _ _ _ (by omega) (fun r p q hq => loadedA i x1 x2 x3 x4 256 _ _ _ _ _ _ r p q (by omega) (by omega))

def stored_18 : View.Piece (Elt Ideal) S256x2816 .bf16 :=
  ⟨Rect.unit (s := S256x2816) ![0, 1536] S256x128.size inb_S256x2816_S256x128_0_1536, k0_pay18 (bentB i (View.ld x4 (Rect.unit (s := S16x1408) ![0, 128] S16x128.size inb_S16x1408_S16x128_0_128)) (View.ld x3 (Rect.unit (s := S256x1408) ![0, 128] S256x128.size inb_S256x1408_S256x128_0_128)) (View.ld x1 (Rect.unit (s := S256x2816) ![0, 128] S256x128.size inb_S256x2816_S256x128_0_128)) (View.ld x2 (Rect.unit (s := S16x2816) ![0, 128] S16x128.size inb_S16x2816_S16x128_0_128)))
    (View.ld x5 (Rect.unit (s := S3x2816) ![2, 1536] S1x128.size inb_S3x2816_S1x128_2_1536)) (View.ld x5 (Rect.unit (s := S3x2816) ![1, 1536] S1x128.size inb_S3x2816_S1x128_1_1536))
    (View.ld x5 (Rect.unit (s := S3x2816) ![0, 1536] S1x128.size inb_S3x2816_S1x128_0_1536))⟩

theorem piece_18 : Good (block i x1 x2 x3 x4 x5) (stored_18 i x1 x2 x3 x4 x5) :=
  good_piece i x1 x2 x3 x4 x5 _ 1536 _ _ _ _ (by omega) (fun r p q hq => loadedB i x1 x2 x3 x4 128 _ _ _ _ r p q (by omega) (by omega))

def stored_19 : View.Piece (Elt Ideal) S256x2816 .bf16 :=
  ⟨Rect.unit (s := S256x2816) ![0, 128] S256x128.size inb_S256x2816_S256x128_0_128, k0_pay18 (bentA i (View.ld x4 (Rect.unit (s := S16x1408) ![0, 128] S16x128.size inb_S16x1408_S16x128_0_128)) (View.ld x3 (Rect.unit (s := S256x1408) ![0, 128] S256x128.size inb_S256x1408_S256x128_0_128)) (View.ld x1 (Rect.unit (s := S256x2816) ![0, 128] S256x128.size inb_S256x2816_S256x128_0_128)) (View.ld x2 (Rect.unit (s := S16x2816) ![0, 128] S16x128.size inb_S16x2816_S16x128_0_128)) (View.ld x1 (Rect.unit (s := S256x2816) ![0, 1536] S256x128.size inb_S256x2816_S256x128_0_1536)) (View.ld x2 (Rect.unit (s := S16x2816) ![0, 1536] S16x128.size inb_S16x2816_S16x128_0_1536)))
    (View.ld x5 (Rect.unit (s := S3x2816) ![2, 128] S1x128.size inb_S3x2816_S1x128_2_128)) (View.ld x5 (Rect.unit (s := S3x2816) ![1, 128] S1x128.size inb_S3x2816_S1x128_1_128))
    (View.ld x5 (Rect.unit (s := S3x2816) ![0, 128] S1x128.size inb_S3x2816_S1x128_0_128))⟩

theorem piece_19 : Good (block i x1 x2 x3 x4 x5) (stored_19 i x1 x2 x3 x4 x5) :=
  good_piece i x1 x2 x3 x4 x5 _ 128 _ _ _ _ (by omega) (fun r p q hq => loadedA i x1 x2 x3 x4 128 _ _ _ _ _ _ r p q (by omega) (by omega))

def stored_20 : View.Piece (Elt Ideal) S256x2816 .bf16 :=
  ⟨Rect.unit (s := S256x2816) ![0, 1408] S256x128.size inb_S256x2816_S256x128_0_1408, k0_pay18 (bentB i (View.ld x4 (Rect.unit (s := S16x1408) ![0, 0] S16x128.size inb_S16x1408_S16x128_0_0)) (View.ld x3 (Rect.unit (s := S256x1408) ![0, 0] S256x128.size inb_S256x1408_S256x128_0_0)) (View.ld x1 (Rect.unit (s := S256x2816) ![0, 0] S256x128.size inb_S256x2816_S256x128_0_0)) (View.ld x2 (Rect.unit (s := S16x2816) ![0, 0] S16x128.size inb_S16x2816_S16x128_0_0)))
    (View.ld x5 (Rect.unit (s := S3x2816) ![2, 1408] S1x128.size inb_S3x2816_S1x128_2_1408)) (View.ld x5 (Rect.unit (s := S3x2816) ![1, 1408] S1x128.size inb_S3x2816_S1x128_1_1408))
    (View.ld x5 (Rect.unit (s := S3x2816) ![0, 1408] S1x128.size inb_S3x2816_S1x128_0_1408))⟩

theorem piece_20 : Good (block i x1 x2 x3 x4 x5) (stored_20 i x1 x2 x3 x4 x5) :=
  good_piece i x1 x2 x3 x4 x5 _ 1408 _ _ _ _ (by omega) (fun r p q hq => loadedB i x1 x2 x3 x4 0 _ _ _ _ r p q (by omega) (by omega))

def stored_21 : View.Piece (Elt Ideal) S256x2816 .bf16 :=
  ⟨Rect.unit (s := S256x2816) ![0, 0] S256x128.size inb_S256x2816_S256x128_0_0, k0_pay18 (bentA i (View.ld x4 (Rect.unit (s := S16x1408) ![0, 0] S16x128.size inb_S16x1408_S16x128_0_0)) (View.ld x3 (Rect.unit (s := S256x1408) ![0, 0] S256x128.size inb_S256x1408_S256x128_0_0)) (View.ld x1 (Rect.unit (s := S256x2816) ![0, 0] S256x128.size inb_S256x2816_S256x128_0_0)) (View.ld x2 (Rect.unit (s := S16x2816) ![0, 0] S16x128.size inb_S16x2816_S16x128_0_0)) (View.ld x1 (Rect.unit (s := S256x2816) ![0, 1408] S256x128.size inb_S256x2816_S256x128_0_1408)) (View.ld x2 (Rect.unit (s := S16x2816) ![0, 1408] S16x128.size inb_S16x2816_S16x128_0_1408)))
    (View.ld x5 (Rect.unit (s := S3x2816) ![2, 0] S1x128.size inb_S3x2816_S1x128_2_0)) (View.ld x5 (Rect.unit (s := S3x2816) ![1, 0] S1x128.size inb_S3x2816_S1x128_1_0))
    (View.ld x5 (Rect.unit (s := S3x2816) ![0, 0] S1x128.size inb_S3x2816_S1x128_0_0))⟩

theorem piece_21 : Good (block i x1 x2 x3 x4 x5) (stored_21 i x1 x2 x3 x4 x5) :=
  good_piece i x1 x2 x3 x4 x5 _ 0 _ _ _ _ (by omega) (fun r p q hq => loadedA i x1 x2 x3 x4 0 _ _ _ _ _ _ r p q (by omega) (by omega))

/-- A value that is stored as it is. -/
theorem stored_as (p : FVec Ideal S256x1024 .f32) (y : S256x1024.Idx) : k0_pay1 p y = p y := by
  pointwise [k0_pay1]

end Cert.Proof.Ffn

end
-- ==== Proof.Ffn.Points.lean ====
module

public import proofs.«01_k».proof.Proof.Gen.Kernel2Ideal.Frame
public import proofs.«01_k».proof.Proof.Ffn.Blocks
public import proofs.«01_k».proof.Proof.Ffn.Handed
public import proofs.«01_k».proof.Proof.Ffn.Joined
public import proofs.«01_k».proof.Proof.Ffn.Pieces
public import Idealize.ShloMosaic.Lib.Pipeline.ValueKit

/-! # What a grid point computes, in terms of the arguments -/

@[expose] public section

set_option maxRecDepth 16384

noncomputable section

namespace Cert.Proof.Ffn

open Idealize.ShloMosaic Idealize.ShloMosaic.TcCoe Idealize.SL.Sem
open Cert.Kernel2Ideal Cert.Kernel2Ideal.Gen

variable (m : (ℓ : Loc nD τ sig) → Buf (Elt Ideal) ℓ)

/-- The tokens, the matrix, the taps and the two cotangents on device `c`. -/
abbrev argX (c : Dev nD) : Tokens := m ((c : Thread nD τ).loc main_arg0)
abbrev argW (c : Dev nD) : Matrix := m ((c : Thread nD τ).loc main_arg1)
abbrev argV (c : Dev nD) : Taps := m ((c : Thread nD τ).loc main_arg2)
abbrev argH (c : Dev nD) : Half := m ((c : Thread nD τ).loc main_arg3)
abbrev argZ (c : Dev nD) : Tokens := m ((c : Thread nD τ).loc main_arg4)

theorem cut (c : Dev nD) (t : Fin cfg0.N) : Cut ((grid0.coords t 0 : Fin 32) : ℕ) (t.val % 2) (conv (projected (argX m c) (argW m c)) (argV m c)) (argH m c)
    (iblk m c 1 t) (iblk m c 2 t) (iblk m c 3 t) (iblk m c 4 t) := by
  have ht : t.val < 64 := lt_of_lt_of_eq t.isLt N_0
  rw [coords_0 t]
  exact {
    low := by omega
    side := by omega
    one := fun r q s f hs hf => (blk_1 m c t r q s f hs hf).trans (handed_conv m c s f)
    two := fun r q s f h hs hf => (blk_2 m c t h r q s f hs hf).trans (handed_conv m c s f)
    three := fun r q s f hs hf => (blk_3 m c t r q s f hs hf).trans (congrFun (V_main_arg3 m c) _)
    four := fun r q s f h hs hf => (blk_4 m c t h r q s f hs hf).trans (congrFun (V_main_arg3 m c) _) }

theorem point_straight (c : Dev nD) (t : Fin cfg0.N) (r : Fin 256) (q : Fin 2816) (s : Fin 8192) (f : Fin 5632)
    (hs : (s : ℕ) = t.val / 2 * 256 + r) (hf : (f : ℕ) = t.val % 2 * 2816 + q) :
    straight ((grid0.coords t 0 : Fin 32) : ℕ) (iblk m c 1 t) (iblk m c 2 t) (iblk m c 3 t) (iblk m c 4 t) (iblk m c 5 t) r q
      = unconv (backOf (argX m c) (argW m c) (argV m c) (argH m c)) (argV m c) (ix2 s (src f)) :=
  straight_at (cut m c t) (argV m c) (iblk m c 5 t) (fun k q f hf => (blk_5 m c t k q f hf).trans (handed_taps m c k f)) r q s f
    (hs.trans (by rw [coords_0 t])) hf

/-- What point `t` adds to the tokens' gradient at row `r` of its block. -/
def share (c : Dev nD) (t : ℕ) (ht : t < 64) (r : Fin 256) (b : Fin 1024) : EReal :=
  ∑ q : Fin 2816, unconv (backOf (argX m c) (argW m c) (argV m c) (argH m c)) (argV m c) (ix2 ⟨t / 2 * 256 + r, by omega⟩ (src ⟨t % 2 * 2816 + q, by omega⟩))
    * argW m c (ix2 b (src ⟨t % 2 * 2816 + q, by omega⟩))

theorem point_share (c : Dev nD) (t : Fin cfg0.N) (r : Fin 256) (b : Fin 1024) :
    (∑ q : Fin 2816, block (grid0.coords t) (iblk m c 1 t) (iblk m c 2 t) (iblk m c 3 t) (iblk m c 4 t) (iblk m c 5 t) (ix2 r q)
      * (iblk m c 6 t : FVec Ideal S2x2816x1024 .bf16) (ix3 (grid0.coords t 1) q b) : EReal) = share m c t.val (lt_of_lt_of_eq t.isLt N_0) r b := by
  have ht : t.val < 64 := lt_of_lt_of_eq t.isLt N_0
  unfold share
  refine Finset.sum_congr rfl fun q _ => ?_
  have e1 := point_straight m c t r q ⟨t.val / 2 * 256 + r, by omega⟩ ⟨t.val % 2 * 2816 + q, by omega⟩ rfl rfl
  have e2 := (blk_6 m c t (grid0.coords t 1) q b).trans (handed_weights m c (grid0.coords t 1) q b)
  have e3 : (⟨((grid0.coords t 1 : Fin 2) : ℕ) * 2816 + q, by have := coords_1 t; omega⟩ : Fin 5632) = ⟨t.val % 2 * 2816 + q, by omega⟩ :=
    Fin.ext (by show ((grid0.coords t 1 : Fin 2) : ℕ) * 2816 + q = _; rw [coords_1 t])
  rw [e2]
  unfold block
  rw [e3]
  exact congrArg (· * _) e1

/-- What point `t` adds to the gradient of tap `k`, in its own tile. -/
theorem point_tapped (c : Dev nD) (t : Fin cfg0.N) (k : Fin 3) (q : Fin 2816) (f : Fin 5632) (hf : (f : ℕ) = t.val % 2 * 2816 + q) (i : ℕ) (hi : t.val / 2 = i) (li : i < 32) :
    tapped ((grid0.coords t 0 : Fin 32) : ℕ) (iblk m c 0 t) (iblk m c 1 t) (iblk m c 2 t) (iblk m c 3 t) (iblk m c 4 t) k q
      = ∑ s : Fin 256, later (backOf (argX m c) (argW m c) (argV m c) (argH m c)) (i * 256 + s + (2 - k)) (src f)
        * projected (argX m c) (argW m c) (ix2 ⟨i * 256 + s, by omega⟩ (src f)) := by
  have e : ((grid0.coords t 0 : Fin 32) : ℕ) = i := (coords_0 t).trans hi
  have k1 := cut m c t
  rw [e] at k1 ⊢
  exact tapped_at k1 (projected (argX m c) (argW m c)) (iblk m c 0 t)
    (fun r q s f hs hf => (blk_0 m c t r q s f (by rw [hi]; exact hs) hf).trans (handed_projected m c s f)) k q f hf

end Cert.Proof.Ffn

end
-- ==== Proof.Ffn.TilesA.lean ====
module

public import proofs.«01_k».proof.Proof.Gen.Kernel2Ideal.Frame
public import proofs.«01_k».proof.Proof.Ffn.Block
public import proofs.«01_k».proof.Proof.Ffn.Tile
public import Idealize.ShloMosaic.Lib.Pipeline.ValueKit

/-! The tile of the gradient of the projected channels that the body writes at the very first grid point, where the
accumulator and the gradient of the taps start. -/

@[expose] public section

set_option maxRecDepth 16384

noncomputable section

namespace Cert.Proof.Ffn

open Idealize.ShloMosaic Idealize.ShloMosaic.TcCoe Idealize.SL.Sem
open Cert.Kernel2Ideal Cert.Kernel2Ideal.Gen

theorem tile_A (c : Dev nD) (i : grid0.Coords) (arg2 : Memref sig .tc .vmem S256x2816 .bf16) (harg2 : arg2.IsWhole) (arg3 : Memref sig .tc .vmem S256x2816 .bf16) (harg3 : arg3.IsWhole) (arg4 : Memref sig .tc .vmem S16x2816 .bf16) (harg4 : arg4.IsWhole) (arg5 : Memref sig .tc .vmem S256x1408 .bf16) (harg5 : arg5.IsWhole) (arg6 : Memref sig .tc .vmem S16x1408 .bf16) (harg6 : arg6.IsWhole) (arg7 : Memref sig .tc .vmem S3x2816 .f32) (harg7 : arg7.IsWhole) (arg8 : Memref sig .tc .vmem S2x2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .f32) (harg11 : arg11.IsWhole) (arg12 : Memref sig .tc .vmem S2x3x2816 .f32) (harg12 : arg12.IsWhole) (arg13 : Memref sig .tc .vmem S256x1024 .f32) (harg13 : arg13.IsWhole) (hc0 : cond0_0 i) (hc1 : cond0_1 i) (hc2 : ¬cond0_2 i) (hc3 : ¬cond0_3 i)
    (x0 : Vec Ideal S256x2816 .bf16) (x1 : Vec Ideal S256x2816 .bf16) (x2 : Vec Ideal S16x2816 .bf16) (x3 : Vec Ideal S256x1408 .bf16) (x4 : Vec Ideal S16x1408 .bf16) (x5 : Vec Ideal S3x2816 .f32) (x6 : Vec Ideal S2x2816x1024 .bf16) (x7 : Vec Ideal S256x1024 .f32) (y : S256x2816.Idx) :
    out0_A_8 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 y = straight ((i 0 : Fin 32) : ℕ) x1 x2 x3 x4 x5 (y 0) (y 1) := by
  frame_out
  canon_tiles x h
  case piece0 =>
    exact tile_of x1 x2 x3 x4 x5 (bentB i (View.ld x4 (Rect.unit (s := S16x1408) ![0, 1280] S16x128.size inb_S16x1408_S16x128_0_1280)) (View.ld x3 (Rect.unit (s := S256x1408) ![0, 1280] S256x128.size inb_S256x1408_S256x128_0_1280)) (View.ld x1 (Rect.unit (s := S256x2816) ![0, 1280] S256x128.size inb_S256x2816_S256x128_0_1280)) (View.ld x2 (Rect.unit (s := S16x2816) ![0, 1280] S16x128.size inb_S16x2816_S16x128_0_1280))) _ 2688 inb_S3x2816_S1x128_2_2688 inb_S3x2816_S1x128_1_2688 inb_S3x2816_S1x128_0_2688 (by omega) (fun r p q hq => loadedB i x1 x2 x3 x4 1280 _ _ _ _ r p q (by omega) (by omega)) x _ _ (by omega) (by omega)
  case piece1 =>
    exact tile_of x1 x2 x3 x4 x5 (bentA i (View.ld x4 (Rect.unit (s := S16x1408) ![0, 1280] S16x128.size inb_S16x1408_S16x128_0_1280)) (View.ld x3 (Rect.unit (s := S256x1408) ![0, 1280] S256x128.size inb_S256x1408_S256x128_0_1280)) (View.ld x1 (Rect.unit (s := S256x2816) ![0, 1280] S256x128.size inb_S256x2816_S256x128_0_1280)) (View.ld x2 (Rect.unit (s := S16x2816) ![0, 1280] S16x128.size inb_S16x2816_S16x128_0_1280)) (View.ld x1 (Rect.unit (s := S256x2816) ![0, 2688] S256x128.size inb_S256x2816_S256x128_0_2688)) (View.ld x2 (Rect.unit (s := S16x2816) ![0, 2688] S16x128.size inb_S16x2816_S16x128_0_2688))) _ 1280 inb_S3x2816_S1x128_2_1280 inb_S3x2816_S1x128_1_1280 inb_S3x2816_S1x128_0_1280 (by omega) (fun r p q hq => loadedA i x1 x2 x3 x4 1280 _ _ _ _ _ _ r p q (by omega) (by omega)) x _ _ (by omega) (by omega)
  case piece2 =>
    exact tile_of x1 x2 x3 x4 x5 (bentB i (View.ld x4 (Rect.unit (s := S16x1408) ![0, 1152] S16x128.size inb_S16x1408_S16x128_0_1152)) (View.ld x3 (Rect.unit (s := S256x1408) ![0, 1152] S256x128.size inb_S256x1408_S256x128_0_1152)) (View.ld x1 (Rect.unit (s := S256x2816) ![0, 1152] S256x128.size inb_S256x2816_S256x128_0_1152)) (View.ld x2 (Rect.unit (s := S16x2816) ![0, 1152] S16x128.size inb_S16x2816_S16x128_0_1152))) _ 2560 inb_S3x2816_S1x128_2_2560 inb_S3x2816_S1x128_1_2560 inb_S3x2816_S1x128_0_2560 (by omega) (fun r p q hq => loadedB i x1 x2 x3 x4 1152 _ _ _ _ r p q (by omega) (by omega)) x _ _ (by omega) (by omega)
  case piece3 =>
    exact tile_of x1 x2 x3 x4 x5 (bentA i (View.ld x4 (Rect.unit (s := S16x1408) ![0, 1152] S16x128.size inb_S16x1408_S16x128_0_1152)) (View.ld x3 (Rect.unit (s := S256x1408) ![0, 1152] S256x128.size inb_S256x1408_S256x128_0_1152)) (View.ld x1 (Rect.unit (s := S256x2816) ![0, 1152] S256x128.size inb_S256x2816_S256x128_0_1152)) (View.ld x2 (Rect.unit (s := S16x2816) ![0, 1152] S16x128.size inb_S16x2816_S16x128_0_1152)) (View.ld x1 (Rect.unit (s := S256x2816) ![0, 2560] S256x128.size inb_S256x2816_S256x128_0_2560)) (View.ld x2 (Rect.unit (s := S16x2816) ![0, 2560] S16x128.size inb_S16x2816_S16x128_0_2560))) _ 1152 inb_S3x2816_S1x128_2_1152 inb_S3x2816_S1x128_1_1152 inb_S3x2816_S1x128_0_1152 (by omega) (fun r p q hq => loadedA i x1 x2 x3 x4 1152 _ _ _ _ _ _ r p q (by omega) (by omega)) x _ _ (by omega) (by omega)
  case piece4 =>
    exact tile_of x1 x2 x3 x4 x5 (bentB i (View.ld x4 (Rect.unit (s := S16x1408) ![0, 1024] S16x128.size inb_S16x1408_S16x128_0_1024)) (View.ld x3 (Rect.unit (s := S256x1408) ![0, 1024] S256x128.size inb_S256x1408_S256x128_0_1024)) (View.ld x1 (Rect.unit (s := S256x2816) ![0, 1024] S256x128.size inb_S256x2816_S256x128_0_1024)) (View.ld x2 (Rect.unit (s := S16x2816) ![0, 1024] S16x128.size inb_S16x2816_S16x128_0_1024))) _ 2432 inb_S3x2816_S1x128_2_2432 inb_S3x2816_S1x128_1_2432 inb_S3x2816_S1x128_0_2432 (by omega) (fun r p q hq => loadedB i x1 x2 x3 x4 1024 _ _ _ _ r p q (by omega) (by omega)) x _ _ (by omega) (by omega)
  case piece5 =>
    exact tile_of x1 x2 x3 x4 x5 (bentA i (View.ld x4 (Rect.unit (s := S16x1408) ![0, 1024] S16x128.size inb_S16x1408_S16x128_0_1024)) (View.ld x3 (Rect.unit (s := S256x1408) ![0, 1024] S256x128.size inb_S256x1408_S256x128_0_1024)) (View.ld x1 (Rect.unit (s := S256x2816) ![0, 1024] S256x128.size inb_S256x2816_S256x128_0_1024)) (View.ld x2 (Rect.unit (s := S16x2816) ![0, 1024] S16x128.size inb_S16x2816_S16x128_0_1024)) (View.ld x1 (Rect.unit (s := S256x2816) ![0, 2432] S256x128.size inb_S256x2816_S256x128_0_2432)) (View.ld x2 (Rect.unit (s := S16x2816) ![0, 2432] S16x128.size inb_S16x2816_S16x128_0_2432))) _ 1024 inb_S3x2816_S1x128_2_1024 inb_S3x2816_S1x128_1_1024 inb_S3x2816_S1x128_0_1024 (by omega) (fun r p q hq => loadedA i x1 x2 x3 x4 1024 _ _ _ _ _ _ r p q (by omega) (by omega)) x _ _ (by omega) (by omega)
  case piece6 =>
    exact tile_of x1 x2 x3 x4 x5 (bentB i (View.ld x4 (Rect.unit (s := S16x1408) ![0, 896] S16x128.size inb_S16x1408_S16x128_0_896)) (View.ld x3 (Rect.unit (s := S256x1408) ![0, 896] S256x128.size inb_S256x1408_S256x128_0_896)) (View.ld x1 (Rect.unit (s := S256x2816) ![0, 896] S256x128.size inb_S256x2816_S256x128_0_896)) (View.ld x2 (Rect.unit (s := S16x2816) ![0, 896] S16x128.size inb_S16x2816_S16x128_0_896))) _ 2304 inb_S3x2816_S1x128_2_2304 inb_S3x2816_S1x128_1_2304 inb_S3x2816_S1x128_0_2304 (by omega) (fun r p q hq => loadedB i x1 x2 x3 x4 896 _ _ _ _ r p q (by omega) (by omega)) x _ _ (by omega) (by omega)
  case piece7 =>
    exact tile_of x1 x2 x3 x4 x5 (bentA i (View.ld x4 (Rect.unit (s := S16x1408) ![0, 896] S16x128.size inb_S16x1408_S16x128_0_896)) (View.ld x3 (Rect.unit (s := S256x1408) ![0, 896] S256x128.size inb_S256x1408_S256x128_0_896)) (View.ld x1 (Rect.unit (s := S256x2816) ![0, 896] S256x128.size inb_S256x2816_S256x128_0_896)) (View.ld x2 (Rect.unit (s := S16x2816) ![0, 896] S16x128.size inb_S16x2816_S16x128_0_896)) (View.ld x1 (Rect.unit (s := S256x2816) ![0, 2304] S256x128.size inb_S256x2816_S256x128_0_2304)) (View.ld x2 (Rect.unit (s := S16x2816) ![0, 2304] S16x128.size inb_S16x2816_S16x128_0_2304))) _ 896 inb_S3x2816_S1x128_2_896 inb_S3x2816_S1x128_1_896 inb_S3x2816_S1x128_0_896 (by omega) (fun r p q hq => loadedA i x1 x2 x3 x4 896 _ _ _ _ _ _ r p q (by omega) (by omega)) x _ _ (by omega) (by omega)
  case piece8 =>
    exact tile_of x1 x2 x3 x4 x5 (bentB i (View.ld x4 (Rect.unit (s := S16x1408) ![0, 768] S16x128.size inb_S16x1408_S16x128_0_768)) (View.ld x3 (Rect.unit (s := S256x1408) ![0, 768] S256x128.size inb_S256x1408_S256x128_0_768)) (View.ld x1 (Rect.unit (s := S256x2816) ![0, 768] S256x128.size inb_S256x2816_S256x128_0_768)) (View.ld x2 (Rect.unit (s := S16x2816) ![0, 768] S16x128.size inb_S16x2816_S16x128_0_768))) _ 2176 inb_S3x2816_S1x128_2_2176 inb_S3x2816_S1x128_1_2176 inb_S3x2816_S1x128_0_2176 (by omega) (fun r p q hq => loadedB i x1 x2 x3 x4 768 _ _ _ _ r p q (by omega) (by omega)) x _ _ (by omega) (by omega)
  case piece9 =>
    exact tile_of x1 x2 x3 x4 x5 (bentA i (View.ld x4 (Rect.unit (s := S16x1408) ![0, 768] S16x128.size inb_S16x1408_S16x128_0_768)) (View.ld x3 (Rect.unit (s := S256x1408) ![0, 768] S256x128.size inb_S256x1408_S256x128_0_768)) (View.ld x1 (Rect.unit (s := S256x2816) ![0, 768] S256x128.size inb_S256x2816_S256x128_0_768)) (View.ld x2 (Rect.unit (s := S16x2816) ![0, 768] S16x128.size inb_S16x2816_S16x128_0_768)) (View.ld x1 (Rect.unit (s := S256x2816) ![0, 2176] S256x128.size inb_S256x2816_S256x128_0_2176)) (View.ld x2 (Rect.unit (s := S16x2816) ![0, 2176] S16x128.size inb_S16x2816_S16x128_0_2176))) _ 768 inb_S3x2816_S1x128_2_768 inb_S3x2816_S1x128_1_768 inb_S3x2816_S1x128_0_768 (by omega) (fun r p q hq => loadedA i x1 x2 x3 x4 768 _ _ _ _ _ _ r p q (by omega) (by omega)) x _ _ (by omega) (by omega)
  case piece10 =>
    exact tile_of x1 x2 x3 x4 x5 (bentB i (View.ld x4 (Rect.unit (s := S16x1408) ![0, 640] S16x128.size inb_S16x1408_S16x128_0_640)) (View.ld x3 (Rect.unit (s := S256x1408) ![0, 640] S256x128.size inb_S256x1408_S256x128_0_640)) (View.ld x1 (Rect.unit (s := S256x2816) ![0, 640] S256x128.size inb_S256x2816_S256x128_0_640)) (View.ld x2 (Rect.unit (s := S16x2816) ![0, 640] S16x128.size inb_S16x2816_S16x128_0_640))) _ 2048 inb_S3x2816_S1x128_2_2048 inb_S3x2816_S1x128_1_2048 inb_S3x2816_S1x128_0_2048 (by omega) (fun r p q hq => loadedB i x1 x2 x3 x4 640 _ _ _ _ r p q (by omega) (by omega)) x _ _ (by omega) (by omega)
  case piece11 =>
    exact tile_of x1 x2 x3 x4 x5 (bentA i (View.ld x4 (Rect.unit (s := S16x1408) ![0, 640] S16x128.size inb_S16x1408_S16x128_0_640)) (View.ld x3 (Rect.unit (s := S256x1408) ![0, 640] S256x128.size inb_S256x1408_S256x128_0_640)) (View.ld x1 (Rect.unit (s := S256x2816) ![0, 640] S256x128.size inb_S256x2816_S256x128_0_640)) (View.ld x2 (Rect.unit (s := S16x2816) ![0, 640] S16x128.size inb_S16x2816_S16x128_0_640)) (View.ld x1 (Rect.unit (s := S256x2816) ![0, 2048] S256x128.size inb_S256x2816_S256x128_0_2048)) (View.ld x2 (Rect.unit (s := S16x2816) ![0, 2048] S16x128.size inb_S16x2816_S16x128_0_2048))) _ 640 inb_S3x2816_S1x128_2_640 inb_S3x2816_S1x128_1_640 inb_S3x2816_S1x128_0_640 (by omega) (fun r p q hq => loadedA i x1 x2 x3 x4 640 _ _ _ _ _ _ r p q (by omega) (by omega)) x _ _ (by omega) (by omega)
  case piece12 =>
    exact tile_of x1 x2 x3 x4 x5 (bentB i (View.ld x4 (Rect.unit (s := S16x1408) ![0, 512] S16x128.size inb_S16x1408_S16x128_0_512)) (View.ld x3 (Rect.unit (s := S256x1408) ![0, 512] S256x128.size inb_S256x1408_S256x128_0_512)) (View.ld x1 (Rect.unit (s := S256x2816) ![0, 512] S256x128.size inb_S256x2816_S256x128_0_512)) (View.ld x2 (Rect.unit (s := S16x2816) ![0, 512] S16x128.size inb_S16x2816_S16x128_0_512))) _ 1920 inb_S3x2816_S1x128_2_1920 inb_S3x2816_S1x128_1_1920 inb_S3x2816_S1x128_0_1920 (by omega) (fun r p q hq => loadedB i x1 x2 x3 x4 512 _ _ _ _ r p q (by omega) (by omega)) x _ _ (by omega) (by omega)
  case piece13 =>
    exact tile_of x1 x2 x3 x4 x5 (bentA i (View.ld x4 (Rect.unit (s := S16x1408) ![0, 512] S16x128.size inb_S16x1408_S16x128_0_512)) (View.ld x3 (Rect.unit (s := S256x1408) ![0, 512] S256x128.size inb_S256x1408_S256x128_0_512)) (View.ld x1 (Rect.unit (s := S256x2816) ![0, 512] S256x128.size inb_S256x2816_S256x128_0_512)) (View.ld x2 (Rect.unit (s := S16x2816) ![0, 512] S16x128.size inb_S16x2816_S16x128_0_512)) (View.ld x1 (Rect.unit (s := S256x2816) ![0, 1920] S256x128.size inb_S256x2816_S256x128_0_1920)) (View.ld x2 (Rect.unit (s := S16x2816) ![0, 1920] S16x128.size inb_S16x2816_S16x128_0_1920))) _ 512 inb_S3x2816_S1x128_2_512 inb_S3x2816_S1x128_1_512 inb_S3x2816_S1x128_0_512 (by omega) (fun r p q hq => loadedA i x1 x2 x3 x4 512 _ _ _ _ _ _ r p q (by omega) (by omega)) x _ _ (by omega) (by omega)
  case piece14 =>
    exact tile_of x1 x2 x3 x4 x5 (bentB i (View.ld x4 (Rect.unit (s := S16x1408) ![0, 384] S16x128.size inb_S16x1408_S16x128_0_384)) (View.ld x3 (Rect.unit (s := S256x1408) ![0, 384] S256x128.size inb_S256x1408_S256x128_0_384)) (View.ld x1 (Rect.unit (s := S256x2816) ![0, 384] S256x128.size inb_S256x2816_S256x128_0_384)) (View.ld x2 (Rect.unit (s := S16x2816) ![0, 384] S16x128.size inb_S16x2816_S16x128_0_384))) _ 1792 inb_S3x2816_S1x128_2_1792 inb_S3x2816_S1x128_1_1792 inb_S3x2816_S1x128_0_1792 (by omega) (fun r p q hq => loadedB i x1 x2 x3 x4 384 _ _ _ _ r p q (by omega) (by omega)) x _ _ (by omega) (by omega)
  case piece15 =>
    exact tile_of x1 x2 x3 x4 x5 (bentA i (View.ld x4 (Rect.unit (s := S16x1408) ![0, 384] S16x128.size inb_S16x1408_S16x128_0_384)) (View.ld x3 (Rect.unit (s := S256x1408) ![0, 384] S256x128.size inb_S256x1408_S256x128_0_384)) (View.ld x1 (Rect.unit (s := S256x2816) ![0, 384] S256x128.size inb_S256x2816_S256x128_0_384)) (View.ld x2 (Rect.unit (s := S16x2816) ![0, 384] S16x128.size inb_S16x2816_S16x128_0_384)) (View.ld x1 (Rect.unit (s := S256x2816) ![0, 1792] S256x128.size inb_S256x2816_S256x128_0_1792)) (View.ld x2 (Rect.unit (s := S16x2816) ![0, 1792] S16x128.size inb_S16x2816_S16x128_0_1792))) _ 384 inb_S3x2816_S1x128_2_384 inb_S3x2816_S1x128_1_384 inb_S3x2816_S1x128_0_384 (by omega) (fun r p q hq => loadedA i x1 x2 x3 x4 384 _ _ _ _ _ _ r p q (by omega) (by omega)) x _ _ (by omega) (by omega)
  case piece16 =>
    exact tile_of x1 x2 x3 x4 x5 (bentB i (View.ld x4 (Rect.unit (s := S16x1408) ![0, 256] S16x128.size inb_S16x1408_S16x128_0_256)) (View.ld x3 (Rect.unit (s := S256x1408) ![0, 256] S256x128.size inb_S256x1408_S256x128_0_256)) (View.ld x1 (Rect.unit (s := S256x2816) ![0, 256] S256x128.size inb_S256x2816_S256x128_0_256)) (View.ld x2 (Rect.unit (s := S16x2816) ![0, 256] S16x128.size inb_S16x2816_S16x128_0_256))) _ 1664 inb_S3x2816_S1x128_2_1664 inb_S3x2816_S1x128_1_1664 inb_S3x2816_S1x128_0_1664 (by omega) (fun r p q hq => loadedB i x1 x2 x3 x4 256 _ _ _ _ r p q (by omega) (by omega)) x _ _ (by omega) (by omega)
  case piece17 =>
    exact tile_of x1 x2 x3 x4 x5 (bentA i (View.ld x4 (Rect.unit (s := S16x1408) ![0, 256] S16x128.size inb_S16x1408_S16x128_0_256)) (View.ld x3 (Rect.unit (s := S256x1408) ![0, 256] S256x128.size inb_S256x1408_S256x128_0_256)) (View.ld x1 (Rect.unit (s := S256x2816) ![0, 256] S256x128.size inb_S256x2816_S256x128_0_256)) (View.ld x2 (Rect.unit (s := S16x2816) ![0, 256] S16x128.size inb_S16x2816_S16x128_0_256)) (View.ld x1 (Rect.unit (s := S256x2816) ![0, 1664] S256x128.size inb_S256x2816_S256x128_0_1664)) (View.ld x2 (Rect.unit (s := S16x2816) ![0, 1664] S16x128.size inb_S16x2816_S16x128_0_1664))) _ 256 inb_S3x2816_S1x128_2_256 inb_S3x2816_S1x128_1_256 inb_S3x2816_S1x128_0_256 (by omega) (fun r p q hq => loadedA i x1 x2 x3 x4 256 _ _ _ _ _ _ r p q (by omega) (by omega)) x _ _ (by omega) (by omega)
  case piece18 =>
    exact tile_of x1 x2 x3 x4 x5 (bentB i (View.ld x4 (Rect.unit (s := S16x1408) ![0, 128] S16x128.size inb_S16x1408_S16x128_0_128)) (View.ld x3 (Rect.unit (s := S256x1408) ![0, 128] S256x128.size inb_S256x1408_S256x128_0_128)) (View.ld x1 (Rect.unit (s := S256x2816) ![0, 128] S256x128.size inb_S256x2816_S256x128_0_128)) (View.ld x2 (Rect.unit (s := S16x2816) ![0, 128] S16x128.size inb_S16x2816_S16x128_0_128))) _ 1536 inb_S3x2816_S1x128_2_1536 inb_S3x2816_S1x128_1_1536 inb_S3x2816_S1x128_0_1536 (by omega) (fun r p q hq => loadedB i x1 x2 x3 x4 128 _ _ _ _ r p q (by omega) (by omega)) x _ _ (by omega) (by omega)
  case piece19 =>
    exact tile_of x1 x2 x3 x4 x5 (bentA i (View.ld x4 (Rect.unit (s := S16x1408) ![0, 128] S16x128.size inb_S16x1408_S16x128_0_128)) (View.ld x3 (Rect.unit (s := S256x1408) ![0, 128] S256x128.size inb_S256x1408_S256x128_0_128)) (View.ld x1 (Rect.unit (s := S256x2816) ![0, 128] S256x128.size inb_S256x2816_S256x128_0_128)) (View.ld x2 (Rect.unit (s := S16x2816) ![0, 128] S16x128.size inb_S16x2816_S16x128_0_128)) (View.ld x1 (Rect.unit (s := S256x2816) ![0, 1536] S256x128.size inb_S256x2816_S256x128_0_1536)) (View.ld x2 (Rect.unit (s := S16x2816) ![0, 1536] S16x128.size inb_S16x2816_S16x128_0_1536))) _ 128 inb_S3x2816_S1x128_2_128 inb_S3x2816_S1x128_1_128 inb_S3x2816_S1x128_0_128 (by omega) (fun r p q hq => loadedA i x1 x2 x3 x4 128 _ _ _ _ _ _ r p q (by omega) (by omega)) x _ _ (by omega) (by omega)
  case piece20 =>
    exact tile_of x1 x2 x3 x4 x5 (bentB i (View.ld x4 (Rect.unit (s := S16x1408) ![0, 0] S16x128.size inb_S16x1408_S16x128_0_0)) (View.ld x3 (Rect.unit (s := S256x1408) ![0, 0] S256x128.size inb_S256x1408_S256x128_0_0)) (View.ld x1 (Rect.unit (s := S256x2816) ![0, 0] S256x128.size inb_S256x2816_S256x128_0_0)) (View.ld x2 (Rect.unit (s := S16x2816) ![0, 0] S16x128.size inb_S16x2816_S16x128_0_0))) _ 1408 inb_S3x2816_S1x128_2_1408 inb_S3x2816_S1x128_1_1408 inb_S3x2816_S1x128_0_1408 (by omega) (fun r p q hq => loadedB i x1 x2 x3 x4 0 _ _ _ _ r p q (by omega) (by omega)) x _ _ (by omega) (by omega)
  case piece21 =>
    exact tile_of x1 x2 x3 x4 x5 (bentA i (View.ld x4 (Rect.unit (s := S16x1408) ![0, 0] S16x128.size inb_S16x1408_S16x128_0_0)) (View.ld x3 (Rect.unit (s := S256x1408) ![0, 0] S256x128.size inb_S256x1408_S256x128_0_0)) (View.ld x1 (Rect.unit (s := S256x2816) ![0, 0] S256x128.size inb_S256x2816_S256x128_0_0)) (View.ld x2 (Rect.unit (s := S16x2816) ![0, 0] S16x128.size inb_S16x2816_S16x128_0_0)) (View.ld x1 (Rect.unit (s := S256x2816) ![0, 1408] S256x128.size inb_S256x2816_S256x128_0_1408)) (View.ld x2 (Rect.unit (s := S16x2816) ![0, 1408] S16x128.size inb_S16x2816_S16x128_0_1408))) _ 0 inb_S3x2816_S1x128_2_0 inb_S3x2816_S1x128_1_0 inb_S3x2816_S1x128_0_0 (by omega) (fun r p q hq => loadedA i x1 x2 x3 x4 0 _ _ _ _ _ _ r p q (by omega) (by omega)) x _ _ (by omega) (by omega)

end Cert.Proof.Ffn

end
-- ==== Proof.Ffn.TilesB.lean ====
module

public import proofs.«01_k».proof.Proof.Gen.Kernel2Ideal.Frame
public import proofs.«01_k».proof.Proof.Ffn.Block
public import proofs.«01_k».proof.Proof.Ffn.Tile
public import Idealize.ShloMosaic.Lib.Pipeline.ValueKit

/-! The tile of the gradient of the projected channels that the body writes at the second column tile, where the accumulator
is finished and the residual is added. -/

@[expose] public section

set_option maxRecDepth 16384

noncomputable section

namespace Cert.Proof.Ffn

open Idealize.ShloMosaic Idealize.ShloMosaic.TcCoe Idealize.SL.Sem
open Cert.Kernel2Ideal Cert.Kernel2Ideal.Gen

theorem tile_B (c : Dev nD) (i : grid0.Coords) (arg2 : Memref sig .tc .vmem S256x2816 .bf16) (harg2 : arg2.IsWhole) (arg3 : Memref sig .tc .vmem S256x2816 .bf16) (harg3 : arg3.IsWhole) (arg4 : Memref sig .tc .vmem S16x2816 .bf16) (harg4 : arg4.IsWhole) (arg5 : Memref sig .tc .vmem S256x1408 .bf16) (harg5 : arg5.IsWhole) (arg6 : Memref sig .tc .vmem S16x1408 .bf16) (harg6 : arg6.IsWhole) (arg7 : Memref sig .tc .vmem S3x2816 .f32) (harg7 : arg7.IsWhole) (arg8 : Memref sig .tc .vmem S2x2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .f32) (harg11 : arg11.IsWhole) (arg12 : Memref sig .tc .vmem S2x3x2816 .f32) (harg12 : arg12.IsWhole) (arg13 : Memref sig .tc .vmem S256x1024 .f32) (harg13 : arg13.IsWhole) (hc0 : ¬cond0_0 i) (hc1 : ¬cond0_1 i) (hc2 : cond0_2 i) (hc3 : cond0_3 i)
    (x0 : Vec Ideal S256x2816 .bf16) (x1 : Vec Ideal S256x2816 .bf16) (x2 : Vec Ideal S16x2816 .bf16) (x3 : Vec Ideal S256x1408 .bf16) (x4 : Vec Ideal S16x1408 .bf16) (x5 : Vec Ideal S3x2816 .f32) (x6 : Vec Ideal S2x2816x1024 .bf16) (x7 : Vec Ideal S256x1024 .f32) (xo10 : Vec Ideal S2x3x2816 .f32) (xs0 : Vec Ideal S256x1024 .f32) (y : S256x2816.Idx) :
    out0_B_8 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo10 xs0 y = straight ((i 0 : Fin 32) : ℕ) x1 x2 x3 x4 x5 (y 0) (y 1) := by
  frame_out
  canon_tiles x h
  case piece0 =>
    exact tile_of x1 x2 x3 x4 x5 (bentB i (View.ld x4 (Rect.unit (s := S16x1408) ![0, 1280] S16x128.size inb_S16x1408_S16x128_0_1280)) (View.ld x3 (Rect.unit (s := S256x1408) ![0, 1280] S256x128.size inb_S256x1408_S256x128_0_1280)) (View.ld x1 (Rect.unit (s := S256x2816) ![0, 1280] S256x128.size inb_S256x2816_S256x128_0_1280)) (View.ld x2 (Rect.unit (s := S16x2816) ![0, 1280] S16x128.size inb_S16x2816_S16x128_0_1280))) _ 2688 inb_S3x2816_S1x128_2_2688 inb_S3x2816_S1x128_1_2688 inb_S3x2816_S1x128_0_2688 (by omega) (fun r p q hq => loadedB i x1 x2 x3 x4 1280 _ _ _ _ r p q (by omega) (by omega)) x _ _ (by omega) (by omega)
  case piece1 =>
    exact tile_of x1 x2 x3 x4 x5 (bentA i (View.ld x4 (Rect.unit (s := S16x1408) ![0, 1280] S16x128.size inb_S16x1408_S16x128_0_1280)) (View.ld x3 (Rect.unit (s := S256x1408) ![0, 1280] S256x128.size inb_S256x1408_S256x128_0_1280)) (View.ld x1 (Rect.unit (s := S256x2816) ![0, 1280] S256x128.size inb_S256x2816_S256x128_0_1280)) (View.ld x2 (Rect.unit (s := S16x2816) ![0, 1280] S16x128.size inb_S16x2816_S16x128_0_1280)) (View.ld x1 (Rect.unit (s := S256x2816) ![0, 2688] S256x128.size inb_S256x2816_S256x128_0_2688)) (View.ld x2 (Rect.unit (s := S16x2816) ![0, 2688] S16x128.size inb_S16x2816_S16x128_0_2688))) _ 1280 inb_S3x2816_S1x128_2_1280 inb_S3x2816_S1x128_1_1280 inb_S3x2816_S1x128_0_1280 (by omega) (fun r p q hq => loadedA i x1 x2 x3 x4 1280 _ _ _ _ _ _ r p q (by omega) (by omega)) x _ _ (by omega) (by omega)
  case piece2 =>
    exact tile_of x1 x2 x3 x4 x5 (bentB i (View.ld x4 (Rect.unit (s := S16x1408) ![0, 1152] S16x128.size inb_S16x1408_S16x128_0_1152)) (View.ld x3 (Rect.unit (s := S256x1408) ![0, 1152] S256x128.size inb_S256x1408_S256x128_0_1152)) (View.ld x1 (Rect.unit (s := S256x2816) ![0, 1152] S256x128.size inb_S256x2816_S256x128_0_1152)) (View.ld x2 (Rect.unit (s := S16x2816) ![0, 1152] S16x128.size inb_S16x2816_S16x128_0_1152))) _ 2560 inb_S3x2816_S1x128_2_2560 inb_S3x2816_S1x128_1_2560 inb_S3x2816_S1x128_0_2560 (by omega) (fun r p q hq => loadedB i x1 x2 x3 x4 1152 _ _ _ _ r p q (by omega) (by omega)) x _ _ (by omega) (by omega)
  case piece3 =>
    exact tile_of x1 x2 x3 x4 x5 (bentA i (View.ld x4 (Rect.unit (s := S16x1408) ![0, 1152] S16x128.size inb_S16x1408_S16x128_0_1152)) (View.ld x3 (Rect.unit (s := S256x1408) ![0, 1152] S256x128.size inb_S256x1408_S256x128_0_1152)) (View.ld x1 (Rect.unit (s := S256x2816) ![0, 1152] S256x128.size inb_S256x2816_S256x128_0_1152)) (View.ld x2 (Rect.unit (s := S16x2816) ![0, 1152] S16x128.size inb_S16x2816_S16x128_0_1152)) (View.ld x1 (Rect.unit (s := S256x2816) ![0, 2560] S256x128.size inb_S256x2816_S256x128_0_2560)) (View.ld x2 (Rect.unit (s := S16x2816) ![0, 2560] S16x128.size inb_S16x2816_S16x128_0_2560))) _ 1152 inb_S3x2816_S1x128_2_1152 inb_S3x2816_S1x128_1_1152 inb_S3x2816_S1x128_0_1152 (by omega) (fun r p q hq => loadedA i x1 x2 x3 x4 1152 _ _ _ _ _ _ r p q (by omega) (by omega)) x _ _ (by omega) (by omega)
  case piece4 =>
    exact tile_of x1 x2 x3 x4 x5 (bentB i (View.ld x4 (Rect.unit (s := S16x1408) ![0, 1024] S16x128.size inb_S16x1408_S16x128_0_1024)) (View.ld x3 (Rect.unit (s := S256x1408) ![0, 1024] S256x128.size inb_S256x1408_S256x128_0_1024)) (View.ld x1 (Rect.unit (s := S256x2816) ![0, 1024] S256x128.size inb_S256x2816_S256x128_0_1024)) (View.ld x2 (Rect.unit (s := S16x2816) ![0, 1024] S16x128.size inb_S16x2816_S16x128_0_1024))) _ 2432 inb_S3x2816_S1x128_2_2432 inb_S3x2816_S1x128_1_2432 inb_S3x2816_S1x128_0_2432 (by omega) (fun r p q hq => loadedB i x1 x2 x3 x4 1024 _ _ _ _ r p q (by omega) (by omega)) x _ _ (by omega) (by omega)
  case piece5 =>
    exact tile_of x1 x2 x3 x4 x5 (bentA i (View.ld x4 (Rect.unit (s := S16x1408) ![0, 1024] S16x128.size inb_S16x1408_S16x128_0_1024)) (View.ld x3 (Rect.unit (s := S256x1408) ![0, 1024] S256x128.size inb_S256x1408_S256x128_0_1024)) (View.ld x1 (Rect.unit (s := S256x2816) ![0, 1024] S256x128.size inb_S256x2816_S256x128_0_1024)) (View.ld x2 (Rect.unit (s := S16x2816) ![0, 1024] S16x128.size inb_S16x2816_S16x128_0_1024)) (View.ld x1 (Rect.unit (s := S256x2816) ![0, 2432] S256x128.size inb_S256x2816_S256x128_0_2432)) (View.ld x2 (Rect.unit (s := S16x2816) ![0, 2432] S16x128.size inb_S16x2816_S16x128_0_2432))) _ 1024 inb_S3x2816_S1x128_2_1024 inb_S3x2816_S1x128_1_1024 inb_S3x2816_S1x128_0_1024 (by omega) (fun r p q hq => loadedA i x1 x2 x3 x4 1024 _ _ _ _ _ _ r p q (by omega) (by omega)) x _ _ (by omega) (by omega)
  case piece6 =>
    exact tile_of x1 x2 x3 x4 x5 (bentB i (View.ld x4 (Rect.unit (s := S16x1408) ![0, 896] S16x128.size inb_S16x1408_S16x128_0_896)) (View.ld x3 (Rect.unit (s := S256x1408) ![0, 896] S256x128.size inb_S256x1408_S256x128_0_896)) (View.ld x1 (Rect.unit (s := S256x2816) ![0, 896] S256x128.size inb_S256x2816_S256x128_0_896)) (View.ld x2 (Rect.unit (s := S16x2816) ![0, 896] S16x128.size inb_S16x2816_S16x128_0_896))) _ 2304 inb_S3x2816_S1x128_2_2304 inb_S3x2816_S1x128_1_2304 inb_S3x2816_S1x128_0_2304 (by omega) (fun r p q hq => loadedB i x1 x2 x3 x4 896 _ _ _ _ r p q (by omega) (by omega)) x _ _ (by omega) (by omega)
  case piece7 =>
    exact tile_of x1 x2 x3 x4 x5 (bentA i (View.ld x4 (Rect.unit (s := S16x1408) ![0, 896] S16x128.size inb_S16x1408_S16x128_0_896)) (View.ld x3 (Rect.unit (s := S256x1408) ![0, 896] S256x128.size inb_S256x1408_S256x128_0_896)) (View.ld x1 (Rect.unit (s := S256x2816) ![0, 896] S256x128.size inb_S256x2816_S256x128_0_896)) (View.ld x2 (Rect.unit (s := S16x2816) ![0, 896] S16x128.size inb_S16x2816_S16x128_0_896)) (View.ld x1 (Rect.unit (s := S256x2816) ![0, 2304] S256x128.size inb_S256x2816_S256x128_0_2304)) (View.ld x2 (Rect.unit (s := S16x2816) ![0, 2304] S16x128.size inb_S16x2816_S16x128_0_2304))) _ 896 inb_S3x2816_S1x128_2_896 inb_S3x2816_S1x128_1_896 inb_S3x2816_S1x128_0_896 (by omega) (fun r p q hq => loadedA i x1 x2 x3 x4 896 _ _ _ _ _ _ r p q (by omega) (by omega)) x _ _ (by omega) (by omega)
  case piece8 =>
    exact tile_of x1 x2 x3 x4 x5 (bentB i (View.ld x4 (Rect.unit (s := S16x1408) ![0, 768] S16x128.size inb_S16x1408_S16x128_0_768)) (View.ld x3 (Rect.unit (s := S256x1408) ![0, 768] S256x128.size inb_S256x1408_S256x128_0_768)) (View.ld x1 (Rect.unit (s := S256x2816) ![0, 768] S256x128.size inb_S256x2816_S256x128_0_768)) (View.ld x2 (Rect.unit (s := S16x2816) ![0, 768] S16x128.size inb_S16x2816_S16x128_0_768))) _ 2176 inb_S3x2816_S1x128_2_2176 inb_S3x2816_S1x128_1_2176 inb_S3x2816_S1x128_0_2176 (by omega) (fun r p q hq => loadedB i x1 x2 x3 x4 768 _ _ _ _ r p q (by omega) (by omega)) x _ _ (by omega) (by omega)
  case piece9 =>
    exact tile_of x1 x2 x3 x4 x5 (bentA i (View.ld x4 (Rect.unit (s := S16x1408) ![0, 768] S16x128.size inb_S16x1408_S16x128_0_768)) (View.ld x3 (Rect.unit (s := S256x1408) ![0, 768] S256x128.size inb_S256x1408_S256x128_0_768)) (View.ld x1 (Rect.unit (s := S256x2816) ![0, 768] S256x128.size inb_S256x2816_S256x128_0_768)) (View.ld x2 (Rect.unit (s := S16x2816) ![0, 768] S16x128.size inb_S16x2816_S16x128_0_768)) (View.ld x1 (Rect.unit (s := S256x2816) ![0, 2176] S256x128.size inb_S256x2816_S256x128_0_2176)) (View.ld x2 (Rect.unit (s := S16x2816) ![0, 2176] S16x128.size inb_S16x2816_S16x128_0_2176))) _ 768 inb_S3x2816_S1x128_2_768 inb_S3x2816_S1x128_1_768 inb_S3x2816_S1x128_0_768 (by omega) (fun r p q hq => loadedA i x1 x2 x3 x4 768 _ _ _ _ _ _ r p q (by omega) (by omega)) x _ _ (by omega) (by omega)
  case piece10 =>
    exact tile_of x1 x2 x3 x4 x5 (bentB i (View.ld x4 (Rect.unit (s := S16x1408) ![0, 640] S16x128.size inb_S16x1408_S16x128_0_640)) (View.ld x3 (Rect.unit (s := S256x1408) ![0, 640] S256x128.size inb_S256x1408_S256x128_0_640)) (View.ld x1 (Rect.unit (s := S256x2816) ![0, 640] S256x128.size inb_S256x2816_S256x128_0_640)) (View.ld x2 (Rect.unit (s := S16x2816) ![0, 640] S16x128.size inb_S16x2816_S16x128_0_640))) _ 2048 inb_S3x2816_S1x128_2_2048 inb_S3x2816_S1x128_1_2048 inb_S3x2816_S1x128_0_2048 (by omega) (fun r p q hq => loadedB i x1 x2 x3 x4 640 _ _ _ _ r p q (by omega) (by omega)) x _ _ (by omega) (by omega)
  case piece11 =>
    exact tile_of x1 x2 x3 x4 x5 (bentA i (View.ld x4 (Rect.unit (s := S16x1408) ![0, 640] S16x128.size inb_S16x1408_S16x128_0_640)) (View.ld x3 (Rect.unit (s := S256x1408) ![0, 640] S256x128.size inb_S256x1408_S256x128_0_640)) (View.ld x1 (Rect.unit (s := S256x2816) ![0, 640] S256x128.size inb_S256x2816_S256x128_0_640)) (View.ld x2 (Rect.unit (s := S16x2816) ![0, 640] S16x128.size inb_S16x2816_S16x128_0_640)) (View.ld x1 (Rect.unit (s := S256x2816) ![0, 2048] S256x128.size inb_S256x2816_S256x128_0_2048)) (View.ld x2 (Rect.unit (s := S16x2816) ![0, 2048] S16x128.size inb_S16x2816_S16x128_0_2048))) _ 640 inb_S3x2816_S1x128_2_640 inb_S3x2816_S1x128_1_640 inb_S3x2816_S1x128_0_640 (by omega) (fun r p q hq => loadedA i x1 x2 x3 x4 640 _ _ _ _ _ _ r p q (by omega) (by omega)) x _ _ (by omega) (by omega)
  case piece12 =>
    exact tile_of x1 x2 x3 x4 x5 (bentB i (View.ld x4 (Rect.unit (s := S16x1408) ![0, 512] S16x128.size inb_S16x1408_S16x128_0_512)) (View.ld x3 (Rect.unit (s := S256x1408) ![0, 512] S256x128.size inb_S256x1408_S256x128_0_512)) (View.ld x1 (Rect.unit (s := S256x2816) ![0, 512] S256x128.size inb_S256x2816_S256x128_0_512)) (View.ld x2 (Rect.unit (s := S16x2816) ![0, 512] S16x128.size inb_S16x2816_S16x128_0_512))) _ 1920 inb_S3x2816_S1x128_2_1920 inb_S3x2816_S1x128_1_1920 inb_S3x2816_S1x128_0_1920 (by omega) (fun r p q hq => loadedB i x1 x2 x3 x4 512 _ _ _ _ r p q (by omega) (by omega)) x _ _ (by omega) (by omega)
  case piece13 =>
    exact tile_of x1 x2 x3 x4 x5 (bentA i (View.ld x4 (Rect.unit (s := S16x1408) ![0, 512] S16x128.size inb_S16x1408_S16x128_0_512)) (View.ld x3 (Rect.unit (s := S256x1408) ![0, 512] S256x128.size inb_S256x1408_S256x128_0_512)) (View.ld x1 (Rect.unit (s := S256x2816) ![0, 512] S256x128.size inb_S256x2816_S256x128_0_512)) (View.ld x2 (Rect.unit (s := S16x2816) ![0, 512] S16x128.size inb_S16x2816_S16x128_0_512)) (View.ld x1 (Rect.unit (s := S256x2816) ![0, 1920] S256x128.size inb_S256x2816_S256x128_0_1920)) (View.ld x2 (Rect.unit (s := S16x2816) ![0, 1920] S16x128.size inb_S16x2816_S16x128_0_1920))) _ 512 inb_S3x2816_S1x128_2_512 inb_S3x2816_S1x128_1_512 inb_S3x2816_S1x128_0_512 (by omega) (fun r p q hq => loadedA i x1 x2 x3 x4 512 _ _ _ _ _ _ r p q (by omega) (by omega)) x _ _ (by omega) (by omega)
  case piece14 =>
    exact tile_of x1 x2 x3 x4 x5 (bentB i (View.ld x4 (Rect.unit (s := S16x1408) ![0, 384] S16x128.size inb_S16x1408_S16x128_0_384)) (View.ld x3 (Rect.unit (s := S256x1408) ![0, 384] S256x128.size inb_S256x1408_S256x128_0_384)) (View.ld x1 (Rect.unit (s := S256x2816) ![0, 384] S256x128.size inb_S256x2816_S256x128_0_384)) (View.ld x2 (Rect.unit (s := S16x2816) ![0, 384] S16x128.size inb_S16x2816_S16x128_0_384))) _ 1792 inb_S3x2816_S1x128_2_1792 inb_S3x2816_S1x128_1_1792 inb_S3x2816_S1x128_0_1792 (by omega) (fun r p q hq => loadedB i x1 x2 x3 x4 384 _ _ _ _ r p q (by omega) (by omega)) x _ _ (by omega) (by omega)
  case piece15 =>
    exact tile_of x1 x2 x3 x4 x5 (bentA i (View.ld x4 (Rect.unit (s := S16x1408) ![0, 384] S16x128.size inb_S16x1408_S16x128_0_384)) (View.ld x3 (Rect.unit (s := S256x1408) ![0, 384] S256x128.size inb_S256x1408_S256x128_0_384)) (View.ld x1 (Rect.unit (s := S256x2816) ![0, 384] S256x128.size inb_S256x2816_S256x128_0_384)) (View.ld x2 (Rect.unit (s := S16x2816) ![0, 384] S16x128.size inb_S16x2816_S16x128_0_384)) (View.ld x1 (Rect.unit (s := S256x2816) ![0, 1792] S256x128.size inb_S256x2816_S256x128_0_1792)) (View.ld x2 (Rect.unit (s := S16x2816) ![0, 1792] S16x128.size inb_S16x2816_S16x128_0_1792))) _ 384 inb_S3x2816_S1x128_2_384 inb_S3x2816_S1x128_1_384 inb_S3x2816_S1x128_0_384 (by omega) (fun r p q hq => loadedA i x1 x2 x3 x4 384 _ _ _ _ _ _ r p q (by omega) (by omega)) x _ _ (by omega) (by omega)
  case piece16 =>
    exact tile_of x1 x2 x3 x4 x5 (bentB i (View.ld x4 (Rect.unit (s := S16x1408) ![0, 256] S16x128.size inb_S16x1408_S16x128_0_256)) (View.ld x3 (Rect.unit (s := S256x1408) ![0, 256] S256x128.size inb_S256x1408_S256x128_0_256)) (View.ld x1 (Rect.unit (s := S256x2816) ![0, 256] S256x128.size inb_S256x2816_S256x128_0_256)) (View.ld x2 (Rect.unit (s := S16x2816) ![0, 256] S16x128.size inb_S16x2816_S16x128_0_256))) _ 1664 inb_S3x2816_S1x128_2_1664 inb_S3x2816_S1x128_1_1664 inb_S3x2816_S1x128_0_1664 (by omega) (fun r p q hq => loadedB i x1 x2 x3 x4 256 _ _ _ _ r p q (by omega) (by omega)) x _ _ (by omega) (by omega)
  case piece17 =>
    exact tile_of x1 x2 x3 x4 x5 (bentA i (View.ld x4 (Rect.unit (s := S16x1408) ![0, 256] S16x128.size inb_S16x1408_S16x128_0_256)) (View.ld x3 (Rect.unit (s := S256x1408) ![0, 256] S256x128.size inb_S256x1408_S256x128_0_256)) (View.ld x1 (Rect.unit (s := S256x2816) ![0, 256] S256x128.size inb_S256x2816_S256x128_0_256)) (View.ld x2 (Rect.unit (s := S16x2816) ![0, 256] S16x128.size inb_S16x2816_S16x128_0_256)) (View.ld x1 (Rect.unit (s := S256x2816) ![0, 1664] S256x128.size inb_S256x2816_S256x128_0_1664)) (View.ld x2 (Rect.unit (s := S16x2816) ![0, 1664] S16x128.size inb_S16x2816_S16x128_0_1664))) _ 256 inb_S3x2816_S1x128_2_256 inb_S3x2816_S1x128_1_256 inb_S3x2816_S1x128_0_256 (by omega) (fun r p q hq => loadedA i x1 x2 x3 x4 256 _ _ _ _ _ _ r p q (by omega) (by omega)) x _ _ (by omega) (by omega)
  case piece18 =>
    exact tile_of x1 x2 x3 x4 x5 (bentB i (View.ld x4 (Rect.unit (s := S16x1408) ![0, 128] S16x128.size inb_S16x1408_S16x128_0_128)) (View.ld x3 (Rect.unit (s := S256x1408) ![0, 128] S256x128.size inb_S256x1408_S256x128_0_128)) (View.ld x1 (Rect.unit (s := S256x2816) ![0, 128] S256x128.size inb_S256x2816_S256x128_0_128)) (View.ld x2 (Rect.unit (s := S16x2816) ![0, 128] S16x128.size inb_S16x2816_S16x128_0_128))) _ 1536 inb_S3x2816_S1x128_2_1536 inb_S3x2816_S1x128_1_1536 inb_S3x2816_S1x128_0_1536 (by omega) (fun r p q hq => loadedB i x1 x2 x3 x4 128 _ _ _ _ r p q (by omega) (by omega)) x _ _ (by omega) (by omega)
  case piece19 =>
    exact tile_of x1 x2 x3 x4 x5 (bentA i (View.ld x4 (Rect.unit (s := S16x1408) ![0, 128] S16x128.size inb_S16x1408_S16x128_0_128)) (View.ld x3 (Rect.unit (s := S256x1408) ![0, 128] S256x128.size inb_S256x1408_S256x128_0_128)) (View.ld x1 (Rect.unit (s := S256x2816) ![0, 128] S256x128.size inb_S256x2816_S256x128_0_128)) (View.ld x2 (Rect.unit (s := S16x2816) ![0, 128] S16x128.size inb_S16x2816_S16x128_0_128)) (View.ld x1 (Rect.unit (s := S256x2816) ![0, 1536] S256x128.size inb_S256x2816_S256x128_0_1536)) (View.ld x2 (Rect.unit (s := S16x2816) ![0, 1536] S16x128.size inb_S16x2816_S16x128_0_1536))) _ 128 inb_S3x2816_S1x128_2_128 inb_S3x2816_S1x128_1_128 inb_S3x2816_S1x128_0_128 (by omega) (fun r p q hq => loadedA i x1 x2 x3 x4 128 _ _ _ _ _ _ r p q (by omega) (by omega)) x _ _ (by omega) (by omega)
  case piece20 =>
    exact tile_of x1 x2 x3 x4 x5 (bentB i (View.ld x4 (Rect.unit (s := S16x1408) ![0, 0] S16x128.size inb_S16x1408_S16x128_0_0)) (View.ld x3 (Rect.unit (s := S256x1408) ![0, 0] S256x128.size inb_S256x1408_S256x128_0_0)) (View.ld x1 (Rect.unit (s := S256x2816) ![0, 0] S256x128.size inb_S256x2816_S256x128_0_0)) (View.ld x2 (Rect.unit (s := S16x2816) ![0, 0] S16x128.size inb_S16x2816_S16x128_0_0))) _ 1408 inb_S3x2816_S1x128_2_1408 inb_S3x2816_S1x128_1_1408 inb_S3x2816_S1x128_0_1408 (by omega) (fun r p q hq => loadedB i x1 x2 x3 x4 0 _ _ _ _ r p q (by omega) (by omega)) x _ _ (by omega) (by omega)
  case piece21 =>
    exact tile_of x1 x2 x3 x4 x5 (bentA i (View.ld x4 (Rect.unit (s := S16x1408) ![0, 0] S16x128.size inb_S16x1408_S16x128_0_0)) (View.ld x3 (Rect.unit (s := S256x1408) ![0, 0] S256x128.size inb_S256x1408_S256x128_0_0)) (View.ld x1 (Rect.unit (s := S256x2816) ![0, 0] S256x128.size inb_S256x2816_S256x128_0_0)) (View.ld x2 (Rect.unit (s := S16x2816) ![0, 0] S16x128.size inb_S16x2816_S16x128_0_0)) (View.ld x1 (Rect.unit (s := S256x2816) ![0, 1408] S256x128.size inb_S256x2816_S256x128_0_1408)) (View.ld x2 (Rect.unit (s := S16x2816) ![0, 1408] S16x128.size inb_S16x2816_S16x128_0_1408))) _ 0 inb_S3x2816_S1x128_2_0 inb_S3x2816_S1x128_1_0 inb_S3x2816_S1x128_0_0 (by omega) (fun r p q hq => loadedA i x1 x2 x3 x4 0 _ _ _ _ _ _ r p q (by omega) (by omega)) x _ _ (by omega) (by omega)

end Cert.Proof.Ffn

end
-- ==== Proof.Ffn.TilesC.lean ====
module

public import proofs.«01_k».proof.Proof.Gen.Kernel2Ideal.Frame
public import proofs.«01_k».proof.Proof.Ffn.Block
public import proofs.«01_k».proof.Proof.Ffn.Tile
public import Idealize.ShloMosaic.Lib.Pipeline.ValueKit

/-! The tile of the gradient of the projected channels that the body writes at the first column tile of a later row tile,
where the accumulator starts afresh. -/

@[expose] public section

set_option maxRecDepth 16384

noncomputable section

namespace Cert.Proof.Ffn

open Idealize.ShloMosaic Idealize.ShloMosaic.TcCoe Idealize.SL.Sem
open Cert.Kernel2Ideal Cert.Kernel2Ideal.Gen

theorem tile_C (c : Dev nD) (i : grid0.Coords) (arg2 : Memref sig .tc .vmem S256x2816 .bf16) (harg2 : arg2.IsWhole) (arg3 : Memref sig .tc .vmem S256x2816 .bf16) (harg3 : arg3.IsWhole) (arg4 : Memref sig .tc .vmem S16x2816 .bf16) (harg4 : arg4.IsWhole) (arg5 : Memref sig .tc .vmem S256x1408 .bf16) (harg5 : arg5.IsWhole) (arg6 : Memref sig .tc .vmem S16x1408 .bf16) (harg6 : arg6.IsWhole) (arg7 : Memref sig .tc .vmem S3x2816 .f32) (harg7 : arg7.IsWhole) (arg8 : Memref sig .tc .vmem S2x2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .f32) (harg11 : arg11.IsWhole) (arg12 : Memref sig .tc .vmem S2x3x2816 .f32) (harg12 : arg12.IsWhole) (arg13 : Memref sig .tc .vmem S256x1024 .f32) (harg13 : arg13.IsWhole) (hc0 : ¬cond0_0 i) (hc1 : cond0_1 i) (hc2 : ¬cond0_2 i) (hc3 : ¬cond0_3 i)
    (x0 : Vec Ideal S256x2816 .bf16) (x1 : Vec Ideal S256x2816 .bf16) (x2 : Vec Ideal S16x2816 .bf16) (x3 : Vec Ideal S256x1408 .bf16) (x4 : Vec Ideal S16x1408 .bf16) (x5 : Vec Ideal S3x2816 .f32) (x6 : Vec Ideal S2x2816x1024 .bf16) (x7 : Vec Ideal S256x1024 .f32) (xo10 : Vec Ideal S2x3x2816 .f32) (y : S256x2816.Idx) :
    out0_C_8 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo10 y = straight ((i 0 : Fin 32) : ℕ) x1 x2 x3 x4 x5 (y 0) (y 1) := by
  frame_out
  canon_tiles x h
  case piece0 =>
    exact tile_of x1 x2 x3 x4 x5 (bentB i (View.ld x4 (Rect.unit (s := S16x1408) ![0, 1280] S16x128.size inb_S16x1408_S16x128_0_1280)) (View.ld x3 (Rect.unit (s := S256x1408) ![0, 1280] S256x128.size inb_S256x1408_S256x128_0_1280)) (View.ld x1 (Rect.unit (s := S256x2816) ![0, 1280] S256x128.size inb_S256x2816_S256x128_0_1280)) (View.ld x2 (Rect.unit (s := S16x2816) ![0, 1280] S16x128.size inb_S16x2816_S16x128_0_1280))) _ 2688 inb_S3x2816_S1x128_2_2688 inb_S3x2816_S1x128_1_2688 inb_S3x2816_S1x128_0_2688 (by omega) (fun r p q hq => loadedB i x1 x2 x3 x4 1280 _ _ _ _ r p q (by omega) (by omega)) x _ _ (by omega) (by omega)
  case piece1 =>
    exact tile_of x1 x2 x3 x4 x5 (bentA i (View.ld x4 (Rect.unit (s := S16x1408) ![0, 1280] S16x128.size inb_S16x1408_S16x128_0_1280)) (View.ld x3 (Rect.unit (s := S256x1408) ![0, 1280] S256x128.size inb_S256x1408_S256x128_0_1280)) (View.ld x1 (Rect.unit (s := S256x2816) ![0, 1280] S256x128.size inb_S256x2816_S256x128_0_1280)) (View.ld x2 (Rect.unit (s := S16x2816) ![0, 1280] S16x128.size inb_S16x2816_S16x128_0_1280)) (View.ld x1 (Rect.unit (s := S256x2816) ![0, 2688] S256x128.size inb_S256x2816_S256x128_0_2688)) (View.ld x2 (Rect.unit (s := S16x2816) ![0, 2688] S16x128.size inb_S16x2816_S16x128_0_2688))) _ 1280 inb_S3x2816_S1x128_2_1280 inb_S3x2816_S1x128_1_1280 inb_S3x2816_S1x128_0_1280 (by omega) (fun r p q hq => loadedA i x1 x2 x3 x4 1280 _ _ _ _ _ _ r p q (by omega) (by omega)) x _ _ (by omega) (by omega)
  case piece2 =>
    exact tile_of x1 x2 x3 x4 x5 (bentB i (View.ld x4 (Rect.unit (s := S16x1408) ![0, 1152] S16x128.size inb_S16x1408_S16x128_0_1152)) (View.ld x3 (Rect.unit (s := S256x1408) ![0, 1152] S256x128.size inb_S256x1408_S256x128_0_1152)) (View.ld x1 (Rect.unit (s := S256x2816) ![0, 1152] S256x128.size inb_S256x2816_S256x128_0_1152)) (View.ld x2 (Rect.unit (s := S16x2816) ![0, 1152] S16x128.size inb_S16x2816_S16x128_0_1152))) _ 2560 inb_S3x2816_S1x128_2_2560 inb_S3x2816_S1x128_1_2560 inb_S3x2816_S1x128_0_2560 (by omega) (fun r p q hq => loadedB i x1 x2 x3 x4 1152 _ _ _ _ r p q (by omega) (by omega)) x _ _ (by omega) (by omega)
  case piece3 =>
    exact tile_of x1 x2 x3 x4 x5 (bentA i (View.ld x4 (Rect.unit (s := S16x1408) ![0, 1152] S16x128.size inb_S16x1408_S16x128_0_1152)) (View.ld x3 (Rect.unit (s := S256x1408) ![0, 1152] S256x128.size inb_S256x1408_S256x128_0_1152)) (View.ld x1 (Rect.unit (s := S256x2816) ![0, 1152] S256x128.size inb_S256x2816_S256x128_0_1152)) (View.ld x2 (Rect.unit (s := S16x2816) ![0, 1152] S16x128.size inb_S16x2816_S16x128_0_1152)) (View.ld x1 (Rect.unit (s := S256x2816) ![0, 2560] S256x128.size inb_S256x2816_S256x128_0_2560)) (View.ld x2 (Rect.unit (s := S16x2816) ![0, 2560] S16x128.size inb_S16x2816_S16x128_0_2560))) _ 1152 inb_S3x2816_S1x128_2_1152 inb_S3x2816_S1x128_1_1152 inb_S3x2816_S1x128_0_1152 (by omega) (fun r p q hq => loadedA i x1 x2 x3 x4 1152 _ _ _ _ _ _ r p q (by omega) (by omega)) x _ _ (by omega) (by omega)
  case piece4 =>
    exact tile_of x1 x2 x3 x4 x5 (bentB i (View.ld x4 (Rect.unit (s := S16x1408) ![0, 1024] S16x128.size inb_S16x1408_S16x128_0_1024)) (View.ld x3 (Rect.unit (s := S256x1408) ![0, 1024] S256x128.size inb_S256x1408_S256x128_0_1024)) (View.ld x1 (Rect.unit (s := S256x2816) ![0, 1024] S256x128.size inb_S256x2816_S256x128_0_1024)) (View.ld x2 (Rect.unit (s := S16x2816) ![0, 1024] S16x128.size inb_S16x2816_S16x128_0_1024))) _ 2432 inb_S3x2816_S1x128_2_2432 inb_S3x2816_S1x128_1_2432 inb_S3x2816_S1x128_0_2432 (by omega) (fun r p q hq => loadedB i x1 x2 x3 x4 1024 _ _ _ _ r p q (by omega) (by omega)) x _ _ (by omega) (by omega)
  case piece5 =>
    exact tile_of x1 x2 x3 x4 x5 (bentA i (View.ld x4 (Rect.unit (s := S16x1408) ![0, 1024] S16x128.size inb_S16x1408_S16x128_0_1024)) (View.ld x3 (Rect.unit (s := S256x1408) ![0, 1024] S256x128.size inb_S256x1408_S256x128_0_1024)) (View.ld x1 (Rect.unit (s := S256x2816) ![0, 1024] S256x128.size inb_S256x2816_S256x128_0_1024)) (View.ld x2 (Rect.unit (s := S16x2816) ![0, 1024] S16x128.size inb_S16x2816_S16x128_0_1024)) (View.ld x1 (Rect.unit (s := S256x2816) ![0, 2432] S256x128.size inb_S256x2816_S256x128_0_2432)) (View.ld x2 (Rect.unit (s := S16x2816) ![0, 2432] S16x128.size inb_S16x2816_S16x128_0_2432))) _ 1024 inb_S3x2816_S1x128_2_1024 inb_S3x2816_S1x128_1_1024 inb_S3x2816_S1x128_0_1024 (by omega) (fun r p q hq => loadedA i x1 x2 x3 x4 1024 _ _ _ _ _ _ r p q (by omega) (by omega)) x _ _ (by omega) (by omega)
  case piece6 =>
    exact tile_of x1 x2 x3 x4 x5 (bentB i (View.ld x4 (Rect.unit (s := S16x1408) ![0, 896] S16x128.size inb_S16x1408_S16x128_0_896)) (View.ld x3 (Rect.unit (s := S256x1408) ![0, 896] S256x128.size inb_S256x1408_S256x128_0_896)) (View.ld x1 (Rect.unit (s := S256x2816) ![0, 896] S256x128.size inb_S256x2816_S256x128_0_896)) (View.ld x2 (Rect.unit (s := S16x2816) ![0, 896] S16x128.size inb_S16x2816_S16x128_0_896))) _ 2304 inb_S3x2816_S1x128_2_2304 inb_S3x2816_S1x128_1_2304 inb_S3x2816_S1x128_0_2304 (by omega) (fun r p q hq => loadedB i x1 x2 x3 x4 896 _ _ _ _ r p q (by omega) (by omega)) x _ _ (by omega) (by omega)
  case piece7 =>
    exact tile_of x1 x2 x3 x4 x5 (bentA i (View.ld x4 (Rect.unit (s := S16x1408) ![0, 896] S16x128.size inb_S16x1408_S16x128_0_896)) (View.ld x3 (Rect.unit (s := S256x1408) ![0, 896] S256x128.size inb_S256x1408_S256x128_0_896)) (View.ld x1 (Rect.unit (s := S256x2816) ![0, 896] S256x128.size inb_S256x2816_S256x128_0_896)) (View.ld x2 (Rect.unit (s := S16x2816) ![0, 896] S16x128.size inb_S16x2816_S16x128_0_896)) (View.ld x1 (Rect.unit (s := S256x2816) ![0, 2304] S256x128.size inb_S256x2816_S256x128_0_2304)) (View.ld x2 (Rect.unit (s := S16x2816) ![0, 2304] S16x128.size inb_S16x2816_S16x128_0_2304))) _ 896 inb_S3x2816_S1x128_2_896 inb_S3x2816_S1x128_1_896 inb_S3x2816_S1x128_0_896 (by omega) (fun r p q hq => loadedA i x1 x2 x3 x4 896 _ _ _ _ _ _ r p q (by omega) (by omega)) x _ _ (by omega) (by omega)
  case piece8 =>
    exact tile_of x1 x2 x3 x4 x5 (bentB i (View.ld x4 (Rect.unit (s := S16x1408) ![0, 768] S16x128.size inb_S16x1408_S16x128_0_768)) (View.ld x3 (Rect.unit (s := S256x1408) ![0, 768] S256x128.size inb_S256x1408_S256x128_0_768)) (View.ld x1 (Rect.unit (s := S256x2816) ![0, 768] S256x128.size inb_S256x2816_S256x128_0_768)) (View.ld x2 (Rect.unit (s := S16x2816) ![0, 768] S16x128.size inb_S16x2816_S16x128_0_768))) _ 2176 inb_S3x2816_S1x128_2_2176 inb_S3x2816_S1x128_1_2176 inb_S3x2816_S1x128_0_2176 (by omega) (fun r p q hq => loadedB i x1 x2 x3 x4 768 _ _ _ _ r p q (by omega) (by omega)) x _ _ (by omega) (by omega)
  case piece9 =>
    exact tile_of x1 x2 x3 x4 x5 (bentA i (View.ld x4 (Rect.unit (s := S16x1408) ![0, 768] S16x128.size inb_S16x1408_S16x128_0_768)) (View.ld x3 (Rect.unit (s := S256x1408) ![0, 768] S256x128.size inb_S256x1408_S256x128_0_768)) (View.ld x1 (Rect.unit (s := S256x2816) ![0, 768] S256x128.size inb_S256x2816_S256x128_0_768)) (View.ld x2 (Rect.unit (s := S16x2816) ![0, 768] S16x128.size inb_S16x2816_S16x128_0_768)) (View.ld x1 (Rect.unit (s := S256x2816) ![0, 2176] S256x128.size inb_S256x2816_S256x128_0_2176)) (View.ld x2 (Rect.unit (s := S16x2816) ![0, 2176] S16x128.size inb_S16x2816_S16x128_0_2176))) _ 768 inb_S3x2816_S1x128_2_768 inb_S3x2816_S1x128_1_768 inb_S3x2816_S1x128_0_768 (by omega) (fun r p q hq => loadedA i x1 x2 x3 x4 768 _ _ _ _ _ _ r p q (by omega) (by omega)) x _ _ (by omega) (by omega)
  case piece10 =>
    exact tile_of x1 x2 x3 x4 x5 (bentB i (View.ld x4 (Rect.unit (s := S16x1408) ![0, 640] S16x128.size inb_S16x1408_S16x128_0_640)) (View.ld x3 (Rect.unit (s := S256x1408) ![0, 640] S256x128.size inb_S256x1408_S256x128_0_640)) (View.ld x1 (Rect.unit (s := S256x2816) ![0, 640] S256x128.size inb_S256x2816_S256x128_0_640)) (View.ld x2 (Rect.unit (s := S16x2816) ![0, 640] S16x128.size inb_S16x2816_S16x128_0_640))) _ 2048 inb_S3x2816_S1x128_2_2048 inb_S3x2816_S1x128_1_2048 inb_S3x2816_S1x128_0_2048 (by omega) (fun r p q hq => loadedB i x1 x2 x3 x4 640 _ _ _ _ r p q (by omega) (by omega)) x _ _ (by omega) (by omega)
  case piece11 =>
    exact tile_of x1 x2 x3 x4 x5 (bentA i (View.ld x4 (Rect.unit (s := S16x1408) ![0, 640] S16x128.size inb_S16x1408_S16x128_0_640)) (View.ld x3 (Rect.unit (s := S256x1408) ![0, 640] S256x128.size inb_S256x1408_S256x128_0_640)) (View.ld x1 (Rect.unit (s := S256x2816) ![0, 640] S256x128.size inb_S256x2816_S256x128_0_640)) (View.ld x2 (Rect.unit (s := S16x2816) ![0, 640] S16x128.size inb_S16x2816_S16x128_0_640)) (View.ld x1 (Rect.unit (s := S256x2816) ![0, 2048] S256x128.size inb_S256x2816_S256x128_0_2048)) (View.ld x2 (Rect.unit (s := S16x2816) ![0, 2048] S16x128.size inb_S16x2816_S16x128_0_2048))) _ 640 inb_S3x2816_S1x128_2_640 inb_S3x2816_S1x128_1_640 inb_S3x2816_S1x128_0_640 (by omega) (fun r p q hq => loadedA i x1 x2 x3 x4 640 _ _ _ _ _ _ r p q (by omega) (by omega)) x _ _ (by omega) (by omega)
  case piece12 =>
    exact tile_of x1 x2 x3 x4 x5 (bentB i (View.ld x4 (Rect.unit (s := S16x1408) ![0, 512] S16x128.size inb_S16x1408_S16x128_0_512)) (View.ld x3 (Rect.unit (s := S256x1408) ![0, 512] S256x128.size inb_S256x1408_S256x128_0_512)) (View.ld x1 (Rect.unit (s := S256x2816) ![0, 512] S256x128.size inb_S256x2816_S256x128_0_512)) (View.ld x2 (Rect.unit (s := S16x2816) ![0, 512] S16x128.size inb_S16x2816_S16x128_0_512))) _ 1920 inb_S3x2816_S1x128_2_1920 inb_S3x2816_S1x128_1_1920 inb_S3x2816_S1x128_0_1920 (by omega) (fun r p q hq => loadedB i x1 x2 x3 x4 512 _ _ _ _ r p q (by omega) (by omega)) x _ _ (by omega) (by omega)
  case piece13 =>
    exact tile_of x1 x2 x3 x4 x5 (bentA i (View.ld x4 (Rect.unit (s := S16x1408) ![0, 512] S16x128.size inb_S16x1408_S16x128_0_512)) (View.ld x3 (Rect.unit (s := S256x1408) ![0, 512] S256x128.size inb_S256x1408_S256x128_0_512)) (View.ld x1 (Rect.unit (s := S256x2816) ![0, 512] S256x128.size inb_S256x2816_S256x128_0_512)) (View.ld x2 (Rect.unit (s := S16x2816) ![0, 512] S16x128.size inb_S16x2816_S16x128_0_512)) (View.ld x1 (Rect.unit (s := S256x2816) ![0, 1920] S256x128.size inb_S256x2816_S256x128_0_1920)) (View.ld x2 (Rect.unit (s := S16x2816) ![0, 1920] S16x128.size inb_S16x2816_S16x128_0_1920))) _ 512 inb_S3x2816_S1x128_2_512 inb_S3x2816_S1x128_1_512 inb_S3x2816_S1x128_0_512 (by omega) (fun r p q hq => loadedA i x1 x2 x3 x4 512 _ _ _ _ _ _ r p q (by omega) (by omega)) x _ _ (by omega) (by omega)
  case piece14 =>
    exact tile_of x1 x2 x3 x4 x5 (bentB i (View.ld x4 (Rect.unit (s := S16x1408) ![0, 384] S16x128.size inb_S16x1408_S16x128_0_384)) (View.ld x3 (Rect.unit (s := S256x1408) ![0, 384] S256x128.size inb_S256x1408_S256x128_0_384)) (View.ld x1 (Rect.unit (s := S256x2816) ![0, 384] S256x128.size inb_S256x2816_S256x128_0_384)) (View.ld x2 (Rect.unit (s := S16x2816) ![0, 384] S16x128.size inb_S16x2816_S16x128_0_384))) _ 1792 inb_S3x2816_S1x128_2_1792 inb_S3x2816_S1x128_1_1792 inb_S3x2816_S1x128_0_1792 (by omega) (fun r p q hq => loadedB i x1 x2 x3 x4 384 _ _ _ _ r p q (by omega) (by omega)) x _ _ (by omega) (by omega)
  case piece15 =>
    exact tile_of x1 x2 x3 x4 x5 (bentA i (View.ld x4 (Rect.unit (s := S16x1408) ![0, 384] S16x128.size inb_S16x1408_S16x128_0_384)) (View.ld x3 (Rect.unit (s := S256x1408) ![0, 384] S256x128.size inb_S256x1408_S256x128_0_384)) (View.ld x1 (Rect.unit (s := S256x2816) ![0, 384] S256x128.size inb_S256x2816_S256x128_0_384)) (View.ld x2 (Rect.unit (s := S16x2816) ![0, 384] S16x128.size inb_S16x2816_S16x128_0_384)) (View.ld x1 (Rect.unit (s := S256x2816) ![0, 1792] S256x128.size inb_S256x2816_S256x128_0_1792)) (View.ld x2 (Rect.unit (s := S16x2816) ![0, 1792] S16x128.size inb_S16x2816_S16x128_0_1792))) _ 384 inb_S3x2816_S1x128_2_384 inb_S3x2816_S1x128_1_384 inb_S3x2816_S1x128_0_384 (by omega) (fun r p q hq => loadedA i x1 x2 x3 x4 384 _ _ _ _ _ _ r p q (by omega) (by omega)) x _ _ (by omega) (by omega)
  case piece16 =>
    exact tile_of x1 x2 x3 x4 x5 (bentB i (View.ld x4 (Rect.unit (s := S16x1408) ![0, 256] S16x128.size inb_S16x1408_S16x128_0_256)) (View.ld x3 (Rect.unit (s := S256x1408) ![0, 256] S256x128.size inb_S256x1408_S256x128_0_256)) (View.ld x1 (Rect.unit (s := S256x2816) ![0, 256] S256x128.size inb_S256x2816_S256x128_0_256)) (View.ld x2 (Rect.unit (s := S16x2816) ![0, 256] S16x128.size inb_S16x2816_S16x128_0_256))) _ 1664 inb_S3x2816_S1x128_2_1664 inb_S3x2816_S1x128_1_1664 inb_S3x2816_S1x128_0_1664 (by omega) (fun r p q hq => loadedB i x1 x2 x3 x4 256 _ _ _ _ r p q (by omega) (by omega)) x _ _ (by omega) (by omega)
  case piece17 =>
    exact tile_of x1 x2 x3 x4 x5 (bentA i (View.ld x4 (Rect.unit (s := S16x1408) ![0, 256] S16x128.size inb_S16x1408_S16x128_0_256)) (View.ld x3 (Rect.unit (s := S256x1408) ![0, 256] S256x128.size inb_S256x1408_S256x128_0_256)) (View.ld x1 (Rect.unit (s := S256x2816) ![0, 256] S256x128.size inb_S256x2816_S256x128_0_256)) (View.ld x2 (Rect.unit (s := S16x2816) ![0, 256] S16x128.size inb_S16x2816_S16x128_0_256)) (View.ld x1 (Rect.unit (s := S256x2816) ![0, 1664] S256x128.size inb_S256x2816_S256x128_0_1664)) (View.ld x2 (Rect.unit (s := S16x2816) ![0, 1664] S16x128.size inb_S16x2816_S16x128_0_1664))) _ 256 inb_S3x2816_S1x128_2_256 inb_S3x2816_S1x128_1_256 inb_S3x2816_S1x128_0_256 (by omega) (fun r p q hq => loadedA i x1 x2 x3 x4 256 _ _ _ _ _ _ r p q (by omega) (by omega)) x _ _ (by omega) (by omega)
  case piece18 =>
    exact tile_of x1 x2 x3 x4 x5 (bentB i (View.ld x4 (Rect.unit (s := S16x1408) ![0, 128] S16x128.size inb_S16x1408_S16x128_0_128)) (View.ld x3 (Rect.unit (s := S256x1408) ![0, 128] S256x128.size inb_S256x1408_S256x128_0_128)) (View.ld x1 (Rect.unit (s := S256x2816) ![0, 128] S256x128.size inb_S256x2816_S256x128_0_128)) (View.ld x2 (Rect.unit (s := S16x2816) ![0, 128] S16x128.size inb_S16x2816_S16x128_0_128))) _ 1536 inb_S3x2816_S1x128_2_1536 inb_S3x2816_S1x128_1_1536 inb_S3x2816_S1x128_0_1536 (by omega) (fun r p q hq => loadedB i x1 x2 x3 x4 128 _ _ _ _ r p q (by omega) (by omega)) x _ _ (by omega) (by omega)
  case piece19 =>
    exact tile_of x1 x2 x3 x4 x5 (bentA i (View.ld x4 (Rect.unit (s := S16x1408) ![0, 128] S16x128.size inb_S16x1408_S16x128_0_128)) (View.ld x3 (Rect.unit (s := S256x1408) ![0, 128] S256x128.size inb_S256x1408_S256x128_0_128)) (View.ld x1 (Rect.unit (s := S256x2816) ![0, 128] S256x128.size inb_S256x2816_S256x128_0_128)) (View.ld x2 (Rect.unit (s := S16x2816) ![0, 128] S16x128.size inb_S16x2816_S16x128_0_128)) (View.ld x1 (Rect.unit (s := S256x2816) ![0, 1536] S256x128.size inb_S256x2816_S256x128_0_1536)) (View.ld x2 (Rect.unit (s := S16x2816) ![0, 1536] S16x128.size inb_S16x2816_S16x128_0_1536))) _ 128 inb_S3x2816_S1x128_2_128 inb_S3x2816_S1x128_1_128 inb_S3x2816_S1x128_0_128 (by omega) (fun r p q hq => loadedA i x1 x2 x3 x4 128 _ _ _ _ _ _ r p q (by omega) (by omega)) x _ _ (by omega) (by omega)
  case piece20 =>
    exact tile_of x1 x2 x3 x4 x5 (bentB i (View.ld x4 (Rect.unit (s := S16x1408) ![0, 0] S16x128.size inb_S16x1408_S16x128_0_0)) (View.ld x3 (Rect.unit (s := S256x1408) ![0, 0] S256x128.size inb_S256x1408_S256x128_0_0)) (View.ld x1 (Rect.unit (s := S256x2816) ![0, 0] S256x128.size inb_S256x2816_S256x128_0_0)) (View.ld x2 (Rect.unit (s := S16x2816) ![0, 0] S16x128.size inb_S16x2816_S16x128_0_0))) _ 1408 inb_S3x2816_S1x128_2_1408 inb_S3x2816_S1x128_1_1408 inb_S3x2816_S1x128_0_1408 (by omega) (fun r p q hq => loadedB i x1 x2 x3 x4 0 _ _ _ _ r p q (by omega) (by omega)) x _ _ (by omega) (by omega)
  case piece21 =>
    exact tile_of x1 x2 x3 x4 x5 (bentA i (View.ld x4 (Rect.unit (s := S16x1408) ![0, 0] S16x128.size inb_S16x1408_S16x128_0_0)) (View.ld x3 (Rect.unit (s := S256x1408) ![0, 0] S256x128.size inb_S256x1408_S256x128_0_0)) (View.ld x1 (Rect.unit (s := S256x2816) ![0, 0] S256x128.size inb_S256x2816_S256x128_0_0)) (View.ld x2 (Rect.unit (s := S16x2816) ![0, 0] S16x128.size inb_S16x2816_S16x128_0_0)) (View.ld x1 (Rect.unit (s := S256x2816) ![0, 1408] S256x128.size inb_S256x2816_S256x128_0_1408)) (View.ld x2 (Rect.unit (s := S16x2816) ![0, 1408] S16x128.size inb_S16x2816_S16x128_0_1408))) _ 0 inb_S3x2816_S1x128_2_0 inb_S3x2816_S1x128_1_0 inb_S3x2816_S1x128_0_0 (by omega) (fun r p q hq => loadedA i x1 x2 x3 x4 0 _ _ _ _ _ _ r p q (by omega) (by omega)) x _ _ (by omega) (by omega)

end Cert.Proof.Ffn

end
-- ==== Proof.Ffn.Out8.lean ====
module

public import proofs.«01_k».proof.Proof.Gen.Kernel2Ideal.Frame
public import proofs.«01_k».proof.Proof.Ffn.Points
public import proofs.«01_k».proof.Proof.Ffn.TilesA
public import proofs.«01_k».proof.Proof.Ffn.TilesB
public import proofs.«01_k».proof.Proof.Ffn.TilesC
public import Idealize.ShloMosaic.Lib.Pipeline.ValueKit

/-! # The cotangent of the projected channels -/

@[expose] public section

set_option maxRecDepth 16384

noncomputable section

namespace Cert.Proof.Ffn

open Idealize.ShloMosaic Idealize.ShloMosaic.TcCoe Idealize.SL.Sem
open Cert.Kernel2Ideal Cert.Kernel2Ideal.Gen

variable (m : (ℓ : Loc nD τ sig) → Buf (Elt Ideal) ℓ)

theorem tile (c : Dev nD) (t : Fin cfg0.N) (y : S256x2816.Idx) : (outsAt0 m c t.val t.isLt).1 y
    = straight ((grid0.coords t 0 : Fin 32) : ℕ) (iblk m c 1 t) (iblk m c 2 t) (iblk m c 3 t) (iblk m c 4 t) (iblk m c 5 t) (y 0) (y 1) := by
  by_cases h : t.val % 64 = 0
  · rw [outsAt0_A m c t h (by omega) (by omega) (by omega)]
    dsimp only
    exact tile_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) _ _ _ _ (iblk m c 0 t) (iblk m c 1 t) (iblk m c 2 t) (iblk m c 3 t) (iblk m c 4 t) (iblk m c 5 t) (iblk m c 6 t) (iblk m c 7 t) y
  · by_cases g : t.val % 2 = 1
    · rw [outsAt0_B m c t h (by omega) g g]
      dsimp only
      exact tile_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) _ _ _ _ (iblk m c 0 t) (iblk m c 1 t) (iblk m c 2 t) (iblk m c 3 t) (iblk m c 4 t) (iblk m c 5 t) (iblk m c 6 t) (iblk m c 7 t) _ _ y
    · rw [outsAt0_C m c t h (by omega) g g]
      dsimp only
      exact tile_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) _ _ _ _ (iblk m c 0 t) (iblk m c 1 t) (iblk m c 2 t) (iblk m c 3 t) (iblk m c 4 t) (iblk m c 5 t) (iblk m c 6 t) (iblk m c 7 t) _ y

theorem value8 (c : Dev nD) (t : Fin cfg0.N) (y : S256x2816.Idx) (j : Shape.Idx ⟨2, ![8192, 5632]⟩) (h0 : (j 0 : ℕ) = t.val / 2 * 256 + (y 0 : ℕ))
    (h1 : (j 1 : ℕ) = t.val % 2 * 2816 + (y 1 : ℕ)) : (outsAt0 m c t.val t.isLt).1 y = gradU (argX m c) (argW m c) (argV m c) (argH m c) j :=
  (tile m c t y).trans (point_straight m c t (y 0) (y 1) (j 0) (j 1) h0 h1)

theorem final8 (c : Dev nD) : (dats m 0 c).arrAt 8 (cfgs 0).N = gradU (argX m c) (argW m c) (argV m c) (argH m c) := by
  refine (dats m 0 c).arrAt_eq_of_covers 8 _ (by decide +kernel) fun t hf y => ?_
  blk_simp
  rw [after0_8]
  refine value8 m c t y _ ?_ ?_ <;> (blk_simp [idx t] <;> try omega)

end Cert.Proof.Ffn

end
-- ==== Proof.Ffn.AccA.lean ====
module

public import proofs.«01_k».proof.Proof.Gen.Kernel2Ideal.Frame
public import proofs.«01_k».proof.Proof.Ffn.Pieces
public import Idealize.ShloMosaic.Lib.Pipeline.ValueKit

/-! What the body leaves of the gradient of the tokens at the very first grid point, where the accumulator and the gradient of
the taps start. -/

@[expose] public section

set_option maxRecDepth 16384

noncomputable section

namespace Cert.Proof.Ffn

open Idealize.ShloMosaic Idealize.ShloMosaic.TcCoe Idealize.SL.Sem
open Cert.Kernel2Ideal Cert.Kernel2Ideal.Gen

theorem acc_A (c : Dev nD) (i : grid0.Coords) (arg2 : Memref sig .tc .vmem S256x2816 .bf16) (harg2 : arg2.IsWhole) (arg3 : Memref sig .tc .vmem S256x2816 .bf16) (harg3 : arg3.IsWhole) (arg4 : Memref sig .tc .vmem S16x2816 .bf16) (harg4 : arg4.IsWhole) (arg5 : Memref sig .tc .vmem S256x1408 .bf16) (harg5 : arg5.IsWhole) (arg6 : Memref sig .tc .vmem S16x1408 .bf16) (harg6 : arg6.IsWhole) (arg7 : Memref sig .tc .vmem S3x2816 .f32) (harg7 : arg7.IsWhole) (arg8 : Memref sig .tc .vmem S2x2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .f32) (harg11 : arg11.IsWhole) (arg12 : Memref sig .tc .vmem S2x3x2816 .f32) (harg12 : arg12.IsWhole) (arg13 : Memref sig .tc .vmem S256x1024 .f32) (harg13 : arg13.IsWhole) (hc0 : cond0_0 i) (hc1 : cond0_1 i) (hc2 : ¬cond0_2 i) (hc3 : ¬cond0_3 i)
    (x0 : Vec Ideal S256x2816 .bf16) (x1 : Vec Ideal S256x2816 .bf16) (x2 : Vec Ideal S16x2816 .bf16) (x3 : Vec Ideal S256x1408 .bf16) (x4 : Vec Ideal S16x1408 .bf16) (x5 : Vec Ideal S3x2816 .f32) (x6 : Vec Ideal S2x2816x1024 .bf16) (x7 : Vec Ideal S256x1024 .f32) (y : S256x1024.Idx) :
    sout0_A_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 y = ∑ q : Fin 2816, block i x1 x2 x3 x4 x5 (ix2 (y 0) q) * x6 (ix3 (i 1) q (y 1)) := by
  frame_out
  refine (stored_as _ y).trans ?_
  refine part_of (block i x1 x2 x3 x4 x5) (fun q b => x6 (ix3 (i 1) q b)) y _ _ _ _ _ _ _ _ _ _ _ _ ?_ ?_ ?_ ?_ ?_ ?_ ?_ ?_ ?_ ?_ ?_ ?_
  · exact read_512 _ (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))) 0 (by omega) _ inb_S256x2816_S256x128_0_0 inb_S256x2816_S256x128_0_128 inb_S256x2816_S256x128_0_256 inb_S256x2816_S256x128_0_384 ⟨_, List.mem_of_getElem? (i := 7) rfl⟩ ⟨_, List.mem_of_getElem? (i := 5) rfl⟩ ⟨_, List.mem_of_getElem? (i := 3) rfl⟩ ⟨_, List.mem_of_getElem? (i := 1) rfl⟩
  · exact read_512 _ (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))) 1408 (by omega) _ inb_S256x2816_S256x128_0_1408 inb_S256x2816_S256x128_0_1536 inb_S256x2816_S256x128_0_1664 inb_S256x2816_S256x128_0_1792 ⟨_, List.mem_of_getElem? (i := 6) rfl⟩ ⟨_, List.mem_of_getElem? (i := 4) rfl⟩ ⟨_, List.mem_of_getElem? (i := 2) rfl⟩ ⟨_, List.mem_of_getElem? (i := 0) rfl⟩
  · exact read_512 _ (good_cons (piece_6 i x1 x2 x3 x4 x5) (good_cons (piece_7 i x1 x2 x3 x4 x5) (good_cons (piece_8 i x1 x2 x3 x4 x5) (good_cons (piece_9 i x1 x2 x3 x4 x5) (good_cons (piece_10 i x1 x2 x3 x4 x5) (good_cons (piece_11 i x1 x2 x3 x4 x5) (good_cons (piece_12 i x1 x2 x3 x4 x5) (good_cons (piece_13 i x1 x2 x3 x4 x5) (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))))))))))) 512 (by omega) _ inb_S256x2816_S256x128_0_512 inb_S256x2816_S256x128_0_640 inb_S256x2816_S256x128_0_768 inb_S256x2816_S256x128_0_896 ⟨_, List.mem_of_getElem? (i := 7) rfl⟩ ⟨_, List.mem_of_getElem? (i := 5) rfl⟩ ⟨_, List.mem_of_getElem? (i := 3) rfl⟩ ⟨_, List.mem_of_getElem? (i := 1) rfl⟩
  · exact read_512 _ (good_cons (piece_6 i x1 x2 x3 x4 x5) (good_cons (piece_7 i x1 x2 x3 x4 x5) (good_cons (piece_8 i x1 x2 x3 x4 x5) (good_cons (piece_9 i x1 x2 x3 x4 x5) (good_cons (piece_10 i x1 x2 x3 x4 x5) (good_cons (piece_11 i x1 x2 x3 x4 x5) (good_cons (piece_12 i x1 x2 x3 x4 x5) (good_cons (piece_13 i x1 x2 x3 x4 x5) (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))))))))))) 1920 (by omega) _ inb_S256x2816_S256x128_0_1920 inb_S256x2816_S256x128_0_2048 inb_S256x2816_S256x128_0_2176 inb_S256x2816_S256x128_0_2304 ⟨_, List.mem_of_getElem? (i := 6) rfl⟩ ⟨_, List.mem_of_getElem? (i := 4) rfl⟩ ⟨_, List.mem_of_getElem? (i := 2) rfl⟩ ⟨_, List.mem_of_getElem? (i := 0) rfl⟩
  · exact read_384 _ (good_cons (piece_0 i x1 x2 x3 x4 x5) (good_cons (piece_1 i x1 x2 x3 x4 x5) (good_cons (piece_2 i x1 x2 x3 x4 x5) (good_cons (piece_3 i x1 x2 x3 x4 x5) (good_cons (piece_4 i x1 x2 x3 x4 x5) (good_cons (piece_5 i x1 x2 x3 x4 x5) (good_cons (piece_6 i x1 x2 x3 x4 x5) (good_cons (piece_7 i x1 x2 x3 x4 x5) (good_cons (piece_8 i x1 x2 x3 x4 x5) (good_cons (piece_9 i x1 x2 x3 x4 x5) (good_cons (piece_10 i x1 x2 x3 x4 x5) (good_cons (piece_11 i x1 x2 x3 x4 x5) (good_cons (piece_12 i x1 x2 x3 x4 x5) (good_cons (piece_13 i x1 x2 x3 x4 x5) (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))))))))))))))))) 1024 (by omega) _ inb_S256x2816_S256x128_0_1024 inb_S256x2816_S256x128_0_1152 inb_S256x2816_S256x128_0_1280 ⟨_, List.mem_of_getElem? (i := 5) rfl⟩ ⟨_, List.mem_of_getElem? (i := 3) rfl⟩ ⟨_, List.mem_of_getElem? (i := 1) rfl⟩
  · exact read_384 _ (good_cons (piece_0 i x1 x2 x3 x4 x5) (good_cons (piece_1 i x1 x2 x3 x4 x5) (good_cons (piece_2 i x1 x2 x3 x4 x5) (good_cons (piece_3 i x1 x2 x3 x4 x5) (good_cons (piece_4 i x1 x2 x3 x4 x5) (good_cons (piece_5 i x1 x2 x3 x4 x5) (good_cons (piece_6 i x1 x2 x3 x4 x5) (good_cons (piece_7 i x1 x2 x3 x4 x5) (good_cons (piece_8 i x1 x2 x3 x4 x5) (good_cons (piece_9 i x1 x2 x3 x4 x5) (good_cons (piece_10 i x1 x2 x3 x4 x5) (good_cons (piece_11 i x1 x2 x3 x4 x5) (good_cons (piece_12 i x1 x2 x3 x4 x5) (good_cons (piece_13 i x1 x2 x3 x4 x5) (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))))))))))))))))) 2432 (by omega) _ inb_S256x2816_S256x128_0_2432 inb_S256x2816_S256x128_0_2560 inb_S256x2816_S256x128_0_2688 ⟨_, List.mem_of_getElem? (i := 4) rfl⟩ ⟨_, List.mem_of_getElem? (i := 2) rfl⟩ ⟨_, List.mem_of_getElem? (i := 0) rfl⟩
  · exact weights_512 x6 (i 1) 0 _ (k0_off1_eq i) _
  · exact weights_512 x6 (i 1) 1408 _ (k0_off2_eq i) _
  · exact weights_512 x6 (i 1) 512 _ (k0_off3_eq i) _
  · exact weights_512 x6 (i 1) 1920 _ (k0_off4_eq i) _
  · exact weights_384 x6 (i 1) 1024 _ (k0_off5_eq i) _
  · exact weights_384 x6 (i 1) 2432 _ (k0_off6_eq i) _

end Cert.Proof.Ffn

end
-- ==== Proof.Ffn.AccB.lean ====
module

public import proofs.«01_k».proof.Proof.Gen.Kernel2Ideal.Frame
public import proofs.«01_k».proof.Proof.Ffn.Pieces
public import Idealize.ShloMosaic.Lib.Pipeline.ValueKit

/-! What the body writes as the gradient of the tokens at the second column tile, where the accumulator is finished and the
residual is added. -/

@[expose] public section

set_option maxRecDepth 16384

noncomputable section

namespace Cert.Proof.Ffn

open Idealize.ShloMosaic Idealize.ShloMosaic.TcCoe Idealize.SL.Sem
open Cert.Kernel2Ideal Cert.Kernel2Ideal.Gen

theorem finished (p s z : Vec Ideal S256x1024 .f32) (y : S256x1024.Idx) (S P Z : EReal) (hs : s y = S) (hz : z y = Z) (hp : p y = P) :
    k0_pay3 (k0_pay2 p s) z y = S + P + Ideal.ofBits .f32 0x3FD744FD#32 * Z := by
  subst hs hz hp
  pointwise [k0_pay3, k0_pay2]

theorem dx_B (c : Dev nD) (i : grid0.Coords) (arg2 : Memref sig .tc .vmem S256x2816 .bf16) (harg2 : arg2.IsWhole) (arg3 : Memref sig .tc .vmem S256x2816 .bf16) (harg3 : arg3.IsWhole) (arg4 : Memref sig .tc .vmem S16x2816 .bf16) (harg4 : arg4.IsWhole) (arg5 : Memref sig .tc .vmem S256x1408 .bf16) (harg5 : arg5.IsWhole) (arg6 : Memref sig .tc .vmem S16x1408 .bf16) (harg6 : arg6.IsWhole) (arg7 : Memref sig .tc .vmem S3x2816 .f32) (harg7 : arg7.IsWhole) (arg8 : Memref sig .tc .vmem S2x2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .f32) (harg11 : arg11.IsWhole) (arg12 : Memref sig .tc .vmem S2x3x2816 .f32) (harg12 : arg12.IsWhole) (arg13 : Memref sig .tc .vmem S256x1024 .f32) (harg13 : arg13.IsWhole) (hc0 : ¬cond0_0 i) (hc1 : ¬cond0_1 i) (hc2 : cond0_2 i) (hc3 : cond0_3 i)
    (x0 : Vec Ideal S256x2816 .bf16) (x1 : Vec Ideal S256x2816 .bf16) (x2 : Vec Ideal S16x2816 .bf16) (x3 : Vec Ideal S256x1408 .bf16) (x4 : Vec Ideal S16x1408 .bf16) (x5 : Vec Ideal S3x2816 .f32) (x6 : Vec Ideal S2x2816x1024 .bf16) (x7 : Vec Ideal S256x1024 .f32) (xo10 : Vec Ideal S2x3x2816 .f32) (xs0 : Vec Ideal S256x1024 .f32) (y : S256x1024.Idx) :
    out0_B_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo10 xs0 y = xs0 y + (∑ q : Fin 2816, block i x1 x2 x3 x4 x5 (ix2 (y 0) q) * x6 (ix3 (i 1) q (y 1)))
      + Ideal.ofBits .f32 0x3FD744FD#32 * x7 y := by
  frame_out
  refine finished _ _ _ y _ _ _ ?_ ?_ ?_
  · rfl
  · rfl
  refine part_of (block i x1 x2 x3 x4 x5) (fun q b => x6 (ix3 (i 1) q b)) y _ _ _ _ _ _ _ _ _ _ _ _ ?_ ?_ ?_ ?_ ?_ ?_ ?_ ?_ ?_ ?_ ?_ ?_
  · exact read_512 _ (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))) 0 (by omega) _ inb_S256x2816_S256x128_0_0 inb_S256x2816_S256x128_0_128 inb_S256x2816_S256x128_0_256 inb_S256x2816_S256x128_0_384 ⟨_, List.mem_of_getElem? (i := 7) rfl⟩ ⟨_, List.mem_of_getElem? (i := 5) rfl⟩ ⟨_, List.mem_of_getElem? (i := 3) rfl⟩ ⟨_, List.mem_of_getElem? (i := 1) rfl⟩
  · exact read_512 _ (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))) 1408 (by omega) _ inb_S256x2816_S256x128_0_1408 inb_S256x2816_S256x128_0_1536 inb_S256x2816_S256x128_0_1664 inb_S256x2816_S256x128_0_1792 ⟨_, List.mem_of_getElem? (i := 6) rfl⟩ ⟨_, List.mem_of_getElem? (i := 4) rfl⟩ ⟨_, List.mem_of_getElem? (i := 2) rfl⟩ ⟨_, List.mem_of_getElem? (i := 0) rfl⟩
  · exact read_512 _ (good_cons (piece_6 i x1 x2 x3 x4 x5) (good_cons (piece_7 i x1 x2 x3 x4 x5) (good_cons (piece_8 i x1 x2 x3 x4 x5) (good_cons (piece_9 i x1 x2 x3 x4 x5) (good_cons (piece_10 i x1 x2 x3 x4 x5) (good_cons (piece_11 i x1 x2 x3 x4 x5) (good_cons (piece_12 i x1 x2 x3 x4 x5) (good_cons (piece_13 i x1 x2 x3 x4 x5) (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))))))))))) 512 (by omega) _ inb_S256x2816_S256x128_0_512 inb_S256x2816_S256x128_0_640 inb_S256x2816_S256x128_0_768 inb_S256x2816_S256x128_0_896 ⟨_, List.mem_of_getElem? (i := 7) rfl⟩ ⟨_, List.mem_of_getElem? (i := 5) rfl⟩ ⟨_, List.mem_of_getElem? (i := 3) rfl⟩ ⟨_, List.mem_of_getElem? (i := 1) rfl⟩
  · exact read_512 _ (good_cons (piece_6 i x1 x2 x3 x4 x5) (good_cons (piece_7 i x1 x2 x3 x4 x5) (good_cons (piece_8 i x1 x2 x3 x4 x5) (good_cons (piece_9 i x1 x2 x3 x4 x5) (good_cons (piece_10 i x1 x2 x3 x4 x5) (good_cons (piece_11 i x1 x2 x3 x4 x5) (good_cons (piece_12 i x1 x2 x3 x4 x5) (good_cons (piece_13 i x1 x2 x3 x4 x5) (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))))))))))) 1920 (by omega) _ inb_S256x2816_S256x128_0_1920 inb_S256x2816_S256x128_0_2048 inb_S256x2816_S256x128_0_2176 inb_S256x2816_S256x128_0_2304 ⟨_, List.mem_of_getElem? (i := 6) rfl⟩ ⟨_, List.mem_of_getElem? (i := 4) rfl⟩ ⟨_, List.mem_of_getElem? (i := 2) rfl⟩ ⟨_, List.mem_of_getElem? (i := 0) rfl⟩
  · exact read_384 _ (good_cons (piece_0 i x1 x2 x3 x4 x5) (good_cons (piece_1 i x1 x2 x3 x4 x5) (good_cons (piece_2 i x1 x2 x3 x4 x5) (good_cons (piece_3 i x1 x2 x3 x4 x5) (good_cons (piece_4 i x1 x2 x3 x4 x5) (good_cons (piece_5 i x1 x2 x3 x4 x5) (good_cons (piece_6 i x1 x2 x3 x4 x5) (good_cons (piece_7 i x1 x2 x3 x4 x5) (good_cons (piece_8 i x1 x2 x3 x4 x5) (good_cons (piece_9 i x1 x2 x3 x4 x5) (good_cons (piece_10 i x1 x2 x3 x4 x5) (good_cons (piece_11 i x1 x2 x3 x4 x5) (good_cons (piece_12 i x1 x2 x3 x4 x5) (good_cons (piece_13 i x1 x2 x3 x4 x5) (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))))))))))))))))) 1024 (by omega) _ inb_S256x2816_S256x128_0_1024 inb_S256x2816_S256x128_0_1152 inb_S256x2816_S256x128_0_1280 ⟨_, List.mem_of_getElem? (i := 5) rfl⟩ ⟨_, List.mem_of_getElem? (i := 3) rfl⟩ ⟨_, List.mem_of_getElem? (i := 1) rfl⟩
  · exact read_384 _ (good_cons (piece_0 i x1 x2 x3 x4 x5) (good_cons (piece_1 i x1 x2 x3 x4 x5) (good_cons (piece_2 i x1 x2 x3 x4 x5) (good_cons (piece_3 i x1 x2 x3 x4 x5) (good_cons (piece_4 i x1 x2 x3 x4 x5) (good_cons (piece_5 i x1 x2 x3 x4 x5) (good_cons (piece_6 i x1 x2 x3 x4 x5) (good_cons (piece_7 i x1 x2 x3 x4 x5) (good_cons (piece_8 i x1 x2 x3 x4 x5) (good_cons (piece_9 i x1 x2 x3 x4 x5) (good_cons (piece_10 i x1 x2 x3 x4 x5) (good_cons (piece_11 i x1 x2 x3 x4 x5) (good_cons (piece_12 i x1 x2 x3 x4 x5) (good_cons (piece_13 i x1 x2 x3 x4 x5) (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))))))))))))))))) 2432 (by omega) _ inb_S256x2816_S256x128_0_2432 inb_S256x2816_S256x128_0_2560 inb_S256x2816_S256x128_0_2688 ⟨_, List.mem_of_getElem? (i := 4) rfl⟩ ⟨_, List.mem_of_getElem? (i := 2) rfl⟩ ⟨_, List.mem_of_getElem? (i := 0) rfl⟩
  · exact weights_512 x6 (i 1) 0 _ (k0_off1_eq i) _
  · exact weights_512 x6 (i 1) 1408 _ (k0_off2_eq i) _
  · exact weights_512 x6 (i 1) 512 _ (k0_off3_eq i) _
  · exact weights_512 x6 (i 1) 1920 _ (k0_off4_eq i) _
  · exact weights_384 x6 (i 1) 1024 _ (k0_off5_eq i) _
  · exact weights_384 x6 (i 1) 2432 _ (k0_off6_eq i) _

end Cert.Proof.Ffn

end
-- ==== Proof.Ffn.AccC.lean ====
module

public import proofs.«01_k».proof.Proof.Gen.Kernel2Ideal.Frame
public import proofs.«01_k».proof.Proof.Ffn.Pieces
public import Idealize.ShloMosaic.Lib.Pipeline.ValueKit

/-! What the body leaves of the gradient of the tokens at the first column tile of a later row tile, where the accumulator
starts afresh. -/

@[expose] public section

set_option maxRecDepth 16384

noncomputable section

namespace Cert.Proof.Ffn

open Idealize.ShloMosaic Idealize.ShloMosaic.TcCoe Idealize.SL.Sem
open Cert.Kernel2Ideal Cert.Kernel2Ideal.Gen

theorem acc_C (c : Dev nD) (i : grid0.Coords) (arg2 : Memref sig .tc .vmem S256x2816 .bf16) (harg2 : arg2.IsWhole) (arg3 : Memref sig .tc .vmem S256x2816 .bf16) (harg3 : arg3.IsWhole) (arg4 : Memref sig .tc .vmem S16x2816 .bf16) (harg4 : arg4.IsWhole) (arg5 : Memref sig .tc .vmem S256x1408 .bf16) (harg5 : arg5.IsWhole) (arg6 : Memref sig .tc .vmem S16x1408 .bf16) (harg6 : arg6.IsWhole) (arg7 : Memref sig .tc .vmem S3x2816 .f32) (harg7 : arg7.IsWhole) (arg8 : Memref sig .tc .vmem S2x2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .f32) (harg11 : arg11.IsWhole) (arg12 : Memref sig .tc .vmem S2x3x2816 .f32) (harg12 : arg12.IsWhole) (arg13 : Memref sig .tc .vmem S256x1024 .f32) (harg13 : arg13.IsWhole) (hc0 : ¬cond0_0 i) (hc1 : cond0_1 i) (hc2 : ¬cond0_2 i) (hc3 : ¬cond0_3 i)
    (x0 : Vec Ideal S256x2816 .bf16) (x1 : Vec Ideal S256x2816 .bf16) (x2 : Vec Ideal S16x2816 .bf16) (x3 : Vec Ideal S256x1408 .bf16) (x4 : Vec Ideal S16x1408 .bf16) (x5 : Vec Ideal S3x2816 .f32) (x6 : Vec Ideal S2x2816x1024 .bf16) (x7 : Vec Ideal S256x1024 .f32) (xo10 : Vec Ideal S2x3x2816 .f32) (y : S256x1024.Idx) :
    sout0_C_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo10 y = ∑ q : Fin 2816, block i x1 x2 x3 x4 x5 (ix2 (y 0) q) * x6 (ix3 (i 1) q (y 1)) := by
  frame_out
  refine (stored_as _ y).trans ?_
  refine part_of (block i x1 x2 x3 x4 x5) (fun q b => x6 (ix3 (i 1) q b)) y _ _ _ _ _ _ _ _ _ _ _ _ ?_ ?_ ?_ ?_ ?_ ?_ ?_ ?_ ?_ ?_ ?_ ?_
  · exact read_512 _ (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))) 0 (by omega) _ inb_S256x2816_S256x128_0_0 inb_S256x2816_S256x128_0_128 inb_S256x2816_S256x128_0_256 inb_S256x2816_S256x128_0_384 ⟨_, List.mem_of_getElem? (i := 7) rfl⟩ ⟨_, List.mem_of_getElem? (i := 5) rfl⟩ ⟨_, List.mem_of_getElem? (i := 3) rfl⟩ ⟨_, List.mem_of_getElem? (i := 1) rfl⟩
  · exact read_512 _ (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))) 1408 (by omega) _ inb_S256x2816_S256x128_0_1408 inb_S256x2816_S256x128_0_1536 inb_S256x2816_S256x128_0_1664 inb_S256x2816_S256x128_0_1792 ⟨_, List.mem_of_getElem? (i := 6) rfl⟩ ⟨_, List.mem_of_getElem? (i := 4) rfl⟩ ⟨_, List.mem_of_getElem? (i := 2) rfl⟩ ⟨_, List.mem_of_getElem? (i := 0) rfl⟩
  · exact read_512 _ (good_cons (piece_6 i x1 x2 x3 x4 x5) (good_cons (piece_7 i x1 x2 x3 x4 x5) (good_cons (piece_8 i x1 x2 x3 x4 x5) (good_cons (piece_9 i x1 x2 x3 x4 x5) (good_cons (piece_10 i x1 x2 x3 x4 x5) (good_cons (piece_11 i x1 x2 x3 x4 x5) (good_cons (piece_12 i x1 x2 x3 x4 x5) (good_cons (piece_13 i x1 x2 x3 x4 x5) (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))))))))))) 512 (by omega) _ inb_S256x2816_S256x128_0_512 inb_S256x2816_S256x128_0_640 inb_S256x2816_S256x128_0_768 inb_S256x2816_S256x128_0_896 ⟨_, List.mem_of_getElem? (i := 7) rfl⟩ ⟨_, List.mem_of_getElem? (i := 5) rfl⟩ ⟨_, List.mem_of_getElem? (i := 3) rfl⟩ ⟨_, List.mem_of_getElem? (i := 1) rfl⟩
  · exact read_512 _ (good_cons (piece_6 i x1 x2 x3 x4 x5) (good_cons (piece_7 i x1 x2 x3 x4 x5) (good_cons (piece_8 i x1 x2 x3 x4 x5) (good_cons (piece_9 i x1 x2 x3 x4 x5) (good_cons (piece_10 i x1 x2 x3 x4 x5) (good_cons (piece_11 i x1 x2 x3 x4 x5) (good_cons (piece_12 i x1 x2 x3 x4 x5) (good_cons (piece_13 i x1 x2 x3 x4 x5) (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))))))))))) 1920 (by omega) _ inb_S256x2816_S256x128_0_1920 inb_S256x2816_S256x128_0_2048 inb_S256x2816_S256x128_0_2176 inb_S256x2816_S256x128_0_2304 ⟨_, List.mem_of_getElem? (i := 6) rfl⟩ ⟨_, List.mem_of_getElem? (i := 4) rfl⟩ ⟨_, List.mem_of_getElem? (i := 2) rfl⟩ ⟨_, List.mem_of_getElem? (i := 0) rfl⟩
  · exact read_384 _ (good_cons (piece_0 i x1 x2 x3 x4 x5) (good_cons (piece_1 i x1 x2 x3 x4 x5) (good_cons (piece_2 i x1 x2 x3 x4 x5) (good_cons (piece_3 i x1 x2 x3 x4 x5) (good_cons (piece_4 i x1 x2 x3 x4 x5) (good_cons (piece_5 i x1 x2 x3 x4 x5) (good_cons (piece_6 i x1 x2 x3 x4 x5) (good_cons (piece_7 i x1 x2 x3 x4 x5) (good_cons (piece_8 i x1 x2 x3 x4 x5) (good_cons (piece_9 i x1 x2 x3 x4 x5) (good_cons (piece_10 i x1 x2 x3 x4 x5) (good_cons (piece_11 i x1 x2 x3 x4 x5) (good_cons (piece_12 i x1 x2 x3 x4 x5) (good_cons (piece_13 i x1 x2 x3 x4 x5) (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))))))))))))))))) 1024 (by omega) _ inb_S256x2816_S256x128_0_1024 inb_S256x2816_S256x128_0_1152 inb_S256x2816_S256x128_0_1280 ⟨_, List.mem_of_getElem? (i := 5) rfl⟩ ⟨_, List.mem_of_getElem? (i := 3) rfl⟩ ⟨_, List.mem_of_getElem? (i := 1) rfl⟩
  · exact read_384 _ (good_cons (piece_0 i x1 x2 x3 x4 x5) (good_cons (piece_1 i x1 x2 x3 x4 x5) (good_cons (piece_2 i x1 x2 x3 x4 x5) (good_cons (piece_3 i x1 x2 x3 x4 x5) (good_cons (piece_4 i x1 x2 x3 x4 x5) (good_cons (piece_5 i x1 x2 x3 x4 x5) (good_cons (piece_6 i x1 x2 x3 x4 x5) (good_cons (piece_7 i x1 x2 x3 x4 x5) (good_cons (piece_8 i x1 x2 x3 x4 x5) (good_cons (piece_9 i x1 x2 x3 x4 x5) (good_cons (piece_10 i x1 x2 x3 x4 x5) (good_cons (piece_11 i x1 x2 x3 x4 x5) (good_cons (piece_12 i x1 x2 x3 x4 x5) (good_cons (piece_13 i x1 x2 x3 x4 x5) (good_cons (piece_14 i x1 x2 x3 x4 x5) (good_cons (piece_15 i x1 x2 x3 x4 x5) (good_cons (piece_16 i x1 x2 x3 x4 x5) (good_cons (piece_17 i x1 x2 x3 x4 x5) (good_cons (piece_18 i x1 x2 x3 x4 x5) (good_cons (piece_19 i x1 x2 x3 x4 x5) (good_cons (piece_20 i x1 x2 x3 x4 x5) (good_cons (piece_21 i x1 x2 x3 x4 x5) (good_nil _))))))))))))))))))))))) 2432 (by omega) _ inb_S256x2816_S256x128_0_2432 inb_S256x2816_S256x128_0_2560 inb_S256x2816_S256x128_0_2688 ⟨_, List.mem_of_getElem? (i := 4) rfl⟩ ⟨_, List.mem_of_getElem? (i := 2) rfl⟩ ⟨_, List.mem_of_getElem? (i := 0) rfl⟩
  · exact weights_512 x6 (i 1) 0 _ (k0_off1_eq i) _
  · exact weights_512 x6 (i 1) 1408 _ (k0_off2_eq i) _
  · exact weights_512 x6 (i 1) 512 _ (k0_off3_eq i) _
  · exact weights_512 x6 (i 1) 1920 _ (k0_off4_eq i) _
  · exact weights_384 x6 (i 1) 1024 _ (k0_off5_eq i) _
  · exact weights_384 x6 (i 1) 2432 _ (k0_off6_eq i) _

end Cert.Proof.Ffn

end
-- ==== Proof.Ffn.Out9.lean ====
module

public import proofs.«01_k».proof.Proof.Gen.Kernel2Ideal.Frame
public import proofs.«01_k».proof.Proof.Ffn.Points
public import proofs.«01_k».proof.Proof.Ffn.AccA
public import proofs.«01_k».proof.Proof.Ffn.AccB
public import proofs.«01_k».proof.Proof.Ffn.AccC
public import Idealize.ShloMosaic.Lib.Pipeline.ValueKit

/-! # The cotangent of the tokens -/

@[expose] public section

set_option maxRecDepth 16384

noncomputable section

namespace Cert.Proof.Ffn

open Idealize.ShloMosaic Idealize.ShloMosaic.TcCoe Idealize.SL.Sem
open Cert.Kernel2Ideal Cert.Kernel2Ideal.Gen

variable (m : (ℓ : Loc nD τ sig) → Buf (Elt Ideal) ℓ)

/-- An even point leaves its share in the accumulator. -/
theorem even (c : Dev nD) (t : Fin cfg0.N) (g : ¬ t.val % 2 = 1) (y : S256x1024.Idx) : (outsAt0 m c t.val t.isLt).2.2.2 y
    = share m c t.val (lt_of_lt_of_eq t.isLt N_0) (y 0) (y 1) := by
  refine Eq.trans ?_ (point_share m c t (y 0) (y 1))
  by_cases h : t.val % 64 = 0
  · rw [outsAt0_A m c t h (by omega) g g]
    dsimp only
    exact acc_A ..
  · rw [outsAt0_C m c t h (by omega) g g]
    dsimp only
    exact acc_C ..

/-- An odd point adds its share and the residual's scaled path. -/
theorem odd (c : Dev nD) (t : Fin cfg0.N) (g : t.val % 2 = 1) (y : S256x1024.Idx) : (outsAt0 m c t.val t.isLt).2.1 y
    = (outsAt0 m c (t.val - 1) (Nat.lt_of_le_of_lt (Nat.sub_le _ _) t.isLt)).2.2.2 y + share m c t.val (lt_of_lt_of_eq t.isLt N_0) (y 0) (y 1)
      + Ideal.ofBits .f32 0x3FD744FD#32 * (iblk m c 7 t : FVec Ideal S256x1024 .f32) y := by
  rw [← point_share m c t (y 0) (y 1), outsAt0_B m c t (by omega) (by omega) g g]
  dsimp only
  exact dx_B ..

theorem value9 (c : Dev nD) (t : Fin cfg0.N) (g : t.val % 2 = 1) (y : S256x1024.Idx) (j : Shape.Idx ⟨2, ![8192, 1024]⟩)
    (h0 : (j 0 : ℕ) = t.val / 2 * 256 + (y 0 : ℕ)) (h1 : (j 1 : ℕ) = (y 1 : ℕ)) : (outsAt0 m c t.val t.isLt).2.1 y = gradX (argX m c) (argW m c) (argV m c) (argH m c) (argZ m c) j := by
  have ht : t.val < 64 := lt_of_lt_of_eq t.isLt N_0
  have l : t.val - 1 < cfg0.N := Nat.lt_of_le_of_lt (Nat.sub_le _ _) t.isLt
  obtain ⟨y0, y1, rfl⟩ : ∃ (a : Fin 256) (b : Fin 1024), y = ix2 a b := ⟨y 0, y 1, by funext i; fin_cases i <;> rfl⟩
  obtain ⟨j0, j1, rfl⟩ : ∃ (a : Fin 8192) (b : Fin 1024), j = ix2 a b := ⟨j 0, j 1, by funext i; fin_cases i <;> rfl⟩
  have h0 : (j0 : ℕ) = t.val / 2 * 256 + (y0 : ℕ) := h0
  have h1 : j1 = y1 := Fin.ext h1
  subst h1
  rw [odd m c t g _, even m c ⟨t.val - 1, l⟩ (by show ¬ (t.val - 1) % 2 = 1; omega) _]
  have e1 : share m c (t.val - 1) (by omega) y0 j1 + share m c t.val ht y0 j1
      = ∑ f : Fin 5632, unconv (backOf (argX m c) (argW m c) (argV m c) (argH m c)) (argV m c) (ix2 j0 f) * argW m c (ix2 j1 f) := by
    rw [← both_tiles]
    refine congrArg₂ (· + ·) (Finset.sum_congr rfl fun q _ => ?_) (Finset.sum_congr rfl fun q _ => ?_)
    · have a1 : (⟨(t.val - 1) / 2 * 256 + (y0 : ℕ), by omega⟩ : Fin 8192) = j0 := Fin.ext (by show (t.val - 1) / 2 * 256 + (y0 : ℕ) = j0; omega)
      have a2 : (⟨(t.val - 1) % 2 * 2816 + q, by omega⟩ : Fin 5632) = ⟨q, by omega⟩ :=
        Fin.ext (by show (t.val - 1) % 2 * 2816 + (q : ℕ) = q; omega)
      rw [a1, a2]
    · have a1 : (⟨t.val / 2 * 256 + (y0 : ℕ), by omega⟩ : Fin 8192) = j0 := Fin.ext h0.symm
      have a2 : (⟨t.val % 2 * 2816 + q, by omega⟩ : Fin 5632) = ⟨2816 + q, by omega⟩ :=
        Fin.ext (by show t.val % 2 * 2816 + (q : ℕ) = 2816 + q; omega)
      rw [a1, a2]
  have e2 := (blk_7 m c t y0 j1 j0 h0).trans (congrFun (V_main_arg4 m c) _)
  exact congrArg₂ (· + ·) e1 (congrArg (_ * ·) e2)

theorem final9 (c : Dev nD) : (dats m 0 c).arrAt 9 (cfgs 0).N = gradX (argX m c) (argW m c) (argV m c) (argH m c) (argZ m c) := by
  refine (dats m 0 c).arrAt_eq_of_covers 9 _ (by decide +kernel) fun t hf y => ?_
  blk_simp
  rw [after0_9]
  refine value9 m c t ((flush0_9 t).mp hf) y _ ?_ ?_ <;> (blk_simp [idx t] <;> try omega)

end Cert.Proof.Ffn

end
-- ==== Proof.Ffn.Row.lean ====
module

public import proofs.«01_k».proof.Proof.Gen.Kernel2Ideal.Frame
public import proofs.«01_k».proof.Proof.Ffn.Pieces
public import Idealize.ShloMosaic.Lib.Pipeline.ValueKit

/-! # A grid point's addition to the gradient of the taps

The taps' gradients of the 22 stretches of 128 columns are put side by side and added to the row that belongs to the
point's half of the columns. -/

@[expose] public section

set_option maxRecDepth 16384

noncomputable section

namespace Cert.Proof.Ffn

open Idealize.ShloMosaic Idealize.ShloMosaic.TcCoe Idealize.SL.Sem
open Cert.Kernel2Ideal Cert.Kernel2Ideal.Gen

/-- The 22 stretches side by side, added to the row read. -/
def added (t0 t1 t2 t3 t4 t5 t6 t7 t8 t9 t10 t11 t12 t13 t14 t15 t16 t17 t18 t19 t20 t21 : FVec Ideal S3x128 .f32) (o : Vec Ideal S1x3x2816 .f32) : FVec Ideal S1x3x2816 .f32 :=
  shapeCast S1x3x2816 (addf (shapeCast S3x2816 o shapeCasts_S1x3x2816_S3x2816)
    (concatenate S3x2816 1 [⟨S3x128, t0⟩, ⟨S3x128, t1⟩, ⟨S3x128, t2⟩, ⟨S3x128, t3⟩, ⟨S3x128, t4⟩, ⟨S3x128, t5⟩, ⟨S3x128, t6⟩, ⟨S3x128, t7⟩, ⟨S3x128, t8⟩, ⟨S3x128, t9⟩, ⟨S3x128, t10⟩, ⟨S3x128, t11⟩, ⟨S3x128, t12⟩, ⟨S3x128, t13⟩, ⟨S3x128, t14⟩, ⟨S3x128, t15⟩, ⟨S3x128, t16⟩, ⟨S3x128, t17⟩, ⟨S3x128, t18⟩, ⟨S3x128, t19⟩, ⟨S3x128, t20⟩, ⟨S3x128, t21⟩] concatenates_S3x128_S3x128_S3x128_S3x128_S3x128_S3x128_S3x128_S3x128_S3x128_S3x128_S3x128_S3x128_S3x128_S3x128_S3x128_S3x128_S3x128_S3x128_S3x128_S3x128_S3x128_S3x128_S3x2816_d1)) shapeCasts_S3x2816_S1x3x2816

/-- The same over the family of the stretches. -/
theorem side_by_side (t : Fin 22 → FVec Ideal S3x128 .f32) (T : Fin 3 → Fin 2816 → EReal)
    (h : ∀ (n : Fin 22) (k : Fin 3) (p : Fin 128) (q : Fin 2816), (q : ℕ) = 128 * n + p → t n (ix2 k p) = T k q)
    (c : Shape.Concatenates ((List.ofFn fun n : Fin 22 => (⟨S3x128, t n⟩ : (s : Shape) × (s.Idx → EReal))).map (·.1)) S3x2816 1)
    (k : Fin 3) (q : Fin 2816) :
    concatenate S3x2816 1 (List.ofFn fun n : Fin 22 => (⟨S3x128, t n⟩ : (s : Shape) × (s.Idx → EReal))) c (ix2 k q) = T k q := by
  rw [concatenate_ofFn_apply (t := S3x2816) (s₁ := S3x128) 1 t c rfl 128 rfl (ix2 k q) ⟨(q : ℕ) / 128, by omega⟩ rfl
    (ix2 k ⟨(q : ℕ) % 128, by omega⟩) rfl (fun b hb => by
      match b with
      | 0 => rfl
      | 1 => exact absurd rfl hb)]
  exact h _ k _ q (by show (q : ℕ) = 128 * ((q : ℕ) / 128) + (q : ℕ) % 128; omega)

theorem beside_eq (t0 t1 t2 t3 t4 t5 t6 t7 t8 t9 t10 t11 t12 t13 t14 t15 t16 t17 t18 t19 t20 t21 : FVec Ideal S3x128 .f32) :
    concatenate S3x2816 1 [⟨S3x128, t0⟩, ⟨S3x128, t1⟩, ⟨S3x128, t2⟩, ⟨S3x128, t3⟩, ⟨S3x128, t4⟩, ⟨S3x128, t5⟩, ⟨S3x128, t6⟩, ⟨S3x128, t7⟩, ⟨S3x128, t8⟩, ⟨S3x128, t9⟩, ⟨S3x128, t10⟩, ⟨S3x128, t11⟩, ⟨S3x128, t12⟩, ⟨S3x128, t13⟩, ⟨S3x128, t14⟩, ⟨S3x128, t15⟩, ⟨S3x128, t16⟩, ⟨S3x128, t17⟩, ⟨S3x128, t18⟩, ⟨S3x128, t19⟩, ⟨S3x128, t20⟩, ⟨S3x128, t21⟩] concatenates_S3x128_S3x128_S3x128_S3x128_S3x128_S3x128_S3x128_S3x128_S3x128_S3x128_S3x128_S3x128_S3x128_S3x128_S3x128_S3x128_S3x128_S3x128_S3x128_S3x128_S3x128_S3x128_S3x2816_d1
      = concatenate S3x2816 1 (List.ofFn fun n : Fin 22 => (⟨S3x128, ![t0, t1, t2, t3, t4, t5, t6, t7, t8, t9, t10, t11, t12, t13, t14, t15, t16, t17, t18, t19, t20, t21] n⟩ : (s : Shape) × (s.Idx → EReal))) concatenates_S3x128_S3x128_S3x128_S3x128_S3x128_S3x128_S3x128_S3x128_S3x128_S3x128_S3x128_S3x128_S3x128_S3x128_S3x128_S3x128_S3x128_S3x128_S3x128_S3x128_S3x128_S3x128_S3x2816_d1 := rfl

theorem added_at (T : Fin 3 → Fin 2816 → EReal) (t0 t1 t2 t3 t4 t5 t6 t7 t8 t9 t10 t11 t12 t13 t14 t15 t16 t17 t18 t19 t20 t21 : FVec Ideal S3x128 .f32) (o : Vec Ideal S1x3x2816 .f32)
    (h0 : ∀ (k : Fin 3) (p : Fin 128) (q : Fin 2816), (q : ℕ) = 0 + p → t0 (ix2 k p) = T k q)
    (h1 : ∀ (k : Fin 3) (p : Fin 128) (q : Fin 2816), (q : ℕ) = 128 + p → t1 (ix2 k p) = T k q)
    (h2 : ∀ (k : Fin 3) (p : Fin 128) (q : Fin 2816), (q : ℕ) = 256 + p → t2 (ix2 k p) = T k q)
    (h3 : ∀ (k : Fin 3) (p : Fin 128) (q : Fin 2816), (q : ℕ) = 384 + p → t3 (ix2 k p) = T k q)
    (h4 : ∀ (k : Fin 3) (p : Fin 128) (q : Fin 2816), (q : ℕ) = 512 + p → t4 (ix2 k p) = T k q)
    (h5 : ∀ (k : Fin 3) (p : Fin 128) (q : Fin 2816), (q : ℕ) = 640 + p → t5 (ix2 k p) = T k q)
    (h6 : ∀ (k : Fin 3) (p : Fin 128) (q : Fin 2816), (q : ℕ) = 768 + p → t6 (ix2 k p) = T k q)
    (h7 : ∀ (k : Fin 3) (p : Fin 128) (q : Fin 2816), (q : ℕ) = 896 + p → t7 (ix2 k p) = T k q)
    (h8 : ∀ (k : Fin 3) (p : Fin 128) (q : Fin 2816), (q : ℕ) = 1024 + p → t8 (ix2 k p) = T k q)
    (h9 : ∀ (k : Fin 3) (p : Fin 128) (q : Fin 2816), (q : ℕ) = 1152 + p → t9 (ix2 k p) = T k q)
    (h10 : ∀ (k : Fin 3) (p : Fin 128) (q : Fin 2816), (q : ℕ) = 1280 + p → t10 (ix2 k p) = T k q)
    (h11 : ∀ (k : Fin 3) (p : Fin 128) (q : Fin 2816), (q : ℕ) = 1408 + p → t11 (ix2 k p) = T k q)
    (h12 : ∀ (k : Fin 3) (p : Fin 128) (q : Fin 2816), (q : ℕ) = 1536 + p → t12 (ix2 k p) = T k q)
    (h13 : ∀ (k : Fin 3) (p : Fin 128) (q : Fin 2816), (q : ℕ) = 1664 + p → t13 (ix2 k p) = T k q)
    (h14 : ∀ (k : Fin 3) (p : Fin 128) (q : Fin 2816), (q : ℕ) = 1792 + p → t14 (ix2 k p) = T k q)
    (h15 : ∀ (k : Fin 3) (p : Fin 128) (q : Fin 2816), (q : ℕ) = 1920 + p → t15 (ix2 k p) = T k q)
    (h16 : ∀ (k : Fin 3) (p : Fin 128) (q : Fin 2816), (q : ℕ) = 2048 + p → t16 (ix2 k p) = T k q)
    (h17 : ∀ (k : Fin 3) (p : Fin 128) (q : Fin 2816), (q : ℕ) = 2176 + p → t17 (ix2 k p) = T k q)
    (h18 : ∀ (k : Fin 3) (p : Fin 128) (q : Fin 2816), (q : ℕ) = 2304 + p → t18 (ix2 k p) = T k q)
    (h19 : ∀ (k : Fin 3) (p : Fin 128) (q : Fin 2816), (q : ℕ) = 2432 + p → t19 (ix2 k p) = T k q)
    (h20 : ∀ (k : Fin 3) (p : Fin 128) (q : Fin 2816), (q : ℕ) = 2560 + p → t20 (ix2 k p) = T k q)
    (h21 : ∀ (k : Fin 3) (p : Fin 128) (q : Fin 2816), (q : ℕ) = 2688 + p → t21 (ix2 k p) = T k q)
    (k : Fin 3) (q : Fin 2816) : added t0 t1 t2 t3 t4 t5 t6 t7 t8 t9 t10 t11 t12 t13 t14 t15 t16 t17 t18 t19 t20 t21 o (ix3 0 k q) = o (ix3 0 k q) + T k q := by
  unfold added
  rw [beside_eq]
  have e := side_by_side ![t0, t1, t2, t3, t4, t5, t6, t7, t8, t9, t10, t11, t12, t13, t14, t15, t16, t17, t18, t19, t20, t21] T (fun n k p q hq => by
    match n with
    | ⟨0, _⟩ => exact h0 k p q (hq.trans (by simp))
    | ⟨1, _⟩ => exact h1 k p q (hq.trans (by simp))
    | ⟨2, _⟩ => exact h2 k p q (hq.trans (by simp))
    | ⟨3, _⟩ => exact h3 k p q (hq.trans (by simp))
    | ⟨4, _⟩ => exact h4 k p q (hq.trans (by simp))
    | ⟨5, _⟩ => exact h5 k p q (hq.trans (by simp))
    | ⟨6, _⟩ => exact h6 k p q (hq.trans (by simp))
    | ⟨7, _⟩ => exact h7 k p q (hq.trans (by simp))
    | ⟨8, _⟩ => exact h8 k p q (hq.trans (by simp))
    | ⟨9, _⟩ => exact h9 k p q (hq.trans (by simp))
    | ⟨10, _⟩ => exact h10 k p q (hq.trans (by simp))
    | ⟨11, _⟩ => exact h11 k p q (hq.trans (by simp))
    | ⟨12, _⟩ => exact h12 k p q (hq.trans (by simp))
    | ⟨13, _⟩ => exact h13 k p q (hq.trans (by simp))
    | ⟨14, _⟩ => exact h14 k p q (hq.trans (by simp))
    | ⟨15, _⟩ => exact h15 k p q (hq.trans (by simp))
    | ⟨16, _⟩ => exact h16 k p q (hq.trans (by simp))
    | ⟨17, _⟩ => exact h17 k p q (hq.trans (by simp))
    | ⟨18, _⟩ => exact h18 k p q (hq.trans (by simp))
    | ⟨19, _⟩ => exact h19 k p q (hq.trans (by simp))
    | ⟨20, _⟩ => exact h20 k p q (hq.trans (by simp))
    | ⟨21, _⟩ => exact h21 k p q (hq.trans (by simp))
    | ⟨_ + 22, hn⟩ => exact absurd hn (by omega)) concatenates_S3x128_S3x128_S3x128_S3x128_S3x128_S3x128_S3x128_S3x128_S3x128_S3x128_S3x128_S3x128_S3x128_S3x128_S3x128_S3x128_S3x128_S3x128_S3x128_S3x128_S3x128_S3x128_S3x2816_d1 k q
  revert e
  generalize concatenate S3x2816 1 (List.ofFn fun n : Fin 22 => (⟨S3x128, ![t0, t1, t2, t3, t4, t5, t6, t7, t8, t9, t10, t11, t12, t13, t14, t15, t16, t17, t18, t19, t20, t21] n⟩ : (s : Shape) × (s.Idx → EReal))) concatenates_S3x128_S3x128_S3x128_S3x128_S3x128_S3x128_S3x128_S3x128_S3x128_S3x128_S3x128_S3x128_S3x128_S3x128_S3x128_S3x128_S3x128_S3x128_S3x128_S3x128_S3x128_S3x128_S3x2816_d1 = z
  intro e
  pointwise []
  rw [e]

/-- One row of the taps' gradient is stored over what was there. -/
theorem stored_over {sp : Space} (m : Memref sig .tc sp S2x3x2816 .f32) (hm : m.IsWhole) (X : Vec Ideal S2x3x2816 .f32) (j : Fin 2) (off : Fin 3 → ℕ)
    (e : off = ![(j : ℕ), 0, 0]) (g : ∀ a, off a + S1x3x2816.size a ≤ S2x3x2816.size a) (P : Vec Ideal S1x3x2816 .f32) (h : Fin 2) (k : Fin 3) (q : Fin 2816) :
    m.view.read (Elt Ideal) (m.view.writes (Elt Ideal) (hm.unread X) [⟨Rect.unit (s := S2x3x2816) off S1x3x2816.size g, P⟩]) (ix3 h k q)
      = if h = j then P (ix3 0 k q) else X (ix3 h k q) := by
  subst e
  split
  · rename_i c
    subst c
    have e : (Rect.unit (s := S2x3x2816) ![(h : ℕ), 0, 0] S1x3x2816.size g).emb (ix3 0 k q) = ix3 h k q := by
      funext a
      refine Fin.ext ?_
      rw [Rect.emb_apply]
      match a with
      | 0 => show (h : ℕ) + 1 * 0 = (h : ℕ); omega
      | 1 => show 0 + 1 * (k : ℕ) = (k : ℕ); omega
      | 2 => show 0 + 1 * (q : ℕ) = (q : ℕ); omega
    rw [← e]
    exact View.read_writes_cons_emb _ _ _ _ _ _
  · rename_i c
    rw [View.writes_cons, View.read_slice_write_of_not_mem]
    · exact congrFun (hm.read_unread X) _
    · intro hs
      rw [Rect.map_emb_univ] at hs
      obtain ⟨x, hx, hy⟩ := (LoadRect.mem_set _).mp hs 0
      have hx' : x < 1 := hx
      have hy' : (h : ℕ) = (j : ℕ) + 1 * x := hy
      exact c (Fin.ext (by omega))

theorem stored_first (j : Fin 2) (off : Fin 3 → ℕ) (e : off = ![(j : ℕ), 0, 0]) (g : ∀ a, off a + S1x3x2816.size a ≤ S2x3x2816.size a)
    (P : Vec Ideal S1x3x2816 .f32) (L : List (View.Piece (Elt Ideal) S2x3x2816 .f32)) (h : Fin 2) (k : Fin 3) (q : Fin 2816) :
    View.canon (⟨Rect.unit (s := S2x3x2816) off S1x3x2816.size g, P⟩ :: L) (ix3 h k q)
      = if h = j then P (ix3 0 k q) else View.canon L (ix3 h k q) := by
  subst e
  split
  · rename_i c
    subst c
    have e : (Rect.unit (s := S2x3x2816) ![(h : ℕ), 0, 0] S1x3x2816.size g).emb (ix3 0 k q) = ix3 h k q := by
      funext a
      refine Fin.ext ?_
      rw [Rect.emb_apply]
      match a with
      | 0 => show (h : ℕ) + 1 * 0 = (h : ℕ); omega
      | 1 => show 0 + 1 * (k : ℕ) = (k : ℕ); omega
      | 2 => show 0 + 1 * (q : ℕ) = (q : ℕ); omega
    rw [← e]
    exact View.canon_cons_emb _ _ _ _
  · rename_i c
    refine View.canon_cons_of_not_mem _ _ fun hm => ?_
    obtain ⟨x, hx, hy⟩ := (LoadRect.mem_set _).mp hm 0
    have hx' : x < 1 := hx
    have hy' : (h : ℕ) = (j : ℕ) + 1 * x := hy
    exact c (Fin.ext (by omega))

theorem row_load (X : Vec Ideal S2x3x2816 .f32) (j : Fin 2) (off : Fin 3 → ℕ) (e : off = ![(j : ℕ), 0, 0])
    (g : ∀ a, off a + S1x3x2816.size a ≤ S2x3x2816.size a) (k : Fin 3) (q : Fin 2816) :
    View.ld X (Rect.unit (s := S2x3x2816) off S1x3x2816.size g) (ix3 0 k q) = X (ix3 j k q) := by
  subst e
  pointwise []

variable (i : grid0.Coords) (x0 x1 : Vec Ideal S256x2816 .bf16) (x2 : Vec Ideal S16x2816 .bf16) (x3 : Vec Ideal S256x1408 .bf16)
    (x4 : Vec Ideal S16x1408 .bf16)

def tap_0 : FVec Ideal S3x128 .f32 :=
  k0_pay19 (bentA i (View.ld x4 (Rect.unit (s := S16x1408) ![0, 0] S16x128.size inb_S16x1408_S16x128_0_0)) (View.ld x3 (Rect.unit (s := S256x1408) ![0, 0] S256x128.size inb_S256x1408_S256x128_0_0)) (View.ld x1 (Rect.unit (s := S256x2816) ![0, 0] S256x128.size inb_S256x2816_S256x128_0_0)) (View.ld x2 (Rect.unit (s := S16x2816) ![0, 0] S16x128.size inb_S16x2816_S16x128_0_0)) (View.ld x1 (Rect.unit (s := S256x2816) ![0, 1408] S256x128.size inb_S256x2816_S256x128_0_1408)) (View.ld x2 (Rect.unit (s := S16x2816) ![0, 1408] S16x128.size inb_S16x2816_S16x128_0_1408))) (View.ld x0 (Rect.unit (s := S256x2816) ![0, 0] S256x128.size inb_S256x2816_S256x128_0_0))

theorem tap_0_at (k : Fin 3) (p : Fin 128) (q : Fin 2816) (hq : (q : ℕ) = 0 + p) :
    tap_0 i x0 x1 x2 x3 x4 (ix2 k p) = tapped ((i 0 : Fin 32) : ℕ) x0 x1 x2 x3 x4 k q :=
  taps_of x1 x2 x3 x4 x0 _ _ 0 _ (by omega) (fun r p q hq => loadedA i x1 x2 x3 x4 0 _ _ _ _ _ _ r p q (by omega) (by omega)) k p q hq

def tap_1 : FVec Ideal S3x128 .f32 :=
  k0_pay19 (bentA i (View.ld x4 (Rect.unit (s := S16x1408) ![0, 128] S16x128.size inb_S16x1408_S16x128_0_128)) (View.ld x3 (Rect.unit (s := S256x1408) ![0, 128] S256x128.size inb_S256x1408_S256x128_0_128)) (View.ld x1 (Rect.unit (s := S256x2816) ![0, 128] S256x128.size inb_S256x2816_S256x128_0_128)) (View.ld x2 (Rect.unit (s := S16x2816) ![0, 128] S16x128.size inb_S16x2816_S16x128_0_128)) (View.ld x1 (Rect.unit (s := S256x2816) ![0, 1536] S256x128.size inb_S256x2816_S256x128_0_1536)) (View.ld x2 (Rect.unit (s := S16x2816) ![0, 1536] S16x128.size inb_S16x2816_S16x128_0_1536))) (View.ld x0 (Rect.unit (s := S256x2816) ![0, 128] S256x128.size inb_S256x2816_S256x128_0_128))

theorem tap_1_at (k : Fin 3) (p : Fin 128) (q : Fin 2816) (hq : (q : ℕ) = 128 + p) :
    tap_1 i x0 x1 x2 x3 x4 (ix2 k p) = tapped ((i 0 : Fin 32) : ℕ) x0 x1 x2 x3 x4 k q :=
  taps_of x1 x2 x3 x4 x0 _ _ 128 _ (by omega) (fun r p q hq => loadedA i x1 x2 x3 x4 128 _ _ _ _ _ _ r p q (by omega) (by omega)) k p q hq

def tap_2 : FVec Ideal S3x128 .f32 :=
  k0_pay19 (bentA i (View.ld x4 (Rect.unit (s := S16x1408) ![0, 256] S16x128.size inb_S16x1408_S16x128_0_256)) (View.ld x3 (Rect.unit (s := S256x1408) ![0, 256] S256x128.size inb_S256x1408_S256x128_0_256)) (View.ld x1 (Rect.unit (s := S256x2816) ![0, 256] S256x128.size inb_S256x2816_S256x128_0_256)) (View.ld x2 (Rect.unit (s := S16x2816) ![0, 256] S16x128.size inb_S16x2816_S16x128_0_256)) (View.ld x1 (Rect.unit (s := S256x2816) ![0, 1664] S256x128.size inb_S256x2816_S256x128_0_1664)) (View.ld x2 (Rect.unit (s := S16x2816) ![0, 1664] S16x128.size inb_S16x2816_S16x128_0_1664))) (View.ld x0 (Rect.unit (s := S256x2816) ![0, 256] S256x128.size inb_S256x2816_S256x128_0_256))

theorem tap_2_at (k : Fin 3) (p : Fin 128) (q : Fin 2816) (hq : (q : ℕ) = 256 + p) :
    tap_2 i x0 x1 x2 x3 x4 (ix2 k p) = tapped ((i 0 : Fin 32) : ℕ) x0 x1 x2 x3 x4 k q :=
  taps_of x1 x2 x3 x4 x0 _ _ 256 _ (by omega) (fun r p q hq => loadedA i x1 x2 x3 x4 256 _ _ _ _ _ _ r p q (by omega) (by omega)) k p q hq

def tap_3 : FVec Ideal S3x128 .f32 :=
  k0_pay19 (bentA i (View.ld x4 (Rect.unit (s := S16x1408) ![0, 384] S16x128.size inb_S16x1408_S16x128_0_384)) (View.ld x3 (Rect.unit (s := S256x1408) ![0, 384] S256x128.size inb_S256x1408_S256x128_0_384)) (View.ld x1 (Rect.unit (s := S256x2816) ![0, 384] S256x128.size inb_S256x2816_S256x128_0_384)) (View.ld x2 (Rect.unit (s := S16x2816) ![0, 384] S16x128.size inb_S16x2816_S16x128_0_384)) (View.ld x1 (Rect.unit (s := S256x2816) ![0, 1792] S256x128.size inb_S256x2816_S256x128_0_1792)) (View.ld x2 (Rect.unit (s := S16x2816) ![0, 1792] S16x128.size inb_S16x2816_S16x128_0_1792))) (View.ld x0 (Rect.unit (s := S256x2816) ![0, 384] S256x128.size inb_S256x2816_S256x128_0_384))

theorem tap_3_at (k : Fin 3) (p : Fin 128) (q : Fin 2816) (hq : (q : ℕ) = 384 + p) :
    tap_3 i x0 x1 x2 x3 x4 (ix2 k p) = tapped ((i 0 : Fin 32) : ℕ) x0 x1 x2 x3 x4 k q :=
  taps_of x1 x2 x3 x4 x0 _ _ 384 _ (by omega) (fun r p q hq => loadedA i x1 x2 x3 x4 384 _ _ _ _ _ _ r p q (by omega) (by omega)) k p q hq

def tap_4 : FVec Ideal S3x128 .f32 :=
  k0_pay19 (bentA i (View.ld x4 (Rect.unit (s := S16x1408) ![0, 512] S16x128.size inb_S16x1408_S16x128_0_512)) (View.ld x3 (Rect.unit (s := S256x1408) ![0, 512] S256x128.size inb_S256x1408_S256x128_0_512)) (View.ld x1 (Rect.unit (s := S256x2816) ![0, 512] S256x128.size inb_S256x2816_S256x128_0_512)) (View.ld x2 (Rect.unit (s := S16x2816) ![0, 512] S16x128.size inb_S16x2816_S16x128_0_512)) (View.ld x1 (Rect.unit (s := S256x2816) ![0, 1920] S256x128.size inb_S256x2816_S256x128_0_1920)) (View.ld x2 (Rect.unit (s := S16x2816) ![0, 1920] S16x128.size inb_S16x2816_S16x128_0_1920))) (View.ld x0 (Rect.unit (s := S256x2816) ![0, 512] S256x128.size inb_S256x2816_S256x128_0_512))

theorem tap_4_at (k : Fin 3) (p : Fin 128) (q : Fin 2816) (hq : (q : ℕ) = 512 + p) :
    tap_4 i x0 x1 x2 x3 x4 (ix2 k p) = tapped ((i 0 : Fin 32) : ℕ) x0 x1 x2 x3 x4 k q :=
  taps_of x1 x2 x3 x4 x0 _ _ 512 _ (by omega) (fun r p q hq => loadedA i x1 x2 x3 x4 512 _ _ _ _ _ _ r p q (by omega) (by omega)) k p q hq

def tap_5 : FVec Ideal S3x128 .f32 :=
  k0_pay19 (bentA i (View.ld x4 (Rect.unit (s := S16x1408) ![0, 640] S16x128.size inb_S16x1408_S16x128_0_640)) (View.ld x3 (Rect.unit (s := S256x1408) ![0, 640] S256x128.size inb_S256x1408_S256x128_0_640)) (View.ld x1 (Rect.unit (s := S256x2816) ![0, 640] S256x128.size inb_S256x2816_S256x128_0_640)) (View.ld x2 (Rect.unit (s := S16x2816) ![0, 640] S16x128.size inb_S16x2816_S16x128_0_640)) (View.ld x1 (Rect.unit (s := S256x2816) ![0, 2048] S256x128.size inb_S256x2816_S256x128_0_2048)) (View.ld x2 (Rect.unit (s := S16x2816) ![0, 2048] S16x128.size inb_S16x2816_S16x128_0_2048))) (View.ld x0 (Rect.unit (s := S256x2816) ![0, 640] S256x128.size inb_S256x2816_S256x128_0_640))

theorem tap_5_at (k : Fin 3) (p : Fin 128) (q : Fin 2816) (hq : (q : ℕ) = 640 + p) :
    tap_5 i x0 x1 x2 x3 x4 (ix2 k p) = tapped ((i 0 : Fin 32) : ℕ) x0 x1 x2 x3 x4 k q :=
  taps_of x1 x2 x3 x4 x0 _ _ 640 _ (by omega) (fun r p q hq => loadedA i x1 x2 x3 x4 640 _ _ _ _ _ _ r p q (by omega) (by omega)) k p q hq

def tap_6 : FVec Ideal S3x128 .f32 :=
  k0_pay19 (bentA i (View.ld x4 (Rect.unit (s := S16x1408) ![0, 768] S16x128.size inb_S16x1408_S16x128_0_768)) (View.ld x3 (Rect.unit (s := S256x1408) ![0, 768] S256x128.size inb_S256x1408_S256x128_0_768)) (View.ld x1 (Rect.unit (s := S256x2816) ![0, 768] S256x128.size inb_S256x2816_S256x128_0_768)) (View.ld x2 (Rect.unit (s := S16x2816) ![0, 768] S16x128.size inb_S16x2816_S16x128_0_768)) (View.ld x1 (Rect.unit (s := S256x2816) ![0, 2176] S256x128.size inb_S256x2816_S256x128_0_2176)) (View.ld x2 (Rect.unit (s := S16x2816) ![0, 2176] S16x128.size inb_S16x2816_S16x128_0_2176))) (View.ld x0 (Rect.unit (s := S256x2816) ![0, 768] S256x128.size inb_S256x2816_S256x128_0_768))

theorem tap_6_at (k : Fin 3) (p : Fin 128) (q : Fin 2816) (hq : (q : ℕ) = 768 + p) :
    tap_6 i x0 x1 x2 x3 x4 (ix2 k p) = tapped ((i 0 : Fin 32) : ℕ) x0 x1 x2 x3 x4 k q :=
  taps_of x1 x2 x3 x4 x0 _ _ 768 _ (by omega) (fun r p q hq => loadedA i x1 x2 x3 x4 768 _ _ _ _ _ _ r p q (by omega) (by omega)) k p q hq

def tap_7 : FVec Ideal S3x128 .f32 :=
  k0_pay19 (bentA i (View.ld x4 (Rect.unit (s := S16x1408) ![0, 896] S16x128.size inb_S16x1408_S16x128_0_896)) (View.ld x3 (Rect.unit (s := S256x1408) ![0, 896] S256x128.size inb_S256x1408_S256x128_0_896)) (View.ld x1 (Rect.unit (s := S256x2816) ![0, 896] S256x128.size inb_S256x2816_S256x128_0_896)) (View.ld x2 (Rect.unit (s := S16x2816) ![0, 896] S16x128.size inb_S16x2816_S16x128_0_896)) (View.ld x1 (Rect.unit (s := S256x2816) ![0, 2304] S256x128.size inb_S256x2816_S256x128_0_2304)) (View.ld x2 (Rect.unit (s := S16x2816) ![0, 2304] S16x128.size inb_S16x2816_S16x128_0_2304))) (View.ld x0 (Rect.unit (s := S256x2816) ![0, 896] S256x128.size inb_S256x2816_S256x128_0_896))

theorem tap_7_at (k : Fin 3) (p : Fin 128) (q : Fin 2816) (hq : (q : ℕ) = 896 + p) :
    tap_7 i x0 x1 x2 x3 x4 (ix2 k p) = tapped ((i 0 : Fin 32) : ℕ) x0 x1 x2 x3 x4 k q :=
  taps_of x1 x2 x3 x4 x0 _ _ 896 _ (by omega) (fun r p q hq => loadedA i x1 x2 x3 x4 896 _ _ _ _ _ _ r p q (by omega) (by omega)) k p q hq

def tap_8 : FVec Ideal S3x128 .f32 :=
  k0_pay19 (bentA i (View.ld x4 (Rect.unit (s := S16x1408) ![0, 1024] S16x128.size inb_S16x1408_S16x128_0_1024)) (View.ld x3 (Rect.unit (s := S256x1408) ![0, 1024] S256x128.size inb_S256x1408_S256x128_0_1024)) (View.ld x1 (Rect.unit (s := S256x2816) ![0, 1024] S256x128.size inb_S256x2816_S256x128_0_1024)) (View.ld x2 (Rect.unit (s := S16x2816) ![0, 1024] S16x128.size inb_S16x2816_S16x128_0_1024)) (View.ld x1 (Rect.unit (s := S256x2816) ![0, 2432] S256x128.size inb_S256x2816_S256x128_0_2432)) (View.ld x2 (Rect.unit (s := S16x2816) ![0, 2432] S16x128.size inb_S16x2816_S16x128_0_2432))) (View.ld x0 (Rect.unit (s := S256x2816) ![0, 1024] S256x128.size inb_S256x2816_S256x128_0_1024))

theorem tap_8_at (k : Fin 3) (p : Fin 128) (q : Fin 2816) (hq : (q : ℕ) = 1024 + p) :
    tap_8 i x0 x1 x2 x3 x4 (ix2 k p) = tapped ((i 0 : Fin 32) : ℕ) x0 x1 x2 x3 x4 k q :=
  taps_of x1 x2 x3 x4 x0 _ _ 1024 _ (by omega) (fun r p q hq => loadedA i x1 x2 x3 x4 1024 _ _ _ _ _ _ r p q (by omega) (by omega)) k p q hq

def tap_9 : FVec Ideal S3x128 .f32 :=
  k0_pay19 (bentA i (View.ld x4 (Rect.unit (s := S16x1408) ![0, 1152] S16x128.size inb_S16x1408_S16x128_0_1152)) (View.ld x3 (Rect.unit (s := S256x1408) ![0, 1152] S256x128.size inb_S256x1408_S256x128_0_1152)) (View.ld x1 (Rect.unit (s := S256x2816) ![0, 1152] S256x128.size inb_S256x2816_S256x128_0_1152)) (View.ld x2 (Rect.unit (s := S16x2816) ![0, 1152] S16x128.size inb_S16x2816_S16x128_0_1152)) (View.ld x1 (Rect.unit (s := S256x2816) ![0, 2560] S256x128.size inb_S256x2816_S256x128_0_2560)) (View.ld x2 (Rect.unit (s := S16x2816) ![0, 2560] S16x128.size inb_S16x2816_S16x128_0_2560))) (View.ld x0 (Rect.unit (s := S256x2816) ![0, 1152] S256x128.size inb_S256x2816_S256x128_0_1152))

theorem tap_9_at (k : Fin 3) (p : Fin 128) (q : Fin 2816) (hq : (q : ℕ) = 1152 + p) :
    tap_9 i x0 x1 x2 x3 x4 (ix2 k p) = tapped ((i 0 : Fin 32) : ℕ) x0 x1 x2 x3 x4 k q :=
  taps_of x1 x2 x3 x4 x0 _ _ 1152 _ (by omega) (fun r p q hq => loadedA i x1 x2 x3 x4 1152 _ _ _ _ _ _ r p q (by omega) (by omega)) k p q hq

def tap_10 : FVec Ideal S3x128 .f32 :=
  k0_pay19 (bentA i (View.ld x4 (Rect.unit (s := S16x1408) ![0, 1280] S16x128.size inb_S16x1408_S16x128_0_1280)) (View.ld x3 (Rect.unit (s := S256x1408) ![0, 1280] S256x128.size inb_S256x1408_S256x128_0_1280)) (View.ld x1 (Rect.unit (s := S256x2816) ![0, 1280] S256x128.size inb_S256x2816_S256x128_0_1280)) (View.ld x2 (Rect.unit (s := S16x2816) ![0, 1280] S16x128.size inb_S16x2816_S16x128_0_1280)) (View.ld x1 (Rect.unit (s := S256x2816) ![0, 2688] S256x128.size inb_S256x2816_S256x128_0_2688)) (View.ld x2 (Rect.unit (s := S16x2816) ![0, 2688] S16x128.size inb_S16x2816_S16x128_0_2688))) (View.ld x0 (Rect.unit (s := S256x2816) ![0, 1280] S256x128.size inb_S256x2816_S256x128_0_1280))

theorem tap_10_at (k : Fin 3) (p : Fin 128) (q : Fin 2816) (hq : (q : ℕ) = 1280 + p) :
    tap_10 i x0 x1 x2 x3 x4 (ix2 k p) = tapped ((i 0 : Fin 32) : ℕ) x0 x1 x2 x3 x4 k q :=
  taps_of x1 x2 x3 x4 x0 _ _ 1280 _ (by omega) (fun r p q hq => loadedA i x1 x2 x3 x4 1280 _ _ _ _ _ _ r p q (by omega) (by omega)) k p q hq

def tap_11 : FVec Ideal S3x128 .f32 :=
  k0_pay19 (bentB i (View.ld x4 (Rect.unit (s := S16x1408) ![0, 0] S16x128.size inb_S16x1408_S16x128_0_0)) (View.ld x3 (Rect.unit (s := S256x1408) ![0, 0] S256x128.size inb_S256x1408_S256x128_0_0)) (View.ld x1 (Rect.unit (s := S256x2816) ![0, 0] S256x128.size inb_S256x2816_S256x128_0_0)) (View.ld x2 (Rect.unit (s := S16x2816) ![0, 0] S16x128.size inb_S16x2816_S16x128_0_0))) (View.ld x0 (Rect.unit (s := S256x2816) ![0, 1408] S256x128.size inb_S256x2816_S256x128_0_1408))

theorem tap_11_at (k : Fin 3) (p : Fin 128) (q : Fin 2816) (hq : (q : ℕ) = 1408 + p) :
    tap_11 i x0 x1 x2 x3 x4 (ix2 k p) = tapped ((i 0 : Fin 32) : ℕ) x0 x1 x2 x3 x4 k q :=
  taps_of x1 x2 x3 x4 x0 _ _ 1408 _ (by omega) (fun r p q hq => loadedB i x1 x2 x3 x4 0 _ _ _ _ r p q (by omega) (by omega)) k p q hq

def tap_12 : FVec Ideal S3x128 .f32 :=
  k0_pay19 (bentB i (View.ld x4 (Rect.unit (s := S16x1408) ![0, 128] S16x128.size inb_S16x1408_S16x128_0_128)) (View.ld x3 (Rect.unit (s := S256x1408) ![0, 128] S256x128.size inb_S256x1408_S256x128_0_128)) (View.ld x1 (Rect.unit (s := S256x2816) ![0, 128] S256x128.size inb_S256x2816_S256x128_0_128)) (View.ld x2 (Rect.unit (s := S16x2816) ![0, 128] S16x128.size inb_S16x2816_S16x128_0_128))) (View.ld x0 (Rect.unit (s := S256x2816) ![0, 1536] S256x128.size inb_S256x2816_S256x128_0_1536))

theorem tap_12_at (k : Fin 3) (p : Fin 128) (q : Fin 2816) (hq : (q : ℕ) = 1536 + p) :
    tap_12 i x0 x1 x2 x3 x4 (ix2 k p) = tapped ((i 0 : Fin 32) : ℕ) x0 x1 x2 x3 x4 k q :=
  taps_of x1 x2 x3 x4 x0 _ _ 1536 _ (by omega) (fun r p q hq => loadedB i x1 x2 x3 x4 128 _ _ _ _ r p q (by omega) (by omega)) k p q hq

def tap_13 : FVec Ideal S3x128 .f32 :=
  k0_pay19 (bentB i (View.ld x4 (Rect.unit (s := S16x1408) ![0, 256] S16x128.size inb_S16x1408_S16x128_0_256)) (View.ld x3 (Rect.unit (s := S256x1408) ![0, 256] S256x128.size inb_S256x1408_S256x128_0_256)) (View.ld x1 (Rect.unit (s := S256x2816) ![0, 256] S256x128.size inb_S256x2816_S256x128_0_256)) (View.ld x2 (Rect.unit (s := S16x2816) ![0, 256] S16x128.size inb_S16x2816_S16x128_0_256))) (View.ld x0 (Rect.unit (s := S256x2816) ![0, 1664] S256x128.size inb_S256x2816_S256x128_0_1664))

theorem tap_13_at (k : Fin 3) (p : Fin 128) (q : Fin 2816) (hq : (q : ℕ) = 1664 + p) :
    tap_13 i x0 x1 x2 x3 x4 (ix2 k p) = tapped ((i 0 : Fin 32) : ℕ) x0 x1 x2 x3 x4 k q :=
  taps_of x1 x2 x3 x4 x0 _ _ 1664 _ (by omega) (fun r p q hq => loadedB i x1 x2 x3 x4 256 _ _ _ _ r p q (by omega) (by omega)) k p q hq

def tap_14 : FVec Ideal S3x128 .f32 :=
  k0_pay19 (bentB i (View.ld x4 (Rect.unit (s := S16x1408) ![0, 384] S16x128.size inb_S16x1408_S16x128_0_384)) (View.ld x3 (Rect.unit (s := S256x1408) ![0, 384] S256x128.size inb_S256x1408_S256x128_0_384)) (View.ld x1 (Rect.unit (s := S256x2816) ![0, 384] S256x128.size inb_S256x2816_S256x128_0_384)) (View.ld x2 (Rect.unit (s := S16x2816) ![0, 384] S16x128.size inb_S16x2816_S16x128_0_384))) (View.ld x0 (Rect.unit (s := S256x2816) ![0, 1792] S256x128.size inb_S256x2816_S256x128_0_1792))

theorem tap_14_at (k : Fin 3) (p : Fin 128) (q : Fin 2816) (hq : (q : ℕ) = 1792 + p) :
    tap_14 i x0 x1 x2 x3 x4 (ix2 k p) = tapped ((i 0 : Fin 32) : ℕ) x0 x1 x2 x3 x4 k q :=
  taps_of x1 x2 x3 x4 x0 _ _ 1792 _ (by omega) (fun r p q hq => loadedB i x1 x2 x3 x4 384 _ _ _ _ r p q (by omega) (by omega)) k p q hq

def tap_15 : FVec Ideal S3x128 .f32 :=
  k0_pay19 (bentB i (View.ld x4 (Rect.unit (s := S16x1408) ![0, 512] S16x128.size inb_S16x1408_S16x128_0_512)) (View.ld x3 (Rect.unit (s := S256x1408) ![0, 512] S256x128.size inb_S256x1408_S256x128_0_512)) (View.ld x1 (Rect.unit (s := S256x2816) ![0, 512] S256x128.size inb_S256x2816_S256x128_0_512)) (View.ld x2 (Rect.unit (s := S16x2816) ![0, 512] S16x128.size inb_S16x2816_S16x128_0_512))) (View.ld x0 (Rect.unit (s := S256x2816) ![0, 1920] S256x128.size inb_S256x2816_S256x128_0_1920))

theorem tap_15_at (k : Fin 3) (p : Fin 128) (q : Fin 2816) (hq : (q : ℕ) = 1920 + p) :
    tap_15 i x0 x1 x2 x3 x4 (ix2 k p) = tapped ((i 0 : Fin 32) : ℕ) x0 x1 x2 x3 x4 k q :=
  taps_of x1 x2 x3 x4 x0 _ _ 1920 _ (by omega) (fun r p q hq => loadedB i x1 x2 x3 x4 512 _ _ _ _ r p q (by omega) (by omega)) k p q hq

def tap_16 : FVec Ideal S3x128 .f32 :=
  k0_pay19 (bentB i (View.ld x4 (Rect.unit (s := S16x1408) ![0, 640] S16x128.size inb_S16x1408_S16x128_0_640)) (View.ld x3 (Rect.unit (s := S256x1408) ![0, 640] S256x128.size inb_S256x1408_S256x128_0_640)) (View.ld x1 (Rect.unit (s := S256x2816) ![0, 640] S256x128.size inb_S256x2816_S256x128_0_640)) (View.ld x2 (Rect.unit (s := S16x2816) ![0, 640] S16x128.size inb_S16x2816_S16x128_0_640))) (View.ld x0 (Rect.unit (s := S256x2816) ![0, 2048] S256x128.size inb_S256x2816_S256x128_0_2048))

theorem tap_16_at (k : Fin 3) (p : Fin 128) (q : Fin 2816) (hq : (q : ℕ) = 2048 + p) :
    tap_16 i x0 x1 x2 x3 x4 (ix2 k p) = tapped ((i 0 : Fin 32) : ℕ) x0 x1 x2 x3 x4 k q :=
  taps_of x1 x2 x3 x4 x0 _ _ 2048 _ (by omega) (fun r p q hq => loadedB i x1 x2 x3 x4 640 _ _ _ _ r p q (by omega) (by omega)) k p q hq

def tap_17 : FVec Ideal S3x128 .f32 :=
  k0_pay19 (bentB i (View.ld x4 (Rect.unit (s := S16x1408) ![0, 768] S16x128.size inb_S16x1408_S16x128_0_768)) (View.ld x3 (Rect.unit (s := S256x1408) ![0, 768] S256x128.size inb_S256x1408_S256x128_0_768)) (View.ld x1 (Rect.unit (s := S256x2816) ![0, 768] S256x128.size inb_S256x2816_S256x128_0_768)) (View.ld x2 (Rect.unit (s := S16x2816) ![0, 768] S16x128.size inb_S16x2816_S16x128_0_768))) (View.ld x0 (Rect.unit (s := S256x2816) ![0, 2176] S256x128.size inb_S256x2816_S256x128_0_2176))

theorem tap_17_at (k : Fin 3) (p : Fin 128) (q : Fin 2816) (hq : (q : ℕ) = 2176 + p) :
    tap_17 i x0 x1 x2 x3 x4 (ix2 k p) = tapped ((i 0 : Fin 32) : ℕ) x0 x1 x2 x3 x4 k q :=
  taps_of x1 x2 x3 x4 x0 _ _ 2176 _ (by omega) (fun r p q hq => loadedB i x1 x2 x3 x4 768 _ _ _ _ r p q (by omega) (by omega)) k p q hq

def tap_18 : FVec Ideal S3x128 .f32 :=
  k0_pay19 (bentB i (View.ld x4 (Rect.unit (s := S16x1408) ![0, 896] S16x128.size inb_S16x1408_S16x128_0_896)) (View.ld x3 (Rect.unit (s := S256x1408) ![0, 896] S256x128.size inb_S256x1408_S256x128_0_896)) (View.ld x1 (Rect.unit (s := S256x2816) ![0, 896] S256x128.size inb_S256x2816_S256x128_0_896)) (View.ld x2 (Rect.unit (s := S16x2816) ![0, 896] S16x128.size inb_S16x2816_S16x128_0_896))) (View.ld x0 (Rect.unit (s := S256x2816) ![0, 2304] S256x128.size inb_S256x2816_S256x128_0_2304))

theorem tap_18_at (k : Fin 3) (p : Fin 128) (q : Fin 2816) (hq : (q : ℕ) = 2304 + p) :
    tap_18 i x0 x1 x2 x3 x4 (ix2 k p) = tapped ((i 0 : Fin 32) : ℕ) x0 x1 x2 x3 x4 k q :=
  taps_of x1 x2 x3 x4 x0 _ _ 2304 _ (by omega) (fun r p q hq => loadedB i x1 x2 x3 x4 896 _ _ _ _ r p q (by omega) (by omega)) k p q hq

def tap_19 : FVec Ideal S3x128 .f32 :=
  k0_pay19 (bentB i (View.ld x4 (Rect.unit (s := S16x1408) ![0, 1024] S16x128.size inb_S16x1408_S16x128_0_1024)) (View.ld x3 (Rect.unit (s := S256x1408) ![0, 1024] S256x128.size inb_S256x1408_S256x128_0_1024)) (View.ld x1 (Rect.unit (s := S256x2816) ![0, 1024] S256x128.size inb_S256x2816_S256x128_0_1024)) (View.ld x2 (Rect.unit (s := S16x2816) ![0, 1024] S16x128.size inb_S16x2816_S16x128_0_1024))) (View.ld x0 (Rect.unit (s := S256x2816) ![0, 2432] S256x128.size inb_S256x2816_S256x128_0_2432))

theorem tap_19_at (k : Fin 3) (p : Fin 128) (q : Fin 2816) (hq : (q : ℕ) = 2432 + p) :
    tap_19 i x0 x1 x2 x3 x4 (ix2 k p) = tapped ((i 0 : Fin 32) : ℕ) x0 x1 x2 x3 x4 k q :=
  taps_of x1 x2 x3 x4 x0 _ _ 2432 _ (by omega) (fun r p q hq => loadedB i x1 x2 x3 x4 1024 _ _ _ _ r p q (by omega) (by omega)) k p q hq

def tap_20 : FVec Ideal S3x128 .f32 :=
  k0_pay19 (bentB i (View.ld x4 (Rect.unit (s := S16x1408) ![0, 1152] S16x128.size inb_S16x1408_S16x128_0_1152)) (View.ld x3 (Rect.unit (s := S256x1408) ![0, 1152] S256x128.size inb_S256x1408_S256x128_0_1152)) (View.ld x1 (Rect.unit (s := S256x2816) ![0, 1152] S256x128.size inb_S256x2816_S256x128_0_1152)) (View.ld x2 (Rect.unit (s := S16x2816) ![0, 1152] S16x128.size inb_S16x2816_S16x128_0_1152))) (View.ld x0 (Rect.unit (s := S256x2816) ![0, 2560] S256x128.size inb_S256x2816_S256x128_0_2560))

theorem tap_20_at (k : Fin 3) (p : Fin 128) (q : Fin 2816) (hq : (q : ℕ) = 2560 + p) :
    tap_20 i x0 x1 x2 x3 x4 (ix2 k p) = tapped ((i 0 : Fin 32) : ℕ) x0 x1 x2 x3 x4 k q :=
  taps_of x1 x2 x3 x4 x0 _ _ 2560 _ (by omega) (fun r p q hq => loadedB i x1 x2 x3 x4 1152 _ _ _ _ r p q (by omega) (by omega)) k p q hq

def tap_21 : FVec Ideal S3x128 .f32 :=
  k0_pay19 (bentB i (View.ld x4 (Rect.unit (s := S16x1408) ![0, 1280] S16x128.size inb_S16x1408_S16x128_0_1280)) (View.ld x3 (Rect.unit (s := S256x1408) ![0, 1280] S256x128.size inb_S256x1408_S256x128_0_1280)) (View.ld x1 (Rect.unit (s := S256x2816) ![0, 1280] S256x128.size inb_S256x2816_S256x128_0_1280)) (View.ld x2 (Rect.unit (s := S16x2816) ![0, 1280] S16x128.size inb_S16x2816_S16x128_0_1280))) (View.ld x0 (Rect.unit (s := S256x2816) ![0, 2688] S256x128.size inb_S256x2816_S256x128_0_2688))

theorem tap_21_at (k : Fin 3) (p : Fin 128) (q : Fin 2816) (hq : (q : ℕ) = 2688 + p) :
    tap_21 i x0 x1 x2 x3 x4 (ix2 k p) = tapped ((i 0 : Fin 32) : ℕ) x0 x1 x2 x3 x4 k q :=
  taps_of x1 x2 x3 x4 x0 _ _ 2688 _ (by omega) (fun r p q hq => loadedB i x1 x2 x3 x4 1280 _ _ _ _ r p q (by omega) (by omega)) k p q hq

/-- The row with the point's addition. -/
def row (o : Vec Ideal S1x3x2816 .f32) : Vec Ideal S1x3x2816 .f32 := added (tap_0 i x0 x1 x2 x3 x4) (tap_1 i x0 x1 x2 x3 x4) (tap_2 i x0 x1 x2 x3 x4) (tap_3 i x0 x1 x2 x3 x4) (tap_4 i x0 x1 x2 x3 x4) (tap_5 i x0 x1 x2 x3 x4) (tap_6 i x0 x1 x2 x3 x4) (tap_7 i x0 x1 x2 x3 x4) (tap_8 i x0 x1 x2 x3 x4) (tap_9 i x0 x1 x2 x3 x4) (tap_10 i x0 x1 x2 x3 x4) (tap_11 i x0 x1 x2 x3 x4) (tap_12 i x0 x1 x2 x3 x4) (tap_13 i x0 x1 x2 x3 x4) (tap_14 i x0 x1 x2 x3 x4) (tap_15 i x0 x1 x2 x3 x4) (tap_16 i x0 x1 x2 x3 x4) (tap_17 i x0 x1 x2 x3 x4) (tap_18 i x0 x1 x2 x3 x4) (tap_19 i x0 x1 x2 x3 x4) (tap_20 i x0 x1 x2 x3 x4) (tap_21 i x0 x1 x2 x3 x4) o

theorem row_at (o : Vec Ideal S1x3x2816 .f32) (k : Fin 3) (q : Fin 2816) :
    row i x0 x1 x2 x3 x4 o (ix3 0 k q) = o (ix3 0 k q) + tapped ((i 0 : Fin 32) : ℕ) x0 x1 x2 x3 x4 k q :=
  added_at (tapped ((i 0 : Fin 32) : ℕ) x0 x1 x2 x3 x4) _ _ _ _ _ _ _ _ _ _ _ _ _ _ _ _ _ _ _ _ _ _ o (tap_0_at i x0 x1 x2 x3 x4) (tap_1_at i x0 x1 x2 x3 x4) (tap_2_at i x0 x1 x2 x3 x4) (tap_3_at i x0 x1 x2 x3 x4) (tap_4_at i x0 x1 x2 x3 x4) (tap_5_at i x0 x1 x2 x3 x4) (tap_6_at i x0 x1 x2 x3 x4) (tap_7_at i x0 x1 x2 x3 x4) (tap_8_at i x0 x1 x2 x3 x4) (tap_9_at i x0 x1 x2 x3 x4) (tap_10_at i x0 x1 x2 x3 x4) (tap_11_at i x0 x1 x2 x3 x4) (tap_12_at i x0 x1 x2 x3 x4) (tap_13_at i x0 x1 x2 x3 x4) (tap_14_at i x0 x1 x2 x3 x4) (tap_15_at i x0 x1 x2 x3 x4) (tap_16_at i x0 x1 x2 x3 x4) (tap_17_at i x0 x1 x2 x3 x4) (tap_18_at i x0 x1 x2 x3 x4) (tap_19_at i x0 x1 x2 x3 x4) (tap_20_at i x0 x1 x2 x3 x4) (tap_21_at i x0 x1 x2 x3 x4) k q

end Cert.Proof.Ffn

end
-- ==== Proof.Ffn.DwA.lean ====
module

public import proofs.«01_k».proof.Proof.Gen.Kernel2Ideal.Frame
public import proofs.«01_k».proof.Proof.Ffn.Row
public import Idealize.ShloMosaic.Lib.Pipeline.ValueKit

/-! The gradient of the taps after the very first grid point, where the accumulator and the gradient of the taps start: the
sum over the tile's tokens. -/

@[expose] public section

set_option maxRecDepth 16384

noncomputable section

namespace Cert.Proof.Ffn

open Idealize.ShloMosaic Idealize.ShloMosaic.TcCoe Idealize.SL.Sem
open Cert.Kernel2Ideal Cert.Kernel2Ideal.Gen

theorem dw_A (c : Dev nD) (i : grid0.Coords) (arg2 : Memref sig .tc .vmem S256x2816 .bf16) (harg2 : arg2.IsWhole) (arg3 : Memref sig .tc .vmem S256x2816 .bf16) (harg3 : arg3.IsWhole) (arg4 : Memref sig .tc .vmem S16x2816 .bf16) (harg4 : arg4.IsWhole) (arg5 : Memref sig .tc .vmem S256x1408 .bf16) (harg5 : arg5.IsWhole) (arg6 : Memref sig .tc .vmem S16x1408 .bf16) (harg6 : arg6.IsWhole) (arg7 : Memref sig .tc .vmem S3x2816 .f32) (harg7 : arg7.IsWhole) (arg8 : Memref sig .tc .vmem S2x2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .f32) (harg11 : arg11.IsWhole) (arg12 : Memref sig .tc .vmem S2x3x2816 .f32) (harg12 : arg12.IsWhole) (arg13 : Memref sig .tc .vmem S256x1024 .f32) (harg13 : arg13.IsWhole) (hc0 : cond0_0 i) (hc1 : cond0_1 i) (hc2 : ¬cond0_2 i) (hc3 : ¬cond0_3 i)
    (x0 : Vec Ideal S256x2816 .bf16) (x1 : Vec Ideal S256x2816 .bf16) (x2 : Vec Ideal S16x2816 .bf16) (x3 : Vec Ideal S256x1408 .bf16) (x4 : Vec Ideal S16x1408 .bf16) (x5 : Vec Ideal S3x2816 .f32) (x6 : Vec Ideal S2x2816x1024 .bf16) (x7 : Vec Ideal S256x1024 .f32) (h : Fin 2) (k : Fin 3) (q : Fin 2816) :
    out0_A_10 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 (ix3 h k q) = if h = (show Fin 2 from i 1) then 0 + tapped ((i 0 : Fin 32) : ℕ) x0 x1 x2 x3 x4 k q else 0 := by
  frame_out
  refine (stored_first (show Fin 2 from i 1) _ (k0_off7_eq i) _ _ _ h k q).trans ?_
  by_cases c : h = (show Fin 2 from i 1)
  · rw [if_pos c, if_pos c]
    refine (row_at i x0 x1 x2 x3 x4 _ k q).trans (congrArg (· + _) ?_)
    exact (row_load _ (show Fin 2 from i 1) _ (k0_off7_eq i) _ k q).trans (by pointwise [k0_pay4])
  · rw [if_neg c, if_neg c]
    rw [View.canon_cons_unit_lit _ _ _ (by decide)]
    pointwise [k0_pay4]

end Cert.Proof.Ffn

end
-- ==== Proof.Ffn.DwB.lean ====
module

public import proofs.«01_k».proof.Proof.Gen.Kernel2Ideal.Frame
public import proofs.«01_k».proof.Proof.Ffn.Row
public import Idealize.ShloMosaic.Lib.Pipeline.ValueKit

/-! The gradient of the taps after the second column tile, where the accumulator is finished and the residual is added: what
was there before and the sum over the tile's tokens. -/

@[expose] public section

set_option maxRecDepth 16384

noncomputable section

namespace Cert.Proof.Ffn

open Idealize.ShloMosaic Idealize.ShloMosaic.TcCoe Idealize.SL.Sem
open Cert.Kernel2Ideal Cert.Kernel2Ideal.Gen

theorem dw_B (c : Dev nD) (i : grid0.Coords) (arg2 : Memref sig .tc .vmem S256x2816 .bf16) (harg2 : arg2.IsWhole) (arg3 : Memref sig .tc .vmem S256x2816 .bf16) (harg3 : arg3.IsWhole) (arg4 : Memref sig .tc .vmem S16x2816 .bf16) (harg4 : arg4.IsWhole) (arg5 : Memref sig .tc .vmem S256x1408 .bf16) (harg5 : arg5.IsWhole) (arg6 : Memref sig .tc .vmem S16x1408 .bf16) (harg6 : arg6.IsWhole) (arg7 : Memref sig .tc .vmem S3x2816 .f32) (harg7 : arg7.IsWhole) (arg8 : Memref sig .tc .vmem S2x2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .f32) (harg11 : arg11.IsWhole) (arg12 : Memref sig .tc .vmem S2x3x2816 .f32) (harg12 : arg12.IsWhole) (arg13 : Memref sig .tc .vmem S256x1024 .f32) (harg13 : arg13.IsWhole) (hc0 : ¬cond0_0 i) (hc1 : ¬cond0_1 i) (hc2 : cond0_2 i) (hc3 : cond0_3 i)
    (x0 : Vec Ideal S256x2816 .bf16) (x1 : Vec Ideal S256x2816 .bf16) (x2 : Vec Ideal S16x2816 .bf16) (x3 : Vec Ideal S256x1408 .bf16) (x4 : Vec Ideal S16x1408 .bf16) (x5 : Vec Ideal S3x2816 .f32) (x6 : Vec Ideal S2x2816x1024 .bf16) (x7 : Vec Ideal S256x1024 .f32) (xo10 : Vec Ideal S2x3x2816 .f32) (xs0 : Vec Ideal S256x1024 .f32) (h : Fin 2) (k : Fin 3) (q : Fin 2816) :
    out0_B_10 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo10 xs0 (ix3 h k q) = if h = (show Fin 2 from i 1) then xo10 (ix3 h k q) + tapped ((i 0 : Fin 32) : ℕ) x0 x1 x2 x3 x4 k q else xo10 (ix3 h k q) := by
  frame_out
  refine (stored_over _ _ xo10 (show Fin 2 from i 1) _ (k0_off7_eq i) _ _ h k q).trans ?_
  by_cases c : h = (show Fin 2 from i 1)
  · rw [if_pos c, if_pos c]
    refine (row_at i x0 x1 x2 x3 x4 _ k q).trans (congrArg (· + _) ?_)
    rw [c]
    exact row_load xo10 (show Fin 2 from i 1) _ (k0_off7_eq i) _ k q
  · rw [if_neg c, if_neg c]

end Cert.Proof.Ffn

end
-- ==== Proof.Ffn.DwC.lean ====
module

public import proofs.«01_k».proof.Proof.Gen.Kernel2Ideal.Frame
public import proofs.«01_k».proof.Proof.Ffn.Row
public import Idealize.ShloMosaic.Lib.Pipeline.ValueKit

/-! The gradient of the taps after the first column tile of a later row tile, where the accumulator starts afresh: what was
there before and the sum over the tile's tokens. -/

@[expose] public section

set_option maxRecDepth 16384

noncomputable section

namespace Cert.Proof.Ffn

open Idealize.ShloMosaic Idealize.ShloMosaic.TcCoe Idealize.SL.Sem
open Cert.Kernel2Ideal Cert.Kernel2Ideal.Gen

theorem dw_C (c : Dev nD) (i : grid0.Coords) (arg2 : Memref sig .tc .vmem S256x2816 .bf16) (harg2 : arg2.IsWhole) (arg3 : Memref sig .tc .vmem S256x2816 .bf16) (harg3 : arg3.IsWhole) (arg4 : Memref sig .tc .vmem S16x2816 .bf16) (harg4 : arg4.IsWhole) (arg5 : Memref sig .tc .vmem S256x1408 .bf16) (harg5 : arg5.IsWhole) (arg6 : Memref sig .tc .vmem S16x1408 .bf16) (harg6 : arg6.IsWhole) (arg7 : Memref sig .tc .vmem S3x2816 .f32) (harg7 : arg7.IsWhole) (arg8 : Memref sig .tc .vmem S2x2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x1024 .f32) (harg11 : arg11.IsWhole) (arg12 : Memref sig .tc .vmem S2x3x2816 .f32) (harg12 : arg12.IsWhole) (arg13 : Memref sig .tc .vmem S256x1024 .f32) (harg13 : arg13.IsWhole) (hc0 : ¬cond0_0 i) (hc1 : cond0_1 i) (hc2 : ¬cond0_2 i) (hc3 : ¬cond0_3 i)
    (x0 : Vec Ideal S256x2816 .bf16) (x1 : Vec Ideal S256x2816 .bf16) (x2 : Vec Ideal S16x2816 .bf16) (x3 : Vec Ideal S256x1408 .bf16) (x4 : Vec Ideal S16x1408 .bf16) (x5 : Vec Ideal S3x2816 .f32) (x6 : Vec Ideal S2x2816x1024 .bf16) (x7 : Vec Ideal S256x1024 .f32) (xo10 : Vec Ideal S2x3x2816 .f32) (h : Fin 2) (k : Fin 3) (q : Fin 2816) :
    out0_C_10 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xo10 (ix3 h k q) = if h = (show Fin 2 from i 1) then xo10 (ix3 h k q) + tapped ((i 0 : Fin 32) : ℕ) x0 x1 x2 x3 x4 k q else xo10 (ix3 h k q) := by
  frame_out
  refine (stored_over _ _ xo10 (show Fin 2 from i 1) _ (k0_off7_eq i) _ _ h k q).trans ?_
  by_cases c : h = (show Fin 2 from i 1)
  · rw [if_pos c, if_pos c]
    refine (row_at i x0 x1 x2 x3 x4 _ k q).trans (congrArg (· + _) ?_)
    rw [c]
    exact row_load xo10 (show Fin 2 from i 1) _ (k0_off7_eq i) _ k q
  · rw [if_neg c, if_neg c]

end Cert.Proof.Ffn

end
-- ==== Proof.Ffn.Out10.lean ====
module

public import proofs.«01_k».proof.Proof.Gen.Kernel2Ideal.Frame
public import proofs.«01_k».proof.Proof.Ffn.Points
public import proofs.«01_k».proof.Proof.Ffn.DwA
public import proofs.«01_k».proof.Proof.Ffn.DwB
public import proofs.«01_k».proof.Proof.Ffn.DwC
public import Idealize.ShloMosaic.Lib.Pipeline.ValueKit

/-! # The gradient of the taps -/

@[expose] public section

set_option maxRecDepth 16384

noncomputable section

namespace Cert.Proof.Ffn

open Idealize.ShloMosaic Idealize.ShloMosaic.TcCoe Idealize.SL.Sem
open Cert.Kernel2Ideal Cert.Kernel2Ideal.Gen

variable (m : (ℓ : Loc nD τ sig) → Buf (Elt Ideal) ℓ)

/-- What point `t` adds. -/
def added_by (c : Dev nD) (t : Fin cfg0.N) (y : S2x3x2816.Idx) : EReal :=
  if (show Fin 2 from y 0) = (show Fin 2 from grid0.coords t 1) then
    tapped ((grid0.coords t 0 : Fin 32) : ℕ) (iblk m c 0 t) (iblk m c 1 t) (iblk m c 2 t) (iblk m c 3 t) (iblk m c 4 t) (y 1) (y 2)
  else 0

theorem first (c : Dev nD) (t : Fin cfg0.N) (h : t.val % 64 = 0) (y : S2x3x2816.Idx) :
    (outsAt0 m c t.val t.isLt).2.2.1 y = 0 + added_by m c t y := by
  idx_vars y
  rw [outsAt0_A m c t h (by omega) (by omega) (by omega)]
  dsimp only
  refine (dw_A ..).trans ?_
  unfold added_by
  rw [zero_add, zero_add]
  rfl

theorem next (c : Dev nD) (t : Fin cfg0.N) (h : ¬ t.val % 64 = 0) (y : S2x3x2816.Idx) :
    (outsAt0 m c t.val t.isLt).2.2.1 y
      = (outsAt0 m c (t.val - 1) (Nat.lt_of_le_of_lt (Nat.sub_le _ _) t.isLt)).2.2.1 y + added_by m c t y := by
  idx_vars y
  have key : ∀ (p : Prop) [Decidable p] (a b : EReal), (if p then a + b else a) = a + (if p then b else 0) := fun p _ a b => by
    by_cases e : p
    · rw [if_pos e, if_pos e]
    · rw [if_neg e, if_neg e, add_zero]
  by_cases g : t.val % 2 = 1
  · rw [outsAt0_B m c t h (by omega) g g]
    dsimp only
    exact (dw_B ..).trans (key _ _ _)
  · rw [outsAt0_C m c t h (by omega) g g]
    dsimp only
    exact (dw_C ..).trans (key _ _ _)

theorem whole (c : Dev nD) (k : Fin 3) (f : Fin 5632) (h : Fin 2) (q : Fin 2816) (hf : (f : ℕ) = (h : ℕ) * 2816 + q) :
    (∑ t : Fin cfg0.N, added_by m c t (ix3 h k q))
      = ∑ s : Fin 8192, backOf (argX m c) (argW m c) (argV m c) (argH m c) (ix2 s (src f)) * earlier (projected (argX m c) (argW m c)) (2 - k) s (src f) := by
  rw [← shifted _ _ (src f) (2 - k) (Nat.sub_le _ _), ← all_tokens, ← every_other h]
  rw [show (∑ t : Fin cfg0.N, added_by m c t (ix3 h k q)) = ∑ u : Fin 64, added_by m c ⟨u, u.isLt.trans_eq N_0.symm⟩ (ix3 h k q) from
    Fintype.sum_equiv (finCongr N_0) _ _ fun _ => rfl]
  refine Finset.sum_congr rfl fun u _ => ?_
  have e : ((h : Fin 2) = (show Fin 2 from grid0.coords ⟨u, u.isLt.trans_eq N_0.symm⟩ 1)) ↔ (h : ℕ) = (u : ℕ) % 2 := by
    rw [← coords_1 ⟨u, u.isLt.trans_eq N_0.symm⟩]; exact Fin.ext_iff
  by_cases g : (h : ℕ) = (u : ℕ) % 2
  · refine (if_pos (e.2 g)).trans (Eq.trans ?_ (if_pos g).symm)
    exact point_tapped m c ⟨u, u.isLt.trans_eq N_0.symm⟩ k q f (by rw [hf, g]) ((u : ℕ) / 2) rfl (by omega)
  · exact (if_neg (fun x => g (e.1 x))).trans (if_neg g).symm

theorem value10 (c : Dev nD) (t : Fin cfg0.N) (g : t.val % 64 = 63) (y : S2x3x2816.Idx) (j : Shape.Idx ⟨3, ![2, 3, 2816]⟩)
    (h0 : (j 0 : ℕ) = (y 0 : ℕ)) (h1 : (j 1 : ℕ) = (y 1 : ℕ)) (h2 : (j 2 : ℕ) = (y 2 : ℕ)) :
    (outsAt0 m c t.val t.isLt).2.2.1 y = gradV (argX m c) (argW m c) (argV m c) (argH m c) j := by
  have ht : t.val < 64 := lt_of_lt_of_eq t.isLt N_0
  obtain rfl : j = y := by
    funext i
    refine Fin.ext ?_
    fin_cases i
    · exact h0
    · exact h1
    · exact h2
  obtain ⟨a, k, q, rfl⟩ : ∃ (a : Fin 2) (k : Fin 3) (q : Fin 2816), j = ix3 a k q := ⟨j 0, j 1, j 2, by funext i; fin_cases i <;> rfl⟩
  rw [Pipeline.eq_sum_fin_of_reset_step_apply_last (fun n h => (outsAt0 m c n h).2.2.1) 64 (fun _ => 0)
    (added_by m c) (first m c) (next m c) (le_of_eq N_0) t ((show t.val + 1 = 64 by omega).trans N_0.symm) (ix3 a k q), zero_add]
  exact whole m c k ⟨(a : ℕ) * 2816 + q, by omega⟩ a q rfl

theorem final10 (c : Dev nD) : (dats m 0 c).arrAt 10 (cfgs 0).N = gradV (argX m c) (argW m c) (argV m c) (argH m c) := by
  refine (dats m 0 c).arrAt_eq_of_covers 10 _ (by decide +kernel) fun t hf y => ?_
  blk_simp
  rw [after0_10]
  refine value10 m c t ((flush0_10 t).mp hf) y _ ?_ ?_ ?_ <;> (blk_simp [idx t] <;> try omega)

end Cert.Proof.Ffn

end
-- ==== Proof.Ffn.Run.lean ====
module

public import proofs.«01_k».proof.Proof.Gen.Kernel2Ideal.Frame
public import proofs.«01_k».proof.Proof.Gen.Reference2Ideal.Run
public import proofs.«01_k».proof.Proof.Gen.Reference2Ideal.Read
public import proofs.«01_k».proof.Proof.Ffn.Out8
public import proofs.«01_k».proof.Proof.Ffn.Out9
public import proofs.«01_k».proof.Proof.Ffn.Out10
public import proofs.«01_k».proof.Proof.Ffn.Ref
public import Idealize.ShloMosaic.Lib.Pipeline.ValueKit

/-! # The two runs of the up-projection's backward step

The kernel leaves the three gradients; the reference leaves them where the arguments are real numbers. -/

@[expose] public section

set_option maxRecDepth 16384

noncomputable section

namespace Cert.Proof.Ffn

open Idealize.ShloMosaic Idealize.ShloMosaic.TcCoe Idealize.SL.Sem

section
open Cert.Kernel2Ideal Cert.Kernel2Ideal.Gen

/-- The kernel leaves the three gradients and keeps its arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40_0) = gradU (argX m c) (argW m c) (argV m c) (argH m c)
      ∧ r.2.mem ((c.tc : Thread nD τ).loc main_v40_1) = gradX (argX m c) (argW m c) (argV m c) (argH m c) (argZ m c)
      ∧ r.2.mem ((c.tc : Thread nD τ).loc main_v40_2) = gradV (argX m c) (argW m c) (argV m c) (argH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 8).trans (final8 m c), ((h c).1 9).trans (final9 m c), ((h c).1 10).trans (final10 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).1 7).trans (((dats m 0 c).arrAt_in 7 rfl _).trans ((A_eq m c 7).trans (V_main_arg4 m c)))⟩) (run_main m ρ)

end

section
open Cert.Reference2Ideal Cert.Reference2Ideal.Read

/-- The reference keeps its arguments and leaves the three gradients where its arguments are real numbers. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (x : Tokens) (w : Matrix) (v : Taps) (h : Half) (z : Tokens), m ((c.tc : Thread nD τ).loc main_arg0) = x → m ((c.tc : Thread nD τ).loc main_arg1) = w →
        m ((c.tc : Thread nD τ).loc main_arg2) = v → m ((c.tc : Thread nD τ).loc main_arg3) = h → m ((c.tc : Thread nD τ).loc main_arg4) = z →
        Finite x → Finite w → Finite v → Finite h →
          r.2.mem ((c.tc : Thread nD τ).loc main_v81) = gradU x w v h ∧ r.2.mem ((c.tc : Thread nD τ).loc main_v71) = gradX x w v h z
          ∧ r.2.mem ((c.tc : Thread nD τ).loc main_v86) = gradV x w v h)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r k c => ⟨fun x w v h z e0 e1 e2 e3 e4 hx hw hv hh => by
      subst e0 e1 e2 e3 e4
      obtain ⟨a, b, d⟩ := ref_results _ _ _ _ (m ((c.tc : Thread nD τ).loc main_arg4)) hx hw hv hh
      exact ⟨(k c).1.trans ((val_main_v81_eq _).trans a), (k c).2.1.trans ((val_main_v71_eq _).trans b), (k c).2.2.1.trans ((val_main_v86_eq _).trans d)⟩,
      (k c).2.2.2⟩) (Cert.Reference2Ideal.Value.run m ρ)

end

end Cert.Proof.Ffn

end
-- ==== Proof.Grad.Spec.lean ====
/- The gradient of a matrix that multiplies every token: a sum over the tokens. -/
module

public import Idealize.ShloMosaic.Lib.Pipeline.ValueKit

@[expose] public section

set_option maxRecDepth 16384

noncomputable section

namespace Cert.Proof.Grad

open Idealize.ShloMosaic

/-- Entry `(r, d)` sums, over the 8192 tokens, column `r` of the first array times column `off + d` of the second. -/
def weightGrad {A N : ℕ} {φ ψ : FTy} (off : ℕ) (h : off + 1024 ≤ N) (a : FVec Ideal ⟨2, ![8192, A]⟩ φ)
    (x : FVec Ideal ⟨2, ![8192, N]⟩ ψ) : FVec Ideal ⟨2, ![A, 1024]⟩ .bf16 :=
  fun i => ∑ l : Fin 8192, a (ix2 l (i 0)) * x (ix2 l ⟨off + (i 1 : ℕ), by have h : (i 1 : ℕ) < 1024 := (i 1).isLt; omega⟩)

/-- One tile's product, over the tile's `T` tokens. -/
def part {T A : ℕ} {φ ψ : FTy} (a : FVec Ideal ⟨2, ![T, A]⟩ φ) (x : FVec Ideal ⟨2, ![T, 1024]⟩ ψ) :
    FVec Ideal ⟨2, ![A, 1024]⟩ .f32 :=
  fun j => ∑ k : Fin T, a (ix2 k (j 0)) * x (ix2 k (j 1))

end Cert.Proof.Grad

end
-- ==== Proof.Grad.UpW.lean ====
/- The gradient of the up-projection's matrix: the kernel gathers it tile by tile, the reference takes one product. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Grad.Spec

@[expose] public section

set_option maxRecDepth 16384

noncomputable section

namespace Cert.Proof.UpW

open Idealize.ShloMosaic Idealize.ShloMosaic.TcCoe Idealize.SL.Sem
open Idealize.ShloMosaic.Pipeline (Dat)
open Cert.Proof.Grad

section
open Cert.Kernel3Ideal Cert.Kernel3Ideal.Gen

variable (m : (ℓ : Loc nD τ sig) → Buf (Elt Ideal) ℓ)

/-- The blocks at point `t`: token tile `t % 8`, row tile `t / 8` of the result. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem product (x0 : FVec Ideal S1024x1408 .bf16) (x1 : FVec Ideal S1024x1024 .f32) (j : S1408x1024.Idx) :
    k0_pay1 (F := Ideal) x0 x1 j = part x0 x1 j := by
  idx_vars j
  pointwise [k0_pay1, part]

/-- The accumulator starts at the first tile's product. -/
theorem first (c : Dev nD) (t : Fin cfg0.N) (h : t.val % 8 = 0) (j : S1408x1024.Idx) :
    (outsAt0 m c t.val t.isLt).2 j = 0 + part (φ := .bf16) (ψ := .f32) (iblk m c 0 t) (iblk m c 1 t) j := by
  have ht : t.val < 32 := lt_of_lt_of_eq t.isLt N_0
  rw [outsAt0_A m c t h (by omega) (by omega), zero_add, ← product]
  frame_out
  pointwise [k0_pay2]

/-- Every later tile adds its product. -/
theorem next (c : Dev nD) (t : Fin cfg0.N) (h : ¬t.val % 8 = 0) (j : S1408x1024.Idx) :
    (outsAt0 m c t.val t.isLt).2 j = (outsAt0 m c (t.val - 1) (Nat.lt_of_le_of_lt (Nat.sub_le _ _) t.isLt)).2 j
      + part (φ := .bf16) (ψ := .f32) (iblk m c 0 t) (iblk m c 1 t) j := by
  have ht : t.val < 32 := lt_of_lt_of_eq t.isLt N_0
  rw [← product]
  by_cases hl : t.val % 8 = 7
  · rw [outsAt0_C m c t h (by omega) hl]
    frame_out
    pointwise [k0_pay3]
    exact congrArg (· + _) (congrFun (Memref.IsWhole.read_unread _ _) j)
  · rw [outsAt0_B m c t h (by omega) hl]
    frame_out
    pointwise [k0_pay3]
    exact congrArg (· + _) (congrFun (Memref.IsWhole.read_unread _ _) j)

/-- The last tile's point stores the accumulator. -/
theorem last (c : Dev nD) (t : Fin cfg0.N) (h : t.val % 8 = 7) (j : S1408x1024.Idx) :
    (outsAt0 m c t.val t.isLt).1 j = (outsAt0 m c t.val t.isLt).2 j := by
  have ht : t.val < 32 := lt_of_lt_of_eq t.isLt N_0
  rw [outsAt0_C m c t (by omega) (by omega) h]
  frame_out
  pointwise [k0_pay4, k0_pay3]

theorem final (c : Dev nD) : (dats m 0 c).arrAt 2 (cfgs 0).N
    = weightGrad (φ := .bf16) (ψ := .f32) 0 (by decide) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf) y,
    Pipeline.eq_sum_fin_of_reset_step_apply_of_flush (fun n h => (outsAt0 m c n h).2) 8 (fun _ => 0)
      (fun t => part (φ := .bf16) (ψ := .f32) (iblk m c 0 t) (iblk m c 1 t)) (first m c) (next m c) t ((flush0_2 t).mp hf) y, zero_add]
  unfold part weightGrad
  refine Fin.sum_mul_add_congr fun s k hl => ?_
  blk_point [iblk, V, idx t, idx ⟨_, Pipeline.run_point_lt_of_flush t ((flush0_2 t).mp hf) s⟩]

/-- The kernel leaves the gradient and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0)
        = weightGrad (φ := .bf16) (ψ := .f32) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.Kernel3Ideal.Value.run_blocks m ρ)

end

section
open Cert.Reference3Ideal Cert.Reference3Ideal.Read

theorem ref (a : FVec Ideal S8192x5632 .bf16) (x : FVec Ideal S8192x1024 .f32) :
    val_main_v6 (F := Ideal) a x = weightGrad (φ := .bf16) (ψ := .f32) 0 (by decide) a x := by
  funext i
  idx_vars i
  pointwise [val_main_v6, val_main_v5, val_main_v4, val_main_v3, val_main_v2, weightGrad]

/-- The reference leaves the gradient and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
        = weightGrad (φ := .bf16) (ψ := .f32) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v6_eq _ _).trans (ref _ _)), (h c).2⟩)
    (Cert.Reference3Ideal.Value.run m ρ)

end

end Cert.Proof.UpW

end
-- ==== Proof.Grad.DownW.lean ====
/- The gradient of the down-projection's matrix: the kernel gathers it tile by tile, the reference takes one product. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Grad.Spec

@[expose] public section

set_option maxRecDepth 16384

noncomputable section

namespace Cert.Proof.DownW

open Idealize.ShloMosaic Idealize.ShloMosaic.TcCoe Idealize.SL.Sem
open Idealize.ShloMosaic.Pipeline (Dat)
open Cert.Proof.Grad

section
open Cert.Kernel4Ideal Cert.Kernel4Ideal.Gen

variable (m : (ℓ : Loc nD τ sig) → Buf (Elt Ideal) ℓ)

/-- The blocks at point `t`: token tile `t % 8`, row tile `t / 8` of the result. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem product (x0 : FVec Ideal S1024x1408 .bf16) (x1 : FVec Ideal S1024x1024 .f32) (j : S1408x1024.Idx) :
    k0_pay1 (F := Ideal) x0 x1 j = part x0 x1 j := by
  idx_vars j
  pointwise [k0_pay1, part]

/-- The accumulator starts at the first tile's product. -/
theorem first (c : Dev nD) (t : Fin cfg0.N) (h : t.val % 8 = 0) (j : S1408x1024.Idx) :
    (outsAt0 m c t.val t.isLt).2 j = 0 + part (φ := .bf16) (ψ := .f32) (iblk m c 0 t) (iblk m c 1 t) j := by
  have ht : t.val < 16 := lt_of_lt_of_eq t.isLt N_0
  rw [outsAt0_A m c t h (by omega) (by omega), zero_add, ← product]
  frame_out
  pointwise [k0_pay2]

/-- Every later tile adds its product. -/
theorem next (c : Dev nD) (t : Fin cfg0.N) (h : ¬t.val % 8 = 0) (j : S1408x1024.Idx) :
    (outsAt0 m c t.val t.isLt).2 j = (outsAt0 m c (t.val - 1) (Nat.lt_of_le_of_lt (Nat.sub_le _ _) t.isLt)).2 j
      + part (φ := .bf16) (ψ := .f32) (iblk m c 0 t) (iblk m c 1 t) j := by
  have ht : t.val < 16 := lt_of_lt_of_eq t.isLt N_0
  rw [← product]
  by_cases hl : t.val % 8 = 7
  · rw [outsAt0_C m c t h (by omega) hl]
    frame_out
    pointwise [k0_pay3]
    exact congrArg (· + _) (congrFun (Memref.IsWhole.read_unread _ _) j)
  · rw [outsAt0_B m c t h (by omega) hl]
    frame_out
    pointwise [k0_pay3]
    exact congrArg (· + _) (congrFun (Memref.IsWhole.read_unread _ _) j)

/-- The last tile's point stores the accumulator. -/
theorem last (c : Dev nD) (t : Fin cfg0.N) (h : t.val % 8 = 7) (j : S1408x1024.Idx) :
    (outsAt0 m c t.val t.isLt).1 j = (outsAt0 m c t.val t.isLt).2 j := by
  have ht : t.val < 16 := lt_of_lt_of_eq t.isLt N_0
  rw [outsAt0_C m c t (by omega) (by omega) h]
  frame_out
  pointwise [k0_pay4, k0_pay3]

theorem final (c : Dev nD) : (dats m 0 c).arrAt 2 (cfgs 0).N
    = weightGrad (φ := .bf16) (ψ := .f32) 0 (by decide) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf) y,
    Pipeline.eq_sum_fin_of_reset_step_apply_of_flush (fun n h => (outsAt0 m c n h).2) 8 (fun _ => 0)
      (fun t => part (φ := .bf16) (ψ := .f32) (iblk m c 0 t) (iblk m c 1 t)) (first m c) (next m c) t ((flush0_2 t).mp hf) y, zero_add]
  unfold part weightGrad
  refine Fin.sum_mul_add_congr fun s k hl => ?_
  blk_point [iblk, V, idx t, idx ⟨_, Pipeline.run_point_lt_of_flush t ((flush0_2 t).mp hf) s⟩]

/-- The kernel leaves the gradient and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0)
        = weightGrad (φ := .bf16) (ψ := .f32) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.Kernel4Ideal.Value.run_blocks m ρ)

end

section
open Cert.Reference4Ideal Cert.Reference4Ideal.Read

theorem ref (a : FVec Ideal S8192x2816 .bf16) (x : FVec Ideal S8192x1024 .f32) :
    val_main_v5 (F := Ideal) a x = weightGrad (φ := .bf16) (ψ := .f32) 0 (by decide) a x := by
  funext i
  idx_vars i
  pointwise [val_main_v5, val_main_v4, val_main_v3, val_main_v1, weightGrad]
  exact Finset.sum_congr rfl fun k _ => mul_comm _ _

/-- The reference leaves the gradient and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
        = weightGrad (φ := .bf16) (ψ := .f32) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v5_eq _ _).trans (ref _ _)), (h c).2⟩)
    (Cert.Reference4Ideal.Value.run m ρ)

end

end Cert.Proof.DownW

end
-- ==== Proof.Grad.OutW.lean ====
/- The gradient of the output projection's matrix: the kernel gathers it tile by tile, the reference takes one product. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Grad.Spec

@[expose] public section

set_option maxRecDepth 16384

noncomputable section

namespace Cert.Proof.OutW

open Idealize.ShloMosaic Idealize.ShloMosaic.TcCoe Idealize.SL.Sem
open Idealize.ShloMosaic.Pipeline (Dat)
open Cert.Proof.Grad

section
open Cert.Kernel5Ideal Cert.Kernel5Ideal.Gen

variable (m : (ℓ : Loc nD τ sig) → Buf (Elt Ideal) ℓ)

/-- The blocks at point `t`: token tile `t % 4`, row tile `t / 4` of the result. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem product (x0 : FVec Ideal S2048x1024 .bf16) (x1 : FVec Ideal S2048x1024 .f32) (j : S1024x1024.Idx) :
    k0_pay1 (F := Ideal) x0 x1 j = part x0 x1 j := by
  idx_vars j
  pointwise [k0_pay1, part]

/-- The accumulator starts at the first tile's product. -/
theorem first (c : Dev nD) (t : Fin cfg0.N) (h : t.val % 4 = 0) (j : S1024x1024.Idx) :
    (outsAt0 m c t.val t.isLt).2 j = 0 + part (φ := .bf16) (ψ := .f32) (iblk m c 0 t) (iblk m c 1 t) j := by
  have ht : t.val < 4 := lt_of_lt_of_eq t.isLt N_0
  rw [outsAt0_A m c t h (by omega) (by omega), zero_add, ← product]
  frame_out
  pointwise [k0_pay2]

/-- Every later tile adds its product. -/
theorem next (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j
      + part (φ := .bf16) (ψ := .f32) (iblk m c 0 t) (iblk m c 1 t) j := by
  have ht : t.val < 4 := lt_of_lt_of_eq t.isLt N_0
  rw [← product]
  by_cases hl : t.val % 4 = 3
  · rw [outsAt0_C m c t h (by omega) hl]
    frame_out
    pointwise [k0_pay3]
    exact congrArg (· + _) (congrFun (Memref.IsWhole.read_unread _ _) j)
  · rw [outsAt0_B m c t h (by omega) hl]
    frame_out
    pointwise [k0_pay3]
    exact congrArg (· + _) (congrFun (Memref.IsWhole.read_unread _ _) j)

/-- The last tile's point stores the accumulator. -/
theorem last (c : Dev nD) (t : Fin cfg0.N) (h : t.val % 4 = 3) (j : S1024x1024.Idx) :
    (outsAt0 m c t.val t.isLt).1 j = (outsAt0 m c t.val t.isLt).2 j := by
  have ht : t.val < 4 := lt_of_lt_of_eq t.isLt N_0
  rw [outsAt0_C m c t (by omega) (by omega) h]
  frame_out
  pointwise [k0_pay4, k0_pay3]

theorem final (c : Dev nD) : (dats m 0 c).arrAt 2 (cfgs 0).N
    = weightGrad (φ := .bf16) (ψ := .f32) 0 (by decide) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf) y,
    Pipeline.eq_sum_fin_of_reset_step_apply_of_flush (fun n h => (outsAt0 m c n h).2) 4 (fun _ => 0)
      (fun t => part (φ := .bf16) (ψ := .f32) (iblk m c 0 t) (iblk m c 1 t)) (first m c) (next m c) t ((flush0_2 t).mp hf) y, zero_add]
  unfold part weightGrad
  refine Fin.sum_mul_add_congr fun s k hl => ?_
  blk_point [iblk, V, idx t, idx ⟨_, Pipeline.run_point_lt_of_flush t ((flush0_2 t).mp hf) s⟩]

/-- The kernel leaves the gradient and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0)
        = weightGrad (φ := .bf16) (ψ := .f32) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.Kernel5Ideal.Value.run_blocks m ρ)

end

section
open Cert.Reference5Ideal Cert.Reference5Ideal.Read

theorem ref (a : FVec Ideal S8192x1024 .bf16) (x : FVec Ideal S8192x1024 .f32) :
    val_main_v5 (F := Ideal) a x = weightGrad (φ := .bf16) (ψ := .f32) 0 (by decide) a x := by
  funext i
  idx_vars i
  pointwise [val_main_v5, val_main_v4, val_main_v3, val_main_v1, weightGrad]
  exact Finset.sum_congr rfl fun k _ => mul_comm _ _

/-- The reference leaves the gradient and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
        = weightGrad (φ := .bf16) (ψ := .f32) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v5_eq _ _).trans (ref _ _)), (h c).2⟩)
    (Cert.Reference5Ideal.Value.run m ρ)

end

end Cert.Proof.OutW

end
-- ==== Proof.Grad.GateW.lean ====
/- The gradient of the input projection's gate columns: the kernel gathers it tile by tile, the reference takes one product. -/
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Grad.Spec

@[expose] public section

set_option maxRecDepth 16384

noncomputable section

namespace Cert.Proof.GateW

open Idealize.ShloMosaic Idealize.ShloMosaic.TcCoe Idealize.SL.Sem
open Idealize.ShloMosaic.Pipeline (Dat)
open Cert.Proof.Grad

section
open Cert.Kernel6Ideal Cert.Kernel6Ideal.Gen

variable (m : (ℓ : Loc nD τ sig) → Buf (Elt Ideal) ℓ)

/-- The blocks at point `t`: token tile `t % 4`, row tile `t / 4` of the result. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem product (x0 : FVec Ideal S2048x1024 .bf16) (x1 : FVec Ideal S2048x1024 .f32) (j : S1024x1024.Idx) :
    k0_pay1 (F := Ideal) x0 x1 j = part x0 x1 j := by
  idx_vars j
  pointwise [k0_pay1, part]

/-- The accumulator starts at the first tile's product. -/
theorem first (c : Dev nD) (t : Fin cfg0.N) (h : t.val % 4 = 0) (j : S1024x1024.Idx) :
    (outsAt0 m c t.val t.isLt).2 j = 0 + part (φ := .bf16) (ψ := .f32) (iblk m c 0 t) (iblk m c 1 t) j := by
  have ht : t.val < 12 := lt_of_lt_of_eq t.isLt N_0
  rw [outsAt0_A m c t h (by omega) (by omega), zero_add, ← product]
  frame_out
  pointwise [k0_pay2]

/-- Every later tile adds its product. -/
theorem next (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j
      + part (φ := .bf16) (ψ := .f32) (iblk m c 0 t) (iblk m c 1 t) j := by
  have ht : t.val < 12 := lt_of_lt_of_eq t.isLt N_0
  rw [← product]
  by_cases hl : t.val % 4 = 3
  · rw [outsAt0_C m c t h (by omega) hl]
    frame_out
    pointwise [k0_pay3]
    exact congrArg (· + _) (congrFun (Memref.IsWhole.read_unread _ _) j)
  · rw [outsAt0_B m c t h (by omega) hl]
    frame_out
    pointwise [k0_pay3]
    exact congrArg (· + _) (congrFun (Memref.IsWhole.read_unread _ _) j)

/-- The last tile's point stores the accumulator. -/
theorem last (c : Dev nD) (t : Fin cfg0.N) (h : t.val % 4 = 3) (j : S1024x1024.Idx) :
    (outsAt0 m c t.val t.isLt).1 j = (outsAt0 m c t.val t.isLt).2 j := by
  have ht : t.val < 12 := lt_of_lt_of_eq t.isLt N_0
  rw [outsAt0_C m c t (by omega) (by omega) h]
  frame_out
  pointwise [k0_pay4, k0_pay3]

theorem final (c : Dev nD) : (dats m 0 c).arrAt 2 (cfgs 0).N
    = weightGrad (φ := .bf16) (ψ := .f32) 0 (by decide) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf) y,
    Pipeline.eq_sum_fin_of_reset_step_apply_of_flush (fun n h => (outsAt0 m c n h).2) 4 (fun _ => 0)
      (fun t => part (φ := .bf16) (ψ := .f32) (iblk m c 0 t) (iblk m c 1 t)) (first m c) (next m c) t ((flush0_2 t).mp hf) y, zero_add]
  unfold part weightGrad
  refine Fin.sum_mul_add_congr fun s k hl => ?_
  blk_point [iblk, V, idx t, idx ⟨_, Pipeline.run_point_lt_of_flush t ((flush0_2 t).mp hf) s⟩]

/-- The kernel leaves the gradient and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0)
        = weightGrad (φ := .bf16) (ψ := .f32) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.Kernel6Ideal.Value.run_blocks m ρ)

end

section
open Cert.Reference6Ideal Cert.Reference6Ideal.Read

theorem ref (a : FVec Ideal S8192x3072 .bf16) (x : FVec Ideal S8192x1024 .f32) :
    val_main_v6 (F := Ideal) a x = weightGrad (φ := .bf16) (ψ := .f32) 0 (by decide) a x := by
  funext i
  idx_vars i
  pointwise [val_main_v6, val_main_v5, val_main_v4, val_main_v3, val_main_v2, weightGrad]

/-- The reference leaves the gradient and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
        = weightGrad (φ := .bf16) (ψ := .f32) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v6_eq _ _).trans (ref _ _)), (h c).2⟩)
    (Cert.Reference6Ideal.Value.run m ρ)

end

end Cert.Proof.GateW

end
-- ==== Proof.Grad.PoolConvW.lean ====
/- The gradient of the input projection's pooling and convolution columns: the kernel gathers it tile by tile, the reference takes one product. -/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Grad.Spec

@[expose] public section

set_option maxRecDepth 16384

noncomputable section

namespace Cert.Proof.PoolConvW

open Idealize.ShloMosaic Idealize.ShloMosaic.TcCoe Idealize.SL.Sem
open Idealize.ShloMosaic.Pipeline (Dat)
open Cert.Proof.Grad

section
open Cert.Kernel7Ideal Cert.Kernel7Ideal.Gen

variable (m : (ℓ : Loc nD τ sig) → Buf (Elt Ideal) ℓ)

/-- The blocks at point `t`: token tile `t % 4`, row tile `t / 4` of the result. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem product (x0 : FVec Ideal S2048x1024 .bf16) (x1 : FVec Ideal S2048x1024 .f32) (j : S1024x1024.Idx) :
    k0_pay1 (F := Ideal) x0 x1 j = part x0 x1 j := by
  idx_vars j
  pointwise [k0_pay1, part]

/-- The accumulator starts at the first tile's product. -/
theorem first (c : Dev nD) (t : Fin cfg0.N) (h : t.val % 4 = 0) (j : S1024x1024.Idx) :
    (outsAt0 m c t.val t.isLt).2 j = 0 + part (φ := .bf16) (ψ := .f32) (iblk m c 0 t) (iblk m c 1 t) j := by
  have ht : t.val < 4 := lt_of_lt_of_eq t.isLt N_0
  rw [outsAt0_A m c t h (by omega) (by omega), zero_add, ← product]
  frame_out
  pointwise [k0_pay2]

/-- Every later tile adds its product. -/
theorem next (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j
      + part (φ := .bf16) (ψ := .f32) (iblk m c 0 t) (iblk m c 1 t) j := by
  have ht : t.val < 4 := lt_of_lt_of_eq t.isLt N_0
  rw [← product]
  by_cases hl : t.val % 4 = 3
  · rw [outsAt0_C m c t h (by omega) hl]
    frame_out
    pointwise [k0_pay3]
    exact congrArg (· + _) (congrFun (Memref.IsWhole.read_unread _ _) j)
  · rw [outsAt0_B m c t h (by omega) hl]
    frame_out
    pointwise [k0_pay3]
    exact congrArg (· + _) (congrFun (Memref.IsWhole.read_unread _ _) j)

/-- The last tile's point stores the accumulator. -/
theorem last (c : Dev nD) (t : Fin cfg0.N) (h : t.val % 4 = 3) (j : S1024x1024.Idx) :
    (outsAt0 m c t.val t.isLt).1 j = (outsAt0 m c t.val t.isLt).2 j := by
  have ht : t.val < 4 := lt_of_lt_of_eq t.isLt N_0
  rw [outsAt0_C m c t (by omega) (by omega) h]
  frame_out
  pointwise [k0_pay4, k0_pay3]

theorem final (c : Dev nD) : (dats m 0 c).arrAt 2 (cfgs 0).N
    = weightGrad (φ := .bf16) (ψ := .f32) 0 (by decide) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf) y,
    Pipeline.eq_sum_fin_of_reset_step_apply_of_flush (fun n h => (outsAt0 m c n h).2) 4 (fun _ => 0)
      (fun t => part (φ := .bf16) (ψ := .f32) (iblk m c 0 t) (iblk m c 1 t)) (first m c) (next m c) t ((flush0_2 t).mp hf) y, zero_add]
  unfold part weightGrad
  refine Fin.sum_mul_add_congr fun s k hl => ?_
  blk_point [iblk, V, idx t, idx ⟨_, Pipeline.run_point_lt_of_flush t ((flush0_2 t).mp hf) s⟩]

/-- The kernel leaves the gradient and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0)
        = weightGrad (φ := .bf16) (ψ := .f32) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.Kernel7Ideal.Value.run_blocks m ρ)

end

section
open Cert.Reference7Ideal Cert.Reference7Ideal.Read

theorem ref (a : FVec Ideal S8192x1024 .bf16) (x : FVec Ideal S8192x1024 .f32) :
    val_main_v6 (F := Ideal) a x = weightGrad (φ := .bf16) (ψ := .f32) 0 (by decide) a x := by
  funext i
  idx_vars i
  pointwise [val_main_v6, val_main_v5, val_main_v4, val_main_v3, val_main_v2, weightGrad]

/-- The reference leaves the gradient and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
        = weightGrad (φ := .bf16) (ψ := .f32) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v6_eq _ _).trans (ref _ _)), (h c).2⟩)
    (Cert.Reference7Ideal.Value.run m ρ)

end

end Cert.Proof.PoolConvW

end
-- ==== Proof.Grad.QkvW.lean ====
/- The gradient of the input projection's attention columns: the kernel gathers it tile by tile, the reference takes one product. -/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Grad.Spec

@[expose] public section

set_option maxRecDepth 16384

noncomputable section

namespace Cert.Proof.QkvW

open Idealize.ShloMosaic Idealize.ShloMosaic.TcCoe Idealize.SL.Sem
open Idealize.ShloMosaic.Pipeline (Dat)
open Cert.Proof.Grad

section
open Cert.Kernel8Ideal Cert.Kernel8Ideal.Gen

variable (m : (ℓ : Loc nD τ sig) → Buf (Elt Ideal) ℓ)

/-- The blocks at point `t`: token tile `t % 4`, row tile `t / 4` of the result. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem product (x0 : FVec Ideal S2048x768 .bf16) (x1 : FVec Ideal S2048x1024 .f32) (j : S768x1024.Idx) :
    k0_pay1 (F := Ideal) x0 x1 j = part x0 x1 j := by
  idx_vars j
  pointwise [k0_pay1, part]

/-- The accumulator starts at the first tile's product. -/
theorem first (c : Dev nD) (t : Fin cfg0.N) (h : t.val % 4 = 0) (j : S768x1024.Idx) :
    (outsAt0 m c t.val t.isLt).2 j = 0 + part (φ := .bf16) (ψ := .f32) (iblk m c 0 t) (iblk m c 1 t) j := by
  have ht : t.val < 4 := lt_of_lt_of_eq t.isLt N_0
  rw [outsAt0_A m c t h (by omega) (by omega), zero_add, ← product]
  frame_out
  pointwise [k0_pay2]

/-- Every later tile adds its product. -/
theorem next (c : Dev nD) (t : Fin cfg0.N) (h : ¬t.val % 4 = 0) (j : S768x1024.Idx) :
    (outsAt0 m c t.val t.isLt).2 j = (outsAt0 m c (t.val - 1) (Nat.lt_of_le_of_lt (Nat.sub_le _ _) t.isLt)).2 j
      + part (φ := .bf16) (ψ := .f32) (iblk m c 0 t) (iblk m c 1 t) j := by
  have ht : t.val < 4 := lt_of_lt_of_eq t.isLt N_0
  rw [← product]
  by_cases hl : t.val % 4 = 3
  · rw [outsAt0_C m c t h (by omega) hl]
    frame_out
    pointwise [k0_pay3]
    exact congrArg (· + _) (congrFun (Memref.IsWhole.read_unread _ _) j)
  · rw [outsAt0_B m c t h (by omega) hl]
    frame_out
    pointwise [k0_pay3]
    exact congrArg (· + _) (congrFun (Memref.IsWhole.read_unread _ _) j)

/-- The last tile's point stores the accumulator. -/
theorem last (c : Dev nD) (t : Fin cfg0.N) (h : t.val % 4 = 3) (j : S768x1024.Idx) :
    (outsAt0 m c t.val t.isLt).1 j = (outsAt0 m c t.val t.isLt).2 j := by
  have ht : t.val < 4 := lt_of_lt_of_eq t.isLt N_0
  rw [outsAt0_C m c t (by omega) (by omega) h]
  frame_out
  pointwise [k0_pay4, k0_pay3]

theorem final (c : Dev nD) : (dats m 0 c).arrAt 2 (cfgs 0).N
    = weightGrad (φ := .bf16) (ψ := .f32) 0 (by decide) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf) y,
    Pipeline.eq_sum_fin_of_reset_step_apply_of_flush (fun n h => (outsAt0 m c n h).2) 4 (fun _ => 0)
      (fun t => part (φ := .bf16) (ψ := .f32) (iblk m c 0 t) (iblk m c 1 t)) (first m c) (next m c) t ((flush0_2 t).mp hf) y, zero_add]
  unfold part weightGrad
  refine Fin.sum_mul_add_congr fun s k hl => ?_
  blk_point [iblk, V, idx t, idx ⟨_, Pipeline.run_point_lt_of_flush t ((flush0_2 t).mp hf) s⟩]

/-- The kernel leaves the gradient and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0)
        = weightGrad (φ := .bf16) (ψ := .f32) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.Kernel8Ideal.Value.run_blocks m ρ)

end

section
open Cert.Reference8Ideal Cert.Reference8Ideal.Read

theorem ref (a : FVec Ideal S8192x768 .bf16) (x : FVec Ideal S8192x1024 .f32) :
    val_main_v6 (F := Ideal) a x = weightGrad (φ := .bf16) (ψ := .f32) 0 (by decide) a x := by
  funext i
  idx_vars i
  pointwise [val_main_v6, val_main_v5, val_main_v4, val_main_v3, val_main_v2, weightGrad]

/-- The reference leaves the gradient and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
        = weightGrad (φ := .bf16) (ψ := .f32) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v6_eq _ _).trans (ref _ _)), (h c).2⟩)
    (Cert.Reference8Ideal.Value.run m ρ)

end

end Cert.Proof.QkvW

end
-- ==== Proof.Grad.BranchAW.lean ====
/- The gradient of the first branch's matrix: the kernel gathers it tile by tile, the reference takes one product. -/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Grad.Spec

@[expose] public section

set_option maxRecDepth 16384

noncomputable section

namespace Cert.Proof.BranchAW

open Idealize.ShloMosaic Idealize.ShloMosaic.TcCoe Idealize.SL.Sem
open Idealize.ShloMosaic.Pipeline (Dat)
open Cert.Proof.Grad

section
open Cert.Kernel9Ideal Cert.Kernel9Ideal.Gen

variable (m : (ℓ : Loc nD τ sig) → Buf (Elt Ideal) ℓ)

/-- The blocks at point `t`: token tile `t % 4`, row tile `t / 4` of the result. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem product (x0 : FVec Ideal S2048x256 .bf16) (x1 : FVec Ideal S2048x1024 .bf16) (j : S256x1024.Idx) :
    k0_pay1 (F := Ideal) x0 x1 j = part x0 x1 j := by
  idx_vars j
  pointwise [k0_pay1, part]

/-- The accumulator starts at the first tile's product. -/
theorem first (c : Dev nD) (t : Fin cfg0.N) (h : t.val % 4 = 0) (j : S256x1024.Idx) :
    (outsAt0 m c t.val t.isLt).2 j = 0 + part (φ := .bf16) (ψ := .bf16) (iblk m c 0 t) (iblk m c 1 t) j := by
  have ht : t.val < 4 := lt_of_lt_of_eq t.isLt N_0
  rw [outsAt0_A m c t h (by omega) (by omega), zero_add, ← product]
  frame_out
  pointwise [k0_pay2]

/-- Every later tile adds its product. -/
theorem next (c : Dev nD) (t : Fin cfg0.N) (h : ¬t.val % 4 = 0) (j : S256x1024.Idx) :
    (outsAt0 m c t.val t.isLt).2 j = (outsAt0 m c (t.val - 1) (Nat.lt_of_le_of_lt (Nat.sub_le _ _) t.isLt)).2 j
      + part (φ := .bf16) (ψ := .bf16) (iblk m c 0 t) (iblk m c 1 t) j := by
  have ht : t.val < 4 := lt_of_lt_of_eq t.isLt N_0
  rw [← product]
  by_cases hl : t.val % 4 = 3
  · rw [outsAt0_C m c t h (by omega) hl]
    frame_out
    pointwise [k0_pay3]
    exact congrArg (· + _) (congrFun (Memref.IsWhole.read_unread _ _) j)
  · rw [outsAt0_B m c t h (by omega) hl]
    frame_out
    pointwise [k0_pay3]
    exact congrArg (· + _) (congrFun (Memref.IsWhole.read_unread _ _) j)

/-- The last tile's point stores the accumulator. -/
theorem last (c : Dev nD) (t : Fin cfg0.N) (h : t.val % 4 = 3) (j : S256x1024.Idx) :
    (outsAt0 m c t.val t.isLt).1 j = (outsAt0 m c t.val t.isLt).2 j := by
  have ht : t.val < 4 := lt_of_lt_of_eq t.isLt N_0
  rw [outsAt0_C m c t (by omega) (by omega) h]
  frame_out
  pointwise [k0_pay4, k0_pay3]

theorem final (c : Dev nD) : (dats m 0 c).arrAt 2 (cfgs 0).N
    = weightGrad (φ := .bf16) (ψ := .bf16) 0 (by decide) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf) y,
    Pipeline.eq_sum_fin_of_reset_step_apply_of_flush (fun n h => (outsAt0 m c n h).2) 4 (fun _ => 0)
      (fun t => part (φ := .bf16) (ψ := .bf16) (iblk m c 0 t) (iblk m c 1 t)) (first m c) (next m c) t ((flush0_2 t).mp hf) y, zero_add]
  unfold part weightGrad
  refine Fin.sum_mul_add_congr fun s k hl => ?_
  blk_point [iblk, V, idx t, idx ⟨_, Pipeline.run_point_lt_of_flush t ((flush0_2 t).mp hf) s⟩]

/-- The kernel leaves the gradient and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0)
        = weightGrad (φ := .bf16) (ψ := .bf16) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.Kernel9Ideal.Value.run_blocks m ρ)

end

section
open Cert.Reference9Ideal Cert.Reference9Ideal.Read

theorem ref (a : FVec Ideal S8192x256 .bf16) (x : FVec Ideal S8192x3072 .bf16) :
    val_main_v7 (F := Ideal) a x = weightGrad (φ := .bf16) (ψ := .bf16) 0 (by decide) a x := by
  funext i
  idx_vars i
  pointwise [val_main_v7, val_main_v6, val_main_v5, val_main_v4, val_main_v2, val_main_v0, weightGrad]
  exact Finset.sum_congr rfl fun k _ => mul_comm _ _

/-- The reference leaves the gradient and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7)
        = weightGrad (φ := .bf16) (ψ := .bf16) 0 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v7_eq _ _).trans (ref _ _)), (h c).2⟩)
    (Cert.Reference9Ideal.Value.run m ρ)

end

end Cert.Proof.BranchAW

end
-- ==== Proof.Grad.BranchBW.lean ====
/- The gradient of the second branch's matrix: the kernel gathers it tile by tile, the reference takes one product. -/
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Grad.Spec

@[expose] public section

set_option maxRecDepth 16384

noncomputable section

namespace Cert.Proof.BranchBW

open Idealize.ShloMosaic Idealize.ShloMosaic.TcCoe Idealize.SL.Sem
open Idealize.ShloMosaic.Pipeline (Dat)
open Cert.Proof.Grad

section
open Cert.Kernel10Ideal Cert.Kernel10Ideal.Gen

variable (m : (ℓ : Loc nD τ sig) → Buf (Elt Ideal) ℓ)

/-- The blocks at point `t`: token tile `t % 4`, row tile `t / 4` of the result. -/
theorem idx : ∀ t : Fin cfg0.N, win0_0.index t = ![t.val % 4, t.val / 4] ∧ win0_1.index t = ![t.val % 4, 1]
    ∧ win0_2.index t = ![t.val / 4, 0] :=
  (by decide +kernel : ∀ t : Fin grid0.N, _)

theorem product (x0 : FVec Ideal S2048x512 .bf16) (x1 : FVec Ideal S2048x1024 .bf16) (j : S512x1024.Idx) :
    k0_pay1 (F := Ideal) x0 x1 j = part x0 x1 j := by
  idx_vars j
  pointwise [k0_pay1, part]

/-- The accumulator starts at the first tile's product. -/
theorem first (c : Dev nD) (t : Fin cfg0.N) (h : t.val % 4 = 0) (j : S512x1024.Idx) :
    (outsAt0 m c t.val t.isLt).2 j = 0 + part (φ := .bf16) (ψ := .bf16) (iblk m c 0 t) (iblk m c 1 t) j := by
  have ht : t.val < 4 := lt_of_lt_of_eq t.isLt N_0
  rw [outsAt0_A m c t h (by omega) (by omega), zero_add, ← product]
  frame_out
  pointwise [k0_pay2]

/-- Every later tile adds its product. -/
theorem next (c : Dev nD) (t : Fin cfg0.N) (h : ¬t.val % 4 = 0) (j : S512x1024.Idx) :
    (outsAt0 m c t.val t.isLt).2 j = (outsAt0 m c (t.val - 1) (Nat.lt_of_le_of_lt (Nat.sub_le _ _) t.isLt)).2 j
      + part (φ := .bf16) (ψ := .bf16) (iblk m c 0 t) (iblk m c 1 t) j := by
  have ht : t.val < 4 := lt_of_lt_of_eq t.isLt N_0
  rw [← product]
  by_cases hl : t.val % 4 = 3
  · rw [outsAt0_C m c t h (by omega) hl]
    frame_out
    pointwise [k0_pay3]
    exact congrArg (· + _) (congrFun (Memref.IsWhole.read_unread _ _) j)
  · rw [outsAt0_B m c t h (by omega) hl]
    frame_out
    pointwise [k0_pay3]
    exact congrArg (· + _) (congrFun (Memref.IsWhole.read_unread _ _) j)

/-- The last tile's point stores the accumulator. -/
theorem last (c : Dev nD) (t : Fin cfg0.N) (h : t.val % 4 = 3) (j : S512x1024.Idx) :
    (outsAt0 m c t.val t.isLt).1 j = (outsAt0 m c t.val t.isLt).2 j := by
  have ht : t.val < 4 := lt_of_lt_of_eq t.isLt N_0
  rw [outsAt0_C m c t (by omega) (by omega) h]
  frame_out
  pointwise [k0_pay4, k0_pay3]

theorem final (c : Dev nD) : (dats m 0 c).arrAt 2 (cfgs 0).N
    = weightGrad (φ := .bf16) (ψ := .bf16) 1024 (by decide) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf) y,
    Pipeline.eq_sum_fin_of_reset_step_apply_of_flush (fun n h => (outsAt0 m c n h).2) 4 (fun _ => 0)
      (fun t => part (φ := .bf16) (ψ := .bf16) (iblk m c 0 t) (iblk m c 1 t)) (first m c) (next m c) t ((flush0_2 t).mp hf) y, zero_add]
  unfold part weightGrad
  refine Fin.sum_mul_add_congr fun s k hl => ?_
  blk_point [iblk, V, idx t, idx ⟨_, Pipeline.run_point_lt_of_flush t ((flush0_2 t).mp hf) s⟩]

/-- The kernel leaves the gradient and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0)
        = weightGrad (φ := .bf16) (ψ := .bf16) 1024 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.Kernel10Ideal.Value.run_blocks m ρ)

end

section
open Cert.Reference10Ideal Cert.Reference10Ideal.Read

theorem ref (a : FVec Ideal S8192x512 .bf16) (x : FVec Ideal S8192x3072 .bf16) :
    val_main_v7 (F := Ideal) a x = weightGrad (φ := .bf16) (ψ := .bf16) 1024 (by decide) a x := by
  funext i
  idx_vars i
  pointwise [val_main_v7, val_main_v6, val_main_v5, val_main_v4, val_main_v2, val_main_v0, weightGrad]
  exact Finset.sum_congr rfl fun k _ => mul_comm _ _

/-- The reference leaves the gradient and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7)
        = weightGrad (φ := .bf16) (ψ := .bf16) 1024 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v7_eq _ _).trans (ref _ _)), (h c).2⟩)
    (Cert.Reference10Ideal.Value.run m ρ)

end

end Cert.Proof.BranchBW

end
-- ==== Proof.Grad.BranchCW.lean ====
/- The gradient of the third branch's matrix: the kernel gathers it tile by tile, the reference takes one product. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Grad.Spec

@[expose] public section

set_option maxRecDepth 16384

noncomputable section

namespace Cert.Proof.BranchCW

open Idealize.ShloMosaic Idealize.ShloMosaic.TcCoe Idealize.SL.Sem
open Idealize.ShloMosaic.Pipeline (Dat)
open Cert.Proof.Grad

section
open Cert.Kernel11Ideal Cert.Kernel11Ideal.Gen

variable (m : (ℓ : Loc nD τ sig) → Buf (Elt Ideal) ℓ)

/-- The blocks at point `t`: token tile `t % 4`, row tile `t / 4` of the result. -/
theorem idx : ∀ t : Fin cfg0.N, win0_0.index t = ![t.val % 4, t.val / 4] ∧ win0_1.index t = ![t.val % 4, 2]
    ∧ win0_2.index t = ![t.val / 4, 0] :=
  (by decide +kernel : ∀ t : Fin grid0.N, _)

theorem product (x0 : FVec Ideal S2048x256 .bf16) (x1 : FVec Ideal S2048x1024 .bf16) (j : S256x1024.Idx) :
    k0_pay1 (F := Ideal) x0 x1 j = part x0 x1 j := by
  idx_vars j
  pointwise [k0_pay1, part]

/-- The accumulator starts at the first tile's product. -/
theorem first (c : Dev nD) (t : Fin cfg0.N) (h : t.val % 4 = 0) (j : S256x1024.Idx) :
    (outsAt0 m c t.val t.isLt).2 j = 0 + part (φ := .bf16) (ψ := .bf16) (iblk m c 0 t) (iblk m c 1 t) j := by
  have ht : t.val < 4 := lt_of_lt_of_eq t.isLt N_0
  rw [outsAt0_A m c t h (by omega) (by omega), zero_add, ← product]
  frame_out
  pointwise [k0_pay2]

/-- Every later tile adds its product. -/
theorem next (c : Dev nD) (t : Fin cfg0.N) (h : ¬t.val % 4 = 0) (j : S256x1024.Idx) :
    (outsAt0 m c t.val t.isLt).2 j = (outsAt0 m c (t.val - 1) (Nat.lt_of_le_of_lt (Nat.sub_le _ _) t.isLt)).2 j
      + part (φ := .bf16) (ψ := .bf16) (iblk m c 0 t) (iblk m c 1 t) j := by
  have ht : t.val < 4 := lt_of_lt_of_eq t.isLt N_0
  rw [← product]
  by_cases hl : t.val % 4 = 3
  · rw [outsAt0_C m c t h (by omega) hl]
    frame_out
    pointwise [k0_pay3]
    exact congrArg (· + _) (congrFun (Memref.IsWhole.read_unread _ _) j)
  · rw [outsAt0_B m c t h (by omega) hl]
    frame_out
    pointwise [k0_pay3]
    exact congrArg (· + _) (congrFun (Memref.IsWhole.read_unread _ _) j)

/-- The last tile's point stores the accumulator. -/
theorem last (c : Dev nD) (t : Fin cfg0.N) (h : t.val % 4 = 3) (j : S256x1024.Idx) :
    (outsAt0 m c t.val t.isLt).1 j = (outsAt0 m c t.val t.isLt).2 j := by
  have ht : t.val < 4 := lt_of_lt_of_eq t.isLt N_0
  rw [outsAt0_C m c t (by omega) (by omega) h]
  frame_out
  pointwise [k0_pay4, k0_pay3]

theorem final (c : Dev nD) : (dats m 0 c).arrAt 2 (cfgs 0).N
    = weightGrad (φ := .bf16) (ψ := .bf16) 2048 (by decide) (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf) y,
    Pipeline.eq_sum_fin_of_reset_step_apply_of_flush (fun n h => (outsAt0 m c n h).2) 4 (fun _ => 0)
      (fun t => part (φ := .bf16) (ψ := .bf16) (iblk m c 0 t) (iblk m c 1 t)) (first m c) (next m c) t ((flush0_2 t).mp hf) y, zero_add]
  unfold part weightGrad
  refine Fin.sum_mul_add_congr fun s k hl => ?_
  blk_point [iblk, V, idx t, idx ⟨_, Pipeline.run_point_lt_of_flush t ((flush0_2 t).mp hf) s⟩]

/-- The kernel leaves the gradient and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v0)
        = weightGrad (φ := .bf16) (ψ := .bf16) 2048 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.Kernel11Ideal.Value.run_blocks m ρ)

end

section
open Cert.Reference11Ideal Cert.Reference11Ideal.Read

theorem ref (a : FVec Ideal S8192x256 .bf16) (x : FVec Ideal S8192x3072 .bf16) :
    val_main_v7 (F := Ideal) a x = weightGrad (φ := .bf16) (ψ := .bf16) 2048 (by decide) a x := by
  funext i
  idx_vars i
  pointwise [val_main_v7, val_main_v6, val_main_v5, val_main_v4, val_main_v2, val_main_v0, weightGrad]
  exact Finset.sum_congr rfl fun k _ => mul_comm _ _

/-- The reference leaves the gradient and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7)
        = weightGrad (φ := .bf16) (ψ := .bf16) 2048 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v7_eq _ _).trans (ref _ _)), (h c).2⟩)
    (Cert.Reference11Ideal.Value.run m ρ)

end

end Cert.Proof.BranchCW

end
-- ==== Proof.Product.DownX.lean ====
/- A product with a transposed matrix: the gradient of the activations, through the down-projection. -/
module

public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit

@[expose] public section

set_option maxRecDepth 16384

noncomputable section

namespace Cert.Proof.DownX

open Idealize.ShloMosaic Idealize.ShloMosaic.TcCoe Idealize.SL.Sem
open Idealize.ShloMosaic.Pipeline (Dat)

/-- Entry `(s, f)` sums token `s`'s cotangent times row `f` of the matrix. -/
def grad (z : FVec Ideal ⟨2, ![8192, 1024]⟩ .f32) (w : FVec Ideal ⟨2, ![2816, 1024]⟩ .f32) : FVec Ideal ⟨2, ![8192, 2816]⟩ .bf16 :=
  fun i => ∑ k : Fin 1024, z (ix2 (i 0) k) * w (ix2 (i 1) k)

section
open Cert.Kernel12Ideal Cert.Kernel12Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The matrix that the kernel is handed: transposed. -/
theorem handed (c : Dev nD) (k : Fin 1024) (f : Fin 2816) :
    V m c main_v1 (ix2 k f) = m ((c : Thread nD τ).loc main_arg1) (ix2 f k) := by
  have e : V m c main_v1 = transpose S1024x2816 [1, 0]
      (truncf (F := Ideal) .bf16 (m ((c : Thread nD τ).loc main_arg1) : FVec Ideal S2816x1024 .f32) bitsLt_bf16_f32)
      transposes_S2816x1024_S1024x2816_1_0 := by
    unfold V; after_results; try rfl
  rw [e]
  pointwise

/-- The product over the arrays that the kernel is handed. -/
def over (z : FVec Ideal S8192x1024 .f32) (w : FVec Ideal S1024x2816 .bf16) : FVec Ideal S8192x2816 .bf16 :=
  fun i => ∑ k : Fin 1024, z (ix2 (i 0) k) * w (ix2 k (i 1))

theorem out (c : Dev nD) : (dats m 0 c).arrAt 2 (cfgs 0).N = over (V m c main_arg0) (V m c main_v1) := by
  refine (dats m 0 c).arrAt_eq_of_covers 2 _ (by decide +kernel) fun t hf y => ?_
  blk_simp
  rw [after0_2]
  frame_out
  unfold_payloads
  pointwise [over]
  blk_point [iblk, idx t]

theorem final (c : Dev nD) : (dats m 0 c).arrAt 2 (cfgs 0).N
    = grad (m ((c : Thread nD τ).loc main_arg0)) (m ((c : Thread nD τ).loc main_arg1)) := by
  rw [out, V_main_arg0]
  funext i
  exact Finset.sum_congr rfl fun k _ => congrArg _ (handed m c k (i 1))

/-- The kernel leaves the gradient and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v2) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.Kernel12Ideal.Value.run_blocks m ρ)

end

section
open Cert.Reference12Ideal Cert.Reference12Ideal.Read

theorem ref (z : FVec Ideal S8192x1024 .f32) (w : FVec Ideal S2816x1024 .f32) : val_main_v3 (F := Ideal) z w = grad z w := by
  funext i
  idx_vars i
  pointwise [val_main_v3, val_main_v2, grad]

/-- The reference leaves the gradient and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v3_eq _ _).trans (ref _ _)), (h c).2⟩)
    (Cert.Reference12Ideal.Value.run m ρ)

end

end Cert.Proof.DownX

end
-- ==== Proof.Product.OutX.lean ====
/- A product with a transposed matrix: the gradient of the merged value, through the output projection. -/
module

public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit

@[expose] public section

set_option maxRecDepth 16384

noncomputable section

namespace Cert.Proof.OutX

open Idealize.ShloMosaic Idealize.ShloMosaic.TcCoe Idealize.SL.Sem
open Idealize.ShloMosaic.Pipeline (Dat)

/-- Entry `(s, f)` sums token `s`'s cotangent times row `f` of the matrix. -/
def grad (z : FVec Ideal ⟨2, ![8192, 1024]⟩ .f32) (w : FVec Ideal ⟨2, ![1024, 1024]⟩ .f32) : FVec Ideal ⟨2, ![8192, 1024]⟩ .bf16 :=
  fun i => ∑ k : Fin 1024, z (ix2 (i 0) k) * w (ix2 (i 1) k)

section
open Cert.Kernel13Ideal Cert.Kernel13Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The matrix that the kernel is handed: transposed. -/
theorem handed (c : Dev nD) (k : Fin 1024) (f : Fin 1024) :
    V m c main_v1 (ix2 k f) = m ((c : Thread nD τ).loc main_arg1) (ix2 f k) := by
  have e : V m c main_v1 = transpose S1024x1024 [1, 0]
      (truncf (F := Ideal) .bf16 (m ((c : Thread nD τ).loc main_arg1) : FVec Ideal S1024x1024 .f32) bitsLt_bf16_f32)
      transposes_S1024x1024_S1024x1024_1_0 := by
    unfold V; after_results; try rfl
  rw [e]
  pointwise

/-- The product over the arrays that the kernel is handed. -/
def over (z : FVec Ideal S8192x1024 .f32) (w : FVec Ideal S1024x1024 .bf16) : FVec Ideal S8192x1024 .bf16 :=
  fun i => ∑ k : Fin 1024, z (ix2 (i 0) k) * w (ix2 k (i 1))

theorem out (c : Dev nD) : (dats m 0 c).arrAt 2 (cfgs 0).N = over (V m c main_arg0) (V m c main_v1) := by
  refine (dats m 0 c).arrAt_eq_of_covers 2 _ (by decide +kernel) fun t hf y => ?_
  blk_simp
  rw [after0_2]
  frame_out
  unfold_payloads
  pointwise [over]
  blk_point [iblk, idx t]

theorem final (c : Dev nD) : (dats m 0 c).arrAt 2 (cfgs 0).N
    = grad (m ((c : Thread nD τ).loc main_arg0)) (m ((c : Thread nD τ).loc main_arg1)) := by
  rw [out, V_main_arg0]
  funext i
  exact Finset.sum_congr rfl fun k _ => congrArg _ (handed m c k (i 1))

/-- The kernel leaves the gradient and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v2) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.Kernel13Ideal.Value.run_blocks m ρ)

end

section
open Cert.Reference13Ideal Cert.Reference13Ideal.Read

theorem ref (z : FVec Ideal S8192x1024 .f32) (w : FVec Ideal S1024x1024 .f32) : val_main_v3 (F := Ideal) z w = grad z w := by
  funext i
  idx_vars i
  pointwise [val_main_v3, val_main_v2, grad]

/-- The reference leaves the gradient and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v3_eq _ _).trans (ref _ _)), (h c).2⟩)
    (Cert.Reference13Ideal.Value.run m ρ)

end

end Cert.Proof.OutX

end
-- ==== Proof.Product.Up.lean ====
/- The up-projection, its columns in the order of the kernel's two column tiles. -/
module

public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit

@[expose] public section

set_option maxRecDepth 16384

noncomputable section

namespace Cert.Proof.Up

open Idealize.ShloMosaic Idealize.ShloMosaic.TcCoe Idealize.SL.Sem
open Idealize.ShloMosaic.Pipeline (Dat)

/-- Where column `f` of the tiled order comes from: each tile of 2816 columns holds 1408 columns of the first half, then the
    same 1408 of the second half. -/
def source (f : ℕ) : ℕ := f / 1408 % 2 * 2816 + f / 2816 * 1408 + f % 1408

theorem source_lt (f : Fin 5632) : source f < 5632 := by unfold source; omega

/-- Entry `(s, f)` sums token `s` times the column that `f` comes from. -/
def up (x : FVec Ideal ⟨2, ![8192, 1024]⟩ .f32) (w : FVec Ideal ⟨2, ![1024, 5632]⟩ .f32) : FVec Ideal ⟨2, ![8192, 5632]⟩ .bf16 :=
  fun i => ∑ k : Fin 1024, x (ix2 (i 0) k) * w (ix2 k ⟨source (i 1 : ℕ), source_lt (i 1)⟩)

section
open Cert.Kernel14Ideal Cert.Kernel14Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The matrix that the kernel is handed. -/
theorem handed (c : Dev nD) (k : Fin 1024) (f : Fin 5632) :
    V m c main_v3 (ix2 k f) = m ((c : Thread nD τ).loc main_arg1) (ix2 k ⟨source f, source_lt f⟩) := by
  have e : V m c main_v3 = shapeCast S1024x5632 (transpose S1024x2x2x1408 [0, 2, 1, 3]
      (shapeCast S1024x2x2x1408
        (truncf (F := Ideal) .bf16 (m ((c : Thread nD τ).loc main_arg1) : FVec Ideal S1024x5632 .f32) bitsLt_bf16_f32)
        shapeCasts_S1024x5632_S1024x2x2x1408 : FVec Ideal S1024x2x2x1408 .bf16)
      transposes_S1024x2x2x1408_S1024x2x2x1408_0_2_1_3) shapeCasts_S1024x2x2x1408_S1024x5632 := by
    unfold V; after_results; try rfl
  rw [e]
  pointwise
  blk_ext [source]

/-- The product over the arrays that the kernel is handed. -/
def over (z : FVec Ideal S8192x1024 .f32) (w : FVec Ideal S1024x5632 .bf16) : FVec Ideal S8192x5632 .bf16 :=
  fun i => ∑ k : Fin 1024, z (ix2 (i 0) k) * w (ix2 k (i 1))

theorem out (c : Dev nD) : (dats m 0 c).arrAt 2 (cfgs 0).N = over (V m c main_arg0) (V m c main_v3) := by
  refine (dats m 0 c).arrAt_eq_of_covers 2 _ (by decide +kernel) fun t hf y => ?_
  blk_simp
  rw [after0_2]
  frame_out
  unfold_payloads
  pointwise [over]
  blk_point [iblk, idx t]

theorem final (c : Dev nD) : (dats m 0 c).arrAt 2 (cfgs 0).N
    = up (m ((c : Thread nD τ).loc main_arg0)) (m ((c : Thread nD τ).loc main_arg1)) := by
  rw [out, V_main_arg0]
  funext i
  exact Finset.sum_congr rfl fun k _ => congrArg _ (handed m c k (i 1))

/-- The kernel leaves the projection and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v4) = up (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.Kernel14Ideal.Value.run_blocks m ρ)

end

section
open Cert.Reference14Ideal Cert.Reference14Ideal.Read

theorem ref (x : FVec Ideal S8192x1024 .f32) (w : FVec Ideal S1024x5632 .f32) : val_main_v6 (F := Ideal) x w = up x w := by
  funext i
  idx_vars i
  pointwise [val_main_v6, val_main_v5, val_main_v4, val_main_v3, val_main_v2, val_main_v1, val_main_v0, up]
  split_ifs
  all_goals exact Finset.sum_congr rfl fun k _ => congrArg (_ * ·) (congrArg w (congrArg (ix2 k) (Fin.ext (by
    simp only [source]; omega))))

/-- The reference leaves the projection and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = up (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v6_eq _ _).trans (ref _ _)), (h c).2⟩)
    (Cert.Reference14Ideal.Value.run m ρ)

end

end Cert.Proof.Up

end
-- ==== Proof.Product.In.lean ====
/- The input projection, its columns regrouped: the gates', the pooling and convolution branches', the attention branch's. -/
module

public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit

@[expose] public section

set_option maxRecDepth 16384

noncomputable section

namespace Cert.Proof.In

open Idealize.ShloMosaic Idealize.ShloMosaic.TcCoe Idealize.SL.Sem
open Idealize.ShloMosaic.Pipeline (Dat)

/-- The columns `source f` of the projection of every token. -/
def cols {n : ℕ} (source : ℕ → ℕ) (h : ∀ f : Fin n, source f < 4864) (x : FVec Ideal ⟨2, ![8192, 1024]⟩ .f32)
    (w : FVec Ideal ⟨2, ![1024, 4864]⟩ .f32) : FVec Ideal ⟨2, ![8192, n]⟩ .bf16 :=
  fun i => ∑ k : Fin 1024, x (ix2 (i 0) k) * w (ix2 k ⟨source (i 1 : ℕ), h (i 1)⟩)

def gateSource (f : ℕ) : ℕ := 1792 + f
def poolConvSource (f : ℕ) : ℕ := if f < 256 then f else f + 768
def qkvSource (f : ℕ) : ℕ := 256 + f

theorem gateSource_lt (f : Fin 3072) : gateSource f < 4864 := by unfold gateSource; omega
theorem poolConvSource_lt (f : Fin 1024) : poolConvSource f < 4864 := by unfold poolConvSource; split <;> omega
theorem qkvSource_lt (f : Fin 768) : qkvSource f < 4864 := by unfold qkvSource; omega

section
open Cert.Kernel15Ideal Cert.Kernel15Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The transposed matrix. -/
def turned (c : Dev nD) : FVec Ideal S4864x1024 .bf16 := transpose S4864x1024 [1, 0]
  (truncf (F := Ideal) .bf16 (m ((c : Thread nD τ).loc main_arg1) : FVec Ideal S1024x4864 .f32) bitsLt_bf16_f32)
  transposes_S1024x4864_S4864x1024_1_0

theorem handed_gate (c : Dev nD) (k : Fin 1024) (f : Fin 3072) :
    V m c main_v7 (ix2 k f) = m ((c : Thread nD τ).loc main_arg1) (ix2 k ⟨gateSource f, gateSource_lt f⟩) := by
  have e : V m c main_v7 = transpose S1024x3072 [1, 0]
      (extractStridedSlice S3072x1024 ![1792, 0] (turned m c) slices_S4864x1024_S3072x1024_1792_0)
      transposes_S3072x1024_S1024x3072_1_0 := by
    unfold V; after_results; try rfl
  rw [e]
  pointwise [turned]
  blk_ext [gateSource]

theorem handed_poolConv (c : Dev nD) (k f : Fin 1024) :
    V m c main_v8 (ix2 k f) = m ((c : Thread nD τ).loc main_arg1) (ix2 k ⟨poolConvSource f, poolConvSource_lt f⟩) := by
  have e : V m c main_v8 = transpose S1024x1024 [1, 0]
      (concatenate S1024x1024 0
        [⟨S256x1024, extractStridedSlice S256x1024 ![0, 0] (turned m c) slices_S4864x1024_S256x1024_0_0⟩,
         ⟨S768x1024, extractStridedSlice S768x1024 ![1024, 0] (turned m c) slices_S4864x1024_S768x1024_1024_0⟩]
        concatenates_S256x1024_S768x1024_S1024x1024_d0 : FVec Ideal S1024x1024 .bf16)
      transposes_S1024x1024_S1024x1024_1_0 := by
    unfold V; after_results; try rfl
  rw [e]
  pointwise [turned]
  by_cases h : (f : ℕ) < 256
  · rw [dif_pos h]
    exact congrArg _ (congrArg (ix2 k) (Fin.ext (by simp only [poolConvSource, if_pos h])))
  · rw [dif_neg h]
    exact congrArg _ (congrArg (ix2 k) (Fin.ext (by simp only [poolConvSource, if_neg h]; omega)))

theorem handed_qkv (c : Dev nD) (k : Fin 1024) (f : Fin 768) :
    V m c main_v9 (ix2 k f) = m ((c : Thread nD τ).loc main_arg1) (ix2 k ⟨qkvSource f, qkvSource_lt f⟩) := by
  have e : V m c main_v9 = transpose S1024x768 [1, 0]
      (extractStridedSlice S768x1024 ![256, 0] (turned m c) slices_S4864x1024_S768x1024_256_0)
      transposes_S768x1024_S1024x768_1_0 := by
    unfold V; after_results; try rfl
  rw [e]
  pointwise [turned]
  blk_ext [qkvSource]

/-- The product over the arrays that the kernel is handed. -/
def over {n : ℕ} (z : FVec Ideal S8192x1024 .f32) (w : FVec Ideal ⟨2, ![1024, n]⟩ .bf16) : FVec Ideal ⟨2, ![8192, n]⟩ .bf16 :=
  fun i => ∑ k : Fin 1024, z (ix2 (i 0) k) * w (ix2 k (i 1))

theorem out_gate (c : Dev nD) : (dats m 0 c).arrAt 4 (cfgs 0).N = over (n := 3072) (V m c main_arg0) (V m c main_v7) := by
  refine (dats m 0 c).arrAt_eq_of_covers 4 _ (by decide +kernel) fun t hf y => ?_
  blk_simp
  rw [after0_4]
  frame_out
  unfold_payloads
  pointwise [over]
  blk_point [iblk, idx t]

theorem final_gate (c : Dev nD) : (dats m 0 c).arrAt 4 (cfgs 0).N
    = cols gateSource gateSource_lt (m ((c : Thread nD τ).loc main_arg0)) (m ((c : Thread nD τ).loc main_arg1)) := by
  rw [out_gate, V_main_arg0]
  funext i
  exact Finset.sum_congr rfl fun k _ => congrArg _ (handed_gate m c k (i 1))

theorem out_poolConv (c : Dev nD) : (dats m 0 c).arrAt 5 (cfgs 0).N = over (n := 1024) (V m c main_arg0) (V m c main_v8) := by
  refine (dats m 0 c).arrAt_eq_of_covers 5 _ (by decide +kernel) fun t hf y => ?_
  blk_simp
  rw [after0_5]
  frame_out
  unfold_payloads
  pointwise [over]
  blk_point [iblk, idx t]

theorem final_poolConv (c : Dev nD) : (dats m 0 c).arrAt 5 (cfgs 0).N
    = cols poolConvSource poolConvSource_lt (m ((c : Thread nD τ).loc main_arg0)) (m ((c : Thread nD τ).loc main_arg1)) := by
  rw [out_poolConv, V_main_arg0]
  funext i
  exact Finset.sum_congr rfl fun k _ => congrArg _ (handed_poolConv m c k (i 1))

theorem out_qkv (c : Dev nD) : (dats m 0 c).arrAt 6 (cfgs 0).N = over (n := 768) (V m c main_arg0) (V m c main_v9) := by
  refine (dats m 0 c).arrAt_eq_of_covers 6 _ (by decide +kernel) fun t hf y => ?_
  blk_simp
  rw [after0_6]
  frame_out
  unfold_payloads
  pointwise [over]
  blk_point [iblk, idx t]

theorem final_qkv (c : Dev nD) : (dats m 0 c).arrAt 6 (cfgs 0).N
    = cols qkvSource qkvSource_lt (m ((c : Thread nD τ).loc main_arg0)) (m ((c : Thread nD τ).loc main_arg1)) := by
  rw [out_qkv, V_main_arg0]
  funext i
  exact Finset.sum_congr rfl fun k _ => congrArg _ (handed_qkv m c k (i 1))

/-- The kernel leaves the projection's three groups of columns and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v10_0) = cols gateSource gateSource_lt (m ((c.tc : Thread nD τ).loc main_arg0)) (m ((c.tc : Thread nD τ).loc main_arg1))
      ∧ r.2.mem ((c.tc : Thread nD τ).loc main_v10_1) = cols poolConvSource poolConvSource_lt (m ((c.tc : Thread nD τ).loc main_arg0)) (m ((c.tc : Thread nD τ).loc main_arg1))
      ∧ r.2.mem ((c.tc : Thread nD τ).loc main_v10_2) = cols qkvSource qkvSource_lt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final_gate m c), (h c).2.1.trans (final_poolConv m c),
    (h c).2.2.1.trans (final_qkv m c), (h c).2.2.2⟩) (Cert.Kernel15Ideal.Value.run_blocks m ρ)

end

section
open Cert.Reference15Ideal Cert.Reference15Ideal.Read

variable (x : FVec Ideal S8192x1024 .f32) (w : FVec Ideal S1024x4864 .f32)

theorem ref_gate : val_main_v9 (F := Ideal) x w = cols gateSource gateSource_lt x w := by
  funext i
  idx_vars i
  pointwise [val_main_v9, val_main_v8, val_main_v0, cols, gateSource]

theorem ref_poolConv : val_main_v11 (F := Ideal) x w = cols poolConvSource poolConvSource_lt x w := by
  funext i
  idx_vars i
  pointwise [val_main_v11, val_main_v10, val_main_v7, val_main_v6, val_main_v5, val_main_v1, val_main_v0, cols]
  split_ifs
  all_goals exact Finset.sum_congr rfl fun k _ => congrArg (_ * ·) (congrArg w (congrArg (ix2 k) (Fin.ext (by
    simp only [poolConvSource]; split <;> omega))))

theorem ref_qkv : val_main_v13 (F := Ideal) x w = cols qkvSource qkvSource_lt x w := by
  funext i
  idx_vars i
  pointwise [val_main_v13, val_main_v12, val_main_v4, val_main_v3, val_main_v2, val_main_v0, cols]
  split_ifs
  all_goals exact Finset.sum_congr rfl fun k _ => congrArg (_ * ·) (congrArg w (congrArg (ix2 k) (Fin.ext (by
    simp only [qkvSource] <;> omega))))

/-- The reference leaves the projection's three groups of columns and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = cols gateSource gateSource_lt (m ((c.tc : Thread nD τ).loc main_arg0)) (m ((c.tc : Thread nD τ).loc main_arg1))
      ∧ r.2.mem ((c.tc : Thread nD τ).loc main_v11) = cols poolConvSource poolConvSource_lt (m ((c.tc : Thread nD τ).loc main_arg0)) (m ((c.tc : Thread nD τ).loc main_arg1))
      ∧ r.2.mem ((c.tc : Thread nD τ).loc main_v13) = cols qkvSource qkvSource_lt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v9_eq _ _).trans (ref_gate _ _)),
    (h c).2.1.trans ((val_main_v11_eq _ _).trans (ref_poolConv _ _)),
    (h c).2.2.1.trans ((val_main_v13_eq _ _).trans (ref_qkv _ _)), (h c).2.2.2⟩)
    (Cert.Reference15Ideal.Value.run m ρ)

end

end Cert.Proof.In

end
-- ==== Proof.Norm.Spec.lean ====
/- The layer norm's statistics, and the gradient through the input projection and the layer norm before it, as mathematics
   over the extended reals. -/
module

public import Idealize.ShloMosaic.Lib.Pipeline.ValueKit

@[expose] public section

set_option maxRecDepth 16384

noncomputable section

namespace Cert.Proof.Norm

open Idealize.ShloMosaic

/-- The mean of 1024 numbers. -/
def mean (f : Fin 1024 → EReal) : EReal := Ideal.div (∑ k, f k) (Ideal.ofBits .f32 0x44800000#32)

section
variable (z : Fin 1024 → EReal)

/-- The reciprocal of the standard deviation of a token's channels, with the layer norm's small number. -/
def scale : EReal := Ideal.rsqrt (mean (fun k => (z k - mean z) * (z k - mean z)) + Ideal.ofBits .f32 0x3727C5AC#32)

/-- A token's channels, centred and scaled. -/
def normal (d : Fin 1024) : EReal := (z d - mean z) * scale z

end

section
variable (p : FVec Ideal ⟨2, ![8192, 3072]⟩ .bf16) (q : FVec Ideal ⟨2, ![8192, 1024]⟩ .bf16) (r : FVec Ideal ⟨2, ![8192, 768]⟩ .bf16)

/-- The cotangents of the projection's three groups of columns in the projection's order: the pooling's 256 columns, the 768 of
    queries, keys and values, the convolution's 768, the 3072 gates. -/
def joined (s : Fin 8192) (k : ℕ) : EReal :=
  if h : k < 256 then q (ix2 s ⟨k, by omega⟩)
  else if h : k < 1024 then r (ix2 s ⟨k - 256, by omega⟩)
  else if h : k < 1792 then q (ix2 s ⟨k - 768, by omega⟩)
  else if h : k < 4864 then p (ix2 s ⟨k - 1792, by omega⟩)
  else 0

/-- The matrix's entry, zero behind its last column. -/
def entry (w : FVec Ideal ⟨2, ![1024, 4864]⟩ .f32) (d : Fin 1024) (k : ℕ) : EReal := if h : k < 4864 then w (ix2 d ⟨k, h⟩) else 0

variable (w : FVec Ideal ⟨2, ![1024, 4864]⟩ .f32) (e : FVec Ideal ⟨2, ![8192, 1024]⟩ .f32)

/-- The cotangent of the layer norm's value: the scaled residual's and what comes back through the projection. -/
def back (s : Fin 8192) (d : Fin 1024) : EReal :=
  Ideal.ofBits .f32 0x3FD744FD#32 * e (ix2 s d) + ∑ k : Fin 4864, joined p q r s k * entry w d k

variable (z : FVec Ideal ⟨2, ![8192, 1024]⟩ .f32) (g : FVec Ideal ⟨1, ![1024]⟩ .f32)

/-- A token's channels. -/
def row (s : Fin 8192) (d : Fin 1024) : EReal := z (ix2 s d)

/-- A token's cotangent behind a layer norm, from the cotangent `y` of the centred and scaled channels `x` and the scale `c`. -/
def through (c : EReal) (x y : Fin 1024 → EReal) (d : Fin 1024) : EReal :=
  c * (y d - mean y - x d * mean (fun k => y k * x k))

/-- The gradient of the layer norm's argument. -/
def gradZ : FVec Ideal ⟨2, ![8192, 1024]⟩ .f32 := fun i =>
  through (scale (row z (i 0))) (normal (row z (i 0))) (fun d => back p q r w e (i 0) d * g (ix1 d)) (i 1)

/-- The gradient of the layer norm's factor. -/
def gradG : FVec Ideal ⟨2, ![1, 1024]⟩ .f32 := fun i => ∑ s, back p q r w e s (i 1) * normal (row z s) (i 1)

/-- The gradient of the layer norm's offset. -/
def gradB : FVec Ideal ⟨2, ![1, 1024]⟩ .f32 := fun i => ∑ s, back p q r w e s (i 1)

end

/-- The gates' columns, the pooling's and the convolution's, and the columns of queries, keys and values. -/
def gateSource (f : ℕ) : ℕ := 1792 + f
def poolConvSource (f : ℕ) : ℕ := if f < 256 then f else f + 768
def qkvSource (f : ℕ) : ℕ := 256 + f

/-- The sum over the projection's columns, group by group. -/
theorem by_groups (f : ℕ → EReal) : (∑ k : Fin 4864, f k)
    = (∑ k : Fin 3072, f (gateSource k)) + (∑ k : Fin 1024, f (poolConvSource k)) + ∑ k : Fin 768, f (qkvSource k) := by
  have h1 : (∑ k : Fin 1024, f (poolConvSource k)) = (∑ k ∈ Finset.range 256, f k) + ∑ k ∈ Finset.range 768, f (1024 + k) := by
    rw [Fin.sum_univ_eq_sum_range (fun k => f (poolConvSource k)) 1024, show 1024 = 256 + 768 from rfl, Finset.sum_range_add]
    refine congrArg₂ (· + ·) (Finset.sum_congr rfl fun k hk => ?_) (Finset.sum_congr rfl fun k _ => ?_)
    · exact congrArg f (if_pos (Finset.mem_range.1 hk))
    · exact congrArg f ((if_neg (by omega)).trans (by omega))
  rw [h1, Fin.sum_univ_eq_sum_range f 4864, Fin.sum_univ_eq_sum_range (fun k => f (gateSource k)) 3072,
    Fin.sum_univ_eq_sum_range (fun k => f (qkvSource k)) 768, show 4864 = 256 + 768 + 768 + 3072 from rfl, Finset.sum_range_add,
    Finset.sum_range_add, Finset.sum_range_add]
  unfold gateSource qkvSource
  rw [add_comm _ (∑ k ∈ Finset.range 3072, _), add_assoc (∑ k ∈ Finset.range 3072, _), add_right_comm (∑ k ∈ Finset.range 256, _)]

end Cert.Proof.Norm

end
-- ==== Proof.Product.OutNorm.lean ====
/- The output projection of the forward pass with the residual and the layer norm behind it. -/
module

public import proofs.«01_k».proof.Proof.Gen.Kernel17Ideal.Value
public import proofs.«01_k».proof.Proof.Gen.Reference17Ideal.Run
public import proofs.«01_k».proof.Proof.Gen.Reference17Ideal.Read
public import proofs.«01_k».proof.Proof.Norm.Spec
public import Idealize.ShloMosaic.Lib.Pipeline.ValueKit

@[expose] public section

set_option maxRecDepth 16384

noncomputable section

namespace Cert.Proof.OutNorm

open Idealize.ShloMosaic Idealize.ShloMosaic.TcCoe Idealize.SL.Sem
open Idealize.ShloMosaic.Pipeline (Dat)
open Cert.Proof.Norm (mean scale normal)

/-- A token's channels before the layer norm: the scaled residual and the projection. -/
def mixed {φ : FTy} (t : FVec Ideal ⟨2, ![8192, 1024]⟩ .bf16) (x : FVec Ideal ⟨2, ![8192, 1024]⟩ .f32) (w : FVec Ideal ⟨2, ![1024, 1024]⟩ φ)
    (s : Fin 8192) (d : Fin 1024) : EReal :=
  Ideal.ofBits .f32 0x3FD744FD#32 * x (ix2 s d) + ∑ k : Fin 1024, t (ix2 s k) * w (ix2 k d)

/-- The layer norm's value. -/
def value (t : FVec Ideal ⟨2, ![8192, 1024]⟩ .bf16) (x : FVec Ideal ⟨2, ![8192, 1024]⟩ .f32) (w : FVec Ideal ⟨2, ![1024, 1024]⟩ .f32)
    (g b : FVec Ideal ⟨1, ![1024]⟩ .f32) : FVec Ideal ⟨2, ![8192, 1024]⟩ .f32 :=
  fun i => normal (mixed t x w (i 0)) (i 1) * g (ix1 (i 1)) + b (ix1 (i 1))

/-- The centred and scaled channels. -/
def normals (t : FVec Ideal ⟨2, ![8192, 1024]⟩ .bf16) (x : FVec Ideal ⟨2, ![8192, 1024]⟩ .f32) (w : FVec Ideal ⟨2, ![1024, 1024]⟩ .f32) :
    FVec Ideal ⟨2, ![8192, 1024]⟩ .bf16 := fun i => normal (mixed t x w (i 0)) (i 1)

/-- The scales. -/
def scales (t : FVec Ideal ⟨2, ![8192, 1024]⟩ .bf16) (x : FVec Ideal ⟨2, ![8192, 1024]⟩ .f32) (w : FVec Ideal ⟨2, ![1024, 1024]⟩ .f32) :
    FVec Ideal ⟨2, ![8192, 1]⟩ .f32 := fun i => scale (mixed t x w (i 0))

section
open Cert.Kernel17Ideal Cert.Kernel17Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The matrix that the kernel is handed: rounded. -/
theorem handed_w (c : Dev nD) (k f : Fin 1024) : V m c main_v0 (ix2 k f) = m ((c : Thread nD τ).loc main_arg2) (ix2 k f) := by
  have e : V m c main_v0 = truncf (F := Ideal) .bf16 (m ((c : Thread nD τ).loc main_arg2) : FVec Ideal S1024x1024 .f32) bitsLt_bf16_f32 := by
    unfold V; after_results; try rfl
  rw [e]
  pointwise

/-- The two rows that the kernel is handed: the layer norm's factor and its offset. -/
theorem handed_g (c : Dev nD) (d : Fin 1024) : V m c main_v1 (ix2 0 d) = m ((c : Thread nD τ).loc main_arg3) (ix1 d) := by
  have e : V m c main_v1 = broadcastInDim S1x1024 ![1] bcast_S1024_S1x1024_1 (m ((c : Thread nD τ).loc main_arg3) : FVec Ideal S1024 .f32) := by
    unfold V; after_results; try rfl
  rw [e]
  pointwise

theorem handed_b (c : Dev nD) (d : Fin 1024) : V m c main_v2 (ix2 0 d) = m ((c : Thread nD τ).loc main_arg4) (ix1 d) := by
  have e : V m c main_v2 = broadcastInDim S1x1024 ![1] bcast_S1024_S1x1024_1 (m ((c : Thread nD τ).loc main_arg4) : FVec Ideal S1024 .f32) := by
    unfold V; after_results; try rfl
  rw [e]
  pointwise

/-- The three results over the arrays that the kernel is handed. -/
def valueOver (t : FVec Ideal S8192x1024 .bf16) (x : FVec Ideal S8192x1024 .f32) (w : FVec Ideal S1024x1024 .bf16)
    (g b : FVec Ideal S1x1024 .f32) : FVec Ideal S8192x1024 .f32 :=
  fun i => normal (mixed t x w (i 0)) (i 1) * g (ix2 0 (i 1)) + b (ix2 0 (i 1))

def normalsOver (t : FVec Ideal S8192x1024 .bf16) (x : FVec Ideal S8192x1024 .f32) (w : FVec Ideal S1024x1024 .bf16) :
    FVec Ideal S8192x1024 .bf16 := fun i => normal (mixed t x w (i 0)) (i 1)

def scalesOver (t : FVec Ideal S8192x1024 .bf16) (x : FVec Ideal S8192x1024 .f32) (w : FVec Ideal S1024x1024 .bf16) :
    FVec Ideal S8192x1 .f32 := fun i => scale (mixed t x w (i 0))

/-- The matrix's rounding changes nothing. -/
theorem mixed_handed (c : Dev nD) : mixed (φ := .bf16) (V m c main_arg0) (V m c main_arg1) (V m c main_v0)
    = mixed (φ := .f32) (m ((c : Thread nD τ).loc main_arg0)) (m ((c : Thread nD τ).loc main_arg1)) (m ((c : Thread nD τ).loc main_arg2)) := by
  funext s d
  rw [V_main_arg0, V_main_arg1]
  exact congrArg (_ + ·) (Finset.sum_congr rfl fun k _ => congrArg _ (handed_w m c k d))

theorem out_value (c : Dev nD) : (dats m 0 c).arrAt 5 (cfgs 0).N = valueOver (V m c main_arg0) (V m c main_arg1) (V m c main_v0) (V m c main_v1) (V m c main_v2) := by
  refine (dats m 0 c).arrAt_eq_of_covers 5 _ (by decide +kernel) fun t hf y => ?_
  blk_simp
  rw [after0_5]
  frame_out
  unfold_payloads
  pointwise [valueOver, normal, scale, mean, mixed]
  blk_point [iblk, idx t]

theorem out_normals (c : Dev nD) : (dats m 0 c).arrAt 6 (cfgs 0).N = normalsOver (V m c main_arg0) (V m c main_arg1) (V m c main_v0) := by
  refine (dats m 0 c).arrAt_eq_of_covers 6 _ (by decide +kernel) fun t hf y => ?_
  blk_simp
  rw [after0_6]
  frame_out
  unfold_payloads
  pointwise [normalsOver, normal, scale, mean, mixed]
  blk_point [iblk, idx t]

theorem out_scales (c : Dev nD) : (dats m 0 c).arrAt 7 (cfgs 0).N = scalesOver (V m c main_arg0) (V m c main_arg1) (V m c main_v0) := by
  refine (dats m 0 c).arrAt_eq_of_covers 7 _ (by decide +kernel) fun t hf y => ?_
  blk_simp
  rw [after0_7]
  frame_out
  unfold_payloads
  pointwise [scalesOver, normal, scale, mean, mixed]
  blk_point [iblk, idx t]

theorem final_value (c : Dev nD) : (dats m 0 c).arrAt 5 (cfgs 0).N = value (m ((c : Thread nD τ).loc main_arg0)) (m ((c : Thread nD τ).loc main_arg1)) (m ((c : Thread nD τ).loc main_arg2)) (m ((c : Thread nD τ).loc main_arg3)) (m ((c : Thread nD τ).loc main_arg4)) := by
  rw [out_value]
  funext i
  unfold valueOver value
  rw [mixed_handed]
  exact congrArg₂ (· + ·) (congrArg (_ * ·) (handed_g m c (i 1))) (handed_b m c (i 1))

theorem final_normals (c : Dev nD) : (dats m 0 c).arrAt 6 (cfgs 0).N = normals (m ((c : Thread nD τ).loc main_arg0)) (m ((c : Thread nD τ).loc main_arg1)) (m ((c : Thread nD τ).loc main_arg2)) := by
  rw [out_normals]
  funext i
  unfold normalsOver normals
  rw [mixed_handed]

theorem final_scales (c : Dev nD) : (dats m 0 c).arrAt 7 (cfgs 0).N = scales (m ((c : Thread nD τ).loc main_arg0)) (m ((c : Thread nD τ).loc main_arg1)) (m ((c : Thread nD τ).loc main_arg2)) := by
  rw [out_scales]
  funext i
  unfold scalesOver scales
  rw [mixed_handed]

/-- The kernel leaves the layer norm's value, the centred and scaled channels and the scales, and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v3_0) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v3_1) = normals (m ((c.tc : Thread nD τ).loc main_arg0)) (m ((c.tc : Thread nD τ).loc main_arg1)) (m ((c.tc : Thread nD τ).loc main_arg2))
      ∧ r.2.mem ((c.tc : Thread nD τ).loc main_v3_2) = scales (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final_value m c), (h c).2.1.trans (final_normals m c),
      (h c).2.2.1.trans (final_scales m c), (h c).2.2.2⟩) (Cert.Kernel17Ideal.Value.run_blocks m ρ)

end

section
open Cert.Reference17Ideal Cert.Reference17Ideal.Read

variable (t : FVec Ideal S8192x1024 .bf16) (x : FVec Ideal S8192x1024 .f32) (w : FVec Ideal S1024x1024 .f32) (g b : FVec Ideal S1024 .f32)

theorem ref_mixed (s : Fin 8192) (d : Fin 1024) : val_main_v4 (F := Ideal) t x w (ix2 s d) = mixed t x w s d := by
  pointwise [val_main_v4, val_main_v3, val_main_v2, val_main_v1, val_main_v0, val_main_cst, mixed]

theorem ref_mean (s : Fin 8192) : val_main_v8 (F := Ideal) t x w (ix2 s 0) = mean (mixed t x w s) := by
  pointwise [val_main_v8, val_main_v7, val_main_cst_1, val_main_v6, val_main_v5, val_main_cst_0, ref_mixed, mean]

theorem ref_scale (s : Fin 8192) : val_main_v18 (F := Ideal) t x w (ix2 s 0) = scale (mixed t x w s) := by
  pointwise [val_main_v18, val_main_v17, val_main_v16, val_main_cst_4, val_main_v15, val_main_v14, val_main_cst_3, val_main_v13, val_main_v12, val_main_cst_2, val_main_v11, val_main_v10, val_main_v9, ref_mixed, ref_mean, scale]
  rfl

theorem ref_normal (s : Fin 8192) (d : Fin 1024) : val_main_v22 (F := Ideal) t x w (ix2 s d) = normal (mixed t x w s) d := by
  pointwise [val_main_v22, val_main_v21, val_main_v20, val_main_v19, ref_mixed, ref_mean, ref_scale, normal]

theorem ref_value : val_main_v28 (F := Ideal) t x w g b = value t x w g b := by
  funext i
  idx_vars i
  pointwise [val_main_v28, val_main_v27, val_main_v26, val_main_v25, val_main_v24, val_main_v23, ref_normal, value]

theorem ref_normals : val_main_v29 (F := Ideal) t x w = normals t x w := by
  funext i
  idx_vars i
  pointwise [val_main_v29, ref_normal, normals]

theorem ref_scales : val_main_v18 (F := Ideal) t x w = scales t x w := by
  funext i
  idx_vars i
  obtain rfl : i1 = 0 := Subsingleton.elim _ _
  exact ref_scale t x w i0

/-- The reference leaves the layer norm's value, the centred and scaled channels and the scales, and keeps its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v29) = normals (m ((c.tc : Thread nD τ).loc main_arg0)) (m ((c.tc : Thread nD τ).loc main_arg1)) (m ((c.tc : Thread nD τ).loc main_arg2))
      ∧ r.2.mem ((c.tc : Thread nD τ).loc main_v18) = scales (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans ((val_main_v28_eq _ _ _ _ _).trans (ref_value _ _ _ _ _)),
      (h c).2.1.trans ((val_main_v29_eq _ _ _).trans (ref_normals _ _ _)),
      (h c).2.2.1.trans ((val_main_v18_eq _ _ _).trans (ref_scales _ _ _)), (h c).2.2.2⟩)
    (Cert.Reference17Ideal.Value.run m ρ)

end

end Cert.Proof.OutNorm

end
-- ==== Proof.Norm.Handed.lean ====
/- The gradient through the input projection and the layer norm before it: the arrays that the kernel is handed. -/
module

public import proofs.«01_k».proof.Proof.Gen.Kernel18Ideal.Frame
public import proofs.«01_k».proof.Proof.Norm.Spec
public import Idealize.ShloMosaic.Lib.Pipeline.ValueKit

@[expose] public section

set_option maxRecDepth 16384

noncomputable section

namespace Cert.Proof.Norm

open Idealize.ShloMosaic Idealize.ShloMosaic.TcCoe Idealize.SL.Sem
open Cert.Kernel18Ideal Cert.Kernel18Ideal.Gen

/-- The host's statistics, operation by operation. -/
def hostMean (z : FVec Ideal S8192x1024 .f32) : FVec Ideal S8192x1 .f32 :=
  Host.divf (broadcastInDim S8192x1 ![0] bcast_S8192_S8192x1_0
      (Host.reduceAdd z (constant (F := Ideal) S_ .f32 0x00000000#32 : FVec Ideal S_ .f32) reducesTo_S8192x1024_S8192_d1 h_S_ : FVec Ideal S8192 .f32) : FVec Ideal S8192x1 .f32)
    (broadcastInDim S8192x1 ![] bcast_S_S8192x1 (constant (F := Ideal) S_ .f32 0x44800000#32 : FVec Ideal S_ .f32))

def hostCentred (z : FVec Ideal S8192x1024 .f32) : FVec Ideal S8192x1024 .f32 :=
  subf z (broadcastInDim S8192x1024 ![0, 1] bcast_S8192x1_S8192x1024_0_1 (hostMean z))

def hostScale (z : FVec Ideal S8192x1024 .f32) : FVec Ideal S8192x1 .f32 :=
  Host.rsqrt (addf (hostMean (mulf (hostCentred z) (hostCentred z)))
    (broadcastInDim S8192x1 ![] bcast_S_S8192x1 (constant (F := Ideal) S_ .f32 0x3727C5AC#32 : FVec Ideal S_ .f32)))

def hostNormal (z : FVec Ideal S8192x1024 .f32) : FVec Ideal S8192x1024 .bf16 :=
  truncf .bf16 (mulf (hostCentred z) (broadcastInDim S8192x1024 ![0, 1] bcast_S8192x1_S8192x1024_0_1 (hostScale z))) bitsLt_bf16_f32

theorem hostMean_at (z : FVec Ideal S8192x1024 .f32) (s : Fin 8192) : hostMean z (ix2 s 0) = mean (row z s) := by
  pointwise [hostMean, mean, row]

theorem hostCentred_at (z : FVec Ideal S8192x1024 .f32) (s : Fin 8192) (d : Fin 1024) : hostCentred z (ix2 s d) = row z s d - mean (row z s) := by
  pointwise [hostCentred, hostMean_at, row]

theorem hostScale_at (z : FVec Ideal S8192x1024 .f32) (s : Fin 8192) : hostScale z (ix2 s 0) = scale (row z s) := by
  have e : row (mulf (hostCentred z) (hostCentred z)) s = fun k => (row z s k - mean (row z s)) * (row z s k - mean (row z s)) := by
    funext k
    unfold row
    pointwise [hostCentred_at, row]
    rfl
  have e1 := hostMean_at (mulf (hostCentred z) (hostCentred z)) s
  rw [e] at e1
  unfold hostScale
  pointwise [scale]
  exact congrArg (fun t => Ideal.rsqrt (t + _)) e1

theorem hostNormal_at (z : FVec Ideal S8192x1024 .f32) (s : Fin 8192) (d : Fin 1024) : hostNormal z (ix2 s d) = normal (row z s) d := by
  pointwise [hostNormal, hostCentred_at, hostScale_at, normal]

variable (m : (ℓ : Loc nD τ sig) → Buf (Elt Ideal) ℓ)

/-- The matrix, rounded and turned. -/
def turned (w : FVec Ideal S1024x4864 .f32) : FVec Ideal S4864x1024 .bf16 :=
  transpose S4864x1024 [1, 0] (truncf (F := Ideal) .bf16 w bitsLt_bf16_f32) transposes_S1024x4864_S4864x1024_1_0

theorem turned_at (w : FVec Ideal S1024x4864 .f32) (k : Fin 4864) (d : Fin 1024) : turned w (ix2 k d) = entry w d k := by
  unfold entry
  rw [dif_pos k.isLt]
  pointwise [turned]

theorem handed_gate (c : Dev nD) (k : Fin 3072) (d : Fin 1024) : V m c main_v16 (ix2 k d) = entry (m ((c : Thread nD τ).loc main_arg2)) d (gateSource k) := by
  have e : V m c main_v16 = extractStridedSlice S3072x1024 ![1792, 0] (turned (m ((c : Thread nD τ).loc main_arg2))) slices_S4864x1024_S3072x1024_1792_0 := by
    unfold V; after_results; try rfl
  rw [e]
  pointwise [turned_at, gateSource]

theorem handed_poolConv (c : Dev nD) (k d : Fin 1024) : V m c main_v19 (ix2 k d) = entry (m ((c : Thread nD τ).loc main_arg2)) d (poolConvSource k) := by
  have e : V m c main_v19 = concatenate S1024x1024 0
        [⟨S256x1024, extractStridedSlice S256x1024 ![0, 0] (turned (m ((c : Thread nD τ).loc main_arg2))) slices_S4864x1024_S256x1024_0_0⟩,
         ⟨S768x1024, extractStridedSlice S768x1024 ![1024, 0] (turned (m ((c : Thread nD τ).loc main_arg2))) slices_S4864x1024_S768x1024_1024_0⟩]
        concatenates_S256x1024_S768x1024_S1024x1024_d0 := by
    unfold V; after_results; try rfl
  rw [e]
  pointwise [turned_at, poolConvSource]
  split_ifs with h <;> first | rfl | exact congrArg _ (by omega)

theorem handed_qkv (c : Dev nD) (k : Fin 768) (d : Fin 1024) : V m c main_v20 (ix2 k d) = entry (m ((c : Thread nD τ).loc main_arg2)) d (qkvSource k) := by
  have e : V m c main_v20 = extractStridedSlice S768x1024 ![256, 0] (turned (m ((c : Thread nD τ).loc main_arg2))) slices_S4864x1024_S768x1024_256_0 := by
    unfold V; after_results; try rfl
  rw [e]
  pointwise [turned_at, qkvSource]

theorem handed_factor (c : Dev nD) (d : Fin 1024) : V m c main_v26 (ix2 0 d) = m ((c : Thread nD τ).loc main_arg1) (ix1 d) := by
  have e : V m c main_v26 = broadcastInDim S1x1024 ![1] bcast_S1024_S1x1024_1 (m ((c : Thread nD τ).loc main_arg1) : FVec Ideal S1024 .f32) := by
    unfold V; after_results; try rfl
  rw [e]
  pointwise

theorem handed_scale (c : Dev nD) (s : Fin 8192) : V m c main_v13 (ix2 s 0) = scale (row (m ((c : Thread nD τ).loc main_arg0)) s) := by
  have e : V m c main_v13 = hostScale (m ((c : Thread nD τ).loc main_arg0)) := by
    unfold V; after_results; try rfl
  rw [e]
  exact hostScale_at _ s

theorem handed_normal (c : Dev nD) (s : Fin 8192) (d : Fin 1024) : V m c main_v25 (ix2 s d) = normal (row (m ((c : Thread nD τ).loc main_arg0)) s) d := by
  have e : V m c main_v25 = hostNormal (m ((c : Thread nD τ).loc main_arg0)) := by
    unfold V; after_results; try rfl
  rw [e]
  exact hostNormal_at _ s d

/-- The cotangent of the layer norm's value over the arrays that the kernel is handed. -/
def backOver {T : ℕ} (p : FVec Ideal ⟨2, ![T, 3072]⟩ .bf16) (q : FVec Ideal ⟨2, ![T, 1024]⟩ .bf16) (r : FVec Ideal ⟨2, ![T, 768]⟩ .bf16)
    (wp : FVec Ideal S3072x1024 .bf16) (wq : FVec Ideal S1024x1024 .bf16) (wr : FVec Ideal S768x1024 .bf16) (e : FVec Ideal ⟨2, ![T, 1024]⟩ .f32)
    (s : Fin T) (d : Fin 1024) : EReal :=
  Ideal.ofBits .f32 0x3FD744FD#32 * e (ix2 s d) + (∑ k : Fin 3072, p (ix2 s k) * wp (ix2 k d))
    + (∑ k : Fin 1024, q (ix2 s k) * wq (ix2 k d)) + ∑ k : Fin 768, r (ix2 s k) * wr (ix2 k d)

section
variable (p : FVec Ideal S8192x3072 .bf16) (q : FVec Ideal S8192x1024 .bf16) (r : FVec Ideal S8192x768 .bf16)

theorem joined_gate (s : Fin 8192) (k : Fin 3072) : joined p q r s (gateSource k) = p (ix2 s k) := by
  unfold joined gateSource
  rw [dif_neg (by omega), dif_neg (by omega), dif_neg (by omega), dif_pos (by omega)]
  exact congrArg (fun j => p (ix2 s j)) (Fin.ext (by show 1792 + (k : ℕ) - 1792 = k; omega))

theorem joined_poolConv (s : Fin 8192) (k : Fin 1024) : joined p q r s (poolConvSource k) = q (ix2 s k) := by
  unfold joined poolConvSource
  by_cases h : (k : ℕ) < 256
  · rw [if_pos h, dif_pos h]
  · rw [if_neg h, dif_neg (by omega), dif_neg (by omega), dif_pos (by omega)]
    exact congrArg (fun j => q (ix2 s j)) (Fin.ext (by show (k : ℕ) + 768 - 768 = k; omega))

theorem joined_qkv (s : Fin 8192) (k : Fin 768) : joined p q r s (qkvSource k) = r (ix2 s k) := by
  unfold joined qkvSource
  rw [dif_neg (by omega), dif_pos (by omega)]
  exact congrArg (fun j => r (ix2 s j)) (Fin.ext (by show 256 + (k : ℕ) - 256 = k; omega))
end

theorem backOver_eq (c : Dev nD) (s : Fin 8192) (d : Fin 1024) :
    backOver (V m c main_arg3) (V m c main_arg4) (V m c main_arg5) (V m c main_v16) (V m c main_v19) (V m c main_v20) (V m c main_arg6) s d
    = back (m ((c : Thread nD τ).loc main_arg3)) (m ((c : Thread nD τ).loc main_arg4)) (m ((c : Thread nD τ).loc main_arg5))
      (m ((c : Thread nD τ).loc main_arg2)) (m ((c : Thread nD τ).loc main_arg6)) s d := by
  unfold back backOver
  rw [by_groups (fun k => joined (m ((c : Thread nD τ).loc main_arg3)) (m ((c : Thread nD τ).loc main_arg4)) (m ((c : Thread nD τ).loc main_arg5)) s k
    * entry (m ((c : Thread nD τ).loc main_arg2)) d k), ← add_assoc, ← add_assoc, V_main_arg3, V_main_arg4, V_main_arg5, V_main_arg6]
  refine congrArg₂ (· + ·) (congrArg₂ (· + ·) (congrArg₂ (· + ·) rfl ?_) ?_) ?_
  · exact Finset.sum_congr rfl fun k _ => congrArg₂ (· * ·) (joined_gate _ _ _ s k).symm (handed_gate m c k d)
  · exact Finset.sum_congr rfl fun k _ => congrArg₂ (· * ·) (joined_poolConv _ _ _ s k).symm (handed_poolConv m c k d)
  · exact Finset.sum_congr rfl fun k _ => congrArg₂ (· * ·) (joined_qkv _ _ _ s k).symm (handed_qkv m c k d)

end Cert.Proof.Norm

end
-- ==== Proof.Norm.Kernel.lean ====
/- The gradient through the input projection and the layer norm before it: what the kernel leaves. -/
module

public import proofs.«01_k».proof.Proof.Gen.Kernel18Ideal.Value
public import proofs.«01_k».proof.Proof.Norm.Handed
public import Idealize.ShloMosaic.Lib.Pipeline.ValueKit

@[expose] public section

set_option maxRecDepth 16384

noncomputable section

namespace Cert.Proof.Norm

open Idealize.ShloMosaic Idealize.ShloMosaic.TcCoe Idealize.SL.Sem
open Cert.Kernel18Ideal Cert.Kernel18Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] ∧ win0_10.index t = ![t.val, 0]
    ∧ win0_11.index t = ![0, 0] ∧ win0_12.index t = ![0, 0] :=
  (by decide +kernel : ∀ t : Fin grid0.N, _)

theorem tile_back (e : FVec Ideal S512x1024 .f32) (p : FVec Ideal S512x3072 .bf16) (wp : FVec Ideal S3072x1024 .bf16) (q : FVec Ideal S512x1024 .bf16)
    (wq : FVec Ideal S1024x1024 .bf16) (r : FVec Ideal S512x768 .bf16) (wr : FVec Ideal S768x1024 .bf16) (s : Fin 512) (d : Fin 1024) :
    k0_pay4 (F := Ideal) e p wp q wq r wr (ix2 s d) = backOver p q r wp wq wr e s d := by
  pointwise [k0_pay4, backOver]

/-- What a tile adds to the gradient of the layer norm's factor, and to the gradient of its offset. -/
def addedG (c : Dev nD) (t : Fin cfg0.N) (y : S1x1024.Idx) : EReal :=
  ∑ s : Fin 512, backOver (T := 512) (iblk m c 0 t) (iblk m c 1 t) (iblk m c 2 t) (iblk m c 3 t) (iblk m c 4 t) (iblk m c 5 t) (iblk m c 6 t) s (y 1)
    * (show FVec Ideal S512x1024 .bf16 from iblk m c 7 t) (ix2 s (y 1))

def addedB (c : Dev nD) (t : Fin cfg0.N) (y : S1x1024.Idx) : EReal :=
  ∑ s : Fin 512, backOver (T := 512) (iblk m c 0 t) (iblk m c 1 t) (iblk m c 2 t) (iblk m c 3 t) (iblk m c 4 t) (iblk m c 5 t) (iblk m c 6 t) s (y 1)

theorem firstB (c : Dev nD) (t : Fin cfg0.N) (h : t.val % 16 = 0) (y : S1x1024.Idx) : (outsAt0 m c t.val t.isLt).2.2 y = 0 + addedB m c t y := by
  idx_vars y
  rw [outsAt0_A m c t h]
  frame_out
  unfold addedB
  pointwise [k0_pay3, k0_pay6, tile_back]

theorem nextB (c : Dev nD) (t : Fin cfg0.N) (h : ¬t.val % 16 = 0) (y : S1x1024.Idx) : (outsAt0 m c t.val t.isLt).2.2 y
    = (outsAt0 m c (t.val - 1) (Nat.lt_of_le_of_lt (Nat.sub_le _ _) t.isLt)).2.2 y + addedB m c t y := by
  idx_vars y
  rw [outsAt0_B m c t h]
  frame_out
  unfold addedB
  pointwise [k0_pay3, tile_back]

theorem firstG (c : Dev nD) (t : Fin cfg0.N) (h : t.val % 16 = 0) (y : S1x1024.Idx) : (outsAt0 m c t.val t.isLt).2.1 y = 0 + addedG m c t y := by
  idx_vars y
  rw [outsAt0_A m c t h]
  frame_out
  unfold addedG
  pointwise [k0_pay2, k0_pay5, k0_pay7, tile_back]

theorem nextG (c : Dev nD) (t : Fin cfg0.N) (h : ¬t.val % 16 = 0) (y : S1x1024.Idx) : (outsAt0 m c t.val t.isLt).2.1 y
    = (outsAt0 m c (t.val - 1) (Nat.lt_of_le_of_lt (Nat.sub_le _ _) t.isLt)).2.1 y + addedG m c t y := by
  idx_vars y
  rw [outsAt0_B m c t h]
  frame_out
  unfold addedG
  pointwise [k0_pay2, k0_pay7, tile_back]

theorem tile_at (c : Dev nD) (t : Fin cfg0.N) (k : Fin 512) (d : Fin 1024) (l : Fin 8192) (hl : (l : ℕ) = t.val * 512 + k) :
    backOver (T := 512) (iblk m c 0 t) (iblk m c 1 t) (iblk m c 2 t) (iblk m c 3 t) (iblk m c 4 t) (iblk m c 5 t) (iblk m c 6 t) k d
    = backOver (T := 8192) (V m c main_arg3) (V m c main_arg4) (V m c main_arg5) (V m c main_v16) (V m c main_v19) (V m c main_v20) (V m c main_arg6) l d := by
  unfold backOver
  blk_point [iblk, idx t]

theorem outB (c : Dev nD) : (dats m 0 c).arrAt 12 (cfgs 0).N = fun i => ∑ s,
    backOver (T := 8192) (V m c main_arg3) (V m c main_arg4) (V m c main_arg5) (V m c main_v16) (V m c main_v19) (V m c main_v20) (V m c main_arg6) s (i 1) := by
  refine (dats m 0 c).arrAt_eq_of_covers 12 _ (by decide +kernel) fun t hf y => ?_
  blk_simp
  rw [after0_12, Pipeline.eq_sum_fin_of_reset_step_apply_of_flush (fun n h => (outsAt0 m c n h).2.2) 16 (fun _ => 0)
      (addedB m c) (firstB m c) (nextB m c) t ((flush0_12 t).mp hf) y, zero_add]
  unfold addedB
  refine Fin.sum_mul_add_congr fun s k hl => ?_
  unfold backOver
  blk_point [iblk, idx t, idx ⟨_, Pipeline.run_point_lt_of_flush t ((flush0_12 t).mp hf) s⟩]

theorem outG (c : Dev nD) : (dats m 0 c).arrAt 11 (cfgs 0).N = fun i => ∑ s,
    backOver (T := 8192) (V m c main_arg3) (V m c main_arg4) (V m c main_arg5) (V m c main_v16) (V m c main_v19) (V m c main_v20) (V m c main_arg6) s (i 1)
      * (show FVec Ideal S8192x1024 .bf16 from V m c main_v25) (ix2 s (i 1)) := by
  refine (dats m 0 c).arrAt_eq_of_covers 11 _ (by decide +kernel) fun t hf y => ?_
  blk_simp
  rw [after0_11, Pipeline.eq_sum_fin_of_reset_step_apply_of_flush (fun n h => (outsAt0 m c n h).2.1) 16 (fun _ => 0)
      (addedG m c) (firstG m c) (nextG m c) t ((flush0_11 t).mp hf) y, zero_add]
  unfold addedG
  refine Fin.sum_mul_add_congr fun s k hl => ?_
  unfold backOver
  blk_point [iblk, idx t, idx ⟨_, Pipeline.run_point_lt_of_flush t ((flush0_11 t).mp hf) s⟩]

end Cert.Proof.Norm

end
-- ==== Proof.Norm.KernelZ.lean ====
/- The gradient through the input projection and the layer norm before it: the gradient of the layer norm's argument. -/
module

public import proofs.«01_k».proof.Proof.Norm.Kernel
public import Idealize.ShloMosaic.Lib.Pipeline.ValueKit

@[expose] public section

set_option maxRecDepth 16384

noncomputable section

namespace Cert.Proof.Norm

open Idealize.ShloMosaic Idealize.ShloMosaic.TcCoe Idealize.SL.Sem
open Cert.Kernel18Ideal Cert.Kernel18Ideal.Gen

variable (m : (ℓ : Loc nD τ sig) → Buf (Elt Ideal) ℓ)

/-- The gradient over the arrays that the kernel is handed. -/
def overZ (p : FVec Ideal S8192x3072 .bf16) (q : FVec Ideal S8192x1024 .bf16) (r : FVec Ideal S8192x768 .bf16)
    (wp : FVec Ideal S3072x1024 .bf16) (wq : FVec Ideal S1024x1024 .bf16) (wr : FVec Ideal S768x1024 .bf16) (e : FVec Ideal S8192x1024 .f32)
    (x : FVec Ideal S8192x1024 .bf16) (c : FVec Ideal S8192x1 .f32) (g : FVec Ideal S1x1024 .f32) : FVec Ideal S8192x1024 .f32 := fun i =>
  through (c (ix2 (i 0) 0)) (fun d => x (ix2 (i 0) d)) (fun d => backOver p q r wp wq wr e (i 0) d * g (ix2 0 d)) (i 1)

/-- A tile's entry. -/
theorem tile_through (e : FVec Ideal S512x1024 .f32) (p : FVec Ideal S512x3072 .bf16) (wp : FVec Ideal S3072x1024 .bf16) (q : FVec Ideal S512x1024 .bf16)
    (wq : FVec Ideal S1024x1024 .bf16) (r : FVec Ideal S512x768 .bf16) (wr : FVec Ideal S768x1024 .bf16) (x : FVec Ideal S512x1024 .bf16)
    (g : FVec Ideal S1x1024 .f32) (c : FVec Ideal S512x1 .f32) (s : Fin 512) (d : Fin 1024) :
    k0_pay1 (F := Ideal) (k0_pay7 x) (k0_pay8 e p wp q wq r wr g) (k0_pay9 e p wp q wq r wr g) c (ix2 s d)
    = through (c (ix2 s 0)) (fun d => x (ix2 s d)) (fun d => backOver p q r wp wq wr e s d * g (ix2 0 d)) d := by
  pointwise [k0_pay1, k0_pay7, k0_pay8, k0_pay9, tile_back, through, mean]

theorem tile_normal (c : Dev nD) (t : Fin cfg0.N) (k : Fin 512) (d : Fin 1024) (l : Fin 8192) (hl : (l : ℕ) = t.val * 512 + k) :
    (show FVec Ideal S512x1024 .bf16 from iblk m c 7 t) (ix2 k d) = V m c main_v25 (ix2 l d) := by
  blk_point [iblk, idx t]

theorem tile_scale (c : Dev nD) (t : Fin cfg0.N) (k : Fin 512) (l : Fin 8192) (hl : (l : ℕ) = t.val * 512 + k) :
    (show FVec Ideal S512x1 .f32 from iblk m c 8 t) (ix2 k 0) = V m c main_v13 (ix2 l 0) := by
  blk_point [iblk, idx t]

theorem tile_factor (c : Dev nD) (t : Fin cfg0.N) (d : Fin 1024) :
    (show FVec Ideal S1x1024 .f32 from iblk m c 9 t) (ix2 0 d) = V m c main_v26 (ix2 0 d) := by
  blk_point [iblk, idx t]

theorem through_congr {c c' : EReal} {x x' y y' : Fin 1024 → EReal} (hc : c = c') (hx : ∀ d, x d = x' d) (hy : ∀ d, y d = y' d) (d : Fin 1024) :
    through c x y d = through c' x' y' d := by
  obtain rfl := hc
  obtain rfl : x = x' := funext hx
  obtain rfl : y = y' := funext hy
  rfl

theorem point (c : Dev nD) (t : Fin cfg0.N) (k : Fin 512) (d : Fin 1024) (l : Fin 8192) (hl : (l : ℕ) = t.val * 512 + k) :
    through ((show FVec Ideal S512x1 .f32 from iblk m c 8 t) (ix2 k 0)) (fun d => (show FVec Ideal S512x1024 .bf16 from iblk m c 7 t) (ix2 k d))
      (fun d => backOver (T := 512) (iblk m c 0 t) (iblk m c 1 t) (iblk m c 2 t) (iblk m c 3 t) (iblk m c 4 t) (iblk m c 5 t) (iblk m c 6 t) k d
        * (show FVec Ideal S1x1024 .f32 from iblk m c 9 t) (ix2 0 d)) d
    = overZ (V m c main_arg3) (V m c main_arg4) (V m c main_arg5) (V m c main_v16) (V m c main_v19) (V m c main_v20) (V m c main_arg6)
        (V m c main_v25) (V m c main_v13) (V m c main_v26) (ix2 l d) := by
  exact through_congr (tile_scale m c t k l hl) (fun d => tile_normal m c t k d l hl)
    (fun d => congrArg₂ (· * ·) (tile_at m c t k d l hl) (tile_factor m c t d)) d

theorem valueZ (c : Dev nD) (t : Fin cfg0.N) (y : S512x1024.Idx) (j : S8192x1024.Idx) (h0 : (j 0 : ℕ) = t.val * 512 + y 0) (h1 : (j 1 : ℕ) = y 1) :
    (outsAt0 m c t.val t.isLt).1 y
    = overZ (V m c main_arg3) (V m c main_arg4) (V m c main_arg5) (V m c main_v16) (V m c main_v19) (V m c main_v20) (V m c main_arg6)
        (V m c main_v25) (V m c main_v13) (V m c main_v26) j := by
  obtain ⟨k, d, rfl⟩ : ∃ (k : Fin 512) (d : Fin 1024), y = ix2 k d := ⟨y 0, y 1, by funext i; fin_cases i <;> rfl⟩
  obtain ⟨l, d', rfl⟩ : ∃ (l : Fin 8192) (d' : Fin 1024), j = ix2 l d' := ⟨j 0, j 1, by funext i; fin_cases i <;> rfl⟩
  obtain rfl : d' = d := Fin.ext h1
  refine Eq.trans ?_ (point m c t k d' l h0)
  by_cases h : t.val % 16 = 0
  · rw [outsAt0_A m c t h]
    frame_out
    exact tile_through ..
  · rw [outsAt0_B m c t h]
    frame_out
    exact tile_through ..

theorem outZ (c : Dev nD) : (dats m 0 c).arrAt 10 (cfgs 0).N
    = overZ (V m c main_arg3) (V m c main_arg4) (V m c main_arg5) (V m c main_v16) (V m c main_v19) (V m c main_v20) (V m c main_arg6)
        (V m c main_v25) (V m c main_v13) (V m c main_v26) := by
  refine (dats m 0 c).arrAt_eq_of_covers 10 _ (by decide +kernel) fun t hf y => ?_
  blk_simp
  rw [after0_10]
  refine valueZ m c t y _ ?_ ?_ <;> (blk_simp [idx t] <;> try omega)

end Cert.Proof.Norm

end
-- ==== Proof.Norm.Chain.lean ====
/- The gradient through a layer norm, on the reals: the chain rule's expression, in which the mean and the variance are
   differentiated apart, is the usual one. -/
module

public import proofs.«01_k».proof.Proof.Norm.Spec
public import proofs.«01_k».proof.Proof.Ffn.Ref

@[expose] public section

set_option maxRecDepth 16384

noncomputable section

namespace Cert.Proof.Norm

open Idealize.ShloMosaic
open Cert.Proof.Ffn (coe_sum)

theorem word_1024 : Ideal.ofBits .f32 0x44800000#32 = ((1024 : ℝ) : EReal) := by
  simp [Ideal.ofBits, Ideal.ieee]
  rw [← EReal.coe_mul]
  norm_num

theorem word_two : Ideal.ofBits .f32 0x40000000#32 = ((2 : ℝ) : EReal) := by
  simp [Ideal.ofBits, Ideal.ieee]
  rw [← EReal.coe_mul]
  norm_num

theorem word_minus_half : Ideal.ofBits .f32 0xBF000000#32 = ((-(1 / 2) : ℝ) : EReal) := by
  simp [Ideal.ofBits, Ideal.ieee]
  rw [← EReal.coe_mul]
  norm_num

/-- The layer norm's small number is a positive real. -/
theorem word_small : ∃ c : ℝ, 0 < c ∧ Ideal.ofBits .f32 0x3727C5AC#32 = (c : EReal) := by
  refine ⟨10995116 * ((2 : ℝ) ^ 40)⁻¹, by positivity, ?_⟩
  simp [Ideal.ofBits, Ideal.ieee]

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem rsqrt_coe (a : ℝ) (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.2 h.le), if_neg h.ne']

theorem mean_coe (f : Fin 1024 → ℝ) : mean (fun k => (f k : EReal)) = (((∑ k, f k) / 1024 : ℝ) : EReal) := by
  unfold mean
  rw [coe_sum, word_1024, div_coe _ _ (by norm_num)]

/-- The identity on the reals: `x` are the centred channels, `v` the variance with the small number, `c` its root's reciprocal. -/
theorem chain (x y : Fin 1024 → ℝ) (v c : ℝ) (hv : v ≠ 0) (hx : ∑ k, x k = 0) (hc : c * c * v = 1) (d : Fin 1024) :
    y d * c + (∑ k, x k * y k) * (-(1 / 2) * (c / v)) / 1024 * (2 * x d)
      + ((∑ k, -(y k * c)) + ∑ k, -((∑ k, x k * y k) * (-(1 / 2) * (c / v)) / 1024 * (2 * x k))) / 1024
    = c * (y d - (∑ k, y k) / 1024 - x d * c * ((∑ k, y k * (x k * c)) / 1024)) := by
  have e1 : (∑ k, -(y k * c)) = -((∑ k, y k) * c) := by rw [Finset.sum_neg_distrib, Finset.sum_mul]
  have e2 : ∀ a : ℝ, (∑ k, -(a * (2 * x k))) = 0 := fun a => by
    rw [Finset.sum_neg_distrib, ← Finset.mul_sum, ← Finset.mul_sum, hx, mul_zero, mul_zero, neg_zero]
  have e3 : (∑ k, y k * (x k * c)) = (∑ k, x k * y k) * c := by
    rw [Finset.sum_mul]; exact Finset.sum_congr rfl fun k _ => by ring
  have e4 : c / v = c * (c * c) := by
    rw [div_eq_iff hv]
    calc c = c * 1 := (mul_one c).symm
      _ = c * (c * c * v) := by rw [hc]
      _ = c * (c * c) * v := by ring
  rw [e1, e2, e3, e4]
  ring

section
variable (z y : Fin 1024 → EReal)

/-- The variance with the small number. -/
def spread : EReal := mean (fun k => (z k - mean z) * (z k - mean z)) + Ideal.ofBits .f32 0x3727C5AC#32

/-- What the chain rule gives for the variance's cotangent, spread over the channels. -/
def slope : EReal :=
  Ideal.div ((∑ k, (z k - mean z) * y k) * (Ideal.ofBits .f32 0xBF000000#32 * Ideal.div (scale z) (spread z))) (Ideal.ofBits .f32 0x44800000#32)

def bent (d : Fin 1024) : EReal := slope z y * (Ideal.ofBits .f32 0x40000000#32 * (z d - mean z))

/-- The chain rule's expression. -/
def chained (d : Fin 1024) : EReal :=
  y d * scale z + bent z y d
    + Ideal.div ((∑ k, -(y k * scale z)) + ∑ k, -(bent z y k)) (Ideal.ofBits .f32 0x44800000#32)

theorem chained_eq (hz : ∀ k, ∃ r : ℝ, z k = r) (hy : ∀ k, ∃ r : ℝ, y k = r) (d : Fin 1024) :
    chained z y d = through (scale z) (normal z) y d := by
  choose a ha using hz
  choose b hb using hy
  obtain rfl : z = fun k => (a k : EReal) := funext ha
  obtain rfl : y = fun k => (b k : EReal) := funext hb
  obtain ⟨s, hs, es⟩ := word_small
  set μ : ℝ := (∑ k, a k) / 1024 with hμ
  have hm : mean (fun k => (a k : EReal)) = (μ : EReal) := mean_coe a
  have hX : ∀ k, (a k : EReal) - mean (fun k => (a k : EReal)) = ((a k - μ : ℝ) : EReal) := fun k => by rw [hm, EReal.coe_sub]
  set v : ℝ := (∑ k, (a k - μ) * (a k - μ)) / 1024 + s with hv
  have vpos : 0 < v := add_pos_of_nonneg_of_pos (div_nonneg (Finset.sum_nonneg fun k _ => mul_self_nonneg _) (by norm_num)) hs
  have hspread : spread (fun k => (a k : EReal)) = (v : EReal) := by
    unfold spread
    simp only [hX, ← EReal.coe_mul]
    rw [mean_coe, es, ← EReal.coe_add]
  set c : ℝ := (Real.sqrt v)⁻¹ with hc
  have hscale : scale (fun k => (a k : EReal)) = (c : EReal) := (congrArg Ideal.rsqrt hspread).trans (rsqrt_coe v vpos)
  have hsum : ∑ k, (a k - μ) = 0 := by
    rw [Finset.sum_sub_distrib, Finset.sum_const, Finset.card_univ, Fintype.card_fin, hμ, nsmul_eq_mul]
    push_cast
    ring
  have hcc : c * c * v = 1 := by
    rw [hc, ← mul_inv, Real.mul_self_sqrt vpos.le, inv_mul_cancel₀ vpos.ne']
  have e := chain (fun k => a k - μ) b v c vpos.ne' hsum hcc d
  have hslope : slope (fun k => (a k : EReal)) (fun k => (b k : EReal)) = (((∑ k, (a k - μ) * b k) * (-(1 / 2) * (c / v)) / 1024 : ℝ) : EReal) := by
    unfold slope
    simp only [hX, ← EReal.coe_mul]
    rw [hscale, hspread, div_coe _ _ vpos.ne', word_minus_half, word_1024, coe_sum, ← EReal.coe_mul, ← EReal.coe_mul, div_coe _ _ (by norm_num)]
  unfold chained through normal bent
  rw [hslope, hscale]
  simp only [hX, word_two, ← EReal.coe_mul, ← EReal.coe_neg, mean_coe, coe_sum, word_1024, ← EReal.coe_add, ← EReal.coe_sub]
  rw [div_coe _ _ (by norm_num)]
  simp only [← EReal.coe_add]
  exact congrArg _ e

/-- An infinite channel lies infinitely far from the mean. -/
theorem far (x c : EReal) (h : ¬ ∃ r : ℝ, x = r) : (x - c) * (x - c) = ⊤ := by
  have e : x - c = ⊤ ∨ x - c = ⊥ := by
    induction x using EReal.rec with
    | bot => exact .inr (by rw [sub_eq_add_neg, EReal.bot_add])
    | coe r => exact absurd ⟨r, rfl⟩ h
    | top =>
      induction c using EReal.rec with
      | bot => exact .inl (by simp)
      | coe r => exact .inl (EReal.top_sub_coe r)
      | top => exact .inr (by rw [sub_eq_add_neg, EReal.neg_top, EReal.add_bot])
  rcases e with e | e <;> rw [e] <;> simp

theorem square_nonneg (a : EReal) : 0 ≤ a * a := by
  induction a using EReal.rec with
  | bot => simp
  | coe r => rw [← EReal.coe_mul]; exact_mod_cast mul_self_nonneg r
  | top => simp

theorem word_1024_ne : ((1024 : ℝ) : EReal) ≠ 0 := by exact_mod_cast (by norm_num : (1024 : ℝ) ≠ 0)

/-- An infinite channel makes the variance infinite. -/
theorem spread_far (k : Fin 1024) (h : ¬ ∃ r : ℝ, z k = r) : spread z = ⊤ := by
  obtain ⟨s, hs, es⟩ := word_small
  have e : (∑ k, (z k - mean z) * (z k - mean z)) = ⊤ := top_le_iff.1 ((far (z k) (mean z) h).symm.le.trans
    (Finset.single_le_sum (f := fun k => (z k - mean z) * (z k - mean z)) (fun j _ => square_nonneg _) (Finset.mem_univ k)))
  have e1 : mean (fun k => (z k - mean z) * (z k - mean z)) = ⊤ := by
    refine (congrArg (fun t => Ideal.div t (Ideal.ofBits .f32 0x44800000#32)) e).trans ?_
    rw [word_1024, Ideal.div, if_neg word_1024_ne, ← EReal.coe_inv, EReal.top_mul_coe_of_pos (by norm_num)]
  unfold spread
  rw [es, e1, EReal.top_add_coe]

theorem div_zero_word : Ideal.div 0 (Ideal.ofBits .f32 0x44800000#32) = 0 := by
  rw [word_1024, Ideal.div, if_neg word_1024_ne, zero_mul]

/-- An infinite channel makes both expressions zero. -/
theorem chained_far (k : Fin 1024) (h : ¬ ∃ r : ℝ, z k = r) (d : Fin 1024) : chained z y d = through (scale z) (normal z) y d := by
  have e := spread_far z k h
  have e0 : scale z = 0 := congrArg Ideal.rsqrt e
  have e1 : slope z y = 0 := by
    unfold slope
    rw [e0, e, show Ideal.div 0 ⊤ = 0 by rw [Ideal.div, if_neg (by simp), zero_mul], mul_zero, mul_zero, div_zero_word]
  unfold chained through bent
  rw [e0, e1]
  simp only [mul_zero, zero_mul, neg_zero, Finset.sum_const_zero, add_zero, div_zero_word]

/-- The two expressions agree where the cotangent is real. -/
theorem chained_through (hy : ∀ k, ∃ r : ℝ, y k = r) (d : Fin 1024) : chained z y d = through (scale z) (normal z) y d := by
  by_cases h : ∀ k, ∃ r : ℝ, z k = r
  · exact chained_eq z y h hy d
  · obtain ⟨k, hk⟩ := not_forall.1 h
    exact chained_far z y k hk d

end

end Cert.Proof.Norm

end
-- ==== Proof.Norm.Ref.lean ====
/- The gradient through the input projection and the layer norm before it: what the reference computes. -/
module

public import proofs.«01_k».proof.Proof.Gen.Reference18Ideal.Run
public import proofs.«01_k».proof.Proof.Gen.Reference18Ideal.Read
public import proofs.«01_k».proof.Pre_finite18
public import proofs.«01_k».proof.Proof.Norm.Chain
public import proofs.«01_k».proof.Proof.Ffn.Reals
public import Idealize.ShloMosaic.Lib.Pipeline.ValueKit

@[expose] public section

set_option maxRecDepth 16384

noncomputable section

namespace Cert.Proof.Norm

open Idealize.ShloMosaic Idealize.ShloMosaic.TcCoe Idealize.SL.Sem
open Cert.Reference18Ideal Cert.Reference18Ideal.Read
open Cert.Proof.Ffn (Finite sum_real mul_real add_real real_of_below)

variable (z : FVec Ideal S8192x1024 .f32) (g : FVec Ideal S1024 .f32) (w : FVec Ideal S1024x4864 .f32)
  (p : FVec Ideal S8192x3072 .bf16) (q : FVec Ideal S8192x1024 .bf16) (r : FVec Ideal S8192x768 .bf16) (e : FVec Ideal S8192x1024 .f32)

theorem ref_mean (s : Fin 8192) : val_main_v4 (F := Ideal) z (ix2 s 0) = mean (row z s) := by
  pointwise [val_main_v4, val_main_v3, val_main_cst_1, val_main_v2, val_main_v1, val_main_cst_0, mean, row]

theorem ref_centred (s : Fin 8192) (d : Fin 1024) : val_main_v6 (F := Ideal) z (ix2 s d) = row z s d - mean (row z s) := by
  pointwise [val_main_v6, val_main_v5, ref_mean, row]

theorem ref_spread (s : Fin 8192) : val_main_v15 (F := Ideal) z (ix2 s 0) = spread (row z s) := by
  pointwise [val_main_v15, val_main_v14, val_main_cst_5, val_main_v13, val_main_v12, val_main_cst_4, val_main_v11, val_main_v10, val_main_cst_3,
    val_main_v7, ref_centred, spread]
  rfl

theorem ref_scale (s : Fin 8192) : val_main_v16 (F := Ideal) z (ix2 s 0) = scale (row z s) := by
  pointwise [val_main_v16, ref_spread]
  rfl

theorem ref_normal (s : Fin 8192) (d : Fin 1024) : val_main_v23 (F := Ideal) z (ix2 s d) = normal (row z s) d := by
  pointwise [val_main_v23, val_main_v22, val_main_v21, val_main_v20, ref_mean, ref_scale, normal, row]

theorem ref_joined (s : Fin 8192) (k : Fin 4864) : val_main_v36 (F := Ideal) p q r (ix2 s k) = joined p q r s k := by
  pointwise [val_main_v36, val_main_v35, val_main_v34, val_main_v33]
  unfold joined
  have hk := k.isLt
  (split_ifs <;> repeat' split) <;> first
    | rfl
    | omega
    | (refine congrArg (fun j => r (ix2 s j)) (Fin.ext ?_); first | rfl | omega | (dsimp only; omega))
    | (refine congrArg (fun j => q (ix2 s j)) (Fin.ext ?_); first | rfl | omega | (dsimp only; omega))
    | (refine congrArg (fun j => p (ix2 s j)) (Fin.ext ?_); first | rfl | omega | (dsimp only; omega))

theorem entry_at (d : Fin 1024) (k : Fin 4864) : entry w d k = w (ix2 d k) := dif_pos k.isLt

theorem ref_back (s : Fin 8192) (d : Fin 1024) : val_main_v40 (F := Ideal) w p q r e (ix2 s d) = back p q r w e s d := by
  pointwise [val_main_v40, val_main_v39, val_main_v38, val_main_v37, val_main_cst_8, ref_joined, back]
  exact congrArg₂ (· + ·) rfl (Finset.sum_congr rfl fun (k : Fin 4864) _ => congrArg₂ (· * ·) rfl (entry_at w d k).symm)

theorem ref_gradB : val_main_v75 (F := Ideal) w p q r e = gradB p q r w e := by
  funext i
  idx_vars i
  pointwise [val_main_v75, val_main_v43, val_main_cst_10, val_main_v42, val_main_v41, val_main_cst_9, ref_back, gradB]
  exact Fin.sum_univ_one _

theorem ref_gradG : val_main_v74 (F := Ideal) z w p q r e = gradG p q r w e z := by
  funext i
  idx_vars i
  pointwise [val_main_v74, val_main_v49, val_main_cst_12, val_main_v46, val_main_v45, val_main_cst_11, val_main_v44, ref_back, ref_normal, gradG]
  exact (Fin.sum_univ_one _).trans (Finset.sum_congr rfl fun s _ => mul_comm _ _)

/-- The cotangent of the centred and scaled channels. -/
def inner (s : Fin 8192) (d : Fin 1024) : EReal := back p q r w e s d * g (ix1 d)

theorem ref_inner (s : Fin 8192) (d : Fin 1024) : val_main_v48 (F := Ideal) g w p q r e (ix2 s d) = inner g w p q r e s d := by
  pointwise [val_main_v48, val_main_v47, val_main_v24, ref_back, inner]

theorem ref_slope (s : Fin 8192) : val_main_v60 (F := Ideal) z g w p q r e (ix2 s 0) = slope (row z s) (inner g w p q r e s) := by
  pointwise [val_main_v60, val_main_v59, val_main_cst_15, val_main_v58, val_main_v52, val_main_v51, val_main_cst_13, val_main_v50, val_main_v21,
    val_main_v20, val_main_v19, val_main_v18, val_main_cst_6, val_main_v17, ref_mean, ref_scale, ref_spread, ref_inner, slope, row]

theorem ref_bent (s : Fin 8192) (d : Fin 1024) : val_main_v63 (F := Ideal) z g w p q r e (ix2 s d) = bent (row z s) (inner g w p q r e s) d := by
  pointwise [val_main_v63, val_main_v62, val_main_v61, val_main_cst_16, val_main_v9, val_main_v8, val_main_cst_2, ref_centred, bent]
  exact congrArg (· * _) ((Fin.sum_univ_one _).trans (ref_slope z g w p q r e s))

theorem ref_first (s : Fin 8192) (d : Fin 1024) : val_main_v54 (F := Ideal) z g w p q r e (ix2 s d) = inner g w p q r e s d * scale (row z s) := by
  pointwise [val_main_v54, val_main_v53, ref_inner, ref_scale]

theorem ref_chained (s : Fin 8192) (d : Fin 1024) : val_main_v73 (F := Ideal) z g w p q r e (ix2 s d) = chained (row z s) (inner g w p q r e s) d := by
  pointwise [val_main_v73, val_main_v72, val_main_v71, val_main_cst_19, val_main_v70, val_main_v69, val_main_cst_18, val_main_v68, val_main_v67,
    val_main_v66, val_main_v65, val_main_cst_17, val_main_v64, val_main_v57, val_main_v56, val_main_cst_14, val_main_v55, ref_first, ref_bent, chained]
  exact congrArg₂ (· + ·) rfl (Fin.sum_univ_one _)

theorem word_real : ∃ c : ℝ, Ideal.ofBits .f32 0x3FD744FD#32 = (c : EReal) :=
  ⟨_, by simp [Ideal.ofBits, Ideal.ieee]; rw [← EReal.coe_mul]⟩

theorem joined_real (hp : Finite p) (hq : Finite q) (hr : Finite r) (s : Fin 8192) (k : ℕ) : ∃ c : ℝ, joined p q r s k = c := by
  unfold joined
  split_ifs
  · exact hq _
  · exact hr _
  · exact hq _
  · exact hp _
  · exact ⟨0, rfl⟩

theorem back_real (hw : Finite w) (hp : Finite p) (hq : Finite q) (hr : Finite r) (he : Finite e) (s : Fin 8192) (d : Fin 1024) :
    ∃ c : ℝ, back p q r w e s d = c := by
  refine add_real (mul_real word_real (he _)) (sum_real _ fun k => mul_real (joined_real p q r hp hq hr s k) ?_)
  rw [entry, dif_pos k.isLt]
  exact hw _

theorem ref_gradZ (hg : Finite g) (hw : Finite w) (hp : Finite p) (hq : Finite q) (hr : Finite r) (he : Finite e) :
    val_main_v73 (F := Ideal) z g w p q r e = gradZ p q r w e z g := by
  funext i
  idx_vars i
  refine (ref_chained z g w p q r e i0 i1).trans ?_
  exact chained_through _ _ (fun k => mul_real (back_real w p q r e hw hp hq hr he i0 k) (hg _)) i1

/-- What the precondition's operations ask of the shapes. -/
instance pre_facts : Cert.Pre_finite18.Facts := by
  constructor <;> decide

instance : Subsingleton Cert.Pre_finite18.S_.Idx := ⟨fun a b => funext fun i => i.elim0⟩

/-- The reduction of the comparisons by `and` being one, every entry is real. -/
theorem finite_of {s : Shape} {φ : FTy} {axes : List (Fin s.rank)} (x : FVec Ideal s φ) (p : s.Idx → BitVec 1) (init : Cert.Pre_finite18.S_.Idx → BitVec 1)
    (hr : s.ReducesTo axes Cert.Pre_finite18.S_) (hu : 0 < Cert.Pre_finite18.S_.numel) (j : Cert.Pre_finite18.S_.Idx)
    (e : Host.reduce IntOp.andi p init hr hu j = 1#1) (hp : ∀ i, p i = Ideal.cmp .olt (max (x i) (-(x i))) (Ideal.ofBits .f32 0x7F800000#32)) :
    Finite x := fun i =>
  real_of_below (x i) ((hp i).symm.trans (Host.reduce_andi_all p init hr hu j e i))

theorem finite_args (h : Cert.Pre_finite18.fn (F := Ideal) z g w p q r e = fun _ => 1#1) :
    Finite g ∧ Finite w ∧ Finite p ∧ Finite q ∧ Finite r ∧ Finite e := by
  have e0 := congrFun h (fun i => i.elim0)
  dsimp only [Cert.Pre_finite18.fn, Cert.Pre_finite18.fn_part1] at e0
  obtain ⟨e1, h7⟩ := IntOp.andi_eq_one.1 e0
  obtain ⟨e2, h6⟩ := IntOp.andi_eq_one.1 e1
  obtain ⟨e3, h5⟩ := IntOp.andi_eq_one.1 e2
  obtain ⟨e4, h4⟩ := IntOp.andi_eq_one.1 e3
  obtain ⟨h2, h3⟩ := IntOp.andi_eq_one.1 e4
  exact ⟨finite_of g _ _ _ _ _ h2 fun _ => rfl, finite_of w _ _ _ _ _ h3 fun _ => rfl,
    finite_of p _ _ _ _ _ h4 fun _ => rfl, finite_of q _ _ _ _ _ h5 fun _ => rfl, finite_of r _ _ _ _ _ h6 fun _ => rfl,
    finite_of e _ _ _ _ _ h7 fun _ => rfl⟩

end Cert.Proof.Norm

end
-- ==== Proof.Norm.Run.lean ====
/- The gradient through the input projection and the layer norm before it: the kernel's run and the reference's. -/
module

public import proofs.«01_k».proof.Proof.Norm.KernelZ
public import proofs.«01_k».proof.Proof.Norm.Ref

@[expose] public section

set_option maxRecDepth 16384

noncomputable section

namespace Cert.Proof.Norm

open Idealize.ShloMosaic Idealize.ShloMosaic.TcCoe Idealize.SL.Sem

section
open Cert.Kernel18Ideal Cert.Kernel18Ideal.Gen

variable (m : (ℓ : Loc nD τ sig) → Buf (Elt Ideal) ℓ)

theorem finalZ (c : Dev nD) : (dats m 0 c).arrAt 10 (cfgs 0).N = gradZ (m ((c : Thread nD τ).loc main_arg3)) (m ((c : Thread nD τ).loc main_arg4)) (m ((c : Thread nD τ).loc main_arg5)) (m ((c : Thread nD τ).loc main_arg2)) (m ((c : Thread nD τ).loc main_arg6)) (m ((c : Thread nD τ).loc main_arg0)) (m ((c : Thread nD τ).loc main_arg1)) := by
  rw [outZ]
  funext i
  unfold overZ gradZ
  rw [handed_scale m c (i 0), show (fun d => (V m c main_v25 : FVec Ideal S8192x1024 .bf16) (ix2 (i 0) d)) = normal (row (m ((c : Thread nD τ).loc main_arg0)) (i 0)) from
    funext fun d => handed_normal m c (i 0) d]
  exact congrArg (fun y => through _ _ y (i 1)) (funext fun d => congrArg₂ (· * ·) (backOver_eq m c (i 0) d) (handed_factor m c d))

theorem finalG (c : Dev nD) : (dats m 0 c).arrAt 11 (cfgs 0).N = gradG (m ((c : Thread nD τ).loc main_arg3)) (m ((c : Thread nD τ).loc main_arg4)) (m ((c : Thread nD τ).loc main_arg5)) (m ((c : Thread nD τ).loc main_arg2)) (m ((c : Thread nD τ).loc main_arg6)) (m ((c : Thread nD τ).loc main_arg0)) := by
  rw [outG]
  funext i
  exact Finset.sum_congr rfl fun s _ => congrArg₂ (· * ·) (backOver_eq m c s (i 1)) (handed_normal m c s (i 1))

theorem finalB (c : Dev nD) : (dats m 0 c).arrAt 12 (cfgs 0).N = gradB (m ((c : Thread nD τ).loc main_arg3)) (m ((c : Thread nD τ).loc main_arg4)) (m ((c : Thread nD τ).loc main_arg5)) (m ((c : Thread nD τ).loc main_arg2)) (m ((c : Thread nD τ).loc main_arg6)) := by
  rw [outB]
  funext i
  exact Finset.sum_congr rfl fun s _ => backOver_eq m c s (i 1)

/-- The kernel leaves the three gradients and keeps its arguments. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v27_0) = gradZ (m ((c.tc : Thread nD τ).loc main_arg3)) (m ((c.tc : Thread nD τ).loc main_arg4)) (m ((c.tc : Thread nD τ).loc main_arg5)) (m ((c.tc : Thread nD τ).loc main_arg2)) (m ((c.tc : Thread nD τ).loc main_arg6)) (m ((c.tc : Thread nD τ).loc main_arg0)) (m ((c.tc : Thread nD τ).loc main_arg1))
      ∧ r.2.mem ((c.tc : Thread nD τ).loc main_v27_1) = gradG (m ((c.tc : Thread nD τ).loc main_arg3)) (m ((c.tc : Thread nD τ).loc main_arg4)) (m ((c.tc : Thread nD τ).loc main_arg5)) (m ((c.tc : Thread nD τ).loc main_arg2)) (m ((c.tc : Thread nD τ).loc main_arg6)) (m ((c.tc : Thread nD τ).loc main_arg0))
      ∧ r.2.mem ((c.tc : Thread nD τ).loc main_v27_2) = gradB (m ((c.tc : Thread nD τ).loc main_arg3)) (m ((c.tc : Thread nD τ).loc main_arg4)) (m ((c.tc : Thread nD τ).loc main_arg5)) (m ((c.tc : Thread nD τ).loc main_arg2)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (finalZ m c), (h c).2.1.trans (finalG m c), (h c).2.2.1.trans (finalB m c), (h c).2.2.2⟩)
    (Cert.Kernel18Ideal.Value.run_blocks m ρ)

end

section
open Cert.Reference18Ideal Cert.Reference18Ideal.Read
open Cert.Proof.Ffn (Finite)

/-- The reference keeps its arguments and leaves the three gradients where its arguments but the layer norm's are real numbers. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (z : FVec Ideal S8192x1024 .f32) (g : FVec Ideal S1024 .f32) (w : FVec Ideal S1024x4864 .f32) (p : FVec Ideal S8192x3072 .bf16)
          (q : FVec Ideal S8192x1024 .bf16) (s : FVec Ideal S8192x768 .bf16) (e : FVec Ideal S8192x1024 .f32),
        m ((c.tc : Thread nD τ).loc main_arg0) = z → m ((c.tc : Thread nD τ).loc main_arg1) = g → m ((c.tc : Thread nD τ).loc main_arg2) = w → m ((c.tc : Thread nD τ).loc main_arg3) = p → m ((c.tc : Thread nD τ).loc main_arg4) = q → m ((c.tc : Thread nD τ).loc main_arg5) = s → m ((c.tc : Thread nD τ).loc main_arg6) = e →
        Finite g → Finite w → Finite p → Finite q → Finite s → Finite e →
          r.2.mem ((c.tc : Thread nD τ).loc main_v73) = gradZ p q s w e z g ∧ r.2.mem ((c.tc : Thread nD τ).loc main_v74) = gradG p q s w e z
          ∧ r.2.mem ((c.tc : Thread nD τ).loc main_v75) = gradB p q s w e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r k c => ⟨fun z g w p q s e e0 e1 e2 e3 e4 e5 e6 hg hw hp hq hs he => by
      subst e0 e1 e2 e3 e4 e5 e6
      exact ⟨(k c).1.trans ((val_main_v73_eq _ _).trans (ref_gradZ _ _ _ _ _ _ _ hg hw hp hq hs he)),
        (k c).2.1.trans ((val_main_v74_eq _ _ _ _ _ _).trans (ref_gradG _ _ _ _ _ _)),
        (k c).2.2.1.trans ((val_main_v75_eq _ _ _ _ _).trans (ref_gradB _ _ _ _ _))⟩,
      (k c).2.2.2⟩) (Cert.Reference18Ideal.Value.run m ρ)

end

end Cert.Proof.Norm

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Merge.KernelRun
public import proofs.«01_k».proof.Proof.Merge.ReferenceRun
public import proofs.«01_k».proof.Proof.Merge.Forward
public import proofs.«01_k».proof.Proof.Ffn.Reals
public import proofs.«01_k».proof.Proof.Ffn.Run
public import proofs.«01_k».proof.Proof.Grad.UpW
public import proofs.«01_k».proof.Proof.Grad.DownW
public import proofs.«01_k».proof.Proof.Grad.OutW
public import proofs.«01_k».proof.Proof.Grad.GateW
public import proofs.«01_k».proof.Proof.Grad.PoolConvW
public import proofs.«01_k».proof.Proof.Grad.QkvW
public import proofs.«01_k».proof.Proof.Grad.BranchAW
public import proofs.«01_k».proof.Proof.Grad.BranchBW
public import proofs.«01_k».proof.Proof.Grad.BranchCW
public import proofs.«01_k».proof.Proof.Product.DownX
public import proofs.«01_k».proof.Proof.Product.OutX
public import proofs.«01_k».proof.Proof.Product.Up
public import proofs.«01_k».proof.Proof.Product.In
public import proofs.«01_k».proof.Proof.Product.OutNorm
public import proofs.«01_k».proof.Proof.Norm.Run
public import Idealize.ShloMosaic.Adequacy
public import Idealize.ShloMosaic.Init

@[expose] public section

noncomputable section

namespace Cert.Proof

open Idealize.ShloMosaic Idealize.SL.Sem Cert.Kernel

/-! The merge -/

/-- The program over words has the text of the program over the reals. -/
theorem merge_body : Cert.Kernel.defs (F := Bits) = Cert.KernelIdeal.defs (F := Bits) :=
  congrArg (Pipeline.defs Cert.KernelIdeal.pcfgs) (congrArg Defs.onTc (funext fun l => match l with
    | 0 => rfl
    | ⟨_ + 1, h⟩ => absurd h (Nat.not_lt.2 (Nat.le_add_left _ _))))

theorem merge_frame : quiescent_Kernel := fun m ρ _ => merge_body ▸ Cert.KernelIdeal.Gen.frame (F := Bits) m ρ

theorem merge_algebraic : algebraic_KernelIdeal_ReferenceIdeal := by
  intro m g m' g' _ hagree
  refine ⟨_, _, _, _, _, Merge.kernel_run m g, (θ_run _ _ _).mono (fun r h c => ?_) (Merge.reference_run m' g')⟩
  obtain ⟨h0, h1, h2, h3, h4, h5, h6, h7⟩ := hagree c
  have hc := h c
  rw [h0, h1, h2, h3, h4, h5, h6, h7] at hc ⊢
  exact hc

theorem merge_reference_frame : quiescent_ReferenceIdeal := fun m ρ _ =>
  (θ_run _ _ _).mono (fun r h => ⟨fun c => (h c).2.2.2.2.2, sem_eq_zero_of_no_sems (by decide) _⟩) (Merge.reference_run m ρ)

/-! The gradient through the up-projection and its convolution -/

/-- The program over words has the text of the program over the reals. -/
theorem ffn_body : Cert.Kernel2.defs (F := Bits) = Cert.Kernel2Ideal.defs (F := Bits) :=
  congrArg (Pipeline.defs Cert.Kernel2Ideal.pcfgs) (congrArg Defs.onTc (funext fun l => match l with
    | 0 => rfl
    | ⟨_ + 1, h⟩ => absurd h (Nat.not_lt.2 (Nat.le_add_left _ _))))

set_option maxHeartbeats 4000000 in
/-- So have their host parts. -/
theorem ffn_main : Cert.Kernel2.main (F := Bits) = Cert.Kernel2Ideal.main (F := Bits) := by
  funext c
  unfold Cert.Kernel2.main Cert.Kernel2Ideal.main
  rfl

theorem ffn_frame : quiescent_Kernel2 := by
  intro m ρ _
  rw [ffn_body, ffn_main]
  exact Cert.Kernel2Ideal.Gen.frame (F := Bits) m ρ

theorem ffn_algebraic : algebraic_Kernel2Ideal_Reference2Ideal_pre_finite2 := by
  intro m g m' g' hpre hagree
  refine ⟨_, _, _, Ffn.kernel_run m g, (θ_run _ _ _).mono (fun r h c => ?_) (Ffn.reference_run m' g')⟩
  obtain ⟨h0, h1, h2, h3, h4⟩ := hagree c
  obtain ⟨hx, hw, hv, hh⟩ := Ffn.finite_args _ _ _ _ _ (hpre c)
  obtain ⟨a, b, d⟩ := (h c).1 _ _ _ _ _ h0 h1 h2 h3 h4 hx hw hv hh
  exact ⟨a, b, d, (h c).2⟩

theorem ffn_reference_frame : quiescent_Reference2Ideal := fun m ρ _ =>
  (θ_run _ _ _).mono (fun r h => ⟨fun c => (h c).2, sem_eq_zero_of_no_sems (by decide) _⟩) (Ffn.reference_run m ρ)

/-! The up-projection's weight gradient -/

/-- The program over words has the text of the program over the reals. -/
theorem upW_body : Cert.Kernel3.defs (F := Bits) = Cert.Kernel3Ideal.defs (F := Bits) :=
  congrArg (Pipeline.defs Cert.Kernel3Ideal.pcfgs) (congrArg Defs.onTc (funext fun l => match l with
    | 0 => rfl
    | ⟨_ + 1, h⟩ => absurd h (Nat.not_lt.2 (Nat.le_add_left _ _))))

theorem upW_frame : quiescent_Kernel3 := fun m ρ _ => upW_body ▸ Cert.Kernel3Ideal.Gen.frame (F := Bits) m ρ

theorem upW_algebraic : algebraic_Kernel3Ideal_Reference3Ideal := by
  intro m g m' g' _ hagree
  refine ⟨_, UpW.kernel_run m g, (θ_run _ _ _).mono (fun r h c => ?_) (UpW.reference_run m' g')⟩
  obtain ⟨h0, h1⟩ := hagree c
  have hc := h c
  rw [h0, h1] at hc ⊢
  exact hc

theorem upW_reference_frame : quiescent_Reference3Ideal := fun m ρ _ =>
  (θ_run _ _ _).mono (fun r h => ⟨fun c => (h c).2, sem_eq_zero_of_no_sems (by decide) _⟩) (UpW.reference_run m ρ)

/-! The down-projection's weight gradient -/

/-- The program over words has the text of the program over the reals. -/
theorem downW_body : Cert.Kernel4.defs (F := Bits) = Cert.Kernel4Ideal.defs (F := Bits) :=
  congrArg (Pipeline.defs Cert.Kernel4Ideal.pcfgs) (congrArg Defs.onTc (funext fun l => match l with
    | 0 => rfl
    | ⟨_ + 1, h⟩ => absurd h (Nat.not_lt.2 (Nat.le_add_left _ _))))

theorem downW_frame : quiescent_Kernel4 := fun m ρ _ => downW_body ▸ Cert.Kernel4Ideal.Gen.frame (F := Bits) m ρ

theorem downW_algebraic : algebraic_Kernel4Ideal_Reference4Ideal := by
  intro m g m' g' _ hagree
  refine ⟨_, DownW.kernel_run m g, (θ_run _ _ _).mono (fun r h c => ?_) (DownW.reference_run m' g')⟩
  obtain ⟨h0, h1⟩ := hagree c
  have hc := h c
  rw [h0, h1] at hc ⊢
  exact hc

theorem downW_reference_frame : quiescent_Reference4Ideal := fun m ρ _ =>
  (θ_run _ _ _).mono (fun r h => ⟨fun c => (h c).2, sem_eq_zero_of_no_sems (by decide) _⟩) (DownW.reference_run m ρ)

/-! The output projection's weight gradient -/

/-- The program over words has the text of the program over the reals. -/
theorem outW_body : Cert.Kernel5.defs (F := Bits) = Cert.Kernel5Ideal.defs (F := Bits) :=
  congrArg (Pipeline.defs Cert.Kernel5Ideal.pcfgs) (congrArg Defs.onTc (funext fun l => match l with
    | 0 => rfl
    | ⟨_ + 1, h⟩ => absurd h (Nat.not_lt.2 (Nat.le_add_left _ _))))

theorem outW_frame : quiescent_Kernel5 := fun m ρ _ => outW_body ▸ Cert.Kernel5Ideal.Gen.frame (F := Bits) m ρ

theorem outW_algebraic : algebraic_Kernel5Ideal_Reference5Ideal := by
  intro m g m' g' _ hagree
  refine ⟨_, OutW.kernel_run m g, (θ_run _ _ _).mono (fun r h c => ?_) (OutW.reference_run m' g')⟩
  obtain ⟨h0, h1⟩ := hagree c
  have hc := h c
  rw [h0, h1] at hc ⊢
  exact hc

theorem outW_reference_frame : quiescent_Reference5Ideal := fun m ρ _ =>
  (θ_run _ _ _).mono (fun r h => ⟨fun c => (h c).2, sem_eq_zero_of_no_sems (by decide) _⟩) (OutW.reference_run m ρ)

/-! The weight gradient of the gates' columns of the input projection -/

/-- The program over words has the text of the program over the reals. -/
theorem gateW_body : Cert.Kernel6.defs (F := Bits) = Cert.Kernel6Ideal.defs (F := Bits) :=
  congrArg (Pipeline.defs Cert.Kernel6Ideal.pcfgs) (congrArg Defs.onTc (funext fun l => match l with
    | 0 => rfl
    | ⟨_ + 1, h⟩ => absurd h (Nat.not_lt.2 (Nat.le_add_left _ _))))

theorem gateW_frame : quiescent_Kernel6 := fun m ρ _ => gateW_body ▸ Cert.Kernel6Ideal.Gen.frame (F := Bits) m ρ

theorem gateW_algebraic : algebraic_Kernel6Ideal_Reference6Ideal := by
  intro m g m' g' _ hagree
  refine ⟨_, GateW.kernel_run m g, (θ_run _ _ _).mono (fun r h c => ?_) (GateW.reference_run m' g')⟩
  obtain ⟨h0, h1⟩ := hagree c
  have hc := h c
  rw [h0, h1] at hc ⊢
  exact hc

theorem gateW_reference_frame : quiescent_Reference6Ideal := fun m ρ _ =>
  (θ_run _ _ _).mono (fun r h => ⟨fun c => (h c).2, sem_eq_zero_of_no_sems (by decide) _⟩) (GateW.reference_run m ρ)

/-! The weight gradient of the pooling and convolution columns of the input projection -/

/-- The program over words has the text of the program over the reals. -/
theorem poolConvW_body : Cert.Kernel7.defs (F := Bits) = Cert.Kernel7Ideal.defs (F := Bits) :=
  congrArg (Pipeline.defs Cert.Kernel7Ideal.pcfgs) (congrArg Defs.onTc (funext fun l => match l with
    | 0 => rfl
    | ⟨_ + 1, h⟩ => absurd h (Nat.not_lt.2 (Nat.le_add_left _ _))))

theorem poolConvW_frame : quiescent_Kernel7 := fun m ρ _ => poolConvW_body ▸ Cert.Kernel7Ideal.Gen.frame (F := Bits) m ρ

theorem poolConvW_algebraic : algebraic_Kernel7Ideal_Reference7Ideal := by
  intro m g m' g' _ hagree
  refine ⟨_, PoolConvW.kernel_run m g, (θ_run _ _ _).mono (fun r h c => ?_) (PoolConvW.reference_run m' g')⟩
  obtain ⟨h0, h1⟩ := hagree c
  have hc := h c
  rw [h0, h1] at hc ⊢
  exact hc

theorem poolConvW_reference_frame : quiescent_Reference7Ideal := fun m ρ _ =>
  (θ_run _ _ _).mono (fun r h => ⟨fun c => (h c).2, sem_eq_zero_of_no_sems (by decide) _⟩) (PoolConvW.reference_run m ρ)

/-! The weight gradient of the attention's columns of the input projection -/

/-- The program over words has the text of the program over the reals. -/
theorem qkvW_body : Cert.Kernel8.defs (F := Bits) = Cert.Kernel8Ideal.defs (F := Bits) :=
  congrArg (Pipeline.defs Cert.Kernel8Ideal.pcfgs) (congrArg Defs.onTc (funext fun l => match l with
    | 0 => rfl
    | ⟨_ + 1, h⟩ => absurd h (Nat.not_lt.2 (Nat.le_add_left _ _))))

theorem qkvW_frame : quiescent_Kernel8 := fun m ρ _ => qkvW_body ▸ Cert.Kernel8Ideal.Gen.frame (F := Bits) m ρ

theorem qkvW_algebraic : algebraic_Kernel8Ideal_Reference8Ideal := by
  intro m g m' g' _ hagree
  refine ⟨_, QkvW.kernel_run m g, (θ_run _ _ _).mono (fun r h c => ?_) (QkvW.reference_run m' g')⟩
  obtain ⟨h0, h1⟩ := hagree c
  have hc := h c
  rw [h0, h1] at hc ⊢
  exact hc

theorem qkvW_reference_frame : quiescent_Reference8Ideal := fun m ρ _ =>
  (θ_run _ _ _).mono (fun r h => ⟨fun c => (h c).2, sem_eq_zero_of_no_sems (by decide) _⟩) (QkvW.reference_run m ρ)

/-! The weight gradient of the pooling branch's projection -/

/-- The program over words has the text of the program over the reals. -/
theorem branchAW_body : Cert.Kernel9.defs (F := Bits) = Cert.Kernel9Ideal.defs (F := Bits) :=
  congrArg (Pipeline.defs Cert.Kernel9Ideal.pcfgs) (congrArg Defs.onTc (funext fun l => match l with
    | 0 => rfl
    | ⟨_ + 1, h⟩ => absurd h (Nat.not_lt.2 (Nat.le_add_left _ _))))

theorem branchAW_frame : quiescent_Kernel9 := fun m ρ _ => branchAW_body ▸ Cert.Kernel9Ideal.Gen.frame (F := Bits) m ρ

theorem branchAW_algebraic : algebraic_Kernel9Ideal_Reference9Ideal := by
  intro m g m' g' _ hagree
  refine ⟨_, BranchAW.kernel_run m g, (θ_run _ _ _).mono (fun r h c => ?_) (BranchAW.reference_run m' g')⟩
  obtain ⟨h0, h1⟩ := hagree c
  have hc := h c
  rw [h0, h1] at hc ⊢
  exact hc

theorem branchAW_reference_frame : quiescent_Reference9Ideal := fun m ρ _ =>
  (θ_run _ _ _).mono (fun r h => ⟨fun c => (h c).2, sem_eq_zero_of_no_sems (by decide) _⟩) (BranchAW.reference_run m ρ)

/-! The weight gradient of the convolution branch's projection -/

/-- The program over words has the text of the program over the reals. -/
theorem branchBW_body : Cert.Kernel10.defs (F := Bits) = Cert.Kernel10Ideal.defs (F := Bits) :=
  congrArg (Pipeline.defs Cert.Kernel10Ideal.pcfgs) (congrArg Defs.onTc (funext fun l => match l with
    | 0 => rfl
    | ⟨_ + 1, h⟩ => absurd h (Nat.not_lt.2 (Nat.le_add_left _ _))))

theorem branchBW_frame : quiescent_Kernel10 := fun m ρ _ => branchBW_body ▸ Cert.Kernel10Ideal.Gen.frame (F := Bits) m ρ

theorem branchBW_algebraic : algebraic_Kernel10Ideal_Reference10Ideal := by
  intro m g m' g' _ hagree
  refine ⟨_, BranchBW.kernel_run m g, (θ_run _ _ _).mono (fun r h c => ?_) (BranchBW.reference_run m' g')⟩
  obtain ⟨h0, h1⟩ := hagree c
  have hc := h c
  rw [h0, h1] at hc ⊢
  exact hc

theorem branchBW_reference_frame : quiescent_Reference10Ideal := fun m ρ _ =>
  (θ_run _ _ _).mono (fun r h => ⟨fun c => (h c).2, sem_eq_zero_of_no_sems (by decide) _⟩) (BranchBW.reference_run m ρ)

/-! The weight gradient of the attention branch's projection -/

/-- The program over words has the text of the program over the reals. -/
theorem branchCW_body : Cert.Kernel11.defs (F := Bits) = Cert.Kernel11Ideal.defs (F := Bits) :=
  congrArg (Pipeline.defs Cert.Kernel11Ideal.pcfgs) (congrArg Defs.onTc (funext fun l => match l with
    | 0 => rfl
    | ⟨_ + 1, h⟩ => absurd h (Nat.not_lt.2 (Nat.le_add_left _ _))))

theorem branchCW_frame : quiescent_Kernel11 := fun m ρ _ => branchCW_body ▸ Cert.Kernel11Ideal.Gen.frame (F := Bits) m ρ

theorem branchCW_algebraic : algebraic_Kernel11Ideal_Reference11Ideal := by
  intro m g m' g' _ hagree
  refine ⟨_, BranchCW.kernel_run m g, (θ_run _ _ _).mono (fun r h c => ?_) (BranchCW.reference_run m' g')⟩
  obtain ⟨h0, h1⟩ := hagree c
  have hc := h c
  rw [h0, h1] at hc ⊢
  exact hc

theorem branchCW_reference_frame : quiescent_Reference11Ideal := fun m ρ _ =>
  (θ_run _ _ _).mono (fun r h => ⟨fun c => (h c).2, sem_eq_zero_of_no_sems (by decide) _⟩) (BranchCW.reference_run m ρ)

/-! The gradient through the down-projection -/

/-- The program over words has the text of the program over the reals. -/
theorem downX_body : Cert.Kernel12.defs (F := Bits) = Cert.Kernel12Ideal.defs (F := Bits) :=
  congrArg (Pipeline.defs Cert.Kernel12Ideal.pcfgs) (congrArg Defs.onTc (funext fun l => match l with
    | 0 => rfl
    | ⟨_ + 1, h⟩ => absurd h (Nat.not_lt.2 (Nat.le_add_left _ _))))

theorem downX_frame : quiescent_Kernel12 := fun m ρ _ => downX_body ▸ Cert.Kernel12Ideal.Gen.frame (F := Bits) m ρ

theorem downX_algebraic : algebraic_Kernel12Ideal_Reference12Ideal := by
  intro m g m' g' _ hagree
  refine ⟨_, DownX.kernel_run m g, (θ_run _ _ _).mono (fun r h c => ?_) (DownX.reference_run m' g')⟩
  obtain ⟨h0, h1⟩ := hagree c
  have hc := h c
  rw [h0, h1] at hc ⊢
  exact hc

theorem downX_reference_frame : quiescent_Reference12Ideal := fun m ρ _ =>
  (θ_run _ _ _).mono (fun r h => ⟨fun c => (h c).2, sem_eq_zero_of_no_sems (by decide) _⟩) (DownX.reference_run m ρ)

/-! The gradient through the output projection -/

/-- The program over words has the text of the program over the reals. -/
theorem outX_body : Cert.Kernel13.defs (F := Bits) = Cert.Kernel13Ideal.defs (F := Bits) :=
  congrArg (Pipeline.defs Cert.Kernel13Ideal.pcfgs) (congrArg Defs.onTc (funext fun l => match l with
    | 0 => rfl
    | ⟨_ + 1, h⟩ => absurd h (Nat.not_lt.2 (Nat.le_add_left _ _))))

theorem outX_frame : quiescent_Kernel13 := fun m ρ _ => outX_body ▸ Cert.Kernel13Ideal.Gen.frame (F := Bits) m ρ

theorem outX_algebraic : algebraic_Kernel13Ideal_Reference13Ideal := by
  intro m g m' g' _ hagree
  refine ⟨_, OutX.kernel_run m g, (θ_run _ _ _).mono (fun r h c => ?_) (OutX.reference_run m' g')⟩
  obtain ⟨h0, h1⟩ := hagree c
  have hc := h c
  rw [h0, h1] at hc ⊢
  exact hc

theorem outX_reference_frame : quiescent_Reference13Ideal := fun m ρ _ =>
  (θ_run _ _ _).mono (fun r h => ⟨fun c => (h c).2, sem_eq_zero_of_no_sems (by decide) _⟩) (OutX.reference_run m ρ)

/-! The up-projection -/

/-- The program over words has the text of the program over the reals. -/
theorem up_body : Cert.Kernel14.defs (F := Bits) = Cert.Kernel14Ideal.defs (F := Bits) :=
  congrArg (Pipeline.defs Cert.Kernel14Ideal.pcfgs) (congrArg Defs.onTc (funext fun l => match l with
    | 0 => rfl
    | ⟨_ + 1, h⟩ => absurd h (Nat.not_lt.2 (Nat.le_add_left _ _))))

theorem up_frame : quiescent_Kernel14 := fun m ρ _ => up_body ▸ Cert.Kernel14Ideal.Gen.frame (F := Bits) m ρ

theorem up_algebraic : algebraic_Kernel14Ideal_Reference14Ideal := by
  intro m g m' g' _ hagree
  refine ⟨_, Up.kernel_run m g, (θ_run _ _ _).mono (fun r h c => ?_) (Up.reference_run m' g')⟩
  obtain ⟨h0, h1⟩ := hagree c
  have hc := h c
  rw [h0, h1] at hc ⊢
  exact hc

theorem up_reference_frame : quiescent_Reference14Ideal := fun m ρ _ =>
  (θ_run _ _ _).mono (fun r h => ⟨fun c => (h c).2, sem_eq_zero_of_no_sems (by decide) _⟩) (Up.reference_run m ρ)

/-! The input projection -/

/-- The program over words has the text of the program over the reals. -/
theorem in_body : Cert.Kernel15.defs (F := Bits) = Cert.Kernel15Ideal.defs (F := Bits) :=
  congrArg (Pipeline.defs Cert.Kernel15Ideal.pcfgs) (congrArg Defs.onTc (funext fun l => match l with
    | 0 => rfl
    | ⟨_ + 1, h⟩ => absurd h (Nat.not_lt.2 (Nat.le_add_left _ _))))

theorem in_frame : quiescent_Kernel15 := fun m ρ _ => in_body ▸ Cert.Kernel15Ideal.Gen.frame (F := Bits) m ρ

theorem in_algebraic : algebraic_Kernel15Ideal_Reference15Ideal := by
  intro m g m' g' _ hagree
  refine ⟨_, _, _, In.kernel_run m g, (θ_run _ _ _).mono (fun r h c => ?_) (In.reference_run m' g')⟩
  obtain ⟨h0, h1⟩ := hagree c
  have hc := h c
  rw [h0, h1] at hc ⊢
  exact hc

theorem in_reference_frame : quiescent_Reference15Ideal := fun m ρ _ =>
  (θ_run _ _ _).mono (fun r h => ⟨fun c => (h c).2.2.2, sem_eq_zero_of_no_sems (by decide) _⟩) (In.reference_run m ρ)

/-! The forward pass's gated merge -/

/-- The program over words has the text of the program over the reals. -/
theorem forward_body : Cert.Kernel16.defs (F := Bits) = Cert.Kernel16Ideal.defs (F := Bits) :=
  congrArg (Pipeline.defs Cert.Kernel16Ideal.pcfgs) (congrArg Defs.onTc (funext fun l => match l with
    | 0 => rfl
    | ⟨_ + 1, h⟩ => absurd h (Nat.not_lt.2 (Nat.le_add_left _ _))))

theorem forward_frame : quiescent_Kernel16 := fun m ρ _ => forward_body ▸ Cert.Kernel16Ideal.Gen.frame (F := Bits) m ρ

theorem forward_algebraic : algebraic_Kernel16Ideal_Reference16Ideal := by
  intro m g m' g' _ hagree
  refine ⟨_, Forward.kernel_run m g, (θ_run _ _ _).mono (fun r h c => ?_) (Forward.reference_run m' g')⟩
  obtain ⟨h0, h1, h2, h3, h4, h5, h6⟩ := hagree c
  have hc := h c
  rw [h0, h1, h2, h3, h4, h5, h6] at hc ⊢
  exact hc

theorem forward_reference_frame : quiescent_Reference16Ideal := fun m ρ _ =>
  (θ_run _ _ _).mono (fun r h => ⟨fun c => (h c).2, sem_eq_zero_of_no_sems (by decide) _⟩) (Forward.reference_run m ρ)

/-! The output projection with its layer norm -/

/-- The program over words has the text of the program over the reals. -/
theorem outNorm_body : Cert.Kernel17.defs (F := Bits) = Cert.Kernel17Ideal.defs (F := Bits) :=
  congrArg (Pipeline.defs Cert.Kernel17Ideal.pcfgs) (congrArg Defs.onTc (funext fun l => match l with
    | 0 => rfl
    | ⟨_ + 1, h⟩ => absurd h (Nat.not_lt.2 (Nat.le_add_left _ _))))

theorem outNorm_frame : quiescent_Kernel17 := fun m ρ _ => outNorm_body ▸ Cert.Kernel17Ideal.Gen.frame (F := Bits) m ρ

theorem outNorm_algebraic : algebraic_Kernel17Ideal_Reference17Ideal := by
  intro m g m' g' _ hagree
  refine ⟨_, _, _, OutNorm.kernel_run m g, (θ_run _ _ _).mono (fun r h c => ?_) (OutNorm.reference_run m' g')⟩
  obtain ⟨h0, h1, h2, h3, h4⟩ := hagree c
  have hc := h c
  rw [h0, h1, h2, h3, h4] at hc ⊢
  exact hc

theorem outNorm_reference_frame : quiescent_Reference17Ideal := fun m ρ _ =>
  (θ_run _ _ _).mono (fun r h => ⟨fun c => (h c).2.2.2, sem_eq_zero_of_no_sems (by decide) _⟩) (OutNorm.reference_run m ρ)

/-! The gradient through the input projection and the layer norm before it -/

/-- The program over words has the text of the program over the reals. -/
theorem norm_body : Cert.Kernel18.defs (F := Bits) = Cert.Kernel18Ideal.defs (F := Bits) :=
  congrArg (Pipeline.defs Cert.Kernel18Ideal.pcfgs) (congrArg Defs.onTc (funext fun l => match l with
    | 0 => rfl
    | ⟨_ + 1, h⟩ => absurd h (Nat.not_lt.2 (Nat.le_add_left _ _))))

set_option maxHeartbeats 4000000 in
theorem norm_main : Cert.Kernel18.main (F := Bits) = Cert.Kernel18Ideal.main (F := Bits) := by
  funext c
  unfold Cert.Kernel18.main Cert.Kernel18Ideal.main
  rfl

theorem norm_frame : quiescent_Kernel18 := by
  intro m ρ _
  rw [norm_body, norm_main]
  exact Cert.Kernel18Ideal.Gen.frame (F := Bits) m ρ

theorem norm_algebraic : algebraic_Kernel18Ideal_Reference18Ideal_pre_finite18 := by
  intro m g m' g' hpre hagree
  refine ⟨_, _, _, Norm.kernel_run m g, (θ_run _ _ _).mono (fun r h c => ?_) (Norm.reference_run m' g')⟩
  obtain ⟨h0, h1, h2, h3, h4, h5, h6⟩ := hagree c
  obtain ⟨hg, hw, hp, hq, hr, he⟩ := Norm.finite_args _ _ _ _ _ _ _ (hpre c)
  obtain ⟨a, b, d⟩ := (h c).1 _ _ _ _ _ _ _ h0 h1 h2 h3 h4 h5 h6 hg hw hp hq hr he
  exact ⟨a, b, d, (h c).2⟩

theorem norm_reference_frame : quiescent_Reference18Ideal := fun m ρ _ =>
  (θ_run _ _ _).mono (fun r h => ⟨fun c => (h c).2, sem_eq_zero_of_no_sems (by decide) _⟩) (Norm.reference_run m ρ)

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Ffn.pre_facts, Norm.pre_facts,
  merge_frame, fun m ρ _ => Cert.KernelIdeal.Gen.frame m ρ, merge_reference_frame,
  ffn_frame, fun m ρ _ => Cert.Kernel2Ideal.Gen.frame m ρ, fun m ρ _ => Cert.Kernel2Ideal.Gen.frame m ρ,
  ffn_reference_frame, fun m ρ _ => ffn_reference_frame m ρ trivial,
  upW_frame, fun m ρ _ => Cert.Kernel3Ideal.Gen.frame m ρ, upW_reference_frame,
  downW_frame, fun m ρ _ => Cert.Kernel4Ideal.Gen.frame m ρ, downW_reference_frame,
  outW_frame, fun m ρ _ => Cert.Kernel5Ideal.Gen.frame m ρ, outW_reference_frame,
  gateW_frame, fun m ρ _ => Cert.Kernel6Ideal.Gen.frame m ρ, gateW_reference_frame,
  poolConvW_frame, fun m ρ _ => Cert.Kernel7Ideal.Gen.frame m ρ, poolConvW_reference_frame,
  qkvW_frame, fun m ρ _ => Cert.Kernel8Ideal.Gen.frame m ρ, qkvW_reference_frame,
  branchAW_frame, fun m ρ _ => Cert.Kernel9Ideal.Gen.frame m ρ, branchAW_reference_frame,
  branchBW_frame, fun m ρ _ => Cert.Kernel10Ideal.Gen.frame m ρ, branchBW_reference_frame,
  branchCW_frame, fun m ρ _ => Cert.Kernel11Ideal.Gen.frame m ρ, branchCW_reference_frame,
  downX_frame, fun m ρ _ => Cert.Kernel12Ideal.Gen.frame m ρ, downX_reference_frame,
  outX_frame, fun m ρ _ => Cert.Kernel13Ideal.Gen.frame m ρ, outX_reference_frame,
  up_frame, fun m ρ _ => Cert.Kernel14Ideal.Gen.frame m ρ, up_reference_frame,
  in_frame, fun m ρ _ => Cert.Kernel15Ideal.Gen.frame m ρ, in_reference_frame,
  forward_frame, fun m ρ _ => Cert.Kernel16Ideal.Gen.frame m ρ, forward_reference_frame,
  outNorm_frame, fun m ρ _ => Cert.Kernel17Ideal.Gen.frame m ρ, outNorm_reference_frame,
  norm_frame, fun m ρ _ => Cert.Kernel18Ideal.Gen.frame m ρ, fun m ρ _ => Cert.Kernel18Ideal.Gen.frame m ρ,
  norm_reference_frame, fun m ρ _ => norm_reference_frame m ρ trivial,
  trivial, merge_algebraic,
  trivial, ffn_algebraic,
  trivial, upW_algebraic,
  trivial, downW_algebraic,
  trivial, outW_algebraic,
  trivial, gateW_algebraic,
  trivial, poolConvW_algebraic,
  trivial, qkvW_algebraic,
  trivial, branchAW_algebraic,
  trivial, branchBW_algebraic,
  trivial, branchCW_algebraic,
  trivial, downX_algebraic,
  trivial, outX_algebraic,
  trivial, up_algebraic,
  trivial, in_algebraic,
  trivial, forward_algebraic,
  trivial, outNorm_algebraic,
  trivial, norm_algebraic⟩

end Cert.Proof

end
